-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_laid_out [hPre_laid_out : Cert.Pre_laid_out.Facts] (m : (ℓ : Loc Cert.KernelIdeal.nD Cert.KernelIdeal.τ Cert.KernelIdeal.sig) → Buf (Elt Ideal) ℓ) : Prop :=
  ∀ c : Dev Cert.KernelIdeal.nD,
    (Cert.Pre_laid_out.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).1 = (fun _ => 1#1)
    ∧ (Cert.Pre_laid_out.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2.1 = (fun _ => 1#1)
    ∧ (Cert.Pre_laid_out.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2.2.1 = (fun _ => 1#1)
    ∧ (Cert.Pre_laid_out.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2.2.2.1 = (fun _ => 1#1)
    ∧ (Cert.Pre_laid_out.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_laid_out [hPre_laid_out : Cert.Pre_laid_out.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_laid_out.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).1 = (fun _ => 1#1)
    ∧ (Cert.Pre_laid_out.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).2.1 = (fun _ => 1#1)
    ∧ (Cert.Pre_laid_out.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).2.2.1 = (fun _ => 1#1)
    ∧ (Cert.Pre_laid_out.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).2.2.2.1 = (fun _ => 1#1)
    ∧ (Cert.Pre_laid_out.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).2.2.2.2 = (fun _ => 1#1)

def Pre_Inproj (m : (ℓ : Loc Cert.Inproj.nD Cert.Inproj.τ Cert.Inproj.sig) → Buf (Elt Bits) ℓ) : Prop :=
  True

def Pre_InprojIdeal (m : (ℓ : Loc Cert.InprojIdeal.nD Cert.InprojIdeal.τ Cert.InprojIdeal.sig) → Buf (Elt Ideal) ℓ) : Prop :=
  True

def Pre_InprojRefIdeal (m : (ℓ : Loc Cert.InprojRefIdeal.nD Cert.InprojRefIdeal.τ Cert.InprojRefIdeal.sig) → Buf (Elt Ideal) ℓ) : Prop :=
  True

def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnRefIdeal (m : (ℓ : Loc Cert.FfnRefIdeal.nD Cert.FfnRefIdeal.τ Cert.FfnRefIdeal.sig) → Buf (Elt Ideal) ℓ) : Prop :=
  True

def Pre_Merge (m : (ℓ : Loc Cert.Merge.nD Cert.Merge.τ Cert.Merge.sig) → Buf (Elt Bits) ℓ) : Prop :=
  True

def Pre_MergeIdeal (m : (ℓ : Loc Cert.MergeIdeal.nD Cert.MergeIdeal.τ Cert.MergeIdeal.sig) → Buf (Elt Ideal) ℓ) : Prop :=
  True

def Pre_MergeRefIdeal (m : (ℓ : Loc Cert.MergeRefIdeal.nD Cert.MergeRefIdeal.τ Cert.MergeRefIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_laid_out [hKernelIdeal : Cert.KernelIdeal.Facts] [hPre_laid_out : Cert.Pre_laid_out.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_laid_out m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_laid_out [hReferenceIdeal : Cert.ReferenceIdeal.Facts] [hPre_laid_out : Cert.Pre_laid_out.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_laid_out m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Inproj [hInproj : Cert.Inproj.Facts] : Prop :=
  ∀ (m : (ℓ : Loc Cert.Inproj.nD Cert.Inproj.τ Cert.Inproj.sig) → Buf (Elt Bits) ℓ) (g : Dev Cert.Inproj.nD → PrngReg), Pre_Inproj m →
    θ_run (Cert.Inproj.defs (F := Bits)) (onTc (τ := Cert.Inproj.τ) (Cert.Inproj.main (F := Bits))) ⟨m, fun _ => 0, g⟩ (fun r => (∀ c : Dev Cert.Inproj.nD,
      r.2.mem ((c.tc : Thread Cert.Inproj.nD Cert.Inproj.τ).loc Cert.Inproj.main_arg0) = m ((c.tc : Thread Cert.Inproj.nD Cert.Inproj.τ).loc Cert.Inproj.main_arg0)
      ∧ r.2.mem ((c.tc : Thread Cert.Inproj.nD Cert.Inproj.τ).loc Cert.Inproj.main_arg1) = m ((c.tc : Thread Cert.Inproj.nD Cert.Inproj.τ).loc Cert.Inproj.main_arg1)
      ∧ r.2.mem ((c.tc : Thread Cert.Inproj.nD Cert.Inproj.τ).loc Cert.Inproj.main_arg2) = m ((c.tc : Thread Cert.Inproj.nD Cert.Inproj.τ).loc Cert.Inproj.main_arg2)
      ∧ r.2.mem ((c.tc : Thread Cert.Inproj.nD Cert.Inproj.τ).loc Cert.Inproj.main_arg3) = m ((c.tc : Thread Cert.Inproj.nD Cert.Inproj.τ).loc Cert.Inproj.main_arg3))
      ∧ r.2.sem = fun _ => 0)

def quiescent_InprojIdeal [hInprojIdeal : Cert.InprojIdeal.Facts] : Prop :=
  ∀ (m : (ℓ : Loc Cert.InprojIdeal.nD Cert.InprojIdeal.τ Cert.InprojIdeal.sig) → Buf (Elt Ideal) ℓ) (g : Dev Cert.InprojIdeal.nD → PrngReg), Pre_InprojIdeal m →
    θ_run (Cert.InprojIdeal.defs (F := Ideal)) (onTc (τ := Cert.InprojIdeal.τ) (Cert.InprojIdeal.main (F := Ideal))) ⟨m, fun _ => 0, g⟩ (fun r => (∀ c : Dev Cert.InprojIdeal.nD,
      r.2.mem ((c.tc : Thread Cert.InprojIdeal.nD Cert.InprojIdeal.τ).loc Cert.InprojIdeal.main_arg0) = m ((c.tc : Thread Cert.InprojIdeal.nD Cert.InprojIdeal.τ).loc Cert.InprojIdeal.main_arg0)
      ∧ r.2.mem ((c.tc : Thread Cert.InprojIdeal.nD Cert.InprojIdeal.τ).loc Cert.InprojIdeal.main_arg1) = m ((c.tc : Thread Cert.InprojIdeal.nD Cert.InprojIdeal.τ).loc Cert.InprojIdeal.main_arg1)
      ∧ r.2.mem ((c.tc : Thread Cert.InprojIdeal.nD Cert.InprojIdeal.τ).loc Cert.InprojIdeal.main_arg2) = m ((c.tc : Thread Cert.InprojIdeal.nD Cert.InprojIdeal.τ).loc Cert.InprojIdeal.main_arg2)
      ∧ r.2.mem ((c.tc : Thread Cert.InprojIdeal.nD Cert.InprojIdeal.τ).loc Cert.InprojIdeal.main_arg3) = m ((c.tc : Thread Cert.InprojIdeal.nD Cert.InprojIdeal.τ).loc Cert.InprojIdeal.main_arg3))
      ∧ r.2.sem = fun _ => 0)

def quiescent_InprojRefIdeal [hInprojRefIdeal : Cert.InprojRefIdeal.Facts] : Prop :=
  ∀ (m : (ℓ : Loc Cert.InprojRefIdeal.nD Cert.InprojRefIdeal.τ Cert.InprojRefIdeal.sig) → Buf (Elt Ideal) ℓ) (g : Dev Cert.InprojRefIdeal.nD → PrngReg), Pre_InprojRefIdeal m →
    θ_run (Cert.InprojRefIdeal.defs (F := Ideal)) (onTc (τ := Cert.InprojRefIdeal.τ) (Cert.InprojRefIdeal.main (F := Ideal))) ⟨m, fun _ => 0, g⟩ (fun r => (∀ c : Dev Cert.InprojRefIdeal.nD,
      r.2.mem ((c.tc : Thread Cert.InprojRefIdeal.nD Cert.InprojRefIdeal.τ).loc Cert.InprojRefIdeal.main_arg0) = m ((c.tc : Thread Cert.InprojRefIdeal.nD Cert.InprojRefIdeal.τ).loc Cert.InprojRefIdeal.main_arg0)
      ∧ r.2.mem ((c.tc : Thread Cert.InprojRefIdeal.nD Cert.InprojRefIdeal.τ).loc Cert.InprojRefIdeal.main_arg1) = m ((c.tc : Thread Cert.InprojRefIdeal.nD Cert.InprojRefIdeal.τ).loc Cert.InprojRefIdeal.main_arg1)
      ∧ r.2.mem ((c.tc : Thread Cert.InprojRefIdeal.nD Cert.InprojRefIdeal.τ).loc Cert.InprojRefIdeal.main_arg2) = m ((c.tc : Thread Cert.InprojRefIdeal.nD Cert.InprojRefIdeal.τ).loc Cert.InprojRefIdeal.main_arg2)
      ∧ r.2.mem ((c.tc : Thread Cert.InprojRefIdeal.nD Cert.InprojRefIdeal.τ).loc Cert.InprojRefIdeal.main_arg3) = m ((c.tc : Thread Cert.InprojRefIdeal.nD Cert.InprojRefIdeal.τ).loc Cert.InprojRefIdeal.main_arg3))
      ∧ r.2.sem = fun _ => 0)

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3)
      ∧ r.2.mem ((c.tc : Thread Cert.Ffn.nD Cert.Ffn.τ).loc Cert.Ffn.main_arg4) = m ((c.tc : Thread Cert.Ffn.nD Cert.Ffn.τ).loc Cert.Ffn.main_arg4)
      ∧ r.2.mem ((c.tc : Thread Cert.Ffn.nD Cert.Ffn.τ).loc Cert.Ffn.main_arg5) = m ((c.tc : Thread Cert.Ffn.nD Cert.Ffn.τ).loc Cert.Ffn.main_arg5)
      ∧ r.2.mem ((c.tc : Thread Cert.Ffn.nD Cert.Ffn.τ).loc Cert.Ffn.main_arg6) = m ((c.tc : Thread Cert.Ffn.nD Cert.Ffn.τ).loc Cert.Ffn.main_arg6))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
      ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5)
      ∧ r.2.mem ((c.tc : Thread Cert.FfnIdeal.nD Cert.FfnIdeal.τ).loc Cert.FfnIdeal.main_arg6) = m ((c.tc : Thread Cert.FfnIdeal.nD Cert.FfnIdeal.τ).loc Cert.FfnIdeal.main_arg6))
      ∧ r.2.sem = fun _ => 0)

def quiescent_FfnRefIdeal [hFfnRefIdeal : Cert.FfnRefIdeal.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3)
      ∧ r.2.mem ((c.tc : Thread Cert.FfnRefIdeal.nD Cert.FfnRefIdeal.τ).loc Cert.FfnRefIdeal.main_arg4) = m ((c.tc : Thread Cert.FfnRefIdeal.nD Cert.FfnRefIdeal.τ).loc Cert.FfnRefIdeal.main_arg4)
      ∧ r.2.mem ((c.tc : Thread Cert.FfnRefIdeal.nD Cert.FfnRefIdeal.τ).loc Cert.FfnRefIdeal.main_arg5) = m ((c.tc : Thread Cert.FfnRefIdeal.nD Cert.FfnRefIdeal.τ).loc Cert.FfnRefIdeal.main_arg5)
      ∧ r.2.mem ((c.tc : Thread Cert.FfnRefIdeal.nD Cert.FfnRefIdeal.τ).loc Cert.FfnRefIdeal.main_arg6) = m ((c.tc : Thread Cert.FfnRefIdeal.nD Cert.FfnRefIdeal.τ).loc Cert.FfnRefIdeal.main_arg6))
      ∧ r.2.sem = fun _ => 0)

def quiescent_Merge [hMerge : Cert.Merge.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2)
      ∧ r.2.mem ((c.tc : Thread Cert.Merge.nD Cert.Merge.τ).loc Cert.Merge.main_arg3) = m ((c.tc : Thread Cert.Merge.nD Cert.Merge.τ).loc Cert.Merge.main_arg3)
      ∧ r.2.mem ((c.tc : Thread Cert.Merge.nD Cert.Merge.τ).loc Cert.Merge.main_arg4) = m ((c.tc : Thread Cert.Merge.nD Cert.Merge.τ).loc Cert.Merge.main_arg4)
      ∧ r.2.mem ((c.tc : Thread Cert.Merge.nD Cert.Merge.τ).loc Cert.Merge.main_arg5) = m ((c.tc : Thread Cert.Merge.nD Cert.Merge.τ).loc Cert.Merge.main_arg5)
      ∧ r.2.mem ((c.tc : Thread Cert.Merge.nD Cert.Merge.τ).loc Cert.Merge.main_arg6) = m ((c.tc : Thread Cert.Merge.nD Cert.Merge.τ).loc Cert.Merge.main_arg6)
      ∧ r.2.mem ((c.tc : Thread Cert.Merge.nD Cert.Merge.τ).loc Cert.Merge.main_arg7) = m ((c.tc : Thread Cert.Merge.nD Cert.Merge.τ).loc Cert.Merge.main_arg7)
      ∧ r.2.mem ((c.tc : Thread Cert.Merge.nD Cert.Merge.τ).loc Cert.Merge.main_arg8) = m ((c.tc : Thread Cert.Merge.nD Cert.Merge.τ).loc Cert.Merge.main_arg8)
      ∧ r.2.mem ((c.tc : Thread Cert.Merge.nD Cert.Merge.τ).loc Cert.Merge.main_arg9) = m ((c.tc : Thread Cert.Merge.nD Cert.Merge.τ).loc Cert.Merge.main_arg9)
      ∧ r.2.mem ((c.tc : Thread Cert.Merge.nD Cert.Merge.τ).loc Cert.Merge.main_arg10) = m ((c.tc : Thread Cert.Merge.nD Cert.Merge.τ).loc Cert.Merge.main_arg10)
      ∧ r.2.mem ((c.tc : Thread Cert.Merge.nD Cert.Merge.τ).loc Cert.Merge.main_arg11) = m ((c.tc : Thread Cert.Merge.nD Cert.Merge.τ).loc Cert.Merge.main_arg11)
      ∧ r.2.mem ((c.tc : Thread Cert.Merge.nD Cert.Merge.τ).loc Cert.Merge.main_arg12) = m ((c.tc : Thread Cert.Merge.nD Cert.Merge.τ).loc Cert.Merge.main_arg12)
      ∧ r.2.mem ((c.tc : Thread Cert.Merge.nD Cert.Merge.τ).loc Cert.Merge.main_arg13) = m ((c.tc : Thread Cert.Merge.nD Cert.Merge.τ).loc Cert.Merge.main_arg13))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
      ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
      ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
      ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
      ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8)
      ∧ r.2.mem ((c.tc : Thread Cert.MergeIdeal.nD Cert.MergeIdeal.τ).loc Cert.MergeIdeal.main_arg9) = m ((c.tc : Thread Cert.MergeIdeal.nD Cert.MergeIdeal.τ).loc Cert.MergeIdeal.main_arg9)
      ∧ r.2.mem ((c.tc : Thread Cert.MergeIdeal.nD Cert.MergeIdeal.τ).loc Cert.MergeIdeal.main_arg10) = m ((c.tc : Thread Cert.MergeIdeal.nD Cert.MergeIdeal.τ).loc Cert.MergeIdeal.main_arg10)
      ∧ r.2.mem ((c.tc : Thread Cert.MergeIdeal.nD Cert.MergeIdeal.τ).loc Cert.MergeIdeal.main_arg11) = m ((c.tc : Thread Cert.MergeIdeal.nD Cert.MergeIdeal.τ).loc Cert.MergeIdeal.main_arg11)
      ∧ r.2.mem ((c.tc : Thread Cert.MergeIdeal.nD Cert.MergeIdeal.τ).loc Cert.MergeIdeal.main_arg12) = m ((c.tc : Thread Cert.MergeIdeal.nD Cert.MergeIdeal.τ).loc Cert.MergeIdeal.main_arg12)
      ∧ r.2.mem ((c.tc : Thread Cert.MergeIdeal.nD Cert.MergeIdeal.τ).loc Cert.MergeIdeal.main_arg13) = m ((c.tc : Thread Cert.MergeIdeal.nD Cert.MergeIdeal.τ).loc Cert.MergeIdeal.main_arg13))
      ∧ r.2.sem = fun _ => 0)

def quiescent_MergeRefIdeal [hMergeRefIdeal : Cert.MergeRefIdeal.Facts] : Prop :=
  ∀ (m : (ℓ : Loc Cert.MergeRefIdeal.nD Cert.MergeRefIdeal.τ Cert.MergeRefIdeal.sig) → Buf (Elt Ideal) ℓ) (g : Dev Cert.MergeRefIdeal.nD → PrngReg), Pre_MergeRefIdeal m →
    θ_run (Cert.MergeRefIdeal.defs (F := Ideal)) (onTc (τ := Cert.MergeRefIdeal.τ) (Cert.MergeRefIdeal.main (F := Ideal))) ⟨m, fun _ => 0, g⟩ (fun r => (∀ c : Dev Cert.MergeRefIdeal.nD,
      r.2.mem ((c.tc : Thread Cert.MergeRefIdeal.nD Cert.MergeRefIdeal.τ).loc Cert.MergeRefIdeal.main_arg0) = m ((c.tc : Thread Cert.MergeRefIdeal.nD Cert.MergeRefIdeal.τ).loc Cert.MergeRefIdeal.main_arg0)
      ∧ r.2.mem ((c.tc : Thread Cert.MergeRefIdeal.nD Cert.MergeRefIdeal.τ).loc Cert.MergeRefIdeal.main_arg1) = m ((c.tc : Thread Cert.MergeRefIdeal.nD Cert.MergeRefIdeal.τ).loc Cert.MergeRefIdeal.main_arg1)
      ∧ r.2.mem ((c.tc : Thread Cert.MergeRefIdeal.nD Cert.MergeRefIdeal.τ).loc Cert.MergeRefIdeal.main_arg2) = m ((c.tc : Thread Cert.MergeRefIdeal.nD Cert.MergeRefIdeal.τ).loc Cert.MergeRefIdeal.main_arg2)
      ∧ r.2.mem ((c.tc : Thread Cert.MergeRefIdeal.nD Cert.MergeRefIdeal.τ).loc Cert.MergeRefIdeal.main_arg3) = m ((c.tc : Thread Cert.MergeRefIdeal.nD Cert.MergeRefIdeal.τ).loc Cert.MergeRefIdeal.main_arg3)
      ∧ r.2.mem ((c.tc : Thread Cert.MergeRefIdeal.nD Cert.MergeRefIdeal.τ).loc Cert.MergeRefIdeal.main_arg4) = m ((c.tc : Thread Cert.MergeRefIdeal.nD Cert.MergeRefIdeal.τ).loc Cert.MergeRefIdeal.main_arg4)
      ∧ r.2.mem ((c.tc : Thread Cert.MergeRefIdeal.nD Cert.MergeRefIdeal.τ).loc Cert.MergeRefIdeal.main_arg5) = m ((c.tc : Thread Cert.MergeRefIdeal.nD Cert.MergeRefIdeal.τ).loc Cert.MergeRefIdeal.main_arg5)
      ∧ r.2.mem ((c.tc : Thread Cert.MergeRefIdeal.nD Cert.MergeRefIdeal.τ).loc Cert.MergeRefIdeal.main_arg6) = m ((c.tc : Thread Cert.MergeRefIdeal.nD Cert.MergeRefIdeal.τ).loc Cert.MergeRefIdeal.main_arg6)
      ∧ r.2.mem ((c.tc : Thread Cert.MergeRefIdeal.nD Cert.MergeRefIdeal.τ).loc Cert.MergeRefIdeal.main_arg7) = m ((c.tc : Thread Cert.MergeRefIdeal.nD Cert.MergeRefIdeal.τ).loc Cert.MergeRefIdeal.main_arg7)
      ∧ r.2.mem ((c.tc : Thread Cert.MergeRefIdeal.nD Cert.MergeRefIdeal.τ).loc Cert.MergeRefIdeal.main_arg8) = m ((c.tc : Thread Cert.MergeRefIdeal.nD Cert.MergeRefIdeal.τ).loc Cert.MergeRefIdeal.main_arg8)
      ∧ r.2.mem ((c.tc : Thread Cert.MergeRefIdeal.nD Cert.MergeRefIdeal.τ).loc Cert.MergeRefIdeal.main_arg9) = m ((c.tc : Thread Cert.MergeRefIdeal.nD Cert.MergeRefIdeal.τ).loc Cert.MergeRefIdeal.main_arg9)
      ∧ r.2.mem ((c.tc : Thread Cert.MergeRefIdeal.nD Cert.MergeRefIdeal.τ).loc Cert.MergeRefIdeal.main_arg10) = m ((c.tc : Thread Cert.MergeRefIdeal.nD Cert.MergeRefIdeal.τ).loc Cert.MergeRefIdeal.main_arg10)
      ∧ r.2.mem ((c.tc : Thread Cert.MergeRefIdeal.nD Cert.MergeRefIdeal.τ).loc Cert.MergeRefIdeal.main_arg11) = m ((c.tc : Thread Cert.MergeRefIdeal.nD Cert.MergeRefIdeal.τ).loc Cert.MergeRefIdeal.main_arg11)
      ∧ r.2.mem ((c.tc : Thread Cert.MergeRefIdeal.nD Cert.MergeRefIdeal.τ).loc Cert.MergeRefIdeal.main_arg12) = m ((c.tc : Thread Cert.MergeRefIdeal.nD Cert.MergeRefIdeal.τ).loc Cert.MergeRefIdeal.main_arg12)
      ∧ r.2.mem ((c.tc : Thread Cert.MergeRefIdeal.nD Cert.MergeRefIdeal.τ).loc Cert.MergeRefIdeal.main_arg13) = m ((c.tc : Thread Cert.MergeRefIdeal.nD Cert.MergeRefIdeal.τ).loc Cert.MergeRefIdeal.main_arg13))
      ∧ r.2.sem = fun _ => 0)

def preserves_Kernel_KernelIdeal : Prop :=
  True

def algebraic_KernelIdeal_ReferenceIdeal_pre_laid_out [hKernelIdeal : Cert.KernelIdeal.Facts] [hReferenceIdeal : Cert.ReferenceIdeal.Facts] [hPre_laid_out : Cert.Pre_laid_out.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_laid_out m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v21) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Inproj_InprojIdeal : Prop :=
  True

def algebraic_InprojIdeal_InprojRefIdeal [hInprojIdeal : Cert.InprojIdeal.Facts] [hInprojRefIdeal : Cert.InprojRefIdeal.Facts] : Prop :=
  ∀ (m : (ℓ : Loc Cert.InprojIdeal.nD Cert.InprojIdeal.τ Cert.InprojIdeal.sig) → Buf (Elt Ideal) ℓ) (g : Dev Cert.InprojIdeal.nD → PrngReg)
    (m' : (ℓ : Loc Cert.InprojRefIdeal.nD Cert.InprojRefIdeal.τ Cert.InprojRefIdeal.sig) → Buf (Elt Ideal) ℓ) (g' : Dev Cert.InprojRefIdeal.nD → PrngReg), Pre_InprojIdeal m →
    (∀ c : Dev Cert.InprojIdeal.nD,
      m' ((c.tc : Thread Cert.InprojRefIdeal.nD Cert.InprojRefIdeal.τ).loc Cert.InprojRefIdeal.main_arg0) = m ((c.tc : Thread Cert.InprojIdeal.nD Cert.InprojIdeal.τ).loc Cert.InprojIdeal.main_arg0)
      ∧ m' ((c.tc : Thread Cert.InprojRefIdeal.nD Cert.InprojRefIdeal.τ).loc Cert.InprojRefIdeal.main_arg1) = m ((c.tc : Thread Cert.InprojIdeal.nD Cert.InprojIdeal.τ).loc Cert.InprojIdeal.main_arg1)
      ∧ m' ((c.tc : Thread Cert.InprojRefIdeal.nD Cert.InprojRefIdeal.τ).loc Cert.InprojRefIdeal.main_arg2) = m ((c.tc : Thread Cert.InprojIdeal.nD Cert.InprojIdeal.τ).loc Cert.InprojIdeal.main_arg2)
      ∧ m' ((c.tc : Thread Cert.InprojRefIdeal.nD Cert.InprojRefIdeal.τ).loc Cert.InprojRefIdeal.main_arg3) = m ((c.tc : Thread Cert.InprojIdeal.nD Cert.InprojIdeal.τ).loc Cert.InprojIdeal.main_arg3)) →
    ∃ (v0 : (c : Dev Cert.InprojIdeal.nD) → Buf (Elt Ideal) ((c.tc : Thread Cert.InprojIdeal.nD Cert.InprojIdeal.τ).loc Cert.InprojIdeal.main_v1)),
      θ_run (Cert.InprojIdeal.defs (F := Ideal)) (onTc (τ := Cert.InprojIdeal.τ) (Cert.InprojIdeal.main (F := Ideal))) ⟨m, fun _ => 0, g⟩ (fun r => ∀ c : Dev Cert.InprojIdeal.nD,
          r.2.mem ((c.tc : Thread Cert.InprojIdeal.nD Cert.InprojIdeal.τ).loc Cert.InprojIdeal.main_v1) = v0 c
          ∧ r.2.mem ((c.tc : Thread Cert.InprojIdeal.nD Cert.InprojIdeal.τ).loc Cert.InprojIdeal.main_arg0) = m ((c.tc : Thread Cert.InprojIdeal.nD Cert.InprojIdeal.τ).loc Cert.InprojIdeal.main_arg0)
          ∧ r.2.mem ((c.tc : Thread Cert.InprojIdeal.nD Cert.InprojIdeal.τ).loc Cert.InprojIdeal.main_arg1) = m ((c.tc : Thread Cert.InprojIdeal.nD Cert.InprojIdeal.τ).loc Cert.InprojIdeal.main_arg1)
          ∧ r.2.mem ((c.tc : Thread Cert.InprojIdeal.nD Cert.InprojIdeal.τ).loc Cert.InprojIdeal.main_arg2) = m ((c.tc : Thread Cert.InprojIdeal.nD Cert.InprojIdeal.τ).loc Cert.InprojIdeal.main_arg2)
          ∧ r.2.mem ((c.tc : Thread Cert.InprojIdeal.nD Cert.InprojIdeal.τ).loc Cert.InprojIdeal.main_arg3) = m ((c.tc : Thread Cert.InprojIdeal.nD Cert.InprojIdeal.τ).loc Cert.InprojIdeal.main_arg3))
      ∧ θ_run (Cert.InprojRefIdeal.defs (F := Ideal)) (onTc (τ := Cert.InprojRefIdeal.τ) (Cert.InprojRefIdeal.main (F := Ideal))) ⟨m', fun _ => 0, g'⟩ (fun r => ∀ c : Dev Cert.InprojRefIdeal.nD,
          r.2.mem ((c.tc : Thread Cert.InprojRefIdeal.nD Cert.InprojRefIdeal.τ).loc Cert.InprojRefIdeal.main_v25) = v0 c
          ∧ r.2.mem ((c.tc : Thread Cert.InprojRefIdeal.nD Cert.InprojRefIdeal.τ).loc Cert.InprojRefIdeal.main_arg0) = m' ((c.tc : Thread Cert.InprojRefIdeal.nD Cert.InprojRefIdeal.τ).loc Cert.InprojRefIdeal.main_arg0)
          ∧ r.2.mem ((c.tc : Thread Cert.InprojRefIdeal.nD Cert.InprojRefIdeal.τ).loc Cert.InprojRefIdeal.main_arg1) = m' ((c.tc : Thread Cert.InprojRefIdeal.nD Cert.InprojRefIdeal.τ).loc Cert.InprojRefIdeal.main_arg1)
          ∧ r.2.mem ((c.tc : Thread Cert.InprojRefIdeal.nD Cert.InprojRefIdeal.τ).loc Cert.InprojRefIdeal.main_arg2) = m' ((c.tc : Thread Cert.InprojRefIdeal.nD Cert.InprojRefIdeal.τ).loc Cert.InprojRefIdeal.main_arg2)
          ∧ r.2.mem ((c.tc : Thread Cert.InprojRefIdeal.nD Cert.InprojRefIdeal.τ).loc Cert.InprojRefIdeal.main_arg3) = m' ((c.tc : Thread Cert.InprojRefIdeal.nD Cert.InprojRefIdeal.τ).loc Cert.InprojRefIdeal.main_arg3))

def preserves_Ffn_FfnIdeal : Prop :=
  True

def algebraic_FfnIdeal_FfnRefIdeal [hFfnIdeal : Cert.FfnIdeal.Facts] [hFfnRefIdeal : Cert.FfnRefIdeal.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnRefIdeal.nD Cert.FfnRefIdeal.τ Cert.FfnRefIdeal.sig) → Buf (Elt Ideal) ℓ) (g' : Dev Cert.FfnRefIdeal.nD → PrngReg), Pre_FfnIdeal m →
    (∀ c : Dev Cert.FfnIdeal.nD,
      m' ((c.tc : Thread Cert.FfnRefIdeal.nD Cert.FfnRefIdeal.τ).loc Cert.FfnRefIdeal.main_arg0) = m ((c.tc : Thread Cert.FfnIdeal.nD Cert.FfnIdeal.τ).loc Cert.FfnIdeal.main_arg0)
      ∧ m' ((c.tc : Thread Cert.FfnRefIdeal.nD Cert.FfnRefIdeal.τ).loc Cert.FfnRefIdeal.main_arg1) = m ((c.tc : Thread Cert.FfnIdeal.nD Cert.FfnIdeal.τ).loc Cert.FfnIdeal.main_arg1)
      ∧ m' ((c.tc : Thread Cert.FfnRefIdeal.nD Cert.FfnRefIdeal.τ).loc Cert.FfnRefIdeal.main_arg2) = m ((c.tc : Thread Cert.FfnIdeal.nD Cert.FfnIdeal.τ).loc Cert.FfnIdeal.main_arg2)
      ∧ m' ((c.tc : Thread Cert.FfnRefIdeal.nD Cert.FfnRefIdeal.τ).loc Cert.FfnRefIdeal.main_arg3) = m ((c.tc : Thread Cert.FfnIdeal.nD Cert.FfnIdeal.τ).loc Cert.FfnIdeal.main_arg3)
      ∧ m' ((c.tc : Thread Cert.FfnRefIdeal.nD Cert.FfnRefIdeal.τ).loc Cert.FfnRefIdeal.main_arg4) = m ((c.tc : Thread Cert.FfnIdeal.nD Cert.FfnIdeal.τ).loc Cert.FfnIdeal.main_arg4)
      ∧ m' ((c.tc : Thread Cert.FfnRefIdeal.nD Cert.FfnRefIdeal.τ).loc Cert.FfnRefIdeal.main_arg5) = m ((c.tc : Thread Cert.FfnIdeal.nD Cert.FfnIdeal.τ).loc Cert.FfnIdeal.main_arg5)
      ∧ m' ((c.tc : Thread Cert.FfnRefIdeal.nD Cert.FfnRefIdeal.τ).loc Cert.FfnRefIdeal.main_arg6) = m ((c.tc : Thread Cert.FfnIdeal.nD Cert.FfnIdeal.τ).loc Cert.FfnIdeal.main_arg6)) →
    ∃ (v0 : (c : Dev Cert.FfnIdeal.nD) → Buf (Elt Ideal) ((c.tc : Thread Cert.FfnIdeal.nD Cert.FfnIdeal.τ).loc Cert.FfnIdeal.main_v10)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v10) = v0 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
          ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
          ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5)
          ∧ r.2.mem ((c.tc : Thread Cert.FfnIdeal.nD Cert.FfnIdeal.τ).loc Cert.FfnIdeal.main_arg6) = m ((c.tc : Thread Cert.FfnIdeal.nD Cert.FfnIdeal.τ).loc Cert.FfnIdeal.main_arg6))
      ∧ θ_run (Cert.FfnRefIdeal.defs (F := Ideal)) (onTc (τ := Cert.FfnRefIdeal.τ) (Cert.FfnRefIdeal.main (F := Ideal))) ⟨m', fun _ => 0, g'⟩ (fun r => ∀ c : Dev Cert.FfnRefIdeal.nD,
          r.2.mem ((c.tc : Thread Cert.FfnRefIdeal.nD Cert.FfnRefIdeal.τ).loc Cert.FfnRefIdeal.main_v74) = v0 c
          ∧ r.2.mem ((c.tc : Thread Cert.FfnRefIdeal.nD Cert.FfnRefIdeal.τ).loc Cert.FfnRefIdeal.main_arg0) = m' ((c.tc : Thread Cert.FfnRefIdeal.nD Cert.FfnRefIdeal.τ).loc Cert.FfnRefIdeal.main_arg0)
          ∧ r.2.mem ((c.tc : Thread Cert.FfnRefIdeal.nD Cert.FfnRefIdeal.τ).loc Cert.FfnRefIdeal.main_arg1) = m' ((c.tc : Thread Cert.FfnRefIdeal.nD Cert.FfnRefIdeal.τ).loc Cert.FfnRefIdeal.main_arg1)
          ∧ r.2.mem ((c.tc : Thread Cert.FfnRefIdeal.nD Cert.FfnRefIdeal.τ).loc Cert.FfnRefIdeal.main_arg2) = m' ((c.tc : Thread Cert.FfnRefIdeal.nD Cert.FfnRefIdeal.τ).loc Cert.FfnRefIdeal.main_arg2)
          ∧ r.2.mem ((c.tc : Thread Cert.FfnRefIdeal.nD Cert.FfnRefIdeal.τ).loc Cert.FfnRefIdeal.main_arg3) = m' ((c.tc : Thread Cert.FfnRefIdeal.nD Cert.FfnRefIdeal.τ).loc Cert.FfnRefIdeal.main_arg3)
          ∧ r.2.mem ((c.tc : Thread Cert.FfnRefIdeal.nD Cert.FfnRefIdeal.τ).loc Cert.FfnRefIdeal.main_arg4) = m' ((c.tc : Thread Cert.FfnRefIdeal.nD Cert.FfnRefIdeal.τ).loc Cert.FfnRefIdeal.main_arg4)
          ∧ r.2.mem ((c.tc : Thread Cert.FfnRefIdeal.nD Cert.FfnRefIdeal.τ).loc Cert.FfnRefIdeal.main_arg5) = m' ((c.tc : Thread Cert.FfnRefIdeal.nD Cert.FfnRefIdeal.τ).loc Cert.FfnRefIdeal.main_arg5)
          ∧ r.2.mem ((c.tc : Thread Cert.FfnRefIdeal.nD Cert.FfnRefIdeal.τ).loc Cert.FfnRefIdeal.main_arg6) = m' ((c.tc : Thread Cert.FfnRefIdeal.nD Cert.FfnRefIdeal.τ).loc Cert.FfnRefIdeal.main_arg6))

def preserves_Merge_MergeIdeal : Prop :=
  True

def algebraic_MergeIdeal_MergeRefIdeal [hMergeIdeal : Cert.MergeIdeal.Facts] [hMergeRefIdeal : Cert.MergeRefIdeal.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.MergeRefIdeal.nD Cert.MergeRefIdeal.τ Cert.MergeRefIdeal.sig) → Buf (Elt Ideal) ℓ) (g' : Dev Cert.MergeRefIdeal.nD → PrngReg), Pre_MergeIdeal m →
    (∀ c : Dev Cert.MergeIdeal.nD,
      m' ((c.tc : Thread Cert.MergeRefIdeal.nD Cert.MergeRefIdeal.τ).loc Cert.MergeRefIdeal.main_arg0) = m ((c.tc : Thread Cert.MergeIdeal.nD Cert.MergeIdeal.τ).loc Cert.MergeIdeal.main_arg0)
      ∧ m' ((c.tc : Thread Cert.MergeRefIdeal.nD Cert.MergeRefIdeal.τ).loc Cert.MergeRefIdeal.main_arg1) = m ((c.tc : Thread Cert.MergeIdeal.nD Cert.MergeIdeal.τ).loc Cert.MergeIdeal.main_arg1)
      ∧ m' ((c.tc : Thread Cert.MergeRefIdeal.nD Cert.MergeRefIdeal.τ).loc Cert.MergeRefIdeal.main_arg2) = m ((c.tc : Thread Cert.MergeIdeal.nD Cert.MergeIdeal.τ).loc Cert.MergeIdeal.main_arg2)
      ∧ m' ((c.tc : Thread Cert.MergeRefIdeal.nD Cert.MergeRefIdeal.τ).loc Cert.MergeRefIdeal.main_arg3) = m ((c.tc : Thread Cert.MergeIdeal.nD Cert.MergeIdeal.τ).loc Cert.MergeIdeal.main_arg3)
      ∧ m' ((c.tc : Thread Cert.MergeRefIdeal.nD Cert.MergeRefIdeal.τ).loc Cert.MergeRefIdeal.main_arg4) = m ((c.tc : Thread Cert.MergeIdeal.nD Cert.MergeIdeal.τ).loc Cert.MergeIdeal.main_arg4)
      ∧ m' ((c.tc : Thread Cert.MergeRefIdeal.nD Cert.MergeRefIdeal.τ).loc Cert.MergeRefIdeal.main_arg5) = m ((c.tc : Thread Cert.MergeIdeal.nD Cert.MergeIdeal.τ).loc Cert.MergeIdeal.main_arg5)
      ∧ m' ((c.tc : Thread Cert.MergeRefIdeal.nD Cert.MergeRefIdeal.τ).loc Cert.MergeRefIdeal.main_arg6) = m ((c.tc : Thread Cert.MergeIdeal.nD Cert.MergeIdeal.τ).loc Cert.MergeIdeal.main_arg6)
      ∧ m' ((c.tc : Thread Cert.MergeRefIdeal.nD Cert.MergeRefIdeal.τ).loc Cert.MergeRefIdeal.main_arg7) = m ((c.tc : Thread Cert.MergeIdeal.nD Cert.MergeIdeal.τ).loc Cert.MergeIdeal.main_arg7)
      ∧ m' ((c.tc : Thread Cert.MergeRefIdeal.nD Cert.MergeRefIdeal.τ).loc Cert.MergeRefIdeal.main_arg8) = m ((c.tc : Thread Cert.MergeIdeal.nD Cert.MergeIdeal.τ).loc Cert.MergeIdeal.main_arg8)
      ∧ m' ((c.tc : Thread Cert.MergeRefIdeal.nD Cert.MergeRefIdeal.τ).loc Cert.MergeRefIdeal.main_arg9) = m ((c.tc : Thread Cert.MergeIdeal.nD Cert.MergeIdeal.τ).loc Cert.MergeIdeal.main_arg9)
      ∧ m' ((c.tc : Thread Cert.MergeRefIdeal.nD Cert.MergeRefIdeal.τ).loc Cert.MergeRefIdeal.main_arg10) = m ((c.tc : Thread Cert.MergeIdeal.nD Cert.MergeIdeal.τ).loc Cert.MergeIdeal.main_arg10)
      ∧ m' ((c.tc : Thread Cert.MergeRefIdeal.nD Cert.MergeRefIdeal.τ).loc Cert.MergeRefIdeal.main_arg11) = m ((c.tc : Thread Cert.MergeIdeal.nD Cert.MergeIdeal.τ).loc Cert.MergeIdeal.main_arg11)
      ∧ m' ((c.tc : Thread Cert.MergeRefIdeal.nD Cert.MergeRefIdeal.τ).loc Cert.MergeRefIdeal.main_arg12) = m ((c.tc : Thread Cert.MergeIdeal.nD Cert.MergeIdeal.τ).loc Cert.MergeIdeal.main_arg12)
      ∧ m' ((c.tc : Thread Cert.MergeRefIdeal.nD Cert.MergeRefIdeal.τ).loc Cert.MergeRefIdeal.main_arg13) = m ((c.tc : Thread Cert.MergeIdeal.nD Cert.MergeIdeal.τ).loc Cert.MergeIdeal.main_arg13)) →
    ∃ (v0 : (c : Dev Cert.MergeIdeal.nD) → Buf (Elt Ideal) ((c.tc : Thread Cert.MergeIdeal.nD Cert.MergeIdeal.τ).loc Cert.MergeIdeal.main_v8)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          r.2.mem ((c.tc : Thread Cert.MergeIdeal.nD Cert.MergeIdeal.τ).loc Cert.MergeIdeal.main_v8) = v0 c
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
          ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
          ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
          ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
          ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
          ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
          ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
          ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8)
          ∧ r.2.mem ((c.tc : Thread Cert.MergeIdeal.nD Cert.MergeIdeal.τ).loc Cert.MergeIdeal.main_arg9) = m ((c.tc : Thread Cert.MergeIdeal.nD Cert.MergeIdeal.τ).loc Cert.MergeIdeal.main_arg9)
          ∧ r.2.mem ((c.tc : Thread Cert.MergeIdeal.nD Cert.MergeIdeal.τ).loc Cert.MergeIdeal.main_arg10) = m ((c.tc : Thread Cert.MergeIdeal.nD Cert.MergeIdeal.τ).loc Cert.MergeIdeal.main_arg10)
          ∧ r.2.mem ((c.tc : Thread Cert.MergeIdeal.nD Cert.MergeIdeal.τ).loc Cert.MergeIdeal.main_arg11) = m ((c.tc : Thread Cert.MergeIdeal.nD Cert.MergeIdeal.τ).loc Cert.MergeIdeal.main_arg11)
          ∧ r.2.mem ((c.tc : Thread Cert.MergeIdeal.nD Cert.MergeIdeal.τ).loc Cert.MergeIdeal.main_arg12) = m ((c.tc : Thread Cert.MergeIdeal.nD Cert.MergeIdeal.τ).loc Cert.MergeIdeal.main_arg12)
          ∧ r.2.mem ((c.tc : Thread Cert.MergeIdeal.nD Cert.MergeIdeal.τ).loc Cert.MergeIdeal.main_arg13) = m ((c.tc : Thread Cert.MergeIdeal.nD Cert.MergeIdeal.τ).loc Cert.MergeIdeal.main_arg13))
      ∧ θ_run (Cert.MergeRefIdeal.defs (F := Ideal)) (onTc (τ := Cert.MergeRefIdeal.τ) (Cert.MergeRefIdeal.main (F := Ideal))) ⟨m', fun _ => 0, g'⟩ (fun r => ∀ c : Dev Cert.MergeRefIdeal.nD,
          r.2.mem ((c.tc : Thread Cert.MergeRefIdeal.nD Cert.MergeRefIdeal.τ).loc Cert.MergeRefIdeal.main_v236) = v0 c
          ∧ r.2.mem ((c.tc : Thread Cert.MergeRefIdeal.nD Cert.MergeRefIdeal.τ).loc Cert.MergeRefIdeal.main_arg0) = m' ((c.tc : Thread Cert.MergeRefIdeal.nD Cert.MergeRefIdeal.τ).loc Cert.MergeRefIdeal.main_arg0)
          ∧ r.2.mem ((c.tc : Thread Cert.MergeRefIdeal.nD Cert.MergeRefIdeal.τ).loc Cert.MergeRefIdeal.main_arg1) = m' ((c.tc : Thread Cert.MergeRefIdeal.nD Cert.MergeRefIdeal.τ).loc Cert.MergeRefIdeal.main_arg1)
          ∧ r.2.mem ((c.tc : Thread Cert.MergeRefIdeal.nD Cert.MergeRefIdeal.τ).loc Cert.MergeRefIdeal.main_arg2) = m' ((c.tc : Thread Cert.MergeRefIdeal.nD Cert.MergeRefIdeal.τ).loc Cert.MergeRefIdeal.main_arg2)
          ∧ r.2.mem ((c.tc : Thread Cert.MergeRefIdeal.nD Cert.MergeRefIdeal.τ).loc Cert.MergeRefIdeal.main_arg3) = m' ((c.tc : Thread Cert.MergeRefIdeal.nD Cert.MergeRefIdeal.τ).loc Cert.MergeRefIdeal.main_arg3)
          ∧ r.2.mem ((c.tc : Thread Cert.MergeRefIdeal.nD Cert.MergeRefIdeal.τ).loc Cert.MergeRefIdeal.main_arg4) = m' ((c.tc : Thread Cert.MergeRefIdeal.nD Cert.MergeRefIdeal.τ).loc Cert.MergeRefIdeal.main_arg4)
          ∧ r.2.mem ((c.tc : Thread Cert.MergeRefIdeal.nD Cert.MergeRefIdeal.τ).loc Cert.MergeRefIdeal.main_arg5) = m' ((c.tc : Thread Cert.MergeRefIdeal.nD Cert.MergeRefIdeal.τ).loc Cert.MergeRefIdeal.main_arg5)
          ∧ r.2.mem ((c.tc : Thread Cert.MergeRefIdeal.nD Cert.MergeRefIdeal.τ).loc Cert.MergeRefIdeal.main_arg6) = m' ((c.tc : Thread Cert.MergeRefIdeal.nD Cert.MergeRefIdeal.τ).loc Cert.MergeRefIdeal.main_arg6)
          ∧ r.2.mem ((c.tc : Thread Cert.MergeRefIdeal.nD Cert.MergeRefIdeal.τ).loc Cert.MergeRefIdeal.main_arg7) = m' ((c.tc : Thread Cert.MergeRefIdeal.nD Cert.MergeRefIdeal.τ).loc Cert.MergeRefIdeal.main_arg7)
          ∧ r.2.mem ((c.tc : Thread Cert.MergeRefIdeal.nD Cert.MergeRefIdeal.τ).loc Cert.MergeRefIdeal.main_arg8) = m' ((c.tc : Thread Cert.MergeRefIdeal.nD Cert.MergeRefIdeal.τ).loc Cert.MergeRefIdeal.main_arg8)
          ∧ r.2.mem ((c.tc : Thread Cert.MergeRefIdeal.nD Cert.MergeRefIdeal.τ).loc Cert.MergeRefIdeal.main_arg9) = m' ((c.tc : Thread Cert.MergeRefIdeal.nD Cert.MergeRefIdeal.τ).loc Cert.MergeRefIdeal.main_arg9)
          ∧ r.2.mem ((c.tc : Thread Cert.MergeRefIdeal.nD Cert.MergeRefIdeal.τ).loc Cert.MergeRefIdeal.main_arg10) = m' ((c.tc : Thread Cert.MergeRefIdeal.nD Cert.MergeRefIdeal.τ).loc Cert.MergeRefIdeal.main_arg10)
          ∧ r.2.mem ((c.tc : Thread Cert.MergeRefIdeal.nD Cert.MergeRefIdeal.τ).loc Cert.MergeRefIdeal.main_arg11) = m' ((c.tc : Thread Cert.MergeRefIdeal.nD Cert.MergeRefIdeal.τ).loc Cert.MergeRefIdeal.main_arg11)
          ∧ r.2.mem ((c.tc : Thread Cert.MergeRefIdeal.nD Cert.MergeRefIdeal.τ).loc Cert.MergeRefIdeal.main_arg12) = m' ((c.tc : Thread Cert.MergeRefIdeal.nD Cert.MergeRefIdeal.τ).loc Cert.MergeRefIdeal.main_arg12)
          ∧ r.2.mem ((c.tc : Thread Cert.MergeRefIdeal.nD Cert.MergeRefIdeal.τ).loc Cert.MergeRefIdeal.main_arg13) = m' ((c.tc : Thread Cert.MergeRefIdeal.nD Cert.MergeRefIdeal.τ).loc Cert.MergeRefIdeal.main_arg13))

def Claim : Prop :=
  ∃ (hKernel : Cert.Kernel.Facts) (hKernelIdeal : Cert.KernelIdeal.Facts) (hReferenceIdeal : Cert.ReferenceIdeal.Facts) (hInproj : Cert.Inproj.Facts) (hInprojIdeal : Cert.InprojIdeal.Facts) (hInprojRefIdeal : Cert.InprojRefIdeal.Facts) (hFfn : Cert.Ffn.Facts) (hFfnIdeal : Cert.FfnIdeal.Facts) (hFfnRefIdeal : Cert.FfnRefIdeal.Facts) (hMerge : Cert.Merge.Facts) (hMergeIdeal : Cert.MergeIdeal.Facts) (hMergeRefIdeal : Cert.MergeRefIdeal.Facts) (hPre_laid_out : Cert.Pre_laid_out.Facts),
    quiescent_Kernel (hKernel := hKernel)
    ∧ quiescent_KernelIdeal (hKernelIdeal := hKernelIdeal)
    ∧ quiescent_KernelIdeal_pre_laid_out (hKernelIdeal := hKernelIdeal) (hPre_laid_out := hPre_laid_out)
    ∧ quiescent_ReferenceIdeal (hReferenceIdeal := hReferenceIdeal)
    ∧ quiescent_ReferenceIdeal_pre_laid_out (hReferenceIdeal := hReferenceIdeal) (hPre_laid_out := hPre_laid_out)
    ∧ quiescent_Inproj (hInproj := hInproj)
    ∧ quiescent_InprojIdeal (hInprojIdeal := hInprojIdeal)
    ∧ quiescent_InprojRefIdeal (hInprojRefIdeal := hInprojRefIdeal)
    ∧ quiescent_Ffn (hFfn := hFfn)
    ∧ quiescent_FfnIdeal (hFfnIdeal := hFfnIdeal)
    ∧ quiescent_FfnRefIdeal (hFfnRefIdeal := hFfnRefIdeal)
    ∧ quiescent_Merge (hMerge := hMerge)
    ∧ quiescent_MergeIdeal (hMergeIdeal := hMergeIdeal)
    ∧ quiescent_MergeRefIdeal (hMergeRefIdeal := hMergeRefIdeal)
    ∧ preserves_Kernel_KernelIdeal
    ∧ algebraic_KernelIdeal_ReferenceIdeal_pre_laid_out (hKernelIdeal := hKernelIdeal) (hReferenceIdeal := hReferenceIdeal) (hPre_laid_out := hPre_laid_out)
    ∧ preserves_Inproj_InprojIdeal
    ∧ algebraic_InprojIdeal_InprojRefIdeal (hInprojIdeal := hInprojIdeal) (hInprojRefIdeal := hInprojRefIdeal)
    ∧ preserves_Ffn_FfnIdeal
    ∧ algebraic_FfnIdeal_FfnRefIdeal (hFfnIdeal := hFfnIdeal) (hFfnRefIdeal := hFfnRefIdeal)
    ∧ preserves_Merge_MergeIdeal
    ∧ algebraic_MergeIdeal_MergeRefIdeal (hMergeIdeal := hMergeIdeal) (hMergeRefIdeal := hMergeRefIdeal)
-- ==== Pre_laid_out.lean ====
abbrev S2x8x8448x128 : Shape := ⟨4, ![2, 8, 8448, 128]⟩
abbrev S2x2x128x8448 : Shape := ⟨4, ![2, 2, 128, 8448]⟩
abbrev S2x2x8448x128 : Shape := ⟨4, ![2, 2, 8448, 128]⟩
abbrev S2x8x8192x65 : Shape := ⟨4, ![2, 8, 8192, 65]⟩
abbrev S_ : Shape := ⟨0, ![]⟩
abbrev S2x2x64x8448 : Shape := ⟨4, ![2, 2, 64, 8448]⟩
abbrev S2x2x1x8448 : Shape := ⟨4, ![2, 2, 1, 8448]⟩
abbrev S2x2x8448 : Shape := ⟨3, ![2, 2, 8448]⟩
abbrev S2x2x63x8448 : Shape := ⟨4, ![2, 2, 63, 8448]⟩
abbrev S2x2x8448x1 : Shape := ⟨4, ![2, 2, 8448, 1]⟩

class Facts : Prop where
  slices_S2x8x8448x128_S2x8x8192x65_0_0_0_0 : S2x8x8448x128.Slices ![0, 0, 0, 0] S2x8x8192x65
  bitsLt_bf16_f32 : FTy.bits .bf16 < FTy.bits .f32
  bcast_S_S2x8x8192x65 : S_.BroadcastsInDim S2x8x8192x65 (![] : Fin 0 → Fin S2x8x8192x65.rank)
  slices_S2x2x128x8448_S2x2x64x8448_0_0_0_0 : S2x2x128x8448.Slices ![0, 0, 0, 0] S2x2x64x8448
  bcast_S_S2x2x64x8448 : S_.BroadcastsInDim S2x2x64x8448 (![] : Fin 0 → Fin S2x2x64x8448.rank)
  slices_S2x2x128x8448_S2x2x1x8448_0_0_64_0 : S2x2x128x8448.Slices ![0, 0, 64, 0] S2x2x1x8448
  shapeCasts_S2x2x1x8448_S2x2x8448 : S2x2x1x8448.ShapeCasts S2x2x8448
  bcast_S_S2x2x8448 : S_.BroadcastsInDim S2x2x8448 (![] : Fin 0 → Fin S2x2x8448.rank)
  slices_S2x2x128x8448_S2x2x63x8448_0_0_65_0 : S2x2x128x8448.Slices ![0, 0, 65, 0] S2x2x63x8448
  bcast_S_S2x2x63x8448 : S_.BroadcastsInDim S2x2x63x8448 (![] : Fin 0 → Fin S2x2x63x8448.rank)
  slices_S2x2x8448x128_S2x2x8448x1_0_0_0_64 : S2x2x8448x128.Slices ![0, 0, 0, 64] S2x2x8448x1
  shapeCasts_S2x2x8448x1_S2x2x8448 : S2x2x8448x1.ShapeCasts S2x2x8448

variable [Facts]

def fn_part1 {F : FTy → Type} [FloatOps F] (main_v4 : IVec S2x8x8192x65 1) (main_v9 : IVec S2x2x64x8448 1) (main_v14 : IVec S2x2x8448 1) (main_v18 : IVec S2x2x63x8448 1) (main_v19 : FVec F S2x2x8448x1 .bf16) : IVec S2x8x8192x65 1 × IVec S2x2x64x8448 1 × IVec S2x2x8448 1 × IVec S2x2x63x8448 1 × IVec S2x2x8448 1 :=
  let main_v20 : FVec F S2x2x8448 .bf16 := shapeCast S2x2x8448 main_v19 shapeCasts_S2x2x8448x1_S2x2x8448
  let main_v21 : FVec F S2x2x8448 .f32 := (extf .f32 · bitsLt_bf16_f32) main_v20
  let main_cst_3 : FVec F S_ .f32 := constant S_ .f32 0x3F800000#32
  let main_v22 : FVec F S2x2x8448 .f32 := broadcastInDim S2x2x8448 ![] bcast_S_S2x2x8448 main_cst_3
  let main_v23 : IVec S2x2x8448 1 := cmpf .oeq main_v21 main_v22
  (main_v4, main_v9, main_v14, main_v18, main_v23)

def fn {F : FTy → Type} [FloatOps F] (main_arg0 : FVec F S2x8x8448x128 .bf16) (main_arg1 : FVec F S2x2x128x8448 .bf16) (main_arg2 : FVec F S2x2x8448x128 .bf16) : IVec S2x8x8192x65 1 × IVec S2x2x64x8448 1 × IVec S2x2x8448 1 × IVec S2x2x63x8448 1 × IVec S2x2x8448 1 :=
  let main_v0 : FVec F S2x8x8192x65 .bf16 := (extractStridedSlice S2x8x8192x65 ![0, 0, 0, 0] · slices_S2x8x8448x128_S2x8x8192x65_0_0_0_0) main_arg0
  let main_v1 : FVec F S2x8x8192x65 .f32 := (extf .f32 · bitsLt_bf16_f32) main_v0
  let main_v2 : FVec F S2x8x8192x65 .f32 := Host.absf main_v1
  let main_cst : FVec F S_ .f32 := constant S_ .f32 0x7F800000#32
  let main_v3 : FVec F S2x8x8192x65 .f32 := broadcastInDim S2x8x8192x65 ![] bcast_S_S2x8x8192x65 main_cst
  let main_v4 : IVec S2x8x8192x65 1 := cmpf .olt main_v2 main_v3
  let main_v5 : FVec F S2x2x64x8448 .bf16 := (extractStridedSlice S2x2x64x8448 ![0, 0, 0, 0] · slices_S2x2x128x8448_S2x2x64x8448_0_0_0_0) main_arg1
  let main_v6 : FVec F S2x2x64x8448 .f32 := (extf .f32 · bitsLt_bf16_f32) main_v5
  let main_v7 : FVec F S2x2x64x8448 .f32 := Host.absf main_v6
  let main_cst_0 : FVec F S_ .f32 := constant S_ .f32 0x7F800000#32
  let main_v8 : FVec F S2x2x64x8448 .f32 := broadcastInDim S2x2x64x8448 ![] bcast_S_S2x2x64x8448 main_cst_0
  let main_v9 : IVec S2x2x64x8448 1 := cmpf .olt main_v7 main_v8
  let main_v10 : FVec F S2x2x1x8448 .bf16 := (extractStridedSlice S2x2x1x8448 ![0, 0, 64, 0] · slices_S2x2x128x8448_S2x2x1x8448_0_0_64_0) main_arg1
  let main_v11 : FVec F S2x2x8448 .bf16 := shapeCast S2x2x8448 main_v10 shapeCasts_S2x2x1x8448_S2x2x8448
  let main_v12 : FVec F S2x2x8448 .f32 := (extf .f32 · bitsLt_bf16_f32) main_v11
  let main_cst_1 : FVec F S_ .f32 := constant S_ .f32 0x3F800000#32
  let main_v13 : FVec F S2x2x8448 .f32 := broadcastInDim S2x2x8448 ![] bcast_S_S2x2x8448 main_cst_1
  let main_v14 : IVec S2x2x8448 1 := cmpf .oeq main_v12 main_v13
  let main_v15 : FVec F S2x2x63x8448 .bf16 := (extractStridedSlice S2x2x63x8448 ![0, 0, 65, 0] · slices_S2x2x128x8448_S2x2x63x8448_0_0_65_0) main_arg1
  let main_v16 : FVec F S2x2x63x8448 .f32 := (extf .f32 · bitsLt_bf16_f32) main_v15
  let main_cst_2 : FVec F S_ .f32 := constant S_ .f32 0x00000000#32
  let main_v17 : FVec F S2x2x63x8448 .f32 := broadcastInDim S2x2x63x8448 ![] bcast_S_S2x2x63x8448 main_cst_2
  let main_v18 : IVec S2x2x63x8448 1 := cmpf .oeq main_v16 main_v17
  let main_v19 : FVec F S2x2x8448x1 .bf16 := (extractStridedSlice S2x2x8448x1 ![0, 0, 0, 64] · slices_S2x2x8448x128_S2x2x8448x1_0_0_0_64) main_arg2
  fn_part1 (F := F) main_v4 main_v9 main_v14 main_v18 main_v19
-- ==== Kernel.lean ====
abbrev S2x8x8448x128 : Shape := ⟨4, ![2, 8, 8448, 128]⟩
abbrev S2x2x128x8448 : Shape := ⟨4, ![2, 2, 128, 8448]⟩
abbrev S2x2x8448x128 : Shape := ⟨4, ![2, 2, 8448, 128]⟩
abbrev S2x8192x512 : Shape := ⟨3, ![2, 8192, 512]⟩
abbrev S1x4x512x128 : Shape := ⟨4, ![1, 4, 512, 128]⟩
abbrev S1x1x128x8448 : Shape := ⟨4, ![1, 1, 128, 8448]⟩
abbrev S1x1x8448x128 : Shape := ⟨4, ![1, 1, 8448, 128]⟩
abbrev S1x512x256 : Shape := ⟨3, ![1, 512, 256]⟩
abbrev S2x2048x768 : Shape := ⟨3, ![2, 2048, 768]⟩
abbrev S2048x128 : Shape := ⟨2, ![2048, 128]⟩
abbrev S4x512x128 : Shape := ⟨3, ![4, 512, 128]⟩
abbrev S1x1x128x768 : Shape := ⟨4, ![1, 1, 128, 768]⟩
abbrev S128x768 : Shape := ⟨2, ![128, 768]⟩
abbrev S2048x768 : Shape := ⟨2, ![2048, 768]⟩
abbrev S1x2048x768 : Shape := ⟨3, ![1, 2048, 768]⟩
abbrev S1x1x768x128 : Shape := ⟨4, ![1, 1, 768, 128]⟩
abbrev S768x128 : Shape := ⟨2, ![768, 128]⟩
abbrev S2048x1 : Shape := ⟨2, ![2048, 1]⟩
abbrev S512x128 : Shape := ⟨2, ![512, 128]⟩
abbrev S1x512x128 : Shape := ⟨3, ![1, 512, 128]⟩
abbrev S1x2048x1 : Shape := ⟨3, ![1, 2048, 1]⟩
abbrev S1 : Shape := ⟨1, ![1]⟩
abbrev S1x1x1 : Shape := ⟨3, ![1, 1, 1]⟩
abbrev S2048 : Shape := ⟨1, ![2048]⟩

abbrev nBuf : Space → Nat
  | .hbm => 4
  | .vmem => 11
  | .smem => 0
  | _ => 0

abbrev bufTy : (tb : Table) → Fin (tcTables nBuf tb) → BufTy
  | .hbm, ⟨0, _⟩ => ⟨S2x8x8448x128, .bf16⟩
  | .hbm, ⟨1, _⟩ => ⟨S2x2x128x8448, .bf16⟩
  | .hbm, ⟨2, _⟩ => ⟨S2x2x8448x128, .bf16⟩
  | .hbm, ⟨3, _⟩ => ⟨S2x8192x512, .bf16⟩
  | .local _ .vmem, ⟨0, _⟩ => ⟨S1x4x512x128, .bf16⟩
  | .local _ .vmem, ⟨1, _⟩ => ⟨S1x4x512x128, .bf16⟩
  | .local _ .vmem, ⟨2, _⟩ => ⟨S1x1x128x8448, .bf16⟩
  | .local _ .vmem, ⟨3, _⟩ => ⟨S1x1x128x8448, .bf16⟩
  | .local _ .vmem, ⟨4, _⟩ => ⟨S1x1x8448x128, .bf16⟩
  | .local _ .vmem, ⟨5, _⟩ => ⟨S1x1x8448x128, .bf16⟩
  | .local _ .vmem, ⟨6, _⟩ => ⟨S1x512x256, .bf16⟩
  | .local _ .vmem, ⟨7, _⟩ => ⟨S1x512x256, .bf16⟩
  | .local _ .vmem, ⟨8, _⟩ => ⟨S2x2048x768, .f32⟩
  | .local _ .vmem, ⟨9, _⟩ => ⟨S2048x128, .f32⟩
  | .local _ .vmem, ⟨10, _⟩ => ⟨S2048x128, .f32⟩
  | _, _ => ⟨S2x8x8448x128, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![2, 2, 16], ![false, false, false]⟩

def k0_mult1 : BitVec 32 :=
  let c0_i32 : BitVec 32 := 0#32
  c0_i32
def k0_mult2 : BitVec 32 :=
  let c768_i32 : BitVec 32 := 768#32
  c768_i32
def k0_mult3 : BitVec 32 :=
  let c0_i32_19 : BitVec 32 := 0#32
  c0_i32_19
def k0_mult4 : BitVec 32 :=
  let c1536_i32 : BitVec 32 := 1536#32
  c1536_i32
def k0_mult5 : BitVec 32 :=
  let c768_i32_34 : BitVec 32 := 768#32
  c768_i32_34
def k0_mult6 : BitVec 32 :=
  let c2304_i32 : BitVec 32 := 2304#32
  c2304_i32
def k0_mult7 : BitVec 32 :=
  let c1536_i32_49 : BitVec 32 := 1536#32
  c1536_i32_49
def k0_mult8 : BitVec 32 :=
  let c3072_i32 : BitVec 32 := 3072#32
  c3072_i32
def k0_mult9 : BitVec 32 :=
  let c2304_i32_64 : BitVec 32 := 2304#32
  c2304_i32_64
def k0_mult10 : BitVec 32 :=
  let c3840_i32 : BitVec 32 := 3840#32
  c3840_i32
def k0_mult11 : BitVec 32 :=
  let c3072_i32_79 : BitVec 32 := 3072#32
  c3072_i32_79
def k0_mult12 : BitVec 32 :=
  let c4608_i32 : BitVec 32 := 4608#32
  c4608_i32
def k0_mult13 : BitVec 32 :=
  let c3840_i32_94 : BitVec 32 := 3840#32
  c3840_i32_94
def k0_mult14 : BitVec 32 :=
  let c5376_i32 : BitVec 32 := 5376#32
  c5376_i32
def k0_mult15 : BitVec 32 :=
  let c4608_i32_109 : BitVec 32 := 4608#32
  c4608_i32_109
def k0_mult16 : BitVec 32 :=
  let c6144_i32 : BitVec 32 := 6144#32
  c6144_i32
def k0_mult17 : BitVec 32 :=
  let c5376_i32_124 : BitVec 32 := 5376#32
  c5376_i32_124
def k0_mult18 : BitVec 32 :=
  let c6912_i32 : BitVec 32 := 6912#32
  c6912_i32
def k0_mult19 : BitVec 32 :=
  let c6144_i32_139 : BitVec 32 := 6144#32
  c6144_i32_139
def k0_mult20 : BitVec 32 :=
  let c7680_i32 : BitVec 32 := 7680#32
  c7680_i32
def k0_mult21 : BitVec 32 :=
  let c6912_i32_154 : BitVec 32 := 6912#32
  c6912_i32_154
def k0_mult22 : BitVec 32 :=
  let c7680_i32_162 : BitVec 32 := 7680#32
  c7680_i32_162
@[reducible] def k0_t1_loop : Scf.Loop 32 :=
  let c0_i32_184 : BitVec 32 := 0#32
  let c11_i32 : BitVec 32 := 11#32
  let v242 : BitVec 32 := Scalar.addi c0_i32_184 c11_i32
  let c1_i32 : BitVec 32 := 1#32
  ⟨c0_i32_184, v242, c1_i32⟩
def k0_mult23 (k0_t1 : Fin k0_t1_loop.trips) : BitVec 32 :=
  let c0_i32_184 : BitVec 32 := 0#32
  let c1_i32 : BitVec 32 := 1#32
  let arg10 : BitVec 32 := Scf.iv c0_i32_184 c1_i32 k0_t1
  let c768_i32_198 : BitVec 32 := 768#32
  let v268 : BitVec 32 := Scalar.muli arg10 c768_i32_198
  v268
def k0_off1 (k0_t1 : Fin k0_t1_loop.trips) : Fin 4 → Nat :=
  let c0_199 : Index := 0#32
  let c0_200 : Index := 0#32
  let c0_201 : Index := 0#32
  let c0_i32_184 : BitVec 32 := 0#32
  let c1_i32 : BitVec 32 := 1#32
  let arg10 : BitVec 32 := Scf.iv c0_i32_184 c1_i32 k0_t1
  let c768_i32_198 : BitVec 32 := 768#32
  let v268 : BitVec 32 := Scalar.muli arg10 c768_i32_198
  let v269 : BitVec 32 := v268
  let v270 : Index := Scalar.indexCast v269
  ![0, 0, 0, v270.toNat]
def k0_mult24 (k0_t1 : Fin k0_t1_loop.trips) : BitVec 32 :=
  let c0_i32_184 : BitVec 32 := 0#32
  let c1_i32 : BitVec 32 := 1#32
  let arg10 : BitVec 32 := Scf.iv c0_i32_184 c1_i32 k0_t1
  let c768_i32_208 : BitVec 32 := 768#32
  let v287 : BitVec 32 := Scalar.muli arg10 c768_i32_208
  v287
def k0_off2 (k0_t1 : Fin k0_t1_loop.trips) : Fin 4 → Nat :=
  let c0_209 : Index := 0#32
  let c0_210 : Index := 0#32
  let c0_i32_184 : BitVec 32 := 0#32
  let c1_i32 : BitVec 32 := 1#32
  let arg10 : BitVec 32 := Scf.iv c0_i32_184 c1_i32 k0_t1
  let c768_i32_208 : BitVec 32 := 768#32
  let v287 : BitVec 32 := Scalar.muli arg10 c768_i32_208
  let v288 : BitVec 32 := v287
  let v289 : Index := Scalar.indexCast v288
  let c0_211 : Index := 0#32
  ![0, 0, v289.toNat, 0]
def cc0_transform_0 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  let c0_i32_1 : BitVec 32 := 0#32
  ![arg0.toNat, arg1.toNat, v0.toNat, c0_i32_0.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 2 → Memref sig .tc .vmem S1x4x512x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x1x128x8448 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x1x8448x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x512x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]
-- ==== ReferenceIdeal.lean ====
abbrev S2x8x8448x128 : Shape := ⟨4, ![2, 8, 8448, 128]⟩
abbrev S2x2x128x8448 : Shape := ⟨4, ![2, 2, 128, 8448]⟩
abbrev S2x2x8448x128 : Shape := ⟨4, ![2, 2, 8448, 128]⟩
abbrev S2x8x8192x64 : Shape := ⟨4, ![2, 8, 8192, 64]⟩
abbrev S2x2x4x8192x64 : Shape := ⟨5, ![2, 2, 4, 8192, 64]⟩
abbrev S2x2x64x8448 : Shape := ⟨4, ![2, 2, 64, 8448]⟩
abbrev S2x2x8448x64 : Shape := ⟨4, ![2, 2, 8448, 64]⟩
abbrev S2x2x4x8192x8448 : Shape := ⟨5, ![2, 2, 4, 8192, 8448]⟩
abbrev S_ : Shape := ⟨0, ![]⟩
abbrev S2x2x4x8192 : Shape := ⟨4, ![2, 2, 4, 8192]⟩
abbrev S2x2x4x8192x1 : Shape := ⟨5, ![2, 2, 4, 8192, 1]⟩
abbrev S2x8192x2x4x64 : Shape := ⟨5, ![2, 8192, 2, 4, 64]⟩
abbrev S2x8192x512 : Shape := ⟨3, ![2, 8192, 512]⟩

abbrev nBuf : Space → Nat
  | .hbm => 28
  | .vmem => 0
  | .smem => 0
  | _ => 0

abbrev bufTy : (tb : Table) → Fin (tcTables nBuf tb) → BufTy
  | .hbm, ⟨0, _⟩ => ⟨S2x8x8448x128, .bf16⟩
  | .hbm, ⟨1, _⟩ => ⟨S2x2x128x8448, .bf16⟩
  | .hbm, ⟨2, _⟩ => ⟨S2x2x8448x128, .bf16⟩
  | .hbm, ⟨3, _⟩ => ⟨S2x8x8192x64, .bf16⟩
  | .hbm, ⟨4, _⟩ => ⟨S2x2x4x8192x64, .bf16⟩
  | .hbm, ⟨5, _⟩ => ⟨S2x2x64x8448, .bf16⟩
  | .hbm, ⟨6, _⟩ => ⟨S2x2x8448x64, .bf16⟩
  | .hbm, ⟨7, _⟩ => ⟨S2x2x4x8192x8448, .f32⟩
  | .hbm, ⟨8, _⟩ => ⟨S2x2x4x8192x8448, .bf16⟩
  | .hbm, ⟨9, _⟩ => ⟨S2x2x4x8192x8448, .f32⟩
  | .hbm, ⟨10, _⟩ => ⟨S_, .f32⟩
  | .hbm, ⟨11, _⟩ => ⟨S2x2x4x8192x8448, .f32⟩
  | .hbm, ⟨12, _⟩ => ⟨S_, .f32⟩
  | .hbm, ⟨13, _⟩ => ⟨S2x2x4x8192, .f32⟩
  | .hbm, ⟨14, _⟩ => ⟨S2x2x4x8192x1, .f32⟩
  | .hbm, ⟨15, _⟩ => ⟨S2x2x4x8192x8448, .f32⟩
  | .hbm, ⟨16, _⟩ => ⟨S2x2x4x8192x8448, .f32⟩
  | .hbm, ⟨17, _⟩ => ⟨S2x2x4x8192x8448, .f32⟩
  | .hbm, ⟨18, _⟩ => ⟨S_, .f32⟩
  | .hbm, ⟨19, _⟩ => ⟨S2x2x4x8192, .f32⟩
  | .hbm, ⟨20, _⟩ => ⟨S2x2x4x8192x1, .f32⟩
  | .hbm, ⟨21, _⟩ => ⟨S2x2x4x8192x8448, .f32⟩
  | .hbm, ⟨22, _⟩ => ⟨S2x2x4x8192x8448, .f32⟩
  | .hbm, ⟨23, _⟩ => ⟨S2x2x4x8192x8448, .bf16⟩
  | .hbm, ⟨24, _⟩ => ⟨S2x2x4x8192x64, .f32⟩
  | .hbm, ⟨25, _⟩ => ⟨S2x2x4x8192x64, .bf16⟩
  | .hbm, ⟨26, _⟩ => ⟨S2x8192x2x4x64, .bf16⟩
  | .hbm, ⟨27, _⟩ => ⟨S2x8192x512, .bf16⟩
  | _, _ => ⟨S2x8x8448x128, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst : Ref sig .tc := ⟨.hbm, 10, rfl⟩
abbrev main_v7 : Ref sig .tc := ⟨.hbm, 11, rfl⟩
abbrev main_cst_0 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst_1 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩

abbrev nD : Nat := 1
abbrev τ : Topo := Topo.v7x

variable {F : FTy → Type} [FloatOps F]
-- ==== Inproj.lean ====
abbrev S2x8192x1024 : Shape := ⟨3, ![2, 8192, 1024]⟩
abbrev S2x6x1024 : Shape := ⟨3, ![2, 6, 1024]⟩
abbrev S1024 : Shape := ⟨1, ![1024]⟩
abbrev S2x8448x1024 : Shape := ⟨3, ![2, 8448, 1024]⟩
abbrev S1x1024 : Shape := ⟨2, ![1, 1024]⟩
abbrev S2x8192x8448 : Shape := ⟨3, ![2, 8192, 8448]⟩
abbrev S1x1024x1024 : Shape := ⟨3, ![1, 1024, 1024]⟩
abbrev S1x6x1024 : Shape := ⟨3, ![1, 6, 1024]⟩
abbrev S1x2816x1024 : Shape := ⟨3, ![1, 2816, 1024]⟩
abbrev S1x1024x2816 : Shape := ⟨3, ![1, 1024, 2816]⟩
abbrev S1024x1024 : Shape := ⟨2, ![1024, 1024]⟩
abbrev S1x1x1024 : Shape := ⟨3, ![1, 1, 1024]⟩
abbrev S1024x1 : Shape := ⟨2, ![1024, 1]⟩
abbrev S2816x1024 : Shape := ⟨2, ![2816, 1024]⟩
abbrev S1024x2816 : Shape := ⟨2, ![1024, 2816]⟩

abbrev nBuf : Space → Nat
  | .hbm => 6
  | .vmem => 10
  | .smem => 0
  | _ => 0

abbrev bufTy : (tb : Table) → Fin (tcTables nBuf tb) → BufTy
  | .hbm, ⟨0, _⟩ => ⟨S2x8192x1024, .f32⟩
  | .hbm, ⟨1, _⟩ => ⟨S2x6x1024, .f32⟩
  | .hbm, ⟨2, _⟩ => ⟨S1024, .f32⟩
  | .hbm, ⟨3, _⟩ => ⟨S2x8448x1024, .bf16⟩
  | .hbm, ⟨4, _⟩ => ⟨S1x1024, .f32⟩
  | .hbm, ⟨5, _⟩ => ⟨S2x8192x8448, .bf16⟩
  | .local _ .vmem, ⟨0, _⟩ => ⟨S1x1024x1024, .f32⟩
  | .local _ .vmem, ⟨1, _⟩ => ⟨S1x1024x1024, .f32⟩
  | .local _ .vmem, ⟨2, _⟩ => ⟨S1x6x1024, .f32⟩
  | .local _ .vmem, ⟨3, _⟩ => ⟨S1x6x1024, .f32⟩
  | .local _ .vmem, ⟨4, _⟩ => ⟨S1x1024, .f32⟩
  | .local _ .vmem, ⟨5, _⟩ => ⟨S1x2816x1024, .bf16⟩
  | .local _ .vmem, ⟨6, _⟩ => ⟨S1x2816x1024, .bf16⟩
  | .local _ .vmem, ⟨7, _⟩ => ⟨S1x1024x2816, .bf16⟩
  | .local _ .vmem, ⟨8, _⟩ => ⟨S1x1024x2816, .bf16⟩
  | .local _ .vmem, ⟨9, _⟩ => ⟨S1024x1024, .bf16⟩
  | _, _ => ⟨S2x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_scratch0 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨3, ![2, 8, 3], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, arg2.toNat, c0_i32_0.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

abbrev stage0_0 : Fin 2 → Memref sig .tc .vmem S1x1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S1x6x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false, false]

abbrev stage0_3 : Fin 2 → Memref sig .tc .vmem S1x2816x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, false, true]

abbrev stage0_4 : Fin 2 → Memref sig .tc .vmem S1x1024x2816 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]
-- ==== InprojRefIdeal.lean ====
abbrev S2x8192x1024 : Shape := ⟨3, ![2, 8192, 1024]⟩
abbrev S2x6x1024 : Shape := ⟨3, ![2, 6, 1024]⟩
abbrev S1024 : Shape := ⟨1, ![1024]⟩
abbrev S2x8448x1024 : Shape := ⟨3, ![2, 8448, 1024]⟩
abbrev S_ : Shape := ⟨0, ![]⟩
abbrev S2x8192 : Shape := ⟨2, ![2, 8192]⟩
abbrev S2x8192x1 : Shape := ⟨3, ![2, 8192, 1]⟩
abbrev S1x1x1024 : Shape := ⟨3, ![1, 1, 1024]⟩
abbrev S2x1x1024 : Shape := ⟨3, ![2, 1, 1024]⟩
abbrev S1x8448x1024 : Shape := ⟨3, ![1, 8448, 1024]⟩
abbrev S8448x1024 : Shape := ⟨2, ![8448, 1024]⟩
abbrev S2x8192x8448 : Shape := ⟨3, ![2, 8192, 8448]⟩

abbrev nBuf : Space → Nat
  | .hbm => 34
  | .vmem => 0
  | .smem => 0
  | _ => 0

abbrev bufTy : (tb : Table) → Fin (tcTables nBuf tb) → BufTy
  | .hbm, ⟨0, _⟩ => ⟨S2x8192x1024, .f32⟩
  | .hbm, ⟨1, _⟩ => ⟨S2x6x1024, .f32⟩
  | .hbm, ⟨2, _⟩ => ⟨S1024, .f32⟩
  | .hbm, ⟨3, _⟩ => ⟨S2x8448x1024, .bf16⟩
  | .hbm, ⟨4, _⟩ => ⟨S2x8192x1024, .f32⟩
  | .hbm, ⟨5, _⟩ => ⟨S_, .f32⟩
  | .hbm, ⟨6, _⟩ => ⟨S2x8192, .f32⟩
  | .hbm, ⟨7, _⟩ => ⟨S2x8192x1, .f32⟩
  | .hbm, ⟨8, _⟩ => ⟨S_, .f32⟩
  | .hbm, ⟨9, _⟩ => ⟨S2x8192x1, .f32⟩
  | .hbm, ⟨10, _⟩ => ⟨S2x8192x1, .f32⟩
  | .hbm, ⟨11, _⟩ => ⟨S_, .f32⟩
  | .hbm, ⟨12, _⟩ => ⟨S2x8192x1, .f32⟩
  | .hbm, ⟨13, _⟩ => ⟨S2x8192x1, .f32⟩
  | .hbm, ⟨14, _⟩ => ⟨S2x8192x1, .f32⟩
  | .hbm, ⟨15, _⟩ => ⟨S2x8192x1024, .f32⟩
  | .hbm, ⟨16, _⟩ => ⟨S2x8192x1024, .f32⟩
  | .hbm, ⟨17, _⟩ => ⟨S1x1x1024, .f32⟩
  | .hbm, ⟨18, _⟩ => ⟨S2x8192x1024, .f32⟩
  | .hbm, ⟨19, _⟩ => ⟨S2x8192x1024, .f32⟩
  | .hbm, ⟨20, _⟩ => ⟨S2x1x1024, .f32⟩
  | .hbm, ⟨21, _⟩ => ⟨S2x1x1024, .f32⟩
  | .hbm, ⟨22, _⟩ => ⟨S_, .f32⟩
  | .hbm, ⟨23, _⟩ => ⟨S2x1x1024, .f32⟩
  | .hbm, ⟨24, _⟩ => ⟨S2x1x1024, .f32⟩
  | .hbm, ⟨25, _⟩ => ⟨S2x8192x1024, .f32⟩
  | .hbm, ⟨26, _⟩ => ⟨S2x8192x1024, .f32⟩
  | .hbm, ⟨27, _⟩ => ⟨S2x8192x1024, .f32⟩
  | .hbm, ⟨28, _⟩ => ⟨S2x8192x1024, .f32⟩
  | .hbm, ⟨29, _⟩ => ⟨S1x8448x1024, .bf16⟩
  | .hbm, ⟨30, _⟩ => ⟨S8448x1024, .bf16⟩
  | .hbm, ⟨31, _⟩ => ⟨S8448x1024, .f32⟩
  | .hbm, ⟨32, _⟩ => ⟨S2x8192x8448, .f32⟩
  | .hbm, ⟨33, _⟩ => ⟨S2x8192x8448, .bf16⟩
  | _, _ => ⟨S2x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_cst_2 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩

abbrev nD : Nat := 1
abbrev τ : Topo := Topo.v7x

variable {F : FTy → Type} [FloatOps F]
-- ==== Ffn.lean ====
abbrev S2x8192x1024 : Shape := ⟨3, ![2, 8192, 1024]⟩
abbrev S2x6x1024 : Shape := ⟨3, ![2, 6, 1024]⟩
abbrev S1024 : Shape := ⟨1, ![1024]⟩
abbrev S2x1024x5632 : Shape := ⟨3, ![2, 1024, 5632]⟩
abbrev S3x5632 : Shape := ⟨2, ![3, 5632]⟩
abbrev S2x2816x1024 : Shape := ⟨3, ![2, 2816, 1024]⟩
abbrev S_ : Shape := ⟨0, ![]⟩
abbrev S2816 : Shape := ⟨1, ![2816]⟩
abbrev S5632 : Shape := ⟨1, ![5632]⟩
abbrev S1x1x5632 : Shape := ⟨3, ![1, 1, 5632]⟩
abbrev S1x1024 : Shape := ⟨2, ![1, 1024]⟩
abbrev S1x512x1024 : Shape := ⟨3, ![1, 512, 1024]⟩
abbrev S1x8x1024 : Shape := ⟨3, ![1, 8, 1024]⟩
abbrev S1x6x1024 : Shape := ⟨3, ![1, 6, 1024]⟩
abbrev S1x1024x5632 : Shape := ⟨3, ![1, 1024, 5632]⟩
abbrev S1x2816x1024 : Shape := ⟨3, ![1, 2816, 1024]⟩
abbrev S528x1024 : Shape := ⟨2, ![528, 1024]⟩
abbrev S2x528x256 : Shape := ⟨3, ![2, 528, 256]⟩
abbrev S512x2816 : Shape := ⟨2, ![512, 2816]⟩
abbrev S8x1024 : Shape := ⟨2, ![8, 1024]⟩
abbrev S512x1024 : Shape := ⟨2, ![512, 1024]⟩
abbrev S1x1x1024 : Shape := ⟨3, ![1, 1, 1024]⟩
abbrev S528 : Shape := ⟨1, ![528]⟩
abbrev S528x1 : Shape := ⟨2, ![528, 1]⟩
abbrev S1x1024x256 : Shape := ⟨3, ![1, 1024, 256]⟩
abbrev S1024x256 : Shape := ⟨2, ![1024, 256]⟩
abbrev S528x256 : Shape := ⟨2, ![528, 256]⟩
abbrev S1x528x256 : Shape := ⟨3, ![1, 528, 256]⟩
abbrev S3x256 : Shape := ⟨2, ![3, 256]⟩
abbrev S1x256 : Shape := ⟨2, ![1, 256]⟩
abbrev S1x512x256 : Shape := ⟨3, ![1, 512, 256]⟩
abbrev S512x256 : Shape := ⟨2, ![512, 256]⟩
abbrev S2816x1024 : Shape := ⟨2, ![2816, 1024]⟩
abbrev S512 : Shape := ⟨1, ![512]⟩
abbrev S512x1 : Shape := ⟨2, ![512, 1]⟩

abbrev nBuf : Space → Nat
  | .hbm => 20
  | .vmem => 19
  | .smem => 0
  | _ => 0

abbrev bufTy : (tb : Table) → Fin (tcTables nBuf tb) → BufTy
  | .hbm, ⟨0, _⟩ => ⟨S2x8192x1024, .f32⟩
  | .hbm, ⟨1, _⟩ => ⟨S2x6x1024, .f32⟩
  | .hbm, ⟨2, _⟩ => ⟨S1024, .f32⟩
  | .hbm, ⟨3, _⟩ => ⟨S2x1024x5632, .f32⟩
  | .hbm, ⟨4, _⟩ => ⟨S3x5632, .f32⟩
  | .hbm, ⟨5, _⟩ => ⟨S2x2816x1024, .f32⟩
  | .hbm, ⟨6, _⟩ => ⟨S1024, .f32⟩
  | .hbm, ⟨7, _⟩ => ⟨S_, .f32⟩
  | .hbm, ⟨8, _⟩ => ⟨S2816, .f32⟩
  | .hbm, ⟨9, _⟩ => ⟨S_, .f32⟩
  | .hbm, ⟨10, _⟩ => ⟨S2816, .f32⟩
  | .hbm, ⟨11, _⟩ => ⟨S5632, .f32⟩
  | .hbm, ⟨12, _⟩ => ⟨S1x1x5632, .f32⟩
  | .hbm, ⟨13, _⟩ => ⟨S2x1024x5632, .f32⟩
  | .hbm, ⟨14, _⟩ => ⟨S2x1024x5632, .f32⟩
  | .hbm, ⟨15, _⟩ => ⟨S2x1024x5632, .bf16⟩
  | .hbm, ⟨16, _⟩ => ⟨S2x2816x1024, .bf16⟩
  | .hbm, ⟨17, _⟩ => ⟨S1x1024, .f32⟩
  | .hbm, ⟨18, _⟩ => ⟨S1x1024, .f32⟩
  | .hbm, ⟨19, _⟩ => ⟨S2x8192x1024, .f32⟩
  | .local _ .vmem, ⟨0, _⟩ => ⟨S1x512x1024, .f32⟩
  | .local _ .vmem, ⟨1, _⟩ => ⟨S1x512x1024, .f32⟩
  | .local _ .vmem, ⟨2, _⟩ => ⟨S1x8x1024, .f32⟩
  | .local _ .vmem, ⟨3, _⟩ => ⟨S1x8x1024, .f32⟩
  | .local _ .vmem, ⟨4, _⟩ => ⟨S1x8x1024, .f32⟩
  | .local _ .vmem, ⟨5, _⟩ => ⟨S1x8x1024, .f32⟩
  | .local _ .vmem, ⟨6, _⟩ => ⟨S1x6x1024, .f32⟩
  | .local _ .vmem, ⟨7, _⟩ => ⟨S1x6x1024, .f32⟩
  | .local _ .vmem, ⟨8, _⟩ => ⟨S1x1024, .f32⟩
  | .local _ .vmem, ⟨9, _⟩ => ⟨S1x1024x5632, .bf16⟩
  | .local _ .vmem, ⟨10, _⟩ => ⟨S3x5632, .f32⟩
  | .local _ .vmem, ⟨11, _⟩ => ⟨S1x2816x1024, .bf16⟩
  | .local _ .vmem, ⟨12, _⟩ => ⟨S1x1024, .f32⟩
  | .local _ .vmem, ⟨13, _⟩ => ⟨S1x512x1024, .f32⟩
  | .local _ .vmem, ⟨14, _⟩ => ⟨S1x512x1024, .f32⟩
  | .local _ .vmem, ⟨15, _⟩ => ⟨S528x1024, .bf16⟩
  | .local _ .vmem, ⟨16, _⟩ => ⟨S2x528x256, .f32⟩
  | .local _ .vmem, ⟨17, _⟩ => ⟨S2x528x256, .f32⟩
  | .local _ .vmem, ⟨18, _⟩ => ⟨S512x2816, .bf16⟩
  | _, _ => ⟨S2x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_cst_0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg9_1 : Ref sig .tc := ⟨.vmem, 14, rfl⟩
abbrev cc0_scratch0 : Ref sig .tc := ⟨.vmem, 15, rfl⟩
abbrev cc0_scratch1 : Ref sig .tc := ⟨.vmem, 16, rfl⟩
abbrev cc0_scratch2 : Ref sig .tc := ⟨.vmem, 17, rfl⟩
abbrev cc0_scratch3 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem9_1 : DmaSem sig := 14

abbrev nD : Nat := 1
abbrev τ : Topo := Topo.v7x

variable {F : FTy → Type} [FloatOps F]

abbrev grid0 : Pipeline.Grid := ⟨2, ![2, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c64_i32 : BitVec 32 := 64#32
  let v0 : BitVec 32 := Scalar.muli arg1 c64_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![arg0.toNat, v2.toNat, c0_i32_0.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c64_i32 : BitVec 32 := 64#32
  let v1 : BitVec 32 := Scalar.muli v0 c64_i32
  let c1023_i32 : BitVec 32 := 1023#32
  let v2 : BitVec 32 := Scalar.minsi v1 c1023_i32
  let c0_i32 : BitVec 32 := 0#32
  let c0_i32_0 : BitVec 32 := 0#32
  ![arg0.toNat, v2.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x8x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x8x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x6x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x1024x5632 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S3x5632 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x2816x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S1x512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== FfnRefIdeal.lean ====
abbrev S2x8192x1024 : Shape := ⟨3, ![2, 8192, 1024]⟩
abbrev S2x6x1024 : Shape := ⟨3, ![2, 6, 1024]⟩
abbrev S1024 : Shape := ⟨1, ![1024]⟩
abbrev S2x1024x5632 : Shape := ⟨3, ![2, 1024, 5632]⟩
abbrev S3x5632 : Shape := ⟨2, ![3, 5632]⟩
abbrev S2x2816x1024 : Shape := ⟨3, ![2, 2816, 1024]⟩
abbrev S_ : Shape := ⟨0, ![]⟩
abbrev S2x8192 : Shape := ⟨2, ![2, 8192]⟩
abbrev S2x8192x1 : Shape := ⟨3, ![2, 8192, 1]⟩
abbrev S1x1x1024 : Shape := ⟨3, ![1, 1, 1024]⟩
abbrev S2x1x1024 : Shape := ⟨3, ![2, 1, 1024]⟩
abbrev S1x1024x5632 : Shape := ⟨3, ![1, 1024, 5632]⟩
abbrev S1024x5632 : Shape := ⟨2, ![1024, 5632]⟩
abbrev S2x8192x5632 : Shape := ⟨3, ![2, 8192, 5632]⟩
abbrev S2x8194x5632 : Shape := ⟨3, ![2, 8194, 5632]⟩
abbrev S1x5632 : Shape := ⟨2, ![1, 5632]⟩
abbrev S5632 : Shape := ⟨1, ![5632]⟩
abbrev S1x1x5632 : Shape := ⟨3, ![1, 1, 5632]⟩
abbrev S2x8192x2816 : Shape := ⟨3, ![2, 8192, 2816]⟩
abbrev S1x2816x1024 : Shape := ⟨3, ![1, 2816, 1024]⟩
abbrev S2816x1024 : Shape := ⟨2, ![2816, 1024]⟩

abbrev nBuf : Space → Nat
  | .hbm => 93
  | .vmem => 0
  | .smem => 0
  | _ => 0

abbrev bufTy : (tb : Table) → Fin (tcTables nBuf tb) → BufTy
  | .hbm, ⟨0, _⟩ => ⟨S2x8192x1024, .f32⟩
  | .hbm, ⟨1, _⟩ => ⟨S2x6x1024, .f32⟩
  | .hbm, ⟨2, _⟩ => ⟨S1024, .f32⟩
  | .hbm, ⟨3, _⟩ => ⟨S2x1024x5632, .f32⟩
  | .hbm, ⟨4, _⟩ => ⟨S3x5632, .f32⟩
  | .hbm, ⟨5, _⟩ => ⟨S2x2816x1024, .f32⟩
  | .hbm, ⟨6, _⟩ => ⟨S1024, .f32⟩
  | .hbm, ⟨7, _⟩ => ⟨S2x8192x1024, .f32⟩
  | .hbm, ⟨8, _⟩ => ⟨S_, .f32⟩
  | .hbm, ⟨9, _⟩ => ⟨S2x8192, .f32⟩
  | .hbm, ⟨10, _⟩ => ⟨S2x8192x1, .f32⟩
  | .hbm, ⟨11, _⟩ => ⟨S_, .f32⟩
  | .hbm, ⟨12, _⟩ => ⟨S2x8192x1, .f32⟩
  | .hbm, ⟨13, _⟩ => ⟨S2x8192x1, .f32⟩
  | .hbm, ⟨14, _⟩ => ⟨S_, .f32⟩
  | .hbm, ⟨15, _⟩ => ⟨S2x8192x1, .f32⟩
  | .hbm, ⟨16, _⟩ => ⟨S2x8192x1, .f32⟩
  | .hbm, ⟨17, _⟩ => ⟨S2x8192x1, .f32⟩
  | .hbm, ⟨18, _⟩ => ⟨S2x8192x1024, .f32⟩
  | .hbm, ⟨19, _⟩ => ⟨S2x8192x1024, .f32⟩
  | .hbm, ⟨20, _⟩ => ⟨S1x1x1024, .f32⟩
  | .hbm, ⟨21, _⟩ => ⟨S2x8192x1024, .f32⟩
  | .hbm, ⟨22, _⟩ => ⟨S2x8192x1024, .f32⟩
  | .hbm, ⟨23, _⟩ => ⟨S2x1x1024, .f32⟩
  | .hbm, ⟨24, _⟩ => ⟨S2x1x1024, .f32⟩
  | .hbm, ⟨25, _⟩ => ⟨S_, .f32⟩
  | .hbm, ⟨26, _⟩ => ⟨S2x1x1024, .f32⟩
  | .hbm, ⟨27, _⟩ => ⟨S2x1x1024, .f32⟩
  | .hbm, ⟨28, _⟩ => ⟨S2x8192x1024, .f32⟩
  | .hbm, ⟨29, _⟩ => ⟨S2x8192x1024, .f32⟩
  | .hbm, ⟨30, _⟩ => ⟨S2x8192x1024, .f32⟩
  | .hbm, ⟨31, _⟩ => ⟨S2x8192x1024, .f32⟩
  | .hbm, ⟨32, _⟩ => ⟨S1x1024x5632, .f32⟩
  | .hbm, ⟨33, _⟩ => ⟨S1024x5632, .f32⟩
  | .hbm, ⟨34, _⟩ => ⟨S2x8192x5632, .f32⟩
  | .hbm, ⟨35, _⟩ => ⟨S_, .i32⟩
  | .hbm, ⟨36, _⟩ => ⟨S_, .f32⟩
  | .hbm, ⟨37, _⟩ => ⟨S2x8194x5632, .f32⟩
  | .hbm, ⟨38, _⟩ => ⟨S2x8192x5632, .f32⟩
  | .hbm, ⟨39, _⟩ => ⟨S1x5632, .f32⟩
  | .hbm, ⟨40, _⟩ => ⟨S5632, .f32⟩
  | .hbm, ⟨41, _⟩ => ⟨S1x1x5632, .f32⟩
  | .hbm, ⟨42, _⟩ => ⟨S2x8192x5632, .f32⟩
  | .hbm, ⟨43, _⟩ => ⟨S2x8192x5632, .f32⟩
  | .hbm, ⟨44, _⟩ => ⟨S2x8192x5632, .f32⟩
  | .hbm, ⟨45, _⟩ => ⟨S1x5632, .f32⟩
  | .hbm, ⟨46, _⟩ => ⟨S5632, .f32⟩
  | .hbm, ⟨47, _⟩ => ⟨S1x1x5632, .f32⟩
  | .hbm, ⟨48, _⟩ => ⟨S2x8192x5632, .f32⟩
  | .hbm, ⟨49, _⟩ => ⟨S2x8192x5632, .f32⟩
  | .hbm, ⟨50, _⟩ => ⟨S2x8192x5632, .f32⟩
  | .hbm, ⟨51, _⟩ => ⟨S2x8192x5632, .f32⟩
  | .hbm, ⟨52, _⟩ => ⟨S1x5632, .f32⟩
  | .hbm, ⟨53, _⟩ => ⟨S5632, .f32⟩
  | .hbm, ⟨54, _⟩ => ⟨S1x1x5632, .f32⟩
  | .hbm, ⟨55, _⟩ => ⟨S2x8192x5632, .f32⟩
  | .hbm, ⟨56, _⟩ => ⟨S2x8192x5632, .f32⟩
  | .hbm, ⟨57, _⟩ => ⟨S2x8192x5632, .f32⟩
  | .hbm, ⟨58, _⟩ => ⟨S2x8192x2816, .f32⟩
  | .hbm, ⟨59, _⟩ => ⟨S2x8192x2816, .f32⟩
  | .hbm, ⟨60, _⟩ => ⟨S2x8192x2816, .f32⟩
  | .hbm, ⟨61, _⟩ => ⟨S2x8192x2816, .f32⟩
  | .hbm, ⟨62, _⟩ => ⟨S_, .f32⟩
  | .hbm, ⟨63, _⟩ => ⟨S2x8192x2816, .f32⟩
  | .hbm, ⟨64, _⟩ => ⟨S2x8192x2816, .f32⟩
  | .hbm, ⟨65, _⟩ => ⟨S_, .f32⟩
  | .hbm, ⟨66, _⟩ => ⟨S2x8192x2816, .f32⟩
  | .hbm, ⟨67, _⟩ => ⟨S2x8192x2816, .f32⟩
  | .hbm, ⟨68, _⟩ => ⟨S2x8192x2816, .f32⟩
  | .hbm, ⟨69, _⟩ => ⟨S2x8192x2816, .f32⟩
  | .hbm, ⟨70, _⟩ => ⟨S1x2816x1024, .f32⟩
  | .hbm, ⟨71, _⟩ => ⟨S2816x1024, .f32⟩
  | .hbm, ⟨72, _⟩ => ⟨S2x8192x1024, .f32⟩
  | .hbm, ⟨73, _⟩ => ⟨S2x1x1024, .f32⟩
  | .hbm, ⟨74, _⟩ => ⟨S2x8192x1024, .f32⟩
  | .hbm, ⟨75, _⟩ => ⟨S2x8192x1024, .f32⟩
  | .hbm, ⟨76, _⟩ => ⟨S2x8192x1024, .f32⟩
  | .hbm, ⟨77, _⟩ => ⟨S2x8192x1024, .f32⟩
  | .hbm, ⟨78, _⟩ => ⟨S_, .f32⟩
  | .hbm, ⟨79, _⟩ => ⟨S2x8192, .f32⟩
  | .hbm, ⟨80, _⟩ => ⟨S2x8192x1, .f32⟩
  | .hbm, ⟨81, _⟩ => ⟨S_, .f32⟩
  | .hbm, ⟨82, _⟩ => ⟨S2x8192x1, .f32⟩
  | .hbm, ⟨83, _⟩ => ⟨S2x8192x1, .f32⟩
  | .hbm, ⟨84, _⟩ => ⟨S_, .f32⟩
  | .hbm, ⟨85, _⟩ => ⟨S2x8192x1, .f32⟩
  | .hbm, ⟨86, _⟩ => ⟨S2x8192x1, .f32⟩
  | .hbm, ⟨87, _⟩ => ⟨S2x8192x1, .f32⟩
  | .hbm, ⟨88, _⟩ => ⟨S2x8192x1024, .f32⟩
  | .hbm, ⟨89, _⟩ => ⟨S2x8192x1024, .f32⟩
  | .hbm, ⟨90, _⟩ => ⟨S1x1x1024, .f32⟩
  | .hbm, ⟨91, _⟩ => ⟨S2x8192x1024, .f32⟩
  | .hbm, ⟨92, _⟩ => ⟨S2x8192x1024, .f32⟩
  | _, _ => ⟨S2x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_2 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_c : Ref sig .tc := ⟨.hbm, 35, rfl⟩
abbrev main_call0_v0 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_cst_3 : Ref sig .tc := ⟨.hbm, 62, rfl⟩
abbrev main_v49 : Ref sig .tc := ⟨.hbm, 63, rfl⟩
abbrev main_v50 : Ref sig .tc := ⟨.hbm, 64, rfl⟩
abbrev main_cst_4 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_v59 : Ref sig .tc := ⟨.hbm, 74, rfl⟩
abbrev main_v60 : Ref sig .tc := ⟨.hbm, 75, rfl⟩
abbrev main_v61 : Ref sig .tc := ⟨.hbm, 76, rfl⟩
abbrev main_v62 : Ref sig .tc := ⟨.hbm, 77, rfl⟩
abbrev main_cst_5 : Ref sig .tc := ⟨.hbm, 78, rfl⟩
abbrev main_v63 : Ref sig .tc := ⟨.hbm, 79, rfl⟩
abbrev main_v64 : Ref sig .tc := ⟨.hbm, 80, rfl⟩
abbrev main_cst_6 : Ref sig .tc := ⟨.hbm, 81, rfl⟩
abbrev main_v65 : Ref sig .tc := ⟨.hbm, 82, rfl⟩
abbrev main_v66 : Ref sig .tc := ⟨.hbm, 83, rfl⟩
abbrev main_cst_7 : Ref sig .tc := ⟨.hbm, 84, rfl⟩
abbrev main_v67 : Ref sig .tc := ⟨.hbm, 85, rfl⟩
abbrev main_v68 : Ref sig .tc := ⟨.hbm, 86, rfl⟩
abbrev main_v69 : Ref sig .tc := ⟨.hbm, 87, rfl⟩
abbrev main_v70 : Ref sig .tc := ⟨.hbm, 88, rfl⟩
abbrev main_v71 : Ref sig .tc := ⟨.hbm, 89, rfl⟩
abbrev main_v72 : Ref sig .tc := ⟨.hbm, 90, rfl⟩
abbrev main_v73 : Ref sig .tc := ⟨.hbm, 91, rfl⟩
abbrev main_v74 : Ref sig .tc := ⟨.hbm, 92, rfl⟩

abbrev nD : Nat := 1
abbrev τ : Topo := Topo.v7x

variable {F : FTy → Type} [FloatOps F]
-- ==== Merge.lean ====
abbrev S2x8192x8448 : Shape := ⟨3, ![2, 8192, 8448]⟩
abbrev S2x8192x512 : Shape := ⟨3, ![2, 8192, 512]⟩
abbrev S2x8448x512 : Shape := ⟨3, ![2, 8448, 512]⟩
abbrev S2x8192x1024 : Shape := ⟨3, ![2, 8192, 1024]⟩
abbrev S2x6x1024 : Shape := ⟨3, ![2, 6, 1024]⟩
abbrev S3x512 : Shape := ⟨2, ![3, 512]⟩
abbrev S2x4x128x128 : Shape := ⟨4, ![2, 4, 128, 128]⟩
abbrev S512 : Shape := ⟨1, ![512]⟩
abbrev S8 : Shape := ⟨1, ![8]⟩
abbrev S2x4x512x1024 : Shape := ⟨4, ![2, 4, 512, 1024]⟩
abbrev S2x1024x1024 : Shape := ⟨3, ![2, 1024, 1024]⟩
abbrev S4x128x160 : Shape := ⟨3, ![4, 128, 160]⟩
abbrev S8x64 : Shape := ⟨2, ![8, 64]⟩
abbrev S1x512 : Shape := ⟨2, ![1, 512]⟩
abbrev S1x512x4096 : Shape := ⟨3, ![1, 512, 4096]⟩
abbrev S1x512x512 : Shape := ⟨3, ![1, 512, 512]⟩
abbrev S1x16x512 : Shape := ⟨3, ![1, 16, 512]⟩
abbrev S1x512x1024 : Shape := ⟨3, ![1, 512, 1024]⟩
abbrev S1x6x1024 : Shape := ⟨3, ![1, 6, 1024]⟩
abbrev S1x4x128x128 : Shape := ⟨4, ![1, 4, 128, 128]⟩
abbrev S1x4x512x1024 : Shape := ⟨4, ![1, 4, 512, 1024]⟩
abbrev S1x1024x1024 : Shape := ⟨3, ![1, 1024, 1024]⟩
abbrev S544x512 : Shape := ⟨2, ![544, 512]⟩
abbrev S16x512 : Shape := ⟨2, ![16, 512]⟩
abbrev S512x512 : Shape := ⟨2, ![512, 512]⟩
abbrev S512x128 : Shape := ⟨2, ![512, 128]⟩
abbrev S1x128x160 : Shape := ⟨3, ![1, 128, 160]⟩
abbrev S128x160 : Shape := ⟨2, ![128, 160]⟩
abbrev S160x128 : Shape := ⟨2, ![160, 128]⟩
abbrev S128x128 : Shape := ⟨2, ![128, 128]⟩
abbrev S1x512x128 : Shape := ⟨3, ![1, 512, 128]⟩
abbrev S1x1x128x128 : Shape := ⟨4, ![1, 1, 128, 128]⟩
abbrev S512x1 : Shape := ⟨2, ![512, 1]⟩
abbrev S512x1024 : Shape := ⟨2, ![512, 1024]⟩
abbrev S1x1x512x1024 : Shape := ⟨4, ![1, 1, 512, 1024]⟩
abbrev S1024x1024 : Shape := ⟨2, ![1024, 1024]⟩
abbrev S1x1x1024 : Shape := ⟨3, ![1, 1, 1024]⟩
abbrev S1x1024 : Shape := ⟨2, ![1, 1024]⟩

abbrev nBuf : Space → Nat
  | .hbm => 24
  | .vmem => 47
  | .smem => 0
  | _ => 0

abbrev bufTy : (tb : Table) → Fin (tcTables nBuf tb) → BufTy
  | .hbm, ⟨0, _⟩ => ⟨S2x8192x8448, .bf16⟩
  | .hbm, ⟨1, _⟩ => ⟨S2x8192x512, .bf16⟩
  | .hbm, ⟨2, _⟩ => ⟨S2x8448x512, .bf16⟩
  | .hbm, ⟨3, _⟩ => ⟨S2x8448x512, .bf16⟩
  | .hbm, ⟨4, _⟩ => ⟨S2x8448x512, .bf16⟩
  | .hbm, ⟨5, _⟩ => ⟨S2x8192x1024, .f32⟩
  | .hbm, ⟨6, _⟩ => ⟨S2x6x1024, .f32⟩
  | .hbm, ⟨7, _⟩ => ⟨S3x512, .f32⟩
  | .hbm, ⟨8, _⟩ => ⟨S2x4x128x128, .f32⟩
  | .hbm, ⟨9, _⟩ => ⟨S512, .f32⟩
  | .hbm, ⟨10, _⟩ => ⟨S8, .f32⟩
  | .hbm, ⟨11, _⟩ => ⟨S512, .f32⟩
  | .hbm, ⟨12, _⟩ => ⟨S2x4x512x1024, .f32⟩
  | .hbm, ⟨13, _⟩ => ⟨S2x1024x1024, .f32⟩
  | .hbm, ⟨14, _⟩ => ⟨S4x128x160, .bf16⟩
  | .hbm, ⟨15, _⟩ => ⟨S2x4x512x1024, .bf16⟩
  | .hbm, ⟨16, _⟩ => ⟨S2x1024x1024, .bf16⟩
  | .hbm, ⟨17, _⟩ => ⟨S2x4x128x128, .bf16⟩
  | .hbm, ⟨18, _⟩ => ⟨S8x64, .f32⟩
  | .hbm, ⟨19, _⟩ => ⟨S512, .f32⟩
  | .hbm, ⟨20, _⟩ => ⟨S1x512, .f32⟩
  | .hbm, ⟨21, _⟩ => ⟨S1x512, .f32⟩
  | .hbm, ⟨22, _⟩ => ⟨S1x512, .f32⟩
  | .hbm, ⟨23, _⟩ => ⟨S2x8192x1024, .f32⟩
  | .local _ .vmem, ⟨0, _⟩ => ⟨S1x512x4096, .bf16⟩
  | .local _ .vmem, ⟨1, _⟩ => ⟨S1x512x4096, .bf16⟩
  | .local _ .vmem, ⟨2, _⟩ => ⟨S1x512x512, .bf16⟩
  | .local _ .vmem, ⟨3, _⟩ => ⟨S1x512x512, .bf16⟩
  | .local _ .vmem, ⟨4, _⟩ => ⟨S1x512x512, .bf16⟩
  | .local _ .vmem, ⟨5, _⟩ => ⟨S1x512x512, .bf16⟩
  | .local _ .vmem, ⟨6, _⟩ => ⟨S1x16x512, .bf16⟩
  | .local _ .vmem, ⟨7, _⟩ => ⟨S1x16x512, .bf16⟩
  | .local _ .vmem, ⟨8, _⟩ => ⟨S1x16x512, .bf16⟩
  | .local _ .vmem, ⟨9, _⟩ => ⟨S1x16x512, .bf16⟩
  | .local _ .vmem, ⟨10, _⟩ => ⟨S1x512x512, .bf16⟩
  | .local _ .vmem, ⟨11, _⟩ => ⟨S1x512x512, .bf16⟩
  | .local _ .vmem, ⟨12, _⟩ => ⟨S1x16x512, .bf16⟩
  | .local _ .vmem, ⟨13, _⟩ => ⟨S1x16x512, .bf16⟩
  | .local _ .vmem, ⟨14, _⟩ => ⟨S1x16x512, .bf16⟩
  | .local _ .vmem, ⟨15, _⟩ => ⟨S1x16x512, .bf16⟩
  | .local _ .vmem, ⟨16, _⟩ => ⟨S1x512x512, .bf16⟩
  | .local _ .vmem, ⟨17, _⟩ => ⟨S1x512x512, .bf16⟩
  | .local _ .vmem, ⟨18, _⟩ => ⟨S1x16x512, .bf16⟩
  | .local _ .vmem, ⟨19, _⟩ => ⟨S1x16x512, .bf16⟩
  | .local _ .vmem, ⟨20, _⟩ => ⟨S1x16x512, .bf16⟩
  | .local _ .vmem, ⟨21, _⟩ => ⟨S1x16x512, .bf16⟩
  | .local _ .vmem, ⟨22, _⟩ => ⟨S1x512x512, .bf16⟩
  | .local _ .vmem, ⟨23, _⟩ => ⟨S1x512x512, .bf16⟩
  | .local _ .vmem, ⟨24, _⟩ => ⟨S1x512x512, .bf16⟩
  | .local _ .vmem, ⟨25, _⟩ => ⟨S1x512x512, .bf16⟩
  | .local _ .vmem, ⟨26, _⟩ => ⟨S1x512x512, .bf16⟩
  | .local _ .vmem, ⟨27, _⟩ => ⟨S1x512x512, .bf16⟩
  | .local _ .vmem, ⟨28, _⟩ => ⟨S1x512x512, .bf16⟩
  | .local _ .vmem, ⟨29, _⟩ => ⟨S1x512x512, .bf16⟩
  | .local _ .vmem, ⟨30, _⟩ => ⟨S1x512x512, .bf16⟩
  | .local _ .vmem, ⟨31, _⟩ => ⟨S1x512x512, .bf16⟩
  | .local _ .vmem, ⟨32, _⟩ => ⟨S1x512x1024, .f32⟩
  | .local _ .vmem, ⟨33, _⟩ => ⟨S1x512x1024, .f32⟩
  | .local _ .vmem, ⟨34, _⟩ => ⟨S1x6x1024, .f32⟩
  | .local _ .vmem, ⟨35, _⟩ => ⟨S1x6x1024, .f32⟩
  | .local _ .vmem, ⟨36, _⟩ => ⟨S3x512, .f32⟩
  | .local _ .vmem, ⟨37, _⟩ => ⟨S4x128x160, .bf16⟩
  | .local _ .vmem, ⟨38, _⟩ => ⟨S1x4x128x128, .bf16⟩
  | .local _ .vmem, ⟨39, _⟩ => ⟨S1x512, .f32⟩
  | .local _ .vmem, ⟨40, _⟩ => ⟨S1x512, .f32⟩
  | .local _ .vmem, ⟨41, _⟩ => ⟨S1x512, .f32⟩
  | .local _ .vmem, ⟨42, _⟩ => ⟨S1x4x512x1024, .bf16⟩
  | .local _ .vmem, ⟨43, _⟩ => ⟨S1x1024x1024, .bf16⟩
  | .local _ .vmem, ⟨44, _⟩ => ⟨S1x512x1024, .f32⟩
  | .local _ .vmem, ⟨45, _⟩ => ⟨S1x512x1024, .f32⟩
  | .local _ .vmem, ⟨46, _⟩ => ⟨S544x512, .f32⟩
  | _, _ => ⟨S2x8192x8448, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | _, _ => false

abbrev semScoped : Fin 0 → Bool
  | ⟨_, h⟩ => absurd h (Nat.not_lt_zero _)

abbrev dmaSemScoped : Fin 46 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | _ => false

abbrev sig : RefSig :=
  ofTc nBuf bufTy 0 46 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_cst : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_stg14_0 : Ref sig .tc := ⟨.vmem, 28, rfl⟩
abbrev cc0_stg14_1 : Ref sig .tc := ⟨.vmem, 29, rfl⟩
abbrev cc0_stg15_0 : Ref sig .tc := ⟨.vmem, 30, rfl⟩
abbrev cc0_stg15_1 : Ref sig .tc := ⟨.vmem, 31, rfl⟩
abbrev cc0_stg16_0 : Ref sig .tc := ⟨.vmem, 32, rfl⟩
abbrev cc0_stg16_1 : Ref sig .tc := ⟨.vmem, 33, rfl⟩
abbrev cc0_stg17_0 : Ref sig .tc := ⟨.vmem, 34, rfl⟩
abbrev cc0_stg17_1 : Ref sig .tc := ⟨.vmem, 35, rfl⟩
abbrev cc0_stg18_0 : Ref sig .tc := ⟨.vmem, 36, rfl⟩
abbrev cc0_stg19_0 : Ref sig .tc := ⟨.vmem, 37, rfl⟩
abbrev cc0_stg20_0 : Ref sig .tc := ⟨.vmem, 38, rfl⟩
abbrev cc0_stg21_0 : Ref sig .tc := ⟨.vmem, 39, rfl⟩
abbrev cc0_stg22_0 : Ref sig .tc := ⟨.vmem, 40, rfl⟩
abbrev cc0_stg23_0 : Ref sig .tc := ⟨.vmem, 41, rfl⟩
abbrev cc0_stg24_0 : Ref sig .tc := ⟨.vmem, 42, rfl⟩
abbrev cc0_stg25_0 : Ref sig .tc := ⟨.vmem, 43, rfl⟩
abbrev cc0_stg26_0 : Ref sig .tc := ⟨.vmem, 44, rfl⟩
abbrev cc0_stg26_1 : Ref sig .tc := ⟨.vmem, 45, rfl⟩
abbrev cc0_scratch0 : Ref sig .tc := ⟨.vmem, 46, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27
abbrev cc0_sem14_0 : DmaSem sig := 28
abbrev cc0_sem14_1 : DmaSem sig := 29
abbrev cc0_sem15_0 : DmaSem sig := 30
abbrev cc0_sem15_1 : DmaSem sig := 31
abbrev cc0_sem16_0 : DmaSem sig := 32
abbrev cc0_sem16_1 : DmaSem sig := 33
abbrev cc0_sem17_0 : DmaSem sig := 34
abbrev cc0_sem17_1 : DmaSem sig := 35
abbrev cc0_sem18_0 : DmaSem sig := 36
abbrev cc0_sem19_0 : DmaSem sig := 37
abbrev cc0_sem20_0 : DmaSem sig := 38
abbrev cc0_sem21_0 : DmaSem sig := 39
abbrev cc0_sem22_0 : DmaSem sig := 40
abbrev cc0_sem23_0 : DmaSem sig := 41
abbrev cc0_sem24_0 : DmaSem sig := 42
abbrev cc0_sem25_0 : DmaSem sig := 43
abbrev cc0_sem26_0 : DmaSem sig := 44
abbrev cc0_sem26_1 : DmaSem sig := 45

abbrev nD : Nat := 1
abbrev τ : Topo := Topo.v7x

variable {F : FTy → Type} [FloatOps F]

abbrev grid0 : Pipeline.Grid := ⟨2, ![2, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c8_i32 : BitVec 32 := 8#32
  let c0_i32 : BitVec 32 := 0#32
  ![arg0.toNat, arg1.toNat, c8_i32.toNat]

def cc0_transform_2 (i : grid0.Coords) : Fin 3 → Nat :=
  let arg0 : BitVec 32 := BitVec.ofNat 32 (i 0).val
  let arg1 : BitVec 32 := BitVec.ofNat 32 (i 1).val
  let c9_i32 : BitVec 32 := 9#32
  let c0_i32 : BitVec 32 := 0#32
  ![arg0.toNat, arg1.toNat, c9_i32.toNat]

def cc0_transform_3 (i : grid0.Coords) : Fin 3 → Nat :=
  let arg0 : BitVec 32 := BitVec.ofNat 32 (i 0).val
  let arg1 : BitVec 32 := BitVec.ofNat 32 (i 1).val
  let c32_i32 : BitVec 32 := 32#32
  let v0 : BitVec 32 := Scalar.muli arg1 c32_i32
  let c1_i32 : BitVec 32 := 1#32
  let v1 : BitVec 32 := Scalar.subi v0 c1_i32
  let c0_i32 : BitVec 32 := 0#32
  let v2 : BitVec 32 := Scalar.maxsi v1 c0_i32
  let c9_i32 : BitVec 32 := 9#32
  let c0_i32_0 : BitVec 32 := 0#32
  ![arg0.toNat, v2.toNat, c9_i32.toNat]

def cc0_transform_4 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c32_i32 : BitVec 32 := 32#32
  let v1 : BitVec 32 := Scalar.muli v0 c32_i32
  let c511_i32 : BitVec 32 := 511#32
  let v2 : BitVec 32 := Scalar.minsi v1 c511_i32
  let c9_i32 : BitVec 32 := 9#32
  let c0_i32 : BitVec 32 := 0#32
  ![arg0.toNat, v2.toNat, c9_i32.toNat]

def cc0_transform_5 (i : grid0.Coords) : Fin 3 → Nat :=
  let arg0 : BitVec 32 := BitVec.ofNat 32 (i 0).val
  let arg1 : BitVec 32 := BitVec.ofNat 32 (i 1).val
  let c10_i32 : BitVec 32 := 10#32
  let c0_i32 : BitVec 32 := 0#32
  ![arg0.toNat, arg1.toNat, c10_i32.toNat]

def cc0_transform_6 (i : grid0.Coords) : Fin 3 → Nat :=
  let arg0 : BitVec 32 := BitVec.ofNat 32 (i 0).val
  let arg1 : BitVec 32 := BitVec.ofNat 32 (i 1).val
  let c32_i32 : BitVec 32 := 32#32
  let v0 : BitVec 32 := Scalar.muli arg1 c32_i32
  let c1_i32 : BitVec 32 := 1#32
  let v1 : BitVec 32 := Scalar.subi v0 c1_i32
  let c0_i32 : BitVec 32 := 0#32
  let v2 : BitVec 32 := Scalar.maxsi v1 c0_i32
  let c10_i32 : BitVec 32 := 10#32
  let c0_i32_0 : BitVec 32 := 0#32
  ![arg0.toNat, v2.toNat, c10_i32.toNat]

def cc0_transform_7 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c32_i32 : BitVec 32 := 32#32
  let v1 : BitVec 32 := Scalar.muli v0 c32_i32
  let c511_i32 : BitVec 32 := 511#32
  let v2 : BitVec 32 := Scalar.minsi v1 c511_i32
  let c10_i32 : BitVec 32 := 10#32
  let c0_i32 : BitVec 32 := 0#32
  ![arg0.toNat, v2.toNat, c10_i32.toNat]

def cc0_transform_8 (i : grid0.Coords) : Fin 3 → Nat :=
  let arg0 : BitVec 32 := BitVec.ofNat 32 (i 0).val
  let arg1 : BitVec 32 := BitVec.ofNat 32 (i 1).val
  let c11_i32 : BitVec 32 := 11#32
  let c0_i32 : BitVec 32 := 0#32
  ![arg0.toNat, arg1.toNat, c11_i32.toNat]

def cc0_transform_9 (i : grid0.Coords) : Fin 3 → Nat :=
  let arg0 : BitVec 32 := BitVec.ofNat 32 (i 0).val
  let arg1 : BitVec 32 := BitVec.ofNat 32 (i 1).val
  let c32_i32 : BitVec 32 := 32#32
  let v0 : BitVec 32 := Scalar.muli arg1 c32_i32
  let c1_i32 : BitVec 32 := 1#32
  let v1 : BitVec 32 := Scalar.subi v0 c1_i32
  let c0_i32 : BitVec 32 := 0#32
  let v2 : BitVec 32 := Scalar.maxsi v1 c0_i32
  let c11_i32 : BitVec 32 := 11#32
  let c0_i32_0 : BitVec 32 := 0#32
  ![arg0.toNat, v2.toNat, c11_i32.toNat]

def cc0_transform_10 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c32_i32 : BitVec 32 := 32#32
  let v1 : BitVec 32 := Scalar.muli v0 c32_i32
  let c511_i32 : BitVec 32 := 511#32
  let v2 : BitVec 32 := Scalar.minsi v1 c511_i32
  let c11_i32 : BitVec 32 := 11#32
  let c0_i32 : BitVec 32 := 0#32
  ![arg0.toNat, v2.toNat, c11_i32.toNat]

def cc0_transform_11 (i : grid0.Coords) : Fin 3 → Nat :=
  let arg0 : BitVec 32 := BitVec.ofNat 32 (i 0).val
  let arg1 : BitVec 32 := BitVec.ofNat 32 (i 1).val
  let c12_i32 : BitVec 32 := 12#32
  let c0_i32 : BitVec 32 := 0#32
  ![arg0.toNat, arg1.toNat, c12_i32.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  let c0_i32_1 : BitVec 32 := 0#32
  ![arg0.toNat, v0.toNat, c0_i32_0.toNat]

def cc0_transform_14 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  let c0_i32_1 : BitVec 32 := 0#32
  ![arg0.toNat, v0.toNat, c0_i32_0.toNat]

def cc0_transform_15 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  let c0_i32_1 : BitVec 32 := 0#32
  ![arg0.toNat, v0.toNat, c0_i32_0.toNat]

def cc0_transform_16 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_17 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_18 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_19 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_20 (i : grid0.Coords) : Fin 4 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  let c0_i32_2 : BitVec 32 := 0#32
  ![c1_i32.toNat, c0_i32.toNat, c0_i32_0.toNat, c0_i32_1.toNat]

def cc0_transform_21 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_22 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_23 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_24 (i : grid0.Coords) : Fin 4 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  let c0_i32_2 : BitVec 32 := 0#32
  ![c1_i32.toNat, c0_i32.toNat, c0_i32_0.toNat, c0_i32_1.toNat]

def cc0_transform_25 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_26 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x16x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x16x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x512x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x16x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x16x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x512x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x16x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x16x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x512x512 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x512x512 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1x512x512 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S1x512x512 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev stage0_15 : Fin 2 → Memref sig .tc .vmem S1x512x512 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]

abbrev stage0_16 : Fin 2 → Memref sig .tc .vmem S1x512x1024 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true]

abbrev stage0_17 : Fin 2 → Memref sig .tc .vmem S1x6x1024 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true, false]

abbrev stage0_18 : Fin 1 → Memref sig .tc .vmem S3x512 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false, false]

abbrev stage0_19 : Fin 1 → Memref sig .tc .vmem S4x128x160 .bf16 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false, false]

abbrev stage0_20 : Fin 1 → Memref sig .tc .vmem S1x4x128x128 .bf16 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
abbrev reads0_20 : Fin grid0.rank → Bool := ![false, false]

abbrev stage0_21 : Fin 1 → Memref sig .tc .vmem S1x512 .f32 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))
abbrev reads0_21 : Fin grid0.rank → Bool := ![false, false]

abbrev stage0_22 : Fin 1 → Memref sig .tc .vmem S1x512 .f32 := fun | 0 => Memref.whole cc0_stg22_0 | ⟨_ + 1, h⟩ => absurd h (Nat.not_lt.2 (Nat.le_add_left _ _))
abbrev sem0_22 : Fin 1 → DmaSem sig := fun | 0 => cc0_sem22_0 | ⟨_ + 1, h⟩ => absurd h (Nat.not_lt.2 (Nat.le_add_left _ _))
abbrev reads0_22 : Fin grid0.rank → Bool := ![false, false]

abbrev stage0_23 : Fin 1 → Memref sig .tc .vmem S1x512 .f32 := fun | 0 => Memref.whole cc0_stg23_0 | ⟨_ + 1, h⟩ => absurd h (Nat.not_lt.2 (Nat.le_add_left _ _))
abbrev sem0_23 : Fin 1 → DmaSem sig := fun | 0 => cc0_sem23_0 | ⟨_ + 1, h⟩ => absurd h (Nat.not_lt.2 (Nat.le_add_left _ _))
abbrev reads0_23 : Fin grid0.rank → Bool := ![false, false]

abbrev stage0_24 : Fin 1 → Memref sig .tc .vmem S1x4x512x1024 .bf16 := fun | 0 => Memref.whole cc0_stg24_0 | ⟨_ + 1, h⟩ => absurd h (Nat.not_lt.2 (Nat.le_add_left _ _))
abbrev sem0_24 : Fin 1 → DmaSem sig := fun | 0 => cc0_sem24_0 | ⟨_ + 1, h⟩ => absurd h (Nat.not_lt.2 (Nat.le_add_left _ _))
abbrev reads0_24 : Fin grid0.rank → Bool := ![false, false]

abbrev stage0_25 : Fin 1 → Memref sig .tc .vmem S1x1024x1024 .bf16 := fun | 0 => Memref.whole cc0_stg25_0 | ⟨_ + 1, h⟩ => absurd h (Nat.not_lt.2 (Nat.le_add_left _ _))
abbrev sem0_25 : Fin 1 → DmaSem sig := fun | 0 => cc0_sem25_0 | ⟨_ + 1, h⟩ => absurd h (Nat.not_lt.2 (Nat.le_add_left _ _))
abbrev reads0_25 : Fin grid0.rank → Bool := ![false, false]

abbrev stage0_26 : Fin 2 → Memref sig .tc .vmem S1x512x1024 .f32 := fun | 0 => Memref.whole cc0_stg26_0 | 1 => Memref.whole cc0_stg26_1 | ⟨_ + 2, h⟩ => absurd h (Nat.not_lt.2 (Nat.le_add_left _ _))
abbrev sem0_26 : Fin 2 → DmaSem sig := fun | 0 => cc0_sem26_0 | 1 => cc0_sem26_1 | ⟨_ + 2, h⟩ => absurd h (Nat.not_lt.2 (Nat.le_add_left _ _))
abbrev reads0_26 : Fin grid0.rank → Bool := ![true, true]
-- ==== MergeRefIdeal.lean ====
abbrev S2x8192x8448 : Shape := ⟨3, ![2, 8192, 8448]⟩
abbrev S2x8192x512 : Shape := ⟨3, ![2, 8192, 512]⟩
abbrev S2x8448x512 : Shape := ⟨3, ![2, 8448, 512]⟩
abbrev S2x8192x1024 : Shape := ⟨3, ![2, 8192, 1024]⟩
abbrev S2x6x1024 : Shape := ⟨3, ![2, 6, 1024]⟩
abbrev S3x512 : Shape := ⟨2, ![3, 512]⟩
abbrev S2x4x128x128 : Shape := ⟨4, ![2, 4, 128, 128]⟩
abbrev S512 : Shape := ⟨1, ![512]⟩
abbrev S8 : Shape := ⟨1, ![8]⟩
abbrev S2x4x512x1024 : Shape := ⟨4, ![2, 4, 512, 1024]⟩
abbrev S2x1024x1024 : Shape := ⟨3, ![2, 1024, 1024]⟩
abbrev S2x8192x4096 : Shape := ⟨3, ![2, 8192, 4096]⟩
abbrev S_ : Shape := ⟨0, ![]⟩
abbrev S2x8194x512 : Shape := ⟨3, ![2, 8194, 512]⟩
abbrev S1x512 : Shape := ⟨2, ![1, 512]⟩
abbrev S1x1x512 : Shape := ⟨3, ![1, 1, 512]⟩
abbrev S2x8192x128 : Shape := ⟨3, ![2, 8192, 128]⟩
abbrev S8192 : Shape := ⟨1, ![8192]⟩
abbrev S8192x1 : Shape := ⟨2, ![8192, 1]⟩
abbrev S1x8192 : Shape := ⟨2, ![1, 8192]⟩
abbrev S8192x8192 : Shape := ⟨2, ![8192, 8192]⟩
abbrev S1x8192x8192x1 : Shape := ⟨4, ![1, 8192, 8192, 1]⟩
abbrev S2x1x8192x128 : Shape := ⟨4, ![2, 1, 8192, 128]⟩
abbrev S2x8192x8192x128 : Shape := ⟨4, ![2, 8192, 8192, 128]⟩
abbrev S1x8192x1 : Shape := ⟨3, ![1, 8192, 1]⟩
abbrev S2x8192x1x128 : Shape := ⟨4, ![2, 8192, 1, 128]⟩
abbrev S2x8192x4x128 : Shape := ⟨4, ![2, 8192, 4, 128]⟩
abbrev S1x4x128x128 : Shape := ⟨4, ![1, 4, 128, 128]⟩
abbrev S4x128x128 : Shape := ⟨3, ![4, 128, 128]⟩
abbrev S4x128x2x8192 : Shape := ⟨4, ![4, 128, 2, 8192]⟩
abbrev S8x64 : Shape := ⟨2, ![8, 64]⟩
abbrev S2x8192 : Shape := ⟨2, ![2, 8192]⟩
abbrev S2x8192x1 : Shape := ⟨3, ![2, 8192, 1]⟩
abbrev S2x8192x4x1024 : Shape := ⟨4, ![2, 8192, 4, 1024]⟩
abbrev S2x8192x1x512 : Shape := ⟨4, ![2, 8192, 1, 512]⟩
abbrev S2x8192x4x512 : Shape := ⟨4, ![2, 8192, 4, 512]⟩
abbrev S1x4x512x1024 : Shape := ⟨4, ![1, 4, 512, 1024]⟩
abbrev S4x512x1024 : Shape := ⟨3, ![4, 512, 1024]⟩
abbrev S4x1024x2x8192 : Shape := ⟨4, ![4, 1024, 2, 8192]⟩
abbrev S2x1x1024 : Shape := ⟨3, ![2, 1, 1024]⟩
abbrev S1x1024x1024 : Shape := ⟨3, ![1, 1024, 1024]⟩
abbrev S1024x1024 : Shape := ⟨2, ![1024, 1024]⟩

abbrev nBuf : Space → Nat
  | .hbm => 358
  | .vmem => 0
  | .smem => 0
  | _ => 0

abbrev hbmTy0_0 (i : Nat) : BufTy := match i % 128 with
  | 0 => ⟨S2x8192x8448, .bf16⟩
  | 1 => ⟨S2x8192x512, .bf16⟩
  | 2 => ⟨S2x8448x512, .bf16⟩
  | 3 => ⟨S2x8448x512, .bf16⟩
  | 4 => ⟨S2x8448x512, .bf16⟩
  | 5 => ⟨S2x8192x1024, .f32⟩
  | 6 => ⟨S2x6x1024, .f32⟩
  | 7 => ⟨S3x512, .f32⟩
  | 8 => ⟨S2x4x128x128, .f32⟩
  | 9 => ⟨S512, .f32⟩
  | 10 => ⟨S8, .f32⟩
  | 11 => ⟨S512, .f32⟩
  | 12 => ⟨S2x4x512x1024, .f32⟩
  | 13 => ⟨S2x1024x1024, .f32⟩
  | 14 => ⟨S2x8192x8448, .f32⟩
  | 15 => ⟨S2x8192x4096, .f32⟩
  | 16 => ⟨S_, .f32⟩
  | 17 => ⟨S2x8192x4096, .f32⟩
  | 18 => ⟨S2x8192x4096, .f32⟩
  | 19 => ⟨S2x8192x512, .f32⟩
  | 20 => ⟨S2x8192x512, .f32⟩
  | 21 => ⟨S2x8192x512, .f32⟩
  | 22 => ⟨S2x8192x512, .f32⟩
  | 23 => ⟨S2x8192x512, .f32⟩
  | 24 => ⟨S2x8192x512, .f32⟩
  | 25 => ⟨S_, .i32⟩
  | 26 => ⟨S_, .f32⟩
  | 27 => ⟨S2x8194x512, .f32⟩
  | 28 => ⟨S2x8192x512, .f32⟩
  | 29 => ⟨S1x512, .f32⟩
  | 30 => ⟨S512, .f32⟩
  | 31 => ⟨S1x1x512, .f32⟩
  | 32 => ⟨S2x8192x512, .f32⟩
  | 33 => ⟨S2x8192x512, .f32⟩
  | 34 => ⟨S2x8192x512, .f32⟩
  | 35 => ⟨S1x512, .f32⟩
  | 36 => ⟨S512, .f32⟩
  | 37 => ⟨S1x1x512, .f32⟩
  | 38 => ⟨S2x8192x512, .f32⟩
  | 39 => ⟨S2x8192x512, .f32⟩
  | 40 => ⟨S2x8192x512, .f32⟩
  | 41 => ⟨S2x8192x512, .f32⟩
  | 42 => ⟨S1x512, .f32⟩
  | 43 => ⟨S512, .f32⟩
  | 44 => ⟨S1x1x512, .f32⟩
  | 45 => ⟨S2x8192x512, .f32⟩
  | 46 => ⟨S2x8192x512, .f32⟩
  | 47 => ⟨S2x8192x512, .f32⟩
  | 48 => ⟨S2x8192x512, .f32⟩
  | 49 => ⟨S2x8192x128, .f32⟩
  | 50 => ⟨S8192, .i32⟩
  | 51 => ⟨S8192x1, .i32⟩
  | 52 => ⟨S8192, .i32⟩
  | 53 => ⟨S1x8192, .i32⟩
  | 54 => ⟨S_, .i32⟩
  | 55 => ⟨S8192x1, .i32⟩
  | 56 => ⟨S8192x1, .i32⟩
  | 57 => ⟨S8192x8192, .i32⟩
  | 58 => ⟨S8192x8192, .i32⟩
  | 59 => ⟨S8192x8192, .i1⟩
  | 60 => ⟨S_, .i32⟩
  | 61 => ⟨S8192x1, .i32⟩
  | 62 => ⟨S8192x1, .i32⟩
  | 63 => ⟨S8192x8192, .i32⟩
  | 64 => ⟨S8192x8192, .i32⟩
  | 65 => ⟨S8192x8192, .i1⟩
  | 66 => ⟨S8192x8192, .i1⟩
  | 67 => ⟨S1x8192x8192x1, .i1⟩
  | 68 => ⟨S2x1x8192x128, .f32⟩
  | 69 => ⟨S_, .f32⟩
  | 70 => ⟨S_, .f32⟩
  | 71 => ⟨S2x8192x8192x128, .i1⟩
  | 72 => ⟨S2x8192x8192x128, .f32⟩
  | 73 => ⟨S2x8192x8192x128, .f32⟩
  | 74 => ⟨S2x8192x8192x128, .f32⟩
  | 75 => ⟨S_, .f32⟩
  | 76 => ⟨S2x8192x128, .f32⟩
  | 77 => ⟨S8192, .i32⟩
  | 78 => ⟨S_, .i32⟩
  | 79 => ⟨S8192, .i32⟩
  | 80 => ⟨S8192, .i32⟩
  | 81 => ⟨S_, .i32⟩
  | 82 => ⟨S_, .i32⟩
  | 83 => ⟨S_, .i32⟩
  | 84 => ⟨S8192, .i32⟩
  | 85 => ⟨S8192, .i32⟩
  | 86 => ⟨S_, .i32⟩
  | 87 => ⟨S8192, .i32⟩
  | 88 => ⟨S8192, .i32⟩
  | 89 => ⟨S_, .i32⟩
  | 90 => ⟨S8192, .i32⟩
  | 91 => ⟨S8192, .i32⟩
  | 92 => ⟨S_, .i32⟩
  | 93 => ⟨S_, .i32⟩
  | 94 => ⟨S_, .i32⟩
  | 95 => ⟨S8192, .i32⟩
  | 96 => ⟨S8192, .i32⟩
  | 97 => ⟨S_, .i32⟩
  | 98 => ⟨S8192, .i32⟩
  | 99 => ⟨S8192, .i32⟩
  | 100 => ⟨S8192, .i32⟩
  | 101 => ⟨S8192, .f32⟩
  | 102 => ⟨S1x8192x1, .f32⟩
  | 103 => ⟨S2x8192x128, .f32⟩
  | 104 => ⟨S2x8192x128, .f32⟩
  | 105 => ⟨S2x8192x128, .f32⟩
  | 106 => ⟨S2x8192x128, .f32⟩
  | 107 => ⟨S8192, .i32⟩
  | 108 => ⟨S8192x1, .i32⟩
  | 109 => ⟨S8192, .i32⟩
  | 110 => ⟨S1x8192, .i32⟩
  | 111 => ⟨S_, .i32⟩
  | 112 => ⟨S8192x1, .i32⟩
  | 113 => ⟨S8192x1, .i32⟩
  | 114 => ⟨S8192x8192, .i32⟩
  | 115 => ⟨S8192x8192, .i32⟩
  | 116 => ⟨S8192x8192, .i1⟩
  | 117 => ⟨S_, .i32⟩
  | 118 => ⟨S8192x1, .i32⟩
  | 119 => ⟨S8192x1, .i32⟩
  | 120 => ⟨S8192x8192, .i32⟩
  | 121 => ⟨S8192x8192, .i32⟩
  | 122 => ⟨S8192x8192, .i1⟩
  | 123 => ⟨S8192x8192, .i1⟩
  | 124 => ⟨S1x8192x8192x1, .i1⟩
  | 125 => ⟨S2x1x8192x128, .f32⟩
  | 126 => ⟨S_, .f32⟩
  | 127 => ⟨S_, .f32⟩
  | _ => ⟨S2x8192x8448, .bf16⟩

abbrev hbmTy0_1 (i : Nat) : BufTy := match i % 128 with
  | 0 => ⟨S2x8192x8192x128, .i1⟩
  | 1 => ⟨S2x8192x8192x128, .f32⟩
  | 2 => ⟨S2x8192x8192x128, .f32⟩
  | 3 => ⟨S2x8192x8192x128, .f32⟩
  | 4 => ⟨S_, .f32⟩
  | 5 => ⟨S2x8192x128, .f32⟩
  | 6 => ⟨S8192, .i32⟩
  | 7 => ⟨S_, .i32⟩
  | 8 => ⟨S8192, .i32⟩
  | 9 => ⟨S8192, .i32⟩
  | 10 => ⟨S_, .i32⟩
  | 11 => ⟨S_, .i32⟩
  | 12 => ⟨S_, .i32⟩
  | 13 => ⟨S8192, .i32⟩
  | 14 => ⟨S8192, .i32⟩
  | 15 => ⟨S_, .i32⟩
  | 16 => ⟨S8192, .i32⟩
  | 17 => ⟨S8192, .i32⟩
  | 18 => ⟨S_, .i32⟩
  | 19 => ⟨S8192, .i32⟩
  | 20 => ⟨S8192, .i32⟩
  | 21 => ⟨S_, .i32⟩
  | 22 => ⟨S_, .i32⟩
  | 23 => ⟨S_, .i32⟩
  | 24 => ⟨S8192, .i32⟩
  | 25 => ⟨S8192, .i32⟩
  | 26 => ⟨S_, .i32⟩
  | 27 => ⟨S8192, .i32⟩
  | 28 => ⟨S8192, .i32⟩
  | 29 => ⟨S8192, .i32⟩
  | 30 => ⟨S8192, .f32⟩
  | 31 => ⟨S1x8192x1, .f32⟩
  | 32 => ⟨S2x8192x128, .f32⟩
  | 33 => ⟨S2x8192x128, .f32⟩
  | 34 => ⟨S2x8192x128, .f32⟩
  | 35 => ⟨S2x8192x128, .f32⟩
  | 36 => ⟨S8192, .i32⟩
  | 37 => ⟨S8192x1, .i32⟩
  | 38 => ⟨S8192, .i32⟩
  | 39 => ⟨S1x8192, .i32⟩
  | 40 => ⟨S_, .i32⟩
  | 41 => ⟨S8192x1, .i32⟩
  | 42 => ⟨S8192x1, .i32⟩
  | 43 => ⟨S8192x8192, .i32⟩
  | 44 => ⟨S8192x8192, .i32⟩
  | 45 => ⟨S8192x8192, .i1⟩
  | 46 => ⟨S_, .i32⟩
  | 47 => ⟨S8192x1, .i32⟩
  | 48 => ⟨S8192x1, .i32⟩
  | 49 => ⟨S8192x8192, .i32⟩
  | 50 => ⟨S8192x8192, .i32⟩
  | 51 => ⟨S8192x8192, .i1⟩
  | 52 => ⟨S8192x8192, .i1⟩
  | 53 => ⟨S1x8192x8192x1, .i1⟩
  | 54 => ⟨S2x1x8192x128, .f32⟩
  | 55 => ⟨S_, .f32⟩
  | 56 => ⟨S_, .f32⟩
  | 57 => ⟨S2x8192x8192x128, .i1⟩
  | 58 => ⟨S2x8192x8192x128, .f32⟩
  | 59 => ⟨S2x8192x8192x128, .f32⟩
  | 60 => ⟨S2x8192x8192x128, .f32⟩
  | 61 => ⟨S_, .f32⟩
  | 62 => ⟨S2x8192x128, .f32⟩
  | 63 => ⟨S8192, .i32⟩
  | 64 => ⟨S_, .i32⟩
  | 65 => ⟨S8192, .i32⟩
  | 66 => ⟨S8192, .i32⟩
  | 67 => ⟨S_, .i32⟩
  | 68 => ⟨S_, .i32⟩
  | 69 => ⟨S_, .i32⟩
  | 70 => ⟨S8192, .i32⟩
  | 71 => ⟨S8192, .i32⟩
  | 72 => ⟨S_, .i32⟩
  | 73 => ⟨S8192, .i32⟩
  | 74 => ⟨S8192, .i32⟩
  | 75 => ⟨S_, .i32⟩
  | 76 => ⟨S8192, .i32⟩
  | 77 => ⟨S8192, .i32⟩
  | 78 => ⟨S_, .i32⟩
  | 79 => ⟨S_, .i32⟩
  | 80 => ⟨S_, .i32⟩
  | 81 => ⟨S8192, .i32⟩
  | 82 => ⟨S8192, .i32⟩
  | 83 => ⟨S_, .i32⟩
  | 84 => ⟨S8192, .i32⟩
  | 85 => ⟨S8192, .i32⟩
  | 86 => ⟨S8192, .i32⟩
  | 87 => ⟨S8192, .f32⟩
  | 88 => ⟨S1x8192x1, .f32⟩
  | 89 => ⟨S2x8192x128, .f32⟩
  | 90 => ⟨S2x8192x128, .f32⟩
  | 91 => ⟨S2x8192x128, .f32⟩
  | 92 => ⟨S2x8192x128, .f32⟩
  | 93 => ⟨S8192, .i32⟩
  | 94 => ⟨S8192x1, .i32⟩
  | 95 => ⟨S8192, .i32⟩
  | 96 => ⟨S1x8192, .i32⟩
  | 97 => ⟨S_, .i32⟩
  | 98 => ⟨S8192x1, .i32⟩
  | 99 => ⟨S8192x1, .i32⟩
  | 100 => ⟨S8192x8192, .i32⟩
  | 101 => ⟨S8192x8192, .i32⟩
  | 102 => ⟨S8192x8192, .i1⟩
  | 103 => ⟨S_, .i32⟩
  | 104 => ⟨S8192x1, .i32⟩
  | 105 => ⟨S8192x1, .i32⟩
  | 106 => ⟨S8192x8192, .i32⟩
  | 107 => ⟨S8192x8192, .i32⟩
  | 108 => ⟨S8192x8192, .i1⟩
  | 109 => ⟨S8192x8192, .i1⟩
  | 110 => ⟨S1x8192x8192x1, .i1⟩
  | 111 => ⟨S2x1x8192x128, .f32⟩
  | 112 => ⟨S_, .f32⟩
  | 113 => ⟨S_, .f32⟩
  | 114 => ⟨S2x8192x8192x128, .i1⟩
  | 115 => ⟨S2x8192x8192x128, .f32⟩
  | 116 => ⟨S2x8192x8192x128, .f32⟩
  | 117 => ⟨S2x8192x8192x128, .f32⟩
  | 118 => ⟨S_, .f32⟩
  | 119 => ⟨S2x8192x128, .f32⟩
  | 120 => ⟨S8192, .i32⟩
  | 121 => ⟨S_, .i32⟩
  | 122 => ⟨S8192, .i32⟩
  | 123 => ⟨S8192, .i32⟩
  | 124 => ⟨S_, .i32⟩
  | 125 => ⟨S_, .i32⟩
  | 126 => ⟨S_, .i32⟩
  | 127 => ⟨S8192, .i32⟩
  | _ => ⟨S2x8192x8448, .bf16⟩

abbrev hbmTy0_2 (i : Nat) : BufTy := match i % 128 with
  | 0 => ⟨S8192, .i32⟩
  | 1 => ⟨S_, .i32⟩
  | 2 => ⟨S8192, .i32⟩
  | 3 => ⟨S8192, .i32⟩
  | 4 => ⟨S_, .i32⟩
  | 5 => ⟨S8192, .i32⟩
  | 6 => ⟨S8192, .i32⟩
  | 7 => ⟨S_, .i32⟩
  | 8 => ⟨S_, .i32⟩
  | 9 => ⟨S_, .i32⟩
  | 10 => ⟨S8192, .i32⟩
  | 11 => ⟨S8192, .i32⟩
  | 12 => ⟨S_, .i32⟩
  | 13 => ⟨S8192, .i32⟩
  | 14 => ⟨S8192, .i32⟩
  | 15 => ⟨S8192, .i32⟩
  | 16 => ⟨S8192, .f32⟩
  | 17 => ⟨S1x8192x1, .f32⟩
  | 18 => ⟨S2x8192x128, .f32⟩
  | 19 => ⟨S2x8192x128, .f32⟩
  | 20 => ⟨S2x8192x128, .f32⟩
  | 21 => ⟨S2x8192x1x128, .f32⟩
  | 22 => ⟨S2x8192x1x128, .f32⟩
  | 23 => ⟨S2x8192x1x128, .f32⟩
  | 24 => ⟨S2x8192x1x128, .f32⟩
  | 25 => ⟨S2x8192x4x128, .f32⟩
  | 26 => ⟨S1x4x128x128, .f32⟩
  | 27 => ⟨S4x128x128, .f32⟩
  | 28 => ⟨S4x128x2x8192, .f32⟩
  | 29 => ⟨S2x8192x4x128, .f32⟩
  | 30 => ⟨S2x8192x512, .f32⟩
  | 31 => ⟨S1x1x512, .f32⟩
  | 32 => ⟨S2x8192x512, .f32⟩
  | 33 => ⟨S2x8192x512, .f32⟩
  | 34 => ⟨S8x64, .f32⟩
  | 35 => ⟨S512, .f32⟩
  | 36 => ⟨S2x8192x512, .bf16⟩
  | 37 => ⟨S2x8192x512, .f32⟩
  | 38 => ⟨S1x1x512, .f32⟩
  | 39 => ⟨S2x8192x512, .f32⟩
  | 40 => ⟨S2x8192x512, .f32⟩
  | 41 => ⟨S2x8192x512, .bf16⟩
  | 42 => ⟨S2x8192x512, .f32⟩
  | 43 => ⟨S2x8192x512, .f32⟩
  | 44 => ⟨S2x8192x512, .bf16⟩
  | 45 => ⟨S2x8192x512, .f32⟩
  | 46 => ⟨S2x8192x512, .f32⟩
  | 47 => ⟨S2x8192x512, .f32⟩
  | 48 => ⟨S2x8192x512, .f32⟩
  | 49 => ⟨S_, .f32⟩
  | 50 => ⟨S2x8192x512, .f32⟩
  | 51 => ⟨S2x8192x512, .f32⟩
  | 52 => ⟨S_, .f32⟩
  | 53 => ⟨S2x8192x512, .f32⟩
  | 54 => ⟨S2x8192x512, .f32⟩
  | 55 => ⟨S2x8192x512, .f32⟩
  | 56 => ⟨S2x8192x512, .f32⟩
  | 57 => ⟨S2x8192x512, .f32⟩
  | 58 => ⟨S_, .f32⟩
  | 59 => ⟨S2x8192, .f32⟩
  | 60 => ⟨S2x8192x1, .f32⟩
  | 61 => ⟨S_, .f32⟩
  | 62 => ⟨S2x8192x1, .f32⟩
  | 63 => ⟨S2x8192x1, .f32⟩
  | 64 => ⟨S_, .f32⟩
  | 65 => ⟨S2x8192x1, .f32⟩
  | 66 => ⟨S2x8192x1, .f32⟩
  | 67 => ⟨S2x8192x1, .f32⟩
  | 68 => ⟨S2x8192x512, .f32⟩
  | 69 => ⟨S2x8192x512, .f32⟩
  | 70 => ⟨S1x1x512, .f32⟩
  | 71 => ⟨S2x8192x512, .f32⟩
  | 72 => ⟨S2x8192x512, .f32⟩
  | 73 => ⟨S2x8192x4096, .f32⟩
  | 74 => ⟨S2x8192x4096, .f32⟩
  | 75 => ⟨S_, .f32⟩
  | 76 => ⟨S2x8192x4096, .f32⟩
  | 77 => ⟨S2x8192x4096, .f32⟩
  | 78 => ⟨S_, .f32⟩
  | 79 => ⟨S2x8192x4096, .f32⟩
  | 80 => ⟨S2x8192x4096, .f32⟩
  | 81 => ⟨S2x8192x4x1024, .f32⟩
  | 82 => ⟨S2x8192x512, .f32⟩
  | 83 => ⟨S2x8192x1x512, .f32⟩
  | 84 => ⟨S2x8192x1x512, .f32⟩
  | 85 => ⟨S2x8192x1x512, .f32⟩
  | 86 => ⟨S2x8192x1x512, .f32⟩
  | 87 => ⟨S2x8192x4x512, .f32⟩
  | 88 => ⟨S1x4x512x1024, .f32⟩
  | 89 => ⟨S4x512x1024, .f32⟩
  | 90 => ⟨S4x1024x2x8192, .f32⟩
  | 91 => ⟨S2x8192x4x1024, .f32⟩
  | 92 => ⟨S2x8192x4x1024, .f32⟩
  | 93 => ⟨S_, .f32⟩
  | 94 => ⟨S2x8192x1024, .f32⟩
  | 95 => ⟨S2x1x1024, .f32⟩
  | 96 => ⟨S1x1024x1024, .f32⟩
  | 97 => ⟨S1024x1024, .f32⟩
  | 98 => ⟨S2x8192x1024, .f32⟩
  | 99 => ⟨S2x8192x1024, .f32⟩
  | 100 => ⟨S2x8192x1024, .f32⟩
  | 101 => ⟨S2x8192x1024, .f32⟩
  | _ => ⟨S2x8192x8448, .bf16⟩

abbrev hbmTy (i : Nat) : BufTy := match i / 128 with
  | 0 => hbmTy0_0 i
  | 1 => hbmTy0_1 i
  | 2 => hbmTy0_2 i
  | _ => ⟨S2x8192x8448, .bf16⟩

abbrev bufTy : (tb : Table) → Fin (tcTables nBuf tb) → BufTy
  | .hbm, ⟨i, _⟩ => hbmTy i
  | _, _ => ⟨S2x8192x8448, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_cst : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_c : Ref sig .tc := ⟨.hbm, 25, rfl⟩
abbrev main_call0_v0 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_c_0 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_c_1 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_cst_2 : Ref sig .tc := ⟨.hbm, 69, rfl⟩
abbrev main_call1_v0 : Ref sig .tc := ⟨.hbm, 70, rfl⟩
abbrev main_call1_v1 : Ref sig .tc := ⟨.hbm, 71, rfl⟩
abbrev main_call1_v2 : Ref sig .tc := ⟨.hbm, 72, rfl⟩
abbrev main_call1_v3 : Ref sig .tc := ⟨.hbm, 73, rfl⟩
abbrev main_v50 : Ref sig .tc := ⟨.hbm, 74, rfl⟩
abbrev main_cst_3 : Ref sig .tc := ⟨.hbm, 75, rfl⟩
abbrev main_v51 : Ref sig .tc := ⟨.hbm, 76, rfl⟩
abbrev main_v52 : Ref sig .tc := ⟨.hbm, 77, rfl⟩
abbrev main_c_4 : Ref sig .tc := ⟨.hbm, 78, rfl⟩
abbrev main_v53 : Ref sig .tc := ⟨.hbm, 79, rfl⟩
abbrev main_v54 : Ref sig .tc := ⟨.hbm, 80, rfl⟩
abbrev main_c_5 : Ref sig .tc := ⟨.hbm, 81, rfl⟩
abbrev main_c_6 : Ref sig .tc := ⟨.hbm, 82, rfl⟩
abbrev main_call2_v0 : Ref sig .tc := ⟨.hbm, 83, rfl⟩
abbrev main_call2_v1 : Ref sig .tc := ⟨.hbm, 84, rfl⟩
abbrev main_call2_v2 : Ref sig .tc := ⟨.hbm, 85, rfl⟩
abbrev main_call2_v3 : Ref sig .tc := ⟨.hbm, 86, rfl⟩
abbrev main_call2_v4 : Ref sig .tc := ⟨.hbm, 87, rfl⟩
abbrev main_v55 : Ref sig .tc := ⟨.hbm, 88, rfl⟩
abbrev main_c_7 : Ref sig .tc := ⟨.hbm, 89, rfl⟩
abbrev main_v56 : Ref sig .tc := ⟨.hbm, 90, rfl⟩
abbrev main_v57 : Ref sig .tc := ⟨.hbm, 91, rfl⟩
abbrev main_c_8 : Ref sig .tc := ⟨.hbm, 92, rfl⟩
abbrev main_c_9 : Ref sig .tc := ⟨.hbm, 93, rfl⟩
abbrev main_call3_v0 : Ref sig .tc := ⟨.hbm, 94, rfl⟩
abbrev main_call3_v1 : Ref sig .tc := ⟨.hbm, 95, rfl⟩
abbrev main_call3_v2 : Ref sig .tc := ⟨.hbm, 96, rfl⟩
abbrev main_call3_v3 : Ref sig .tc := ⟨.hbm, 97, rfl⟩
abbrev main_call3_v4 : Ref sig .tc := ⟨.hbm, 98, rfl⟩
abbrev main_v58 : Ref sig .tc := ⟨.hbm, 99, rfl⟩
abbrev main_v59 : Ref sig .tc := ⟨.hbm, 100, rfl⟩
abbrev main_v60 : Ref sig .tc := ⟨.hbm, 101, rfl⟩
abbrev main_v61 : Ref sig .tc := ⟨.hbm, 102, rfl⟩
abbrev main_v62 : Ref sig .tc := ⟨.hbm, 103, rfl⟩
abbrev main_v63 : Ref sig .tc := ⟨.hbm, 104, rfl⟩
abbrev main_v64 : Ref sig .tc := ⟨.hbm, 105, rfl⟩
abbrev main_v65 : Ref sig .tc := ⟨.hbm, 106, rfl⟩
abbrev main_v66 : Ref sig .tc := ⟨.hbm, 107, rfl⟩
abbrev main_v67 : Ref sig .tc := ⟨.hbm, 108, rfl⟩
abbrev main_v68 : Ref sig .tc := ⟨.hbm, 109, rfl⟩
abbrev main_v69 : Ref sig .tc := ⟨.hbm, 110, rfl⟩
abbrev main_c_10 : Ref sig .tc := ⟨.hbm, 111, rfl⟩
abbrev main_v70 : Ref sig .tc := ⟨.hbm, 112, rfl⟩
abbrev main_v71 : Ref sig .tc := ⟨.hbm, 113, rfl⟩
abbrev main_v72 : Ref sig .tc := ⟨.hbm, 114, rfl⟩
abbrev main_v73 : Ref sig .tc := ⟨.hbm, 115, rfl⟩
abbrev main_v74 : Ref sig .tc := ⟨.hbm, 116, rfl⟩
abbrev main_c_11 : Ref sig .tc := ⟨.hbm, 117, rfl⟩
abbrev main_v75 : Ref sig .tc := ⟨.hbm, 118, rfl⟩
abbrev main_v76 : Ref sig .tc := ⟨.hbm, 119, rfl⟩
abbrev main_v77 : Ref sig .tc := ⟨.hbm, 120, rfl⟩
abbrev main_v78 : Ref sig .tc := ⟨.hbm, 121, rfl⟩
abbrev main_v79 : Ref sig .tc := ⟨.hbm, 122, rfl⟩
abbrev main_v80 : Ref sig .tc := ⟨.hbm, 123, rfl⟩
abbrev main_v81 : Ref sig .tc := ⟨.hbm, 124, rfl⟩
abbrev main_v82 : Ref sig .tc := ⟨.hbm, 125, rfl⟩
abbrev main_cst_12 : Ref sig .tc := ⟨.hbm, 126, rfl⟩
abbrev main_call4_v0 : Ref sig .tc := ⟨.hbm, 127, rfl⟩
abbrev main_call4_v1 : Ref sig .tc := ⟨.hbm, 128, rfl⟩
abbrev main_call4_v2 : Ref sig .tc := ⟨.hbm, 129, rfl⟩
abbrev main_call4_v3 : Ref sig .tc := ⟨.hbm, 130, rfl⟩
abbrev main_v83 : Ref sig .tc := ⟨.hbm, 131, rfl⟩
abbrev main_cst_13 : Ref sig .tc := ⟨.hbm, 132, rfl⟩
abbrev main_v84 : Ref sig .tc := ⟨.hbm, 133, rfl⟩
abbrev main_v85 : Ref sig .tc := ⟨.hbm, 134, rfl⟩
abbrev main_c_14 : Ref sig .tc := ⟨.hbm, 135, rfl⟩
abbrev main_v86 : Ref sig .tc := ⟨.hbm, 136, rfl⟩
abbrev main_v87 : Ref sig .tc := ⟨.hbm, 137, rfl⟩
abbrev main_c_15 : Ref sig .tc := ⟨.hbm, 138, rfl⟩
abbrev main_c_16 : Ref sig .tc := ⟨.hbm, 139, rfl⟩
abbrev main_call5_v0 : Ref sig .tc := ⟨.hbm, 140, rfl⟩
abbrev main_call5_v1 : Ref sig .tc := ⟨.hbm, 141, rfl⟩
abbrev main_call5_v2 : Ref sig .tc := ⟨.hbm, 142, rfl⟩
abbrev main_call5_v3 : Ref sig .tc := ⟨.hbm, 143, rfl⟩
abbrev main_call5_v4 : Ref sig .tc := ⟨.hbm, 144, rfl⟩
abbrev main_v88 : Ref sig .tc := ⟨.hbm, 145, rfl⟩
abbrev main_c_17 : Ref sig .tc := ⟨.hbm, 146, rfl⟩
abbrev main_v89 : Ref sig .tc := ⟨.hbm, 147, rfl⟩
abbrev main_v90 : Ref sig .tc := ⟨.hbm, 148, rfl⟩
abbrev main_c_18 : Ref sig .tc := ⟨.hbm, 149, rfl⟩
abbrev main_c_19 : Ref sig .tc := ⟨.hbm, 150, rfl⟩
abbrev main_call6_v0 : Ref sig .tc := ⟨.hbm, 151, rfl⟩
abbrev main_call6_v1 : Ref sig .tc := ⟨.hbm, 152, rfl⟩
abbrev main_call6_v2 : Ref sig .tc := ⟨.hbm, 153, rfl⟩
abbrev main_call6_v3 : Ref sig .tc := ⟨.hbm, 154, rfl⟩
abbrev main_call6_v4 : Ref sig .tc := ⟨.hbm, 155, rfl⟩
abbrev main_v91 : Ref sig .tc := ⟨.hbm, 156, rfl⟩
abbrev main_v92 : Ref sig .tc := ⟨.hbm, 157, rfl⟩
abbrev main_v93 : Ref sig .tc := ⟨.hbm, 158, rfl⟩
abbrev main_v94 : Ref sig .tc := ⟨.hbm, 159, rfl⟩
abbrev main_v95 : Ref sig .tc := ⟨.hbm, 160, rfl⟩
abbrev main_v96 : Ref sig .tc := ⟨.hbm, 161, rfl⟩
abbrev main_v97 : Ref sig .tc := ⟨.hbm, 162, rfl⟩
abbrev main_v98 : Ref sig .tc := ⟨.hbm, 163, rfl⟩
abbrev main_v99 : Ref sig .tc := ⟨.hbm, 164, rfl⟩
abbrev main_v100 : Ref sig .tc := ⟨.hbm, 165, rfl⟩
abbrev main_v101 : Ref sig .tc := ⟨.hbm, 166, rfl⟩
abbrev main_v102 : Ref sig .tc := ⟨.hbm, 167, rfl⟩
abbrev main_c_20 : Ref sig .tc := ⟨.hbm, 168, rfl⟩
abbrev main_v103 : Ref sig .tc := ⟨.hbm, 169, rfl⟩
abbrev main_v104 : Ref sig .tc := ⟨.hbm, 170, rfl⟩
abbrev main_v105 : Ref sig .tc := ⟨.hbm, 171, rfl⟩
abbrev main_v106 : Ref sig .tc := ⟨.hbm, 172, rfl⟩
abbrev main_v107 : Ref sig .tc := ⟨.hbm, 173, rfl⟩
abbrev main_c_21 : Ref sig .tc := ⟨.hbm, 174, rfl⟩
abbrev main_v108 : Ref sig .tc := ⟨.hbm, 175, rfl⟩
abbrev main_v109 : Ref sig .tc := ⟨.hbm, 176, rfl⟩
abbrev main_v110 : Ref sig .tc := ⟨.hbm, 177, rfl⟩
abbrev main_v111 : Ref sig .tc := ⟨.hbm, 178, rfl⟩
abbrev main_v112 : Ref sig .tc := ⟨.hbm, 179, rfl⟩
abbrev main_v113 : Ref sig .tc := ⟨.hbm, 180, rfl⟩
abbrev main_v114 : Ref sig .tc := ⟨.hbm, 181, rfl⟩
abbrev main_v115 : Ref sig .tc := ⟨.hbm, 182, rfl⟩
abbrev main_cst_22 : Ref sig .tc := ⟨.hbm, 183, rfl⟩
abbrev main_call7_v0 : Ref sig .tc := ⟨.hbm, 184, rfl⟩
abbrev main_call7_v1 : Ref sig .tc := ⟨.hbm, 185, rfl⟩
abbrev main_call7_v2 : Ref sig .tc := ⟨.hbm, 186, rfl⟩
abbrev main_call7_v3 : Ref sig .tc := ⟨.hbm, 187, rfl⟩
abbrev main_v116 : Ref sig .tc := ⟨.hbm, 188, rfl⟩
abbrev main_cst_23 : Ref sig .tc := ⟨.hbm, 189, rfl⟩
abbrev main_v117 : Ref sig .tc := ⟨.hbm, 190, rfl⟩
abbrev main_v118 : Ref sig .tc := ⟨.hbm, 191, rfl⟩
abbrev main_c_24 : Ref sig .tc := ⟨.hbm, 192, rfl⟩
abbrev main_v119 : Ref sig .tc := ⟨.hbm, 193, rfl⟩
abbrev main_v120 : Ref sig .tc := ⟨.hbm, 194, rfl⟩
abbrev main_c_25 : Ref sig .tc := ⟨.hbm, 195, rfl⟩
abbrev main_c_26 : Ref sig .tc := ⟨.hbm, 196, rfl⟩
abbrev main_call8_v0 : Ref sig .tc := ⟨.hbm, 197, rfl⟩
abbrev main_call8_v1 : Ref sig .tc := ⟨.hbm, 198, rfl⟩
abbrev main_call8_v2 : Ref sig .tc := ⟨.hbm, 199, rfl⟩
abbrev main_call8_v3 : Ref sig .tc := ⟨.hbm, 200, rfl⟩
abbrev main_call8_v4 : Ref sig .tc := ⟨.hbm, 201, rfl⟩
abbrev main_v121 : Ref sig .tc := ⟨.hbm, 202, rfl⟩
abbrev main_c_27 : Ref sig .tc := ⟨.hbm, 203, rfl⟩
abbrev main_v122 : Ref sig .tc := ⟨.hbm, 204, rfl⟩
abbrev main_v123 : Ref sig .tc := ⟨.hbm, 205, rfl⟩
abbrev main_c_28 : Ref sig .tc := ⟨.hbm, 206, rfl⟩
abbrev main_c_29 : Ref sig .tc := ⟨.hbm, 207, rfl⟩
abbrev main_call9_v0 : Ref sig .tc := ⟨.hbm, 208, rfl⟩
abbrev main_call9_v1 : Ref sig .tc := ⟨.hbm, 209, rfl⟩
abbrev main_call9_v2 : Ref sig .tc := ⟨.hbm, 210, rfl⟩
abbrev main_call9_v3 : Ref sig .tc := ⟨.hbm, 211, rfl⟩
abbrev main_call9_v4 : Ref sig .tc := ⟨.hbm, 212, rfl⟩
abbrev main_v124 : Ref sig .tc := ⟨.hbm, 213, rfl⟩
abbrev main_v125 : Ref sig .tc := ⟨.hbm, 214, rfl⟩
abbrev main_v126 : Ref sig .tc := ⟨.hbm, 215, rfl⟩
abbrev main_v127 : Ref sig .tc := ⟨.hbm, 216, rfl⟩
abbrev main_v128 : Ref sig .tc := ⟨.hbm, 217, rfl⟩
abbrev main_v129 : Ref sig .tc := ⟨.hbm, 218, rfl⟩
abbrev main_v130 : Ref sig .tc := ⟨.hbm, 219, rfl⟩
abbrev main_v131 : Ref sig .tc := ⟨.hbm, 220, rfl⟩
abbrev main_v132 : Ref sig .tc := ⟨.hbm, 221, rfl⟩
abbrev main_v133 : Ref sig .tc := ⟨.hbm, 222, rfl⟩
abbrev main_v134 : Ref sig .tc := ⟨.hbm, 223, rfl⟩
abbrev main_v135 : Ref sig .tc := ⟨.hbm, 224, rfl⟩
abbrev main_c_30 : Ref sig .tc := ⟨.hbm, 225, rfl⟩
abbrev main_v136 : Ref sig .tc := ⟨.hbm, 226, rfl⟩
abbrev main_v137 : Ref sig .tc := ⟨.hbm, 227, rfl⟩
abbrev main_v138 : Ref sig .tc := ⟨.hbm, 228, rfl⟩
abbrev main_v139 : Ref sig .tc := ⟨.hbm, 229, rfl⟩
abbrev main_v140 : Ref sig .tc := ⟨.hbm, 230, rfl⟩
abbrev main_c_31 : Ref sig .tc := ⟨.hbm, 231, rfl⟩
abbrev main_v141 : Ref sig .tc := ⟨.hbm, 232, rfl⟩
abbrev main_v142 : Ref sig .tc := ⟨.hbm, 233, rfl⟩
abbrev main_v143 : Ref sig .tc := ⟨.hbm, 234, rfl⟩
abbrev main_v144 : Ref sig .tc := ⟨.hbm, 235, rfl⟩
abbrev main_v145 : Ref sig .tc := ⟨.hbm, 236, rfl⟩
abbrev main_v146 : Ref sig .tc := ⟨.hbm, 237, rfl⟩
abbrev main_v147 : Ref sig .tc := ⟨.hbm, 238, rfl⟩
abbrev main_v148 : Ref sig .tc := ⟨.hbm, 239, rfl⟩
abbrev main_cst_32 : Ref sig .tc := ⟨.hbm, 240, rfl⟩
abbrev main_call10_v0 : Ref sig .tc := ⟨.hbm, 241, rfl⟩
abbrev main_call10_v1 : Ref sig .tc := ⟨.hbm, 242, rfl⟩
abbrev main_call10_v2 : Ref sig .tc := ⟨.hbm, 243, rfl⟩
abbrev main_call10_v3 : Ref sig .tc := ⟨.hbm, 244, rfl⟩
abbrev main_v149 : Ref sig .tc := ⟨.hbm, 245, rfl⟩
abbrev main_cst_33 : Ref sig .tc := ⟨.hbm, 246, rfl⟩
abbrev main_v150 : Ref sig .tc := ⟨.hbm, 247, rfl⟩
abbrev main_v151 : Ref sig .tc := ⟨.hbm, 248, rfl⟩
abbrev main_c_34 : Ref sig .tc := ⟨.hbm, 249, rfl⟩
abbrev main_v152 : Ref sig .tc := ⟨.hbm, 250, rfl⟩
abbrev main_v153 : Ref sig .tc := ⟨.hbm, 251, rfl⟩
abbrev main_c_35 : Ref sig .tc := ⟨.hbm, 252, rfl⟩
abbrev main_c_36 : Ref sig .tc := ⟨.hbm, 253, rfl⟩
abbrev main_call11_v0 : Ref sig .tc := ⟨.hbm, 254, rfl⟩
abbrev main_call11_v1 : Ref sig .tc := ⟨.hbm, 255, rfl⟩
abbrev main_call11_v2 : Ref sig .tc := ⟨.hbm, 256, rfl⟩
abbrev main_call11_v3 : Ref sig .tc := ⟨.hbm, 257, rfl⟩
abbrev main_call11_v4 : Ref sig .tc := ⟨.hbm, 258, rfl⟩
abbrev main_v154 : Ref sig .tc := ⟨.hbm, 259, rfl⟩
abbrev main_c_37 : Ref sig .tc := ⟨.hbm, 260, rfl⟩
abbrev main_v155 : Ref sig .tc := ⟨.hbm, 261, rfl⟩
abbrev main_v156 : Ref sig .tc := ⟨.hbm, 262, rfl⟩
abbrev main_c_38 : Ref sig .tc := ⟨.hbm, 263, rfl⟩
abbrev main_c_39 : Ref sig .tc := ⟨.hbm, 264, rfl⟩
abbrev main_call12_v0 : Ref sig .tc := ⟨.hbm, 265, rfl⟩
abbrev main_call12_v1 : Ref sig .tc := ⟨.hbm, 266, rfl⟩
abbrev main_call12_v2 : Ref sig .tc := ⟨.hbm, 267, rfl⟩
abbrev main_call12_v3 : Ref sig .tc := ⟨.hbm, 268, rfl⟩
abbrev main_call12_v4 : Ref sig .tc := ⟨.hbm, 269, rfl⟩
abbrev main_v157 : Ref sig .tc := ⟨.hbm, 270, rfl⟩
abbrev main_v158 : Ref sig .tc := ⟨.hbm, 271, rfl⟩
abbrev main_v159 : Ref sig .tc := ⟨.hbm, 272, rfl⟩
abbrev main_v160 : Ref sig .tc := ⟨.hbm, 273, rfl⟩
abbrev main_v161 : Ref sig .tc := ⟨.hbm, 274, rfl⟩
abbrev main_v162 : Ref sig .tc := ⟨.hbm, 275, rfl⟩
abbrev main_v163 : Ref sig .tc := ⟨.hbm, 276, rfl⟩
abbrev main_v164 : Ref sig .tc := ⟨.hbm, 277, rfl⟩
abbrev main_v165 : Ref sig .tc := ⟨.hbm, 278, rfl⟩
abbrev main_v166 : Ref sig .tc := ⟨.hbm, 279, rfl⟩
abbrev main_v167 : Ref sig .tc := ⟨.hbm, 280, rfl⟩
abbrev main_v168 : Ref sig .tc := ⟨.hbm, 281, rfl⟩
abbrev main_v169 : Ref sig .tc := ⟨.hbm, 282, rfl⟩
abbrev main_v170 : Ref sig .tc := ⟨.hbm, 283, rfl⟩
abbrev main_v171 : Ref sig .tc := ⟨.hbm, 284, rfl⟩
abbrev main_v172 : Ref sig .tc := ⟨.hbm, 285, rfl⟩
abbrev main_v173 : Ref sig .tc := ⟨.hbm, 286, rfl⟩
abbrev main_v174 : Ref sig .tc := ⟨.hbm, 287, rfl⟩
abbrev main_v175 : Ref sig .tc := ⟨.hbm, 288, rfl⟩
abbrev main_v176 : Ref sig .tc := ⟨.hbm, 289, rfl⟩
abbrev main_v177 : Ref sig .tc := ⟨.hbm, 290, rfl⟩
abbrev main_v178 : Ref sig .tc := ⟨.hbm, 291, rfl⟩
abbrev main_v179 : Ref sig .tc := ⟨.hbm, 292, rfl⟩
abbrev main_v180 : Ref sig .tc := ⟨.hbm, 293, rfl⟩
abbrev main_v181 : Ref sig .tc := ⟨.hbm, 294, rfl⟩
abbrev main_v182 : Ref sig .tc := ⟨.hbm, 295, rfl⟩
abbrev main_v183 : Ref sig .tc := ⟨.hbm, 296, rfl⟩
abbrev main_v184 : Ref sig .tc := ⟨.hbm, 297, rfl⟩
abbrev main_v185 : Ref sig .tc := ⟨.hbm, 298, rfl⟩
abbrev main_v186 : Ref sig .tc := ⟨.hbm, 299, rfl⟩
abbrev main_v187 : Ref sig .tc := ⟨.hbm, 300, rfl⟩
abbrev main_v188 : Ref sig .tc := ⟨.hbm, 301, rfl⟩
abbrev main_v189 : Ref sig .tc := ⟨.hbm, 302, rfl⟩
abbrev main_v190 : Ref sig .tc := ⟨.hbm, 303, rfl⟩
abbrev main_v191 : Ref sig .tc := ⟨.hbm, 304, rfl⟩
abbrev main_cst_40 : Ref sig .tc := ⟨.hbm, 305, rfl⟩
abbrev main_v192 : Ref sig .tc := ⟨.hbm, 306, rfl⟩
abbrev main_v193 : Ref sig .tc := ⟨.hbm, 307, rfl⟩
abbrev main_cst_41 : Ref sig .tc := ⟨.hbm, 308, rfl⟩
abbrev main_v194 : Ref sig .tc := ⟨.hbm, 309, rfl⟩
abbrev main_v195 : Ref sig .tc := ⟨.hbm, 310, rfl⟩
abbrev main_v196 : Ref sig .tc := ⟨.hbm, 311, rfl⟩
abbrev main_v197 : Ref sig .tc := ⟨.hbm, 312, rfl⟩
abbrev main_v198 : Ref sig .tc := ⟨.hbm, 313, rfl⟩
abbrev main_cst_42 : Ref sig .tc := ⟨.hbm, 314, rfl⟩
abbrev main_v199 : Ref sig .tc := ⟨.hbm, 315, rfl⟩
abbrev main_v200 : Ref sig .tc := ⟨.hbm, 316, rfl⟩
abbrev main_cst_43 : Ref sig .tc := ⟨.hbm, 317, rfl⟩
abbrev main_v201 : Ref sig .tc := ⟨.hbm, 318, rfl⟩
abbrev main_v202 : Ref sig .tc := ⟨.hbm, 319, rfl⟩
abbrev main_cst_44 : Ref sig .tc := ⟨.hbm, 320, rfl⟩
abbrev main_v203 : Ref sig .tc := ⟨.hbm, 321, rfl⟩
abbrev main_v204 : Ref sig .tc := ⟨.hbm, 322, rfl⟩
abbrev main_v205 : Ref sig .tc := ⟨.hbm, 323, rfl⟩
abbrev main_v206 : Ref sig .tc := ⟨.hbm, 324, rfl⟩
abbrev main_v207 : Ref sig .tc := ⟨.hbm, 325, rfl⟩
abbrev main_v208 : Ref sig .tc := ⟨.hbm, 326, rfl⟩
abbrev main_v209 : Ref sig .tc := ⟨.hbm, 327, rfl⟩
abbrev main_v210 : Ref sig .tc := ⟨.hbm, 328, rfl⟩
abbrev main_v211 : Ref sig .tc := ⟨.hbm, 329, rfl⟩
abbrev main_v212 : Ref sig .tc := ⟨.hbm, 330, rfl⟩
abbrev main_cst_45 : Ref sig .tc := ⟨.hbm, 331, rfl⟩
abbrev main_v213 : Ref sig .tc := ⟨.hbm, 332, rfl⟩
abbrev main_v214 : Ref sig .tc := ⟨.hbm, 333, rfl⟩
abbrev main_cst_46 : Ref sig .tc := ⟨.hbm, 334, rfl⟩
abbrev main_v215 : Ref sig .tc := ⟨.hbm, 335, rfl⟩
abbrev main_v216 : Ref sig .tc := ⟨.hbm, 336, rfl⟩
abbrev main_v217 : Ref sig .tc := ⟨.hbm, 337, rfl⟩
abbrev main_v218 : Ref sig .tc := ⟨.hbm, 338, rfl⟩
abbrev main_v219 : Ref sig .tc := ⟨.hbm, 339, rfl⟩
abbrev main_v220 : Ref sig .tc := ⟨.hbm, 340, rfl⟩
abbrev main_v221 : Ref sig .tc := ⟨.hbm, 341, rfl⟩
abbrev main_v222 : Ref sig .tc := ⟨.hbm, 342, rfl⟩
abbrev main_v223 : Ref sig .tc := ⟨.hbm, 343, rfl⟩
abbrev main_v224 : Ref sig .tc := ⟨.hbm, 344, rfl⟩
abbrev main_v225 : Ref sig .tc := ⟨.hbm, 345, rfl⟩
abbrev main_v226 : Ref sig .tc := ⟨.hbm, 346, rfl⟩
abbrev main_v227 : Ref sig .tc := ⟨.hbm, 347, rfl⟩
abbrev main_v228 : Ref sig .tc := ⟨.hbm, 348, rfl⟩
abbrev main_cst_47 : Ref sig .tc := ⟨.hbm, 349, rfl⟩
abbrev main_v229 : Ref sig .tc := ⟨.hbm, 350, rfl⟩
abbrev main_v230 : Ref sig .tc := ⟨.hbm, 351, rfl⟩
abbrev main_v231 : Ref sig .tc := ⟨.hbm, 352, rfl⟩
abbrev main_v232 : Ref sig .tc := ⟨.hbm, 353, rfl⟩
abbrev main_v233 : Ref sig .tc := ⟨.hbm, 354, rfl⟩
abbrev main_v234 : Ref sig .tc := ⟨.hbm, 355, rfl⟩
abbrev main_v235 : Ref sig .tc := ⟨.hbm, 356, rfl⟩
abbrev main_v236 : Ref sig .tc := ⟨.hbm, 357, rfl⟩

abbrev nD : Nat := 1
abbrev τ : Topo := Topo.v7x

variable {F : FTy → Type} [FloatOps F]
-- ==== Proof.FlashBody.lean ====
/-
  The attention kernel's body, run once on whole buffers.
-/
module

public import proofs.«01_k».proof.Proof.Gen.KernelIdeal.Frame
public import proofs.«01_k».proof.Proof.Gen.KernelIdeal.Loops
public import proofs.«01_k».proof.Proof.Gen.KernelIdeal.Points
public import Idealize.ShloMosaic.Lib.Claim
public import Idealize.ShloMosaic.Lib.Tactic

@[expose] public section

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1600000 in
/-- What the body leaves in the result's buffer, found by the run: the word its branch tests, the block that the
    branch leaves, and the block without it; WITH the proof that on whole buffers, the inputs' at the blocks `x0`,
    `x1`, `x2` and the others at anything, the body runs to the end holding the inputs as they were and the result's
    buffer at the one or the other. -/
def kernelRun (c : Dev nD) (i : grid0.Coords)
    (arg3 : Memref sig .tc .vmem S1x4x512x128 .bf16) (harg3 : arg3.IsWhole) (arg4 : Memref sig .tc .vmem S1x1x128x8448 .bf16) (harg4 : arg4.IsWhole)
    (arg5 : Memref sig .tc .vmem S1x1x8448x128 .bf16) (harg5 : arg5.IsWhole) (arg6 : Memref sig .tc .vmem S1x512x256 .bf16) (harg6 : arg6.IsWhole)
    (arg7 : Memref sig .tc .vmem S2x2048x768 .f32) (harg7 : arg7.IsWhole) (arg8 : Memref sig .tc .vmem S2048x128 .f32) (harg8 : arg8.IsWhole)
    (arg9 : Memref sig .tc .vmem S2048x128 .f32) (harg9 : arg9.IsWhole)
    (x0 : Vec F S1x4x512x128 .bf16) (x1 : Vec F S1x1x128x8448 .bf16) (x2 : Vec F S1x1x8448x128 .bf16) :
    { Y : BitVec 1 × Vec F S1x512x256 .bf16 × Vec F S1x512x256 .bf16 //
      ∀ (E : Set ℕ) (K : PUnit → sProp 𝕄),
    iprop(owns (c : Thread nD τ) arg3 fullShare x0 ∗ owns (c : Thread nD τ) arg4 fullShare x1 ∗ owns (c : Thread nD τ) arg5 fullShare x2
        ∗ (∃ d, owns (c : Thread nD τ) arg6 fullShare d) ∗ (∃ d, owns (c : Thread nD τ) arg7 fullShare d)
        ∗ (∃ d, owns (c : Thread nD τ) arg8 fullShare d) ∗ (∃ d, owns (c : Thread nD τ) arg9 fullShare d)
        ∗ (iprop(owns (c : Thread nD τ) arg3 fullShare x0 ∗ owns (c : Thread nD τ) arg4 fullShare x1 ∗ owns (c : Thread nD τ) arg5 fullShare x2
          ∗ owns (c : Thread nD τ) arg6 fullShare (if Y.1 = 1#1 then Y.2.1 else Y.2.2) ∗ (∃ d, owns (c : Thread nD τ) arg7 fullShare d)
          ∗ (∃ d, owns (c : Thread nD τ) arg8 fullShare d) ∗ (∃ d, owns (c : Thread nD τ) arg9 fullShare d)) -∗ K ⟨⟩))
      ⊢ wp frame (wpE (defs₀ (F := F)) Variants.none c none) E (cc0_flash_attention i arg3 harg3 arg4 harg4 arg5 harg5 arg6 harg6 arg7 harg7 arg8 harg8 arg9 harg9) K } := by
  refine ⟨⟨?cnd, ?y1, ?y2⟩, fun E K => ?run⟩
  rotate_left 3
  sl_unfold [cc0_flash_attention]
  unfold owns
  iintro ⟨⟨%f3, %hf3, H3⟩, ⟨%f4, %hf4, H4⟩, ⟨%f5, %hf5, H5⟩, ⟨%d6, %f6, -, H6⟩, ⟨%d7, %f7, -, H7⟩, ⟨%d8, %f8, -, H8⟩, ⟨%d9, %f9, -, H9⟩, Hk⟩
  obtain rfl := harg3.eq_unread hf3; obtain rfl := harg4.eq_unread hf4; obtain rfl := harg5.eq_unread hf5
  sl_exec
  case cnd => exact kernelRun.sl.v233 c arg3 harg3 arg4 harg4 arg5 harg5 arg7 x0 x1 x2
  case y2 => exact View.canon [⟨Rect.unit ![0, 0, 128] S1x512x128.size inb_S1x512x256_S1x512x128_0_0_128,
            k0_pay1 kernelRun.sl.v205 (kernelRun.sl.r_12 c arg3 harg3 arg4 harg4 arg5 harg5 arg7 x0 x1 x2)
              (kernelRun.sl.r_13 c arg3 harg3 arg4 harg4 arg5 harg5 arg7 x0 x1 x2) 64#32⟩,
          ⟨Rect.unit ![0, 0, 0] S1x512x128.size inb_S1x512x256_S1x512x128_0_0_0,
            k0_pay35 (kernelRun.sl.r_9 c arg3 harg3 arg4 harg4 arg5 harg5 arg7 x0 x1 x2)
              (kernelRun.sl.v182 c arg3 harg3 arg4 harg4 arg7 x0 x1)
              (View.readAt (Elt F) arg5.view
                (Rect.unit (s := S1x1x8448x128) ![0, 0, 6912, 0] S1x1x768x128.size inb_S1x1x8448x128_S1x1x768x128_0_0_6912_0).toLoadRect
                (harg5.unread x2))
              (kernelRun.sl.v192 c arg3 harg3 arg4 harg4 arg7 x0 x1)
              (View.readAt (Elt F) arg5.view
                (Rect.unit (s := S1x1x8448x128) ![0, 0, 7680, 0] S1x1x768x128.size inb_S1x1x8448x128_S1x1x768x128_0_0_7680_0).toLoadRect
                (harg5.unread x2))⟩]
  by_cases hc : kernelRun.sl.v233 c arg3 harg3 arg4 harg4 arg5 harg5 arg7 x0 x1 x2 = 1#1
  · sl_exec
    sl_step
    iapply Hk
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr
      swap; · iexact H6
      ipureintro
      refine Eq.trans ?_ (if_pos hc).symm
      refine (View.read_writes_eq_canon _ _ _ ?cov).trans ?eq
      case eq => rfl
      case cov => exact View.cover_of_tiled _ S1x512x128.size (by rfl)
    isplitl [H7]
    · iexists _, _; isplitr
      swap; · iexact H7
      ipureintro; rfl
    isplitl [H8]
    · iexists _, _; isplitr
      swap; · iexact H8
      ipureintro; rfl
    iexists _, _; isplitr
    swap; · iexact H9
    ipureintro; rfl
  · sl_exec
    sl_step
    iapply Hk
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr
      swap; · iexact H6
      ipureintro
      refine Eq.trans ?_ (if_neg hc).symm
      exact View.read_writes_eq_canon _ _ _ (View.cover_of_tiled _ S1x512x128.size (by rfl))
    isplitl [H7]
    · iexists _, _; isplitr
      swap; · iexact H7
      ipureintro; rfl
    isplitl [H8]
    · iexists _, _; isplitr
      swap; · iexact H8
      ipureintro; rfl
    iexists _, _; isplitr
    swap; · iexact H9
    ipureintro; rfl

end Cert.KernelIdeal.Body

end
-- ==== Proof.FlashRun.lean ====
/-
  The attention call's run: its proof data, the body's obligation, the frame.
-/
module

public import proofs.«01_k».proof.Proof.Gen.KernelIdeal.Frame
public import proofs.«01_k».proof.Proof.Gen.KernelIdeal.Loops
public import proofs.«01_k».proof.Proof.Gen.KernelIdeal.Points
public import proofs.«01_k».proof.Proof.FlashBody
public import Idealize.ShloMosaic.Lib.Claim
public import Idealize.ShloMosaic.Lib.Tactic

@[expose] public section

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers at a point -/

abbrev hs0_0 (t : Fin cfg0.N) : (st0_0 t).IsWhole := hstage0_0 ((cfg0.slots t 0).cast nbuf0_0)
abbrev hs0_1 (t : Fin cfg0.N) : (st0_1 t).IsWhole := hstage0_1 ((cfg0.slots t 1).cast nbuf0_1)
abbrev hs0_2 (t : Fin cfg0.N) : (st0_2 t).IsWhole := hstage0_2 ((cfg0.slots t 2).cast nbuf0_2)
abbrev hs0_3 (t : Fin cfg0.N) : (st0_3 t).IsWhole := hstage0_3 ((cfg0.slots t 3).cast nbuf0_3)

/-- What the run finds at point `t`: the body on the point's buffers and blocks. -/
abbrev runAt (c : Dev nD) (t : Fin cfg0.N) :=
  kernelRun c (grid0.coords t) (st0_0 t) (hs0_0 t) (st0_1 t) (hs0_1 t) (st0_2 t) (hs0_2 t) (st0_3 t) (hs0_3 t)
    (Memref.whole cc0_scratch0) (Memref.isWhole_whole _) (Memref.whole cc0_scratch1) (Memref.isWhole_whole _)
    (Memref.whole cc0_scratch2) (Memref.isWhole_whole _) (X0_0 m c t) (iblk m c 1 t) (iblk m c 2 t)

/-- What the body leaves in the result's buffer at point `t`. -/
def outsAt (c : Dev nD) (t : Fin cfg0.N) : Vec F S1x512x256 .bf16 :=
  if (runAt m c t).1.1 = 1#1 then (runAt m c t).1.2.1 else (runAt m c t).1.2.2

/-- The run's proof data: the arrays as the call finds them; after the body each input's buffer at its block and
    the result's at `outsAt`; the scratch buffers at anything; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => X0_0 m c t
    | ⟨1, _⟩ => iblk m c 1 t
    | ⟨2, _⟩ => iblk m c 2 t
    | ⟨3, _⟩ => outsAt m c t
  Φ _ := Pipeline.ΦA spec0 c
  q _ := fullShare
  owed _ := 0

theorem A_eq (c : Dev nD) (w : Fin cfg0.W) : (dats m 0 c).A w = V m c (Pipeline.arrRef spec0 w) := by dsimp only [dats]
theorem after0_0 (c : Dev nD) (t : Fin cfg0.N) : (dats m 0 c).after 0 t = X0_0 m c t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = outsAt m c t := by dsimp only [dats]

/-- Each input's buffer holds its block when the body runs. -/
theorem before0_0 (c : Dev nD) (t : Fin cfg0.N) (d) : (dats m 0 c).before 0 t d = X0_0 m c t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

/-- The body's obligation at a point. -/
theorem sound_body (c : Dev nD) (t : Fin cfg0.N) :
    iprop((dats m 0 c).Φ t.castSucc ∗ (dats m 0 c).owesAt () t.castSucc
      ∗ (∃ d, owns (c : Thread nD τ) (st0_0 t) fullShare ((dats m 0 c).before 0 t d))
      ∗ (∃ d, owns (c : Thread nD τ) (st0_1 t) fullShare ((dats m 0 c).before 1 t d))
      ∗ (∃ d, owns (c : Thread nD τ) (st0_2 t) fullShare ((dats m 0 c).before 2 t d))
      ∗ (∃ d, owns (c : Thread nD τ) (st0_3 t) fullShare ((dats m 0 c).before 3 t d)))
    ⊢ wp frame (wpE (defs₀ (F := F)) Variants.none c none) Set.univ (bodyAt0 t) (fun _ =>
      iprop((dats m 0 c).Φ t.succ ∗ (dats m 0 c).owesAt () t.succ
      ∗ owns (c : Thread nD τ) (st0_0 t) fullShare ((dats m 0 c).after 0 t)
      ∗ owns (c : Thread nD τ) (st0_1 t) fullShare ((dats m 0 c).after 1 t)
      ∗ owns (c : Thread nD τ) (st0_2 t) fullShare ((dats m 0 c).after 2 t)
      ∗ owns (c : Thread nD τ) (st0_3 t) fullShare ((dats m 0 c).after 3 t))) := by
  unfold bodyAt0
  simp only [before0_0, before0_1, before0_2]
  rw [show (dats m 0 c).Φ t.succ = Pipeline.ΦA spec0 c from rfl,
    show (dats m 0 c).Φ t.castSucc = Pipeline.ΦA spec0 c from rfl,
    show (dats m 0 c).owesAt () t.succ = (dats m 0 c).owesAt () t.castSucc from rfl,
    after0_0, after0_1, after0_2, after0_3]
  unfold Pipeline.ΦA
  rw [scopedRest0_eq]
  simp only [← owns_whole]
  iintro ⟨⟨⟨HS0, HS1, HS2⟩, Hr⟩, HO, ⟨%d0, W0⟩, ⟨%d1, W1⟩, ⟨%d2, W2⟩, W3⟩
  iapply (kernelRun c (grid0.coords t) (st0_0 t) (hs0_0 t) (st0_1 t) (hs0_1 t) (st0_2 t) (hs0_2 t) (st0_3 t) (hs0_3 t)
    (Memref.whole cc0_scratch0) (Memref.isWhole_whole _) (Memref.whole cc0_scratch1) (Memref.isWhole_whole _)
    (Memref.whole cc0_scratch2) (Memref.isWhole_whole _) (X0_0 m c t) (iblk m c 1 t) (iblk m c 2 t)).2 Set.univ
  iframe W0 W1 W2
  isplitl [W3]
  · icases W3 with ⟨%d3, W3⟩; iexists _; iexact W3
  iframe HS0 HS1 HS2
  iintro ⟨W0, W1, W2, W3, HS0, HS1, HS2⟩
  iframe HO W0 W1 W2 Hr HS0 HS1 HS2
  iexact W3

theorem body_obligation (c : Dev nD) : BodyObligation (dats m 0 c) (defs₀ (F := F)) Variants.none () Set.univ := fun t => by
  rw [bigSep_W0, bigSep_W0]
  sl_whnfR [defs₀, Defs.onTc]
  exact sound_body m c t

set_option backward.isDefEq.respectTransparency.types false in
/-- Every weakly fair run of the program ends, with the result's array as the proof data say and the counters zero. -/
theorem run_main : θ_run defs (onTc main) (s₀ m ρ) (fun r => Pipeline.FramePost cfgs (dats m) 0 (V m) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := fun _ _ => rfl) (hΦ := fun _ _ => rfl)

end Cert.KernelIdeal.Body

end
-- ==== Proof.FlashVals.lean ====
/-
  What the attention body leaves in the result's buffer, as a fold over the eleven chunks of the keys.
-/
module

public import proofs.«01_k».proof.Proof.Gen.KernelIdeal.Frame
public import proofs.«01_k».proof.Proof.Gen.KernelIdeal.Loops
public import proofs.«01_k».proof.Proof.Gen.KernelIdeal.Points
public import proofs.«01_k».proof.Proof.FlashBody
public import Idealize.ShloMosaic.Lib.Claim
public import Idealize.ShloMosaic.Lib.Pipeline.ReadBack
public import Idealize.ShloMosaic.Lib.Pipeline.ValueKit
public import Idealize.ShloMosaic.Lib.Tactic

@[expose] public section

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Pointwise
open Idealize.ShloMosaic.Pipeline (Dat Cfg Window BodyObligation cellOf)

variable {F : FTy → Type} [FloatOps F]

local notation "𝕄" => MT nD τ sig Unit (Elt F) ℕ (UR sig nD τ) ℕ

/-! ## The chunks and the folds -/

theorem inbK (n : ℕ) : ∀ a, (![0, 0, 0, 768 * (n % 11)] : Fin 4 → ℕ) a + S1x1x128x768.size a ≤ S1x1x128x8448.size a := by
  intro a; fin_cases a <;> simp [Shape.size] <;> omega
theorem inbV (n : ℕ) : ∀ a, (![0, 0, 768 * (n % 11), 0] : Fin 4 → ℕ) a + S1x1x768x128.size a ≤ S1x1x8448x128.size a := by
  intro a; fin_cases a <;> simp [Shape.size] <;> omega

/-- The `n`-th chunk of the keys. -/
def kb (x1 : Vec F S1x1x128x8448 .bf16) (n : ℕ) : Vec F S1x1x128x768 .bf16 :=
  View.ld x1 (Rect.unit (s := S1x1x128x8448) ![0, 0, 0, 768 * (n % 11)] S1x1x128x768.size (inbK n))
/-- The `n`-th chunk of the values. -/
def vb (x2 : Vec F S1x1x8448x128 .bf16) (n : ℕ) : Vec F S1x1x768x128 .bf16 :=
  View.ld x2 (Rect.unit (s := S1x1x8448x128) ![0, 0, 768 * (n % 11), 0] S1x1x768x128.size (inbV n))

/-- The scores of the queries against the `n`-th chunk, as the slot of the score buffer holds them. -/
def slot (q : FVec F S2048x128 .bf16) (x1 : Vec F S1x1x128x8448 .bf16) (n : ℕ) : Vec F S1x2048x768 .f32 :=
  shapeCast S1x2048x768 (k0_pay5 q (kb x1 n)) shapeCasts_S2048x768_S1x2048x768

/-- One chunk added to the sums: the powers of two of its scores times its values. -/
def stp (a : FVec F S2048x128 .f32) (s : Vec F S1x2048x768 .f32) (v : Vec F S1x1x768x128 .bf16) : FVec F S2048x128 .f32 :=
  addf a (matmul dot_S2048x768_S768x128_S2048x128_1_0_0_1_n_n none
    (truncf .bf16 (exp2 (shapeCast S2048x768 s shapeCasts_S1x2048x768_S2048x768)) bitsLt_bf16_f32)
    (shapeCast S768x128 v shapeCasts_S1x1x768x128_S768x128) (constant S2048x128 .f32 0x00000000#32))

/-- The direct sums after `n` chunks. -/
def accD (x0 : Vec F S1x4x512x128 .bf16) (x1 : Vec F S1x1x128x8448 .bf16) (x2 : Vec F S1x1x8448x128 .bf16) : ℕ → FVec F S2048x128 .f32
  | 0 => k0_pay14
  | n + 1 => stp (accD x0 x1 x2 n) (slot (k0_pay12 x0) x1 n) (vb x2 n)

/-- The rescaled sums and the running maxima after `n` chunks. -/
def accO (x0 : Vec F S1x4x512x128 .bf16) (x1 : Vec F S1x1x128x8448 .bf16) (x2 : Vec F S1x1x8448x128 .bf16) :
    ℕ → FVec F S2048x128 .f32 × FVec F S2048x128 .f32
  | 0 => (k0_pay4, k0_pay3)
  | n + 1 => (k0_pay7 (k0_pay12 x0) (kb x1 n) (accO x0 x1 x2 n).2 (accO x0 x1 x2 n).1 (vb x2 n),
      k0_pay8 (k0_pay12 x0) (kb x1 n) (accO x0 x1 x2 n).2)

/-- The block written from sums `D`: each divided by its row's sum in lane 64, the four heads side by side. -/
def outOf (D : Vec F S2048x128 .f32) : Vec F S1x512x256 .bf16 :=
  View.canon [(⟨Rect.unit (s := S1x512x256) ![0, 0, 128] S1x512x128.size inb_S1x512x256_S1x512x128_0_0_128, k0_pay11 D⟩ : View.Piece (Elt F) S1x512x256 .bf16),
    ⟨Rect.unit (s := S1x512x256) ![0, 0, 0] S1x512x128.size inb_S1x512x256_S1x512x128_0_0_0, k0_pay10 D⟩]

variable (c : Dev nD) (i : grid0.Coords)
    (arg3 : Memref sig .tc .vmem S1x4x512x128 .bf16) (harg3 : arg3.IsWhole) (arg4 : Memref sig .tc .vmem S1x1x128x8448 .bf16) (harg4 : arg4.IsWhole)
    (arg5 : Memref sig .tc .vmem S1x1x8448x128 .bf16) (harg5 : arg5.IsWhole) (arg6 : Memref sig .tc .vmem S1x512x256 .bf16) (harg6 : arg6.IsWhole)
    (arg7 : Memref sig .tc .vmem S2x2048x768 .f32) (harg7 : arg7.IsWhole) (arg8 : Memref sig .tc .vmem S2048x128 .f32) (harg8 : arg8.IsWhole)
    (arg9 : Memref sig .tc .vmem S2048x128 .f32) (harg9 : arg9.IsWhole)
    (x0 : Vec F S1x4x512x128 .bf16) (x1 : Vec F S1x1x128x8448 .bf16) (x2 : Vec F S1x1x8448x128 .bf16)

include harg3 in
theorem rd3 : View.readAt (Elt F) arg3.view (Rect.unit (s := S1x4x512x128) ![0, 0, 0, 0] S1x4x512x128.size inb_S1x4x512x128_S1x4x512x128_0_0_0_0).toLoadRect (harg3.unread x0) = x0 := by
  rw [View.readAt_eq_ld, harg3.read_unread, View.ld_unit_lit]; intro a; fin_cases a <;> rfl
theorem rd4 (n : ℕ) (off : Fin 4 → ℕ) (h : off = ![0, 0, 0, 768 * (n % 11)]) (inb) :
    View.readAt (Elt F) arg4.view (Rect.unit (s := S1x1x128x8448) off S1x1x128x768.size inb).toLoadRect (harg4.unread x1) = kb x1 n := by
  subst h; rw [View.readAt_eq_ld, harg4.read_unread]; rfl
theorem rd5 (n : ℕ) (off : Fin 4 → ℕ) (h : off = ![0, 0, 768 * (n % 11), 0]) (inb) :
    View.readAt (Elt F) arg5.view (Rect.unit (s := S1x1x8448x128) off S1x1x768x128.size inb).toLoadRect (harg5.unread x2) = vb x2 n := by
  subst h; rw [View.readAt_eq_ld, harg5.read_unread]; rfl

/-! ## The direct sums -/

theorem r_eq : kernelRun.sl.r c arg3 harg3 x0 = k0_pay12 x0 := by
  rw [kernelRun.sl.r, rd3]

theorem v20_eq : kernelRun.sl.v20 c arg3 harg3 arg4 harg4 arg7 x0 x1 = slot (k0_pay12 x0) x1 0 := by
  rw [kernelRun.sl.v20, kernelRun.sl.H7_2]
  rw [View.readCov_skip _ _ _ _ _ (by rfl)]
  rw [View.readCov_cons_toLoadRect]
  rw [rd3, rd4 arg4 harg4 x1 0 _ rfl]
  rfl

theorem v38_eq : kernelRun.sl.v38 c arg3 harg3 arg4 harg4 arg7 x0 x1 = slot (k0_pay12 x0) x1 1 := by
  rw [kernelRun.sl.v38, kernelRun.sl.H7_3]
  rw [View.readCov_skip _ _ _ _ _ (by rfl)]
  rw [kernelRun.sl.H7_2]
  rw [View.readCov_cons_toLoadRect]
  rw [rd3, rd4 arg4 harg4 x1 1 _ rfl]
  rfl

theorem v56_eq : kernelRun.sl.v56 c arg3 harg3 arg4 harg4 arg7 x0 x1 = slot (k0_pay12 x0) x1 2 := by
  rw [kernelRun.sl.v56, kernelRun.sl.H7_4]
  rw [View.readCov_skip _ _ _ _ _ (by rfl)]
  rw [kernelRun.sl.H7_3]
  rw [View.readCov_cons_toLoadRect]
  simp only [r_eq, rd3, rd4 arg4 harg4 x1 2 _ rfl]
  rfl

theorem v74_eq : kernelRun.sl.v74 c arg3 harg3 arg4 harg4 arg7 x0 x1 = slot (k0_pay12 x0) x1 3 := by
  rw [kernelRun.sl.v74, kernelRun.sl.H7_5]
  rw [View.readCov_skip _ _ _ _ _ (by rfl)]
  rw [kernelRun.sl.H7_4]
  rw [View.readCov_cons_toLoadRect]
  simp only [r_eq, rd3, rd4 arg4 harg4 x1 3 _ rfl]
  rfl

theorem v92_eq : kernelRun.sl.v92 c arg3 harg3 arg4 harg4 arg7 x0 x1 = slot (k0_pay12 x0) x1 4 := by
  rw [kernelRun.sl.v92, kernelRun.sl.H7_6]
  rw [View.readCov_skip _ _ _ _ _ (by rfl)]
  rw [kernelRun.sl.H7_5]
  rw [View.readCov_cons_toLoadRect]
  simp only [r_eq, rd3, rd4 arg4 harg4 x1 4 _ rfl]
  rfl

theorem v110_eq : kernelRun.sl.v110 c arg3 harg3 arg4 harg4 arg7 x0 x1 = slot (k0_pay12 x0) x1 5 := by
  rw [kernelRun.sl.v110, kernelRun.sl.H7_7]
  rw [View.readCov_skip _ _ _ _ _ (by rfl)]
  rw [kernelRun.sl.H7_6]
  rw [View.readCov_cons_toLoadRect]
  simp only [kernelRun.sl.r_5, r_eq, rd3, rd4 arg4 harg4 x1 5 _ rfl]
  rfl

theorem v128_eq : kernelRun.sl.v128 c arg3 harg3 arg4 harg4 arg7 x0 x1 = slot (k0_pay12 x0) x1 6 := by
  rw [kernelRun.sl.v128, kernelRun.sl.H7_8]
  rw [View.readCov_skip _ _ _ _ _ (by rfl)]
  rw [kernelRun.sl.H7_7]
  rw [View.readCov_cons_toLoadRect]
  simp only [r_eq, rd3, rd4 arg4 harg4 x1 6 _ rfl]
  rfl

theorem v146_eq : kernelRun.sl.v146 c arg3 harg3 arg4 harg4 arg7 x0 x1 = slot (k0_pay12 x0) x1 7 := by
  rw [kernelRun.sl.v146, kernelRun.sl.H7_9]
  rw [View.readCov_skip _ _ _ _ _ (by rfl)]
  rw [kernelRun.sl.H7_8]
  rw [View.readCov_cons_toLoadRect]
  simp only [r_eq, rd3, rd4 arg4 harg4 x1 7 _ rfl]
  rfl

theorem v164_eq : kernelRun.sl.v164 c arg3 harg3 arg4 harg4 arg7 x0 x1 = slot (k0_pay12 x0) x1 8 := by
  rw [kernelRun.sl.v164, kernelRun.sl.H7_10]
  rw [View.readCov_skip _ _ _ _ _ (by rfl)]
  rw [kernelRun.sl.H7_9]
  rw [View.readCov_cons_toLoadRect]
  simp only [r_eq, rd3, rd4 arg4 harg4 x1 8 _ rfl]
  rfl

theorem v182_eq : kernelRun.sl.v182 c arg3 harg3 arg4 harg4 arg7 x0 x1 = slot (k0_pay12 x0) x1 9 := by
  rw [kernelRun.sl.v182, kernelRun.sl.H7_11]
  rw [View.readCov_skip _ _ _ _ _ (by rfl)]
  rw [kernelRun.sl.H7_10]
  rw [View.readCov_cons_toLoadRect]
  simp only [r_eq, rd3, rd4 arg4 harg4 x1 9 _ rfl]
  rfl

theorem v192_eq : kernelRun.sl.v192 c arg3 harg3 arg4 harg4 arg7 x0 x1 = slot (k0_pay12 x0) x1 10 := by
  rw [kernelRun.sl.v192, kernelRun.sl.H7_11]
  rw [View.readCov_cons_toLoadRect]
  simp only [kernelRun.sl.r_10, r_eq, rd3, rd4 arg4 harg4 x1 10 _ rfl]
  rfl

theorem r_9_eq : kernelRun.sl.r_9 c arg3 harg3 arg4 harg4 arg5 harg5 arg7 x0 x1 x2 = accD x0 x1 x2 9 := by
  simp only [kernelRun.sl.r_9, kernelRun.sl.r_8, kernelRun.sl.r_7, kernelRun.sl.r_6, kernelRun.sl.r_4, kernelRun.sl.r_3, kernelRun.sl.r_2,
    kernelRun.sl.r_1, v20_eq, v38_eq, v56_eq, v74_eq, v92_eq, v110_eq, v128_eq, v146_eq, v164_eq, rd5 arg5 harg5 x2 0 _ rfl,
    rd5 arg5 harg5 x2 1 _ rfl, rd5 arg5 harg5 x2 2 _ rfl, rd5 arg5 harg5 x2 3 _ rfl, rd5 arg5 harg5 x2 4 _ rfl, rd5 arg5 harg5 x2 5 _ rfl,
    rd5 arg5 harg5 x2 6 _ rfl, rd5 arg5 harg5 x2 7 _ rfl, rd5 arg5 harg5 x2 8 _ rfl]
  rfl

/-! ## The loop's sums -/

theorem trip8 (v2 : FVec F S2048x128 .bf16) (X4 X5) (k : Fin k0_t1_loop.trips) (f8 : BufTy.Contents (Elt F) arg8.view.ty) (f9 : BufTy.Contents (Elt F) arg9.view.ty) :
    (trip_k0_t1 Variants.none c none i arg3 harg3 arg4 harg4 arg5 harg5 arg6 harg6 arg7 harg7 arg8 harg8 arg9 harg9 v2 X4 X5 k).1 f8 f9
    = [⟨Rect.unit ![0, 0] ![2048, 128] inb_S2048x128_S2048x128_0_0,
        k0_pay7 v2 (View.readAt (Elt F) arg4.view (Rect.unit (s := S1x1x128x8448) (k0_off1 k) S1x1x128x768.size (k0_off1_inb k)).toLoadRect X4)
          (View.readAt (Elt F) arg9.view (Rect.unit (s := S2048x128) ![0, 0] S2048x128.size inb_S2048x128_S2048x128_0_0).toLoadRect f9)
          (View.readAt (Elt F) arg8.view (Rect.unit (s := S2048x128) ![0, 0] S2048x128.size inb_S2048x128_S2048x128_0_0).toLoadRect f8)
          (View.readAt (Elt F) arg5.view (Rect.unit (s := S1x1x8448x128) (k0_off2 k) S1x1x768x128.size (k0_off2_inb k)).toLoadRect X5)⟩] := by
  unfold trip_k0_t1
  rfl
theorem trip9 (v2 : FVec F S2048x128 .bf16) (X4 X5) (k : Fin k0_t1_loop.trips) (f8 : BufTy.Contents (Elt F) arg8.view.ty) (f9 : BufTy.Contents (Elt F) arg9.view.ty) :
    (trip_k0_t1 Variants.none c none i arg3 harg3 arg4 harg4 arg5 harg5 arg6 harg6 arg7 harg7 arg8 harg8 arg9 harg9 v2 X4 X5 k).2.1 f8 f9
    = [⟨Rect.unit ![0, 0] ![2048, 128] inb_S2048x128_S2048x128_0_0,
        k0_pay8 v2 (View.readAt (Elt F) arg4.view (Rect.unit (s := S1x1x128x8448) (k0_off1 k) S1x1x128x768.size (k0_off1_inb k)).toLoadRect X4)
          (View.readAt (Elt F) arg9.view (Rect.unit (s := S2048x128) ![0, 0] S2048x128.size inb_S2048x128_S2048x128_0_0).toLoadRect f9)⟩] := by
  unfold trip_k0_t1
  rfl

theorem trips_eq : k0_t1_loop.trips = 11 := by decide +kernel
theorem off1_eq (k : Fin k0_t1_loop.trips) : k0_off1 k = ![0, 0, 0, 768 * (k.val % 11)] := by
  revert k; decide +kernel
theorem off2_eq (k : Fin k0_t1_loop.trips) : k0_off2 k = ![0, 0, 768 * (k.val % 11), 0] := by
  revert k; decide +kernel

theorem mem_whole (inb) (y : S2048x128.Idx) : y ∈ (Rect.unit (s := S2048x128) ![0, 0] S2048x128.size inb).set :=
  View.mem_set_unit_zero (S := S2048x128) (by funext a; fin_cases a <;> rfl) inb y

theorem read_whole_cons {m : Memref sig .tc .vmem S2048x128 .f32} (f : BufTy.Contents (Elt F) m.view.ty) (inb) (w : S2048x128.Idx → Elt F .f32)
    (L : List (View.Piece (Elt F) S2048x128 .f32)) :
    View.read (Elt F) m.view (m.view.writes (Elt F) f (⟨Rect.unit (s := S2048x128) ![0, 0] S2048x128.size inb, w⟩ :: L)) = w := by
  have h0 : (![0, 0] : Fin 2 → ℕ) = fun _ => 0 := by funext a; fin_cases a <;> rfl
  rw [View.read_writes_eq_canon _ _ _ (fun y => ⟨⟨Rect.unit (s := S2048x128) ![0, 0] S2048x128.size inb, w⟩, List.mem_cons_self, mem_whole inb y⟩)]
  exact View.canon_cons_unit_zero h0 inb w L

theorem readAt_whole {m : Memref sig .tc .vmem S2048x128 .f32} (f : BufTy.Contents (Elt F) m.view.ty) (inb) :
    View.readAt (Elt F) m.view (Rect.unit (s := S2048x128) ![0, 0] S2048x128.size inb).toLoadRect f = View.read (Elt F) m.view f := by
  have h0 : (![0, 0] : Fin 2 → ℕ) = fun _ => 0 := by funext a; fin_cases a <;> rfl
  rw [View.readAt_eq_ld]; exact View.ld_unit_zero h0 inb _

/-- After `n` trips the two scratch buffers read the rescaled sums and the running maxima. -/
theorem loop_reads (n : ℕ) (hn : n ≤ 11) (G8 : BufTy.Contents (Elt F) arg8.view.ty) (G9 : BufTy.Contents (Elt F) arg9.view.ty)
    (h8 : View.read (Elt F) arg8.view G8 = k0_pay4) (h9 : View.read (Elt F) arg9.view G9 = k0_pay3) :
    View.read (Elt F) arg8.view (arg8.view.writes (Elt F) G8 (pb_k0_t1 Variants.none c none i arg3 harg3 arg4 harg4 arg5 harg5 arg6 harg6 arg7 harg7 arg8 harg8 arg9 harg9 (k0_pay12 x0) (harg4.unread x1) (harg5.unread x2) G8 G9 n).1) = (accO x0 x1 x2 n).1
    ∧ View.read (Elt F) arg9.view (arg9.view.writes (Elt F) G9 (pb_k0_t1 Variants.none c none i arg3 harg3 arg4 harg4 arg5 harg5 arg6 harg6 arg7 harg7 arg8 harg8 arg9 harg9 (k0_pay12 x0) (harg4.unread x1) (harg5.unread x2) G8 G9 n).2) = (accO x0 x1 x2 n).2 := by
  induction n with
  | zero => exact ⟨h8, h9⟩
  | succ n ih =>
    obtain ⟨i8, i9⟩ := ih (by omega)
    have hk : n < k0_t1_loop.trips := by rw [trips_eq]; omega
    have hs := pb_k0_t1_succ Variants.none c none i arg3 harg3 arg4 harg4 arg5 harg5 arg6 harg6 arg7 harg7 arg8 harg8 arg9 harg9 (k0_pay12 x0) (harg4.unread x1) (harg5.unread x2) G8 G9 ⟨n, hk⟩
    dsimp only at hs
    rw [hs]
    dsimp only [tripL_k0_t1]
    rw [trip8, trip9]
    refine ⟨(read_whole_cons _ _ _ _).trans ?_, (read_whole_cons _ _ _ _).trans ?_⟩
    · rw [readAt_whole, readAt_whole, i8, i9, rd4 arg4 harg4 x1 n _ (off1_eq ⟨n, hk⟩), rd5 arg5 harg5 x2 n _ (off2_eq ⟨n, hk⟩)]; rfl
    · rw [readAt_whole, i9, rd4 arg4 harg4 x1 n _ (off1_eq ⟨n, hk⟩)]; rfl

theorem v243_eq : kernelRun.sl.v243 c i arg3 harg3 arg4 harg4 arg5 harg5 arg6 harg6 arg7 harg7 arg8 harg8 arg9 harg9 x0 x1 x2 = (accO x0 x1 x2 11).1 := by
  rw [kernelRun.sl.v243, r_eq]
  have e8 : View.read (Elt F) arg8.view (arg8.view.writes (Elt F) arg8.view.junk (kernelRun.sl.H8_1 (F := F))) = k0_pay4 := by
    rw [kernelRun.sl.H8_1]; exact read_whole_cons _ _ _ _
  have e9 : View.read (Elt F) arg9.view (arg9.view.writes (Elt F) arg9.view.junk (kernelRun.sl.H9_1 (F := F))) = k0_pay3 := by
    rw [kernelRun.sl.H9_1]; exact read_whole_cons _ _ _ _
  have h := (loop_reads c i arg3 harg3 arg4 harg4 arg5 harg5 arg6 harg6 arg7 harg7 arg8 harg8 arg9 harg9 x0 x1 x2 11 le_rfl _ _ e8 e9).1
  rw [← View.writes_append] at h
  rw [← h, show Scf.trips k0_t1_loop.lb k0_t1_loop.ub k0_t1_loop.st = 11 from trips_eq]
  have h0 : (![0, 0] : Fin 2 → ℕ) = fun _ => 0 := by funext a; fin_cases a <;> rfl
  rw [View.readCov_eq_canon', View.read_writes_eq_canon]
  · exact View.ld_unit_zero h0 inb_S2048x128_S2048x128_0_0 _
  · rw [kernelRun.sl.H8_1]
    exact fun y => ⟨⟨Rect.unit (s := S2048x128) ![0, 0] S2048x128.size inb_S2048x128_S2048x128_0_0, k0_pay4⟩, List.mem_append_right _ List.mem_cons_self, mem_whole inb_S2048x128_S2048x128_0_0 y⟩

/-! ## The block the body leaves -/

/-- Two stores of the halves of the result's block decide it, whatever was stored before. -/
theorem canon_halves (w1 w0 : S1x512x128.Idx → Elt F .bf16) (L : List (View.Piece (Elt F) S1x512x256 .bf16)) (y : S1x512x256.Idx) :
    View.canon ((⟨Rect.unit (s := S1x512x256) ![0, 0, 128] S1x512x128.size inb_S1x512x256_S1x512x128_0_0_128, w1⟩ : View.Piece (Elt F) S1x512x256 .bf16)
      :: ⟨Rect.unit (s := S1x512x256) ![0, 0, 0] S1x512x128.size inb_S1x512x256_S1x512x128_0_0_0, w0⟩ :: L) y
    = if h : (y 2).val < 128 then w0 (ix3 ⟨0, by decide⟩ ⟨(y 1).val, (y 1).isLt⟩ ⟨(y 2).val, h⟩)
      else w1 (ix3 ⟨0, by decide⟩ ⟨(y 1).val, (y 1).isLt⟩ ⟨(y 2).val - 128, by have : (y 2).val < 256 := (y 2).isLt; simp; omega⟩) := by
  have y0 : (y 0).val = 0 := by have : (y 0).val < 1 := (y 0).isLt; omega
  split_ifs with h
  · rw [View.canon_cons_of_not_mem]
    · rw [← View.canon_cons_emb (Rect.unit (s := S1x512x256) ![0, 0, 0] S1x512x128.size inb_S1x512x256_S1x512x128_0_0_0) w0 L]
      congr 1
      funext a; apply Fin.ext; rw [Rect.emb_apply]; fin_cases a <;> simp [Rect.unit, y0]
    · rw [Rect.mem_set_unit]; intro hh; have := hh 2; simp at this; omega
  · rw [← View.canon_cons_emb (Rect.unit (s := S1x512x256) ![0, 0, 128] S1x512x128.size inb_S1x512x256_S1x512x128_0_0_128) w1]
    congr 1
    funext a; apply Fin.ext; rw [Rect.emb_apply]; fin_cases a <;> simp [Rect.unit, y0]; omega

theorem canon_tail (w1 w0 : S1x512x128.Idx → Elt F .bf16) (L : List (View.Piece (Elt F) S1x512x256 .bf16)) :
    View.canon ((⟨Rect.unit (s := S1x512x256) ![0, 0, 128] S1x512x128.size inb_S1x512x256_S1x512x128_0_0_128, w1⟩ : View.Piece (Elt F) S1x512x256 .bf16)
      :: ⟨Rect.unit (s := S1x512x256) ![0, 0, 0] S1x512x128.size inb_S1x512x256_S1x512x128_0_0_0, w0⟩ :: L)
    = View.canon [(⟨Rect.unit (s := S1x512x256) ![0, 0, 128] S1x512x128.size inb_S1x512x256_S1x512x128_0_0_128, w1⟩ : View.Piece (Elt F) S1x512x256 .bf16),
      ⟨Rect.unit (s := S1x512x256) ![0, 0, 0] S1x512x128.size inb_S1x512x256_S1x512x128_0_0_0, w0⟩] := by
  funext y; rw [canon_halves, canon_halves]

set_option maxHeartbeats 1000000 in
theorem found_direct : (kernelRun c i arg3 harg3 arg4 harg4 arg5 harg5 arg6 harg6 arg7 harg7 arg8 harg8 arg9 harg9 x0 x1 x2).1.2.2 = outOf (accD x0 x1 x2 11) := by
  have h : (kernelRun c i arg3 harg3 arg4 harg4 arg5 harg5 arg6 harg6 arg7 harg7 arg8 harg8 arg9 harg9 x0 x1 x2).1.2.2 = View.canon
    [⟨Rect.unit (s := S1x512x256) ![0, 0, 128] S1x512x128.size inb_S1x512x256_S1x512x128_0_0_128,
            k0_pay1 kernelRun.sl.v205 (kernelRun.sl.r_12 c arg3 harg3 arg4 harg4 arg5 harg5 arg7 x0 x1 x2)
              (kernelRun.sl.r_13 c arg3 harg3 arg4 harg4 arg5 harg5 arg7 x0 x1 x2) 64#32⟩,
          ⟨Rect.unit (s := S1x512x256) ![0, 0, 0] S1x512x128.size inb_S1x512x256_S1x512x128_0_0_0,
            k0_pay35 (kernelRun.sl.r_9 c arg3 harg3 arg4 harg4 arg5 harg5 arg7 x0 x1 x2)
              (kernelRun.sl.v182 c arg3 harg3 arg4 harg4 arg7 x0 x1)
              (View.readAt (Elt F) arg5.view
                (Rect.unit (s := S1x1x8448x128) ![0, 0, 6912, 0] S1x1x768x128.size inb_S1x1x8448x128_S1x1x768x128_0_0_6912_0).toLoadRect
                (harg5.unread x2))
              (kernelRun.sl.v192 c arg3 harg3 arg4 harg4 arg7 x0 x1)
              (View.readAt (Elt F) arg5.view
                (Rect.unit (s := S1x1x8448x128) ![0, 0, 7680, 0] S1x1x768x128.size inb_S1x1x8448x128_S1x1x768x128_0_0_7680_0).toLoadRect
                (harg5.unread x2))⟩] := rfl
  rw [h, kernelRun.sl.r_12, kernelRun.sl.r_13, r_9_eq, v182_eq, v192_eq, rd5 arg5 harg5 x2 9 _ rfl, rd5 arg5 harg5 x2 10 _ rfl]
  rfl

set_option maxHeartbeats 1000000 in
theorem found_loop : (kernelRun c i arg3 harg3 arg4 harg4 arg5 harg5 arg6 harg6 arg7 harg7 arg8 harg8 arg9 harg9 x0 x1 x2).1.2.1 = outOf (accO x0 x1 x2 11).1 := by
  have h : (kernelRun c i arg3 harg3 arg4 harg4 arg5 harg5 arg6 harg6 arg7 harg7 arg8 harg8 arg9 harg9 x0 x1 x2).1.2.1 = View.canon
    [⟨Rect.unit (s := S1x512x256) ![0, 0, 128] S1x512x128.size inb_S1x512x256_S1x512x128_0_0_128,
            kernelRun.sl.r_14 c i arg3 harg3 arg4 harg4 arg5 harg5 arg6 harg6 arg7 harg7 arg8 harg8 arg9 harg9 x0 x1 x2⟩,
          ⟨Rect.unit (s := S1x512x256) ![0, 0, 0] S1x512x128.size inb_S1x512x256_S1x512x128_0_0_0,
            k0_pay10 (kernelRun.sl.v243 c i arg3 harg3 arg4 harg4 arg5 harg5 arg6 harg6 arg7 harg7 arg8 harg8 arg9 harg9 x0 x1 x2)⟩,
    ⟨Rect.unit (s := S1x512x256) ![0, 0, 128] S1x512x128.size inb_S1x512x256_S1x512x128_0_0_128,
            k0_pay1 kernelRun.sl.v205 (kernelRun.sl.r_12 c arg3 harg3 arg4 harg4 arg5 harg5 arg7 x0 x1 x2)
              (kernelRun.sl.r_13 c arg3 harg3 arg4 harg4 arg5 harg5 arg7 x0 x1 x2) 64#32⟩,
          ⟨Rect.unit (s := S1x512x256) ![0, 0, 0] S1x512x128.size inb_S1x512x256_S1x512x128_0_0_0,
            k0_pay35 (kernelRun.sl.r_9 c arg3 harg3 arg4 harg4 arg5 harg5 arg7 x0 x1 x2)
              (kernelRun.sl.v182 c arg3 harg3 arg4 harg4 arg7 x0 x1)
              (View.readAt (Elt F) arg5.view
                (Rect.unit (s := S1x1x8448x128) ![0, 0, 6912, 0] S1x1x768x128.size inb_S1x1x8448x128_S1x1x768x128_0_0_6912_0).toLoadRect
                (harg5.unread x2))
              (kernelRun.sl.v192 c arg3 harg3 arg4 harg4 arg7 x0 x1)
              (View.readAt (Elt F) arg5.view
                (Rect.unit (s := S1x1x8448x128) ![0, 0, 7680, 0] S1x1x768x128.size inb_S1x1x8448x128_S1x1x768x128_0_0_7680_0).toLoadRect
                (harg5.unread x2))⟩] := rfl
  rw [h, kernelRun.sl.r_14, v243_eq]
  exact canon_tail _ _ _

end Cert.KernelIdeal.Body
end
-- ==== Proof.AttnMath.lean ====
/-
  The mathematics of the attention: sums of powers of two over the extended reals, with real scores and any values.
  Summing directly, rescaling by a running maximum, and dividing first by the sum of the weights give the same quotient.
-/
module

public import Idealize.ShloMosaic.PureOps.Ideal
public import Idealize.ShloMosaic.PureOps.Ideal.Laws

@[expose] public section

noncomputable section

namespace Cert.AttnMath

open Idealize.ShloMosaic

theorem mul_sum {ι : Type} (S : Finset ι) (c : ℝ) (hc : 0 ≤ c) (f : ι → EReal) :
    (c : EReal) * ∑ i ∈ S, f i = ∑ i ∈ S, (c : EReal) * f i := by
  classical
  induction S using Finset.induction_on with
  | empty => simp
  | insert a S ha ih =>
    rw [Finset.sum_insert ha, Finset.sum_insert ha, ← ih,
      EReal.left_distrib_of_nonneg_of_ne_top (by exact_mod_cast hc) (EReal.coe_ne_top c)]

theorem coe_sum {ι : Type} (S : Finset ι) (f : ι → ℝ) : ((∑ i ∈ S, f i : ℝ) : EReal) = ∑ i ∈ S, (f i : EReal) := by
  classical
  induction S using Finset.induction_on with
  | empty => simp
  | insert a S ha ih => rw [Finset.sum_insert ha, Finset.sum_insert ha, ← ih, EReal.coe_add]

/-- The largest of finitely many reals, one at least, is a real. -/
theorem fold_max_real {ι : Type} (S : Finset ι) (f : ι → ℝ) :
    (S = ∅ ∧ S.fold max ⊥ (fun i => (f i : EReal)) = ⊥) ∨ ∃ m : ℝ, S.fold max ⊥ (fun i => (f i : EReal)) = (m : EReal) := by
  classical
  induction S using Finset.induction_on with
  | empty => exact .inl ⟨rfl, rfl⟩
  | insert a S ha ih =>
    right
    rw [Finset.fold_insert ha]
    rcases ih with ⟨_, h⟩ | ⟨m, h⟩
    · exact ⟨f a, by rw [h]; simp⟩
    · exact ⟨max (f a) m, by rw [h, EReal.coe_strictMono.monotone.map_max]⟩

/-- The same beside an earlier maximum. -/
theorem max_fold_real {ι : Type} [Nonempty ι] [Fintype ι] (x : EReal) (hx : x = ⊥ ∨ ∃ m : ℝ, x = m) (f : ι → ℝ) :
    ∃ m : ℝ, max x (Finset.univ.fold max ⊥ fun i => (f i : EReal)) = (m : EReal) := by
  rcases fold_max_real Finset.univ f with ⟨h, _⟩ | ⟨m, h⟩
  · exact absurd h Finset.univ_nonempty.ne_empty
  · rcases hx with rfl | ⟨m', rfl⟩
    · exact ⟨m, by rw [h]; simp⟩
    · exact ⟨max m' m, by rw [h, EReal.coe_strictMono.monotone.map_max]⟩

/-- The power of two of a difference, as a factor. -/
theorem exp2_sub (s m : ℝ) : Ideal.exp2 ((s : EReal) - (m : EReal)) = ((2 : ℝ) ^ (-m) : ℝ) * Ideal.exp2 (s : EReal) := by
  rw [← EReal.coe_sub, Ideal.exp2_coe, Ideal.exp2_coe, ← EReal.coe_mul]
  congr 1
  show (2 : ℝ) ^ (s - m) = (2 : ℝ) ^ (-m) * (2 : ℝ) ^ s
  rw [← Real.rpow_add two_pos]; congr 1; ring

theorem scaled_sum {ι : Type} [Fintype ι] (s : ι → ℝ) (m : ℝ) (v : ι → EReal) :
    ∑ k, Ideal.exp2 ((s k : EReal) - (m : EReal)) * v k = ((2 : ℝ) ^ (-m) : ℝ) * ∑ k, Ideal.exp2 (s k : EReal) * v k := by
  rw [mul_sum _ _ (Real.rpow_nonneg two_pos.le _)]
  exact Finset.sum_congr rfl fun k _ => by rw [exp2_sub, mul_assoc]

/-- One step of the rescaled sums: from `o` at maximum `m` to maximum `m'`. -/
theorem rescale {ι : Type} [Fintype ι] (s : ι → ℝ) (v : ι → EReal) (a o x : EReal) (m' : ℝ)
    (h : (x = ⊥ ∧ o = 0 ∧ a = 0) ∨ ∃ m : ℝ, x = m ∧ o = ((2 : ℝ) ^ (-m) : ℝ) * a) :
    o * Ideal.exp2 (x - (m' : EReal)) + ∑ k, Ideal.exp2 ((s k : EReal) - (m' : EReal)) * v k
      = ((2 : ℝ) ^ (-m') : ℝ) * (a + ∑ k, Ideal.exp2 (s k : EReal) * v k) := by
  rw [EReal.left_distrib_of_nonneg_of_ne_top (by exact_mod_cast Real.rpow_nonneg two_pos.le _) (EReal.coe_ne_top _), scaled_sum]
  congr 1
  rcases h with ⟨rfl, rfl, rfl⟩ | ⟨m, rfl, rfl⟩
  · simp
  · rw [← EReal.coe_sub, Ideal.exp2_coe, mul_comm, ← mul_assoc, ← EReal.coe_mul]
    congr 2
    show (2 : ℝ) ^ (m - m') * (2 : ℝ) ^ (-m) = (2 : ℝ) ^ (-m')
    rw [← Real.rpow_add two_pos]; congr 1; ring

/-- The weighted mean of the values: the weights are the powers of two of the scores. -/
def mean {ι : Type} [Fintype ι] (s : ι → ℝ) (v : ι → EReal) : EReal :=
  ∑ i, (((2 : ℝ) ^ (s i) / ∑ j, (2 : ℝ) ^ (s j) : ℝ) : EReal) * v i

section
variable {ι : Type} [Fintype ι] [Nonempty ι] (s : ι → ℝ) (v u : ι → EReal)

theorem total_pos : 0 < ∑ j, (2 : ℝ) ^ (s j) :=
  Finset.sum_pos (fun j _ => Real.rpow_pos_of_pos two_pos _) Finset.univ_nonempty

theorem total_eq (hu : ∀ i, u i = 1) : ∑ i, Ideal.exp2 (s i : EReal) * u i = ((∑ j, (2 : ℝ) ^ (s j) : ℝ) : EReal) := by
  rw [coe_sum]
  exact Finset.sum_congr rfl fun i _ => by rw [hu, mul_one, Ideal.exp2_coe]; rfl

/-- The two sums, both scaled by a positive real, have the mean as their quotient. -/
theorem scaled_div (c : ℝ) (hc : 0 < c) (hu : ∀ i, u i = 1) :
    Ideal.div ((c : EReal) * ∑ i, Ideal.exp2 (s i : EReal) * v i) ((c : EReal) * ∑ i, Ideal.exp2 (s i : EReal) * u i) = mean s v := by
  have hT := total_pos s
  rw [total_eq s u hu, ← EReal.coe_mul, Ideal.div_coe (mul_pos hc hT).ne', mul_comm, ← mul_assoc, ← EReal.coe_mul,
    mul_sum _ _ (by positivity), mean]
  refine Finset.sum_congr rfl fun i _ => ?_
  rw [Ideal.exp2_coe, ← mul_assoc, ← EReal.coe_mul]
  congr 2
  show 1 / (c * ∑ j, (2 : ℝ) ^ (s j)) * c * (2 : ℝ) ^ (s i) = (2 : ℝ) ^ (s i) / ∑ j, (2 : ℝ) ^ (s j)
  field_simp

theorem direct_div (hu : ∀ i, u i = 1) :
    Ideal.div (∑ i, Ideal.exp2 (s i : EReal) * v i) (∑ i, Ideal.exp2 (s i : EReal) * u i) = mean s v := by
  have h := scaled_div s v u 1 one_pos hu
  simpa using h

/-- The softmax in base two of scores that differ from `s` by the shift `t`: each weight divided by the sum of the weights. -/
theorem softmax (s' : ι → ℝ) (t : ℝ) (hs : ∀ i, s i = s' i + t) :
    ∑ i, Ideal.div (Ideal.pow ((2 : ℝ) : EReal) ((s' i : EReal) - Finset.univ.fold max ⊥ fun j => (s' j : EReal)))
        (∑ j, Ideal.pow ((2 : ℝ) : EReal) ((s' j : EReal) - Finset.univ.fold max ⊥ fun j => (s' j : EReal))) * v i
      = mean s v := by
  obtain ⟨m, hm⟩ := max_fold_real ⊥ (.inl rfl) s'
  rw [max_bot_left] at hm
  rw [hm]
  have hp : ∀ i, Ideal.pow ((2 : ℝ) : EReal) ((s' i : EReal) - (m : EReal)) = (((2 : ℝ) ^ (-t - m) * (2 : ℝ) ^ (s i) : ℝ) : EReal) := by
    intro i
    rw [← EReal.coe_sub, Ideal.pow_coe_coe]
    congr 1
    show (2 : ℝ) ^ (s' i - m) = _
    rw [← Real.rpow_add two_pos, hs]; congr 1; ring
  simp only [hp]
  have hc : (0 : ℝ) < (2 : ℝ) ^ (-t - m) := Real.rpow_pos_of_pos two_pos _
  have hT := total_pos s
  rw [← coe_sum, ← Finset.mul_sum, mean]
  refine Finset.sum_congr rfl fun i _ => ?_
  rw [Ideal.div_coe (mul_pos hc hT).ne', ← EReal.coe_mul]
  congr 2
  field_simp
end

/-- Eleven chunks of 768 keys are the 8448 keys. -/
theorem sum_chunks (g : Fin 8448 → EReal) :
    ∑ n ∈ Finset.range 11, ∑ k : Fin 768, g ⟨768 * (n % 11) + k.val, by omega⟩ = ∑ j, g j := by
  rw [Finset.sum_range, ← Fintype.sum_prod_type']
  refine Fintype.sum_equiv (finProdFinEquiv (m := 11) (n := 768)) _ _ fun x => ?_
  congr 1
  ext
  simp only [finProdFinEquiv_apply_val]
  rw [Nat.mod_eq_of_lt x.1.isLt]; ring

/-- A sum of 128 terms as its first 64, the next and the last 63. -/
theorem sum_128 (F : Fin 128 → EReal) :
    ∑ d, F d = ∑ d : Fin 64, F ⟨d.val, by omega⟩ + (F 64 + ∑ d : Fin 63, F ⟨65 + d.val, by omega⟩) := by
  have e : ∑ d, F d = ∑ d : Fin (64 + 64), F d := rfl
  have e' : ∑ d : Fin 64, F (Fin.natAdd 64 d) = ∑ d : Fin (63 + 1), F ⟨64 + d.val, by omega⟩ := rfl
  rw [e, Fin.sum_univ_add, e', Fin.sum_univ_succ fun d : Fin (63 + 1) => F ⟨64 + d.val, by omega⟩]
  have e2 : ∀ d : Fin 63, F ⟨64 + d.succ.val, by have := d.succ.isLt; omega⟩ = F ⟨65 + d.val, by omega⟩ :=
    fun d => congrArg F (Fin.ext (by show 64 + (d.val + 1) = 65 + d.val; omega))
  rw [Finset.sum_congr rfl fun d _ => e2 d]
  rfl

/-- A product of 128 terms whose right factors are real in the first 64, one in the next and zero after it. -/
theorem dot_split (f g : Fin 128 → EReal) (hf : ∀ d : Fin 65, ∃ r : ℝ, f ⟨d.val, by omega⟩ = r)
    (hg : ∀ d : Fin 64, ∃ r : ℝ, g ⟨d.val, by omega⟩ = r) (h1 : g 64 = 1) (h0 : ∀ d : Fin 63, g ⟨65 + d.val, by omega⟩ = 0) :
    ∃ (s t : ℝ), ∑ d : Fin 64, f ⟨d.val, by omega⟩ * g ⟨d.val, by omega⟩ = (s : EReal) ∧ f 64 = t
      ∧ ∑ d, f d * g d = ((s + t : ℝ) : EReal) := by
  choose f' hf' using hf
  choose g' hg' using hg
  have hlow : ∑ d : Fin 64, f ⟨d.val, by omega⟩ * g ⟨d.val, by omega⟩ = ((∑ d : Fin 64, f' ⟨d.val, by omega⟩ * g' d : ℝ) : EReal) := by
    rw [coe_sum]
    refine Finset.sum_congr rfl fun d _ => ?_
    have e : f ⟨d.val, by omega⟩ = (f' ⟨d.val, by omega⟩ : EReal) := hf' ⟨d.val, by omega⟩
    rw [EReal.coe_mul, e, hg' d]
  refine ⟨∑ d : Fin 64, f' ⟨d.val, by omega⟩ * g' d, f' 64, hlow, hf' 64, ?_⟩
  rw [sum_128 fun d => f d * g d, hlow, EReal.coe_add]
  have hz : ∑ d : Fin 63, f ⟨65 + d.val, by omega⟩ * g ⟨65 + d.val, by omega⟩ = 0 :=
    Finset.sum_eq_zero fun d _ => by rw [h0 d, mul_zero]
  have e64 : f 64 = (f' 64 : EReal) := hf' 64
  show _ + (f 64 * g 64 + ∑ d : Fin 63, f ⟨65 + d.val, by omega⟩ * g ⟨65 + d.val, by omega⟩) = _
  rw [hz, h1, mul_one, add_zero, e64]

end Cert.AttnMath

end
-- ==== Proof.FlashIdeal.lean ====
/-
  The attention body's payloads at an index, over the extended reals.
-/
module

public import proofs.«01_k».proof.Proof.FlashVals
public import proofs.«01_k».proof.Proof.AttnMath
public import Idealize.ShloMosaic.Lib.Pointwise
public import Idealize.ShloMosaic.Lib.WordCmp

@[expose] public section

set_option maxRecDepth 16384

noncomputable section

namespace Cert.KernelIdeal.Body

open Cert.KernelIdeal Cert.KernelIdeal.Gen
open Idealize.ShloMosaic Idealize.ShloMosaic.TcCoe Idealize.ShloMosaic.Tactic
open Idealize.ShloMosaic.Pointwise

theorem ofBits_negInf : Ideal.ofBits FTy.f32 0xFF800000#32 = ⊥ := by
  simp [Ideal.ofBits, Ideal.ieee]

/-- The position in the whole array of keys of the `k`-th key of chunk `n`. -/
def kpos (n : ℕ) (k : Fin 768) : Fin 8448 := ⟨768 * (n % 11) + k.val, by omega⟩

theorem pay12_apply (x0 : Vec Ideal S1x4x512x128 .bf16) (r : Fin 2048) (d : Fin 128) :
    k0_pay12 x0 (ix2 r d) = x0 (ix4 0 ⟨r.val / 512, by omega⟩ ⟨r.val % 512, by omega⟩ d) := by
  pointwise [k0_pay12]

theorem pay5_apply (q : FVec Ideal S2048x128 .bf16) (b : Vec Ideal S1x1x128x768 .bf16) (r : Fin 2048) (k : Fin 768) :
    k0_pay5 q b (ix2 r k) = ∑ d : Fin 128, q (ix2 r d) * b (ix4 0 0 d k) := by
  pointwise [k0_pay5]

theorem kb_apply (x1 : Vec Ideal S1x1x128x8448 .bf16) (n : ℕ) (d : Fin 128) (k : Fin 768) :
    kb x1 n (ix4 0 0 d k) = x1 (ix4 0 0 d (kpos n k)) := by
  refine View.ld_unit_apply_of x1 _ _ _ _ _ ?_
  intro a; fin_cases a
  · show (0 : ℕ) = 0 + 0; omega
  · show (0 : ℕ) = 0 + 0; omega
  · show d.val = 0 + d.val; omega
  · show 768 * (n % 11) + k.val = 768 * (n % 11) + k.val; rfl

theorem vb_apply (x2 : Vec Ideal S1x1x8448x128 .bf16) (n : ℕ) (d : Fin 128) (k : Fin 768) :
    vb x2 n (ix4 0 0 k d) = x2 (ix4 0 0 (kpos n k) d) := by
  refine View.ld_unit_apply_of x2 _ _ _ _ _ ?_
  intro a; fin_cases a
  · show (0 : ℕ) = 0 + 0; omega
  · show (0 : ℕ) = 0 + 0; omega
  · show 768 * (n % 11) + k.val = 768 * (n % 11) + k.val; rfl
  · show d.val = 0 + d.val; omega

theorem exp2_eq (x : EReal) : (FloatOps.exp2 (F := Ideal) (φ := .f32) x) = Ideal.exp2 x := rfl

theorem stp_apply (a : FVec Ideal S2048x128 .f32) (s : Vec Ideal S1x2048x768 .f32) (v : Vec Ideal S1x1x768x128 .bf16)
    (r : Fin 2048) (d : Fin 128) :
    stp a s v (ix2 r d) = a (ix2 r d) + ∑ k : Fin 768, Ideal.exp2 (s (ix3 0 r k)) * v (ix4 0 0 k d) := by
  pointwise [stp]
  simp only [exp2_eq]

theorem slot_apply (q : FVec Ideal S2048x128 .bf16) (x1 : Vec Ideal S1x1x128x8448 .bf16) (n : ℕ) (r : Fin 2048) (k : Fin 768) :
    slot q x1 n (ix3 0 r k) = k0_pay5 q (kb x1 n) (ix2 r k) := by
  pointwise [slot]

theorem pay6_apply (q : FVec Ideal S2048x128 .bf16) (b : Vec Ideal S1x1x128x768 .bf16) (m : Vec Ideal S2048x128 .f32)
    (r : Fin 2048) (d : Fin 128) :
    k0_pay6 q b m (ix2 r d) = max (m (ix2 r d)) (Finset.univ.fold max ⊥ fun k : Fin 768 => k0_pay5 q b (ix2 r k)) := by
  pointwise [k0_pay6]
  rw [ofBits_negInf]

theorem pay9_apply (D : Vec Ideal S2048x128 .f32) (r : Fin 2048) (d : Fin 128) :
    k0_pay9 D (ix2 r d) = Ideal.div (D (ix2 r d)) (D (ix2 r 64)) := by
  pointwise [k0_pay9]

theorem pay10_apply (D : Vec Ideal S2048x128 .f32) (r : Fin 512) (d : Fin 128) :
    k0_pay10 D (ix3 0 r d) = if d.val < 64 then k0_pay9 D (ix2 ⟨r.val, by omega⟩ d)
      else k0_pay9 D (ix2 ⟨512 + r.val, by omega⟩ ⟨d.val - 64, by omega⟩) := by
  pointwise [k0_pay10]
  rw [WordCmp.cmpi_slt_ofNat (by omega) (by omega), Scalar.select_ofBool]
  by_cases h : d.val < 64
  · simp [h]
  · simp only [h, decide_false, if_false, Bool.false_eq_true]
    congr 2; ext; simp; omega

theorem pay11_apply (D : Vec Ideal S2048x128 .f32) (r : Fin 512) (d : Fin 128) :
    k0_pay11 D (ix3 0 r d) = if d.val < 64 then k0_pay9 D (ix2 ⟨1024 + r.val, by omega⟩ d)
      else k0_pay9 D (ix2 ⟨1536 + r.val, by omega⟩ ⟨d.val - 64, by omega⟩) := by
  pointwise [k0_pay11]
  rw [WordCmp.cmpi_slt_ofNat (by omega) (by omega), Scalar.select_ofBool]
  by_cases h : d.val < 64
  · simp [h]
  · simp only [h, decide_false, if_false, Bool.false_eq_true]
    congr 2; ext; simp; omega

/-- The block that is written, at an index: the four heads of 64 lanes each lie side by side. -/
theorem outOf_apply (D : Vec Ideal S2048x128 .f32) (r : Fin 512) (y : Fin 256) :
    outOf D (ix3 0 r y) = k0_pay9 D (ix2 ⟨512 * (y.val / 64) + r.val, by omega⟩ ⟨y.val % 64, by omega⟩) := by
  refine (canon_halves (k0_pay11 D) (k0_pay10 D) [] (ix3 0 r y)).trans ?_
  have e1 : ((ix3 0 r y : S1x512x256.Idx) 1).val = r.val := rfl
  have e2 : ((ix3 0 r y : S1x512x256.Idx) 2).val = y.val := rfl
  by_cases h : y.val < 128
  · refine (dif_pos (show ((ix3 0 r y : S1x512x256.Idx) 2).val < 128 from h)).trans ?_
    refine (pay10_apply D r ⟨y.val, h⟩).trans ?_
    by_cases h' : y.val < 64
    · rw [if_pos h']; congr 2 <;> ext <;> simp <;> omega
    · rw [if_neg h']; congr 2 <;> ext <;> simp <;> omega
  · refine (dif_neg (show ¬ ((ix3 0 r y : S1x512x256.Idx) 2).val < 128 from h)).trans ?_
    refine (pay11_apply D r ⟨y.val - 128, by omega⟩).trans ?_
    by_cases h' : y.val - 128 < 64
    · rw [if_pos h']; congr 2 <;> ext <;> simp <;> omega
    · rw [if_neg h']; congr 2 <;> ext <;> simp <;> omega

theorem pay7_apply (q : FVec Ideal S2048x128 .bf16) (b : Vec Ideal S1x1x128x768 .bf16) (m a : Vec Ideal S2048x128 .f32)
    (v : Vec Ideal S1x1x768x128 .bf16) (r : Fin 2048) (d : Fin 128) (M : EReal) (hM : ∀ d, k0_pay6 q b m (ix2 r d) = M) :
    k0_pay7 q b m a v (ix2 r d) = a (ix2 r d) * Ideal.exp2 (m (ix2 r d) - M)
      + ∑ k : Fin 768, Ideal.exp2 (k0_pay5 q b (ix2 r k) - M) * v (ix4 0 0 k d) := by
  pointwise [k0_pay7]
  simp only [hM, dite_eq_ite, ite_self, exp2_eq]

theorem pay8_apply (q : FVec Ideal S2048x128 .bf16) (b : Vec Ideal S1x1x128x768 .bf16) (m : Vec Ideal S2048x128 .f32)
    (r : Fin 2048) (d : Fin 128) :
    k0_pay8 q b m (ix2 r d) = k0_pay6 q b m (ix2 r d) := by
  pointwise [k0_pay8]

theorem pay14_apply (r : Fin 2048) (d : Fin 128) : k0_pay14 (F := Ideal) (ix2 r d) = 0 := by
  pointwise [k0_pay14]

theorem pay4_apply (r : Fin 2048) (d : Fin 128) : k0_pay4 (F := Ideal) (ix2 r d) = 0 := by
  pointwise [k0_pay4]

theorem pay3_apply (r : Fin 2048) (d : Fin 128) : k0_pay3 (F := Ideal) (ix2 r d) = ⊥ := by
  pointwise [k0_pay3]
  rw [ofBits_negInf]

/-! ## The folds, row by row -/

section
variable (x0 : Vec Ideal S1x4x512x128 .bf16) (x1 : Vec Ideal S1x1x128x8448 .bf16) (x2 : Vec Ideal S1x1x8448x128 .bf16)
  (r : Fin 2048) (sc : Fin 8448 → ℝ)

theorem accD_apply (hs : ∀ n k, k0_pay5 (k0_pay12 x0) (kb x1 n) (ix2 r k) = (sc (kpos n k) : EReal)) (d : Fin 128) (n : ℕ) :
    accD x0 x1 x2 n (ix2 r d)
      = ∑ i ∈ Finset.range n, ∑ k : Fin 768, Ideal.exp2 (sc (kpos i k) : EReal) * x2 (ix4 0 0 (kpos i k) d) := by
  induction n with
  | zero => exact (pay14_apply r d).trans (by simp)
  | succ n ih =>
    rw [accD, stp_apply, ih, Finset.sum_range_succ]
    simp only [slot_apply, hs, vb_apply]

/-- The rescaled sums are the direct sums times a positive factor, the same in every lane of the row. -/
theorem accO_apply (hs : ∀ n k, k0_pay5 (k0_pay12 x0) (kb x1 n) (ix2 r k) = (sc (kpos n k) : EReal)) (n : ℕ) :
    ∃ m : ℝ, ∀ d, (accO x0 x1 x2 (n + 1)).2 (ix2 r d) = (m : EReal)
      ∧ (accO x0 x1 x2 (n + 1)).1 (ix2 r d) = ((2 : ℝ) ^ (-m) : ℝ) * accD x0 x1 x2 (n + 1) (ix2 r d) := by
  have step : ∀ n (x : EReal), (∀ d, (accO x0 x1 x2 n).2 (ix2 r d) = x) → (x = ⊥ ∨ ∃ m : ℝ, x = m) →
      (∀ d, (x = ⊥ ∧ (accO x0 x1 x2 n).1 (ix2 r d) = 0 ∧ accD x0 x1 x2 n (ix2 r d) = 0)
        ∨ ∃ m : ℝ, x = m ∧ (accO x0 x1 x2 n).1 (ix2 r d) = ((2 : ℝ) ^ (-m) : ℝ) * accD x0 x1 x2 n (ix2 r d)) →
      ∃ m : ℝ, ∀ d, (accO x0 x1 x2 (n + 1)).2 (ix2 r d) = (m : EReal)
        ∧ (accO x0 x1 x2 (n + 1)).1 (ix2 r d) = ((2 : ℝ) ^ (-m) : ℝ) * accD x0 x1 x2 (n + 1) (ix2 r d) := by
    intro n x hx hxr ho
    obtain ⟨m', hm'⟩ := Cert.AttnMath.max_fold_real x hxr (fun k : Fin 768 => sc (kpos n k))
    have h6 : ∀ d, k0_pay6 (k0_pay12 x0) (kb x1 n) (accO x0 x1 x2 n).2 (ix2 r d) = (m' : EReal) := by
      intro d; rw [pay6_apply, hx]; simp only [hs]; exact hm'
    refine ⟨m', fun d => ⟨(pay8_apply _ _ _ r d).trans (h6 d), ?_⟩⟩
    refine (pay7_apply _ _ _ _ _ r d m' h6).trans ?_
    rw [hx, accD, stp_apply]
    simp only [slot_apply, hs, vb_apply]
    exact Cert.AttnMath.rescale _ _ _ _ _ _ (ho d)
  induction n with
  | zero =>
    exact step 0 ⊥ (fun d => pay3_apply r d) (.inl rfl) fun d => .inl ⟨rfl, pay4_apply r d, pay14_apply r d⟩
  | succ n ih =>
    obtain ⟨m, hm⟩ := ih
    exact step (n + 1) m (fun d => (hm d).1) (.inr ⟨m, rfl⟩) fun d => .inr ⟨m, rfl, (hm d).2⟩

theorem accD_total (hs : ∀ n k, k0_pay5 (k0_pay12 x0) (kb x1 n) (ix2 r k) = (sc (kpos n k) : EReal)) (d : Fin 128) :
    accD x0 x1 x2 11 (ix2 r d) = ∑ j, Ideal.exp2 (sc j : EReal) * x2 (ix4 0 0 j d) :=
  (accD_apply x0 x1 x2 r sc hs d 11).trans (Cert.AttnMath.sum_chunks fun j => Ideal.exp2 (sc j : EReal) * x2 (ix4 0 0 j d))

/-- The quotient of the direct sums is the weighted mean. -/
theorem quot_direct (hs : ∀ n k, k0_pay5 (k0_pay12 x0) (kb x1 n) (ix2 r k) = (sc (kpos n k) : EReal))
    (hone : ∀ j, x2 (ix4 0 0 j 64) = 1) (d : Fin 128) :
    k0_pay9 (F := Ideal) (accD x0 x1 x2 11) (ix2 r d) = Cert.AttnMath.mean sc fun j => x2 (ix4 0 0 j d) := by
  rw [pay9_apply, accD_total x0 x1 x2 r sc hs, accD_total x0 x1 x2 r sc hs]
  exact Cert.AttnMath.direct_div sc _ _ hone

/-- So is the quotient of the rescaled ones. -/
theorem quot_loop (hs : ∀ n k, k0_pay5 (k0_pay12 x0) (kb x1 n) (ix2 r k) = (sc (kpos n k) : EReal))
    (hone : ∀ j, x2 (ix4 0 0 j 64) = 1) (d : Fin 128) :
    k0_pay9 (F := Ideal) (accO x0 x1 x2 11).1 (ix2 r d) = Cert.AttnMath.mean sc fun j => x2 (ix4 0 0 j d) := by
  obtain ⟨m, hm⟩ := accO_apply x0 x1 x2 r sc hs 10
  rw [pay9_apply, (hm d).2, (hm 64).2, accD_total x0 x1 x2 r sc hs, accD_total x0 x1 x2 r sc hs]
  exact Cert.AttnMath.scaled_div sc _ _ _ (Real.rpow_pos_of_pos two_pos _) hone
end

end Cert.KernelIdeal.Body

end
-- ==== Proof.FlashArr.lean ====
/-
  The blocks that the attention call reads and writes, as parts of its arrays.
-/
module

public import proofs.«01_k».proof.Proof.FlashRun
public import proofs.«01_k».proof.Proof.FlashIdeal
public import Idealize.ShloMosaic.Lib.Pipeline.Value

@[expose] public section

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL.Sem
open Idealize.ShloMosaic.Pointwise
open Idealize.ShloMosaic.Pipeline (Dat)

variable {F : FTy → Type} [FloatOps F]
variable (m : (ℓ : Loc nD τ sig) → Buf (Elt F) ℓ) (ρ : Dev nD → PrngReg)

/-- The blocks' places, decided over the grid: batch `t / 32`, key head `t / 16 % 2`, query block `t % 16`. -/
theorem index0 : ∀ t : Fin cfg0.N, win0_0.index t = ![t.val / 32, t.val / 16 % 2, t.val % 16, 0] :=
  (by decide +kernel : ∀ t : Fin grid0.N, _)
theorem index1 : ∀ t : Fin cfg0.N, win0_1.index t = ![t.val / 32, t.val / 16 % 2, 0, 0] :=
  (by decide +kernel : ∀ t : Fin grid0.N, _)
theorem index2 : ∀ t : Fin cfg0.N, win0_2.index t = ![t.val / 32, t.val / 16 % 2, 0, 0] :=
  (by decide +kernel : ∀ t : Fin grid0.N, _)
theorem index3 : ∀ t : Fin cfg0.N, win0_3.index t = ![t.val / 32, t.val % 16, t.val / 16 % 2] :=
  (by decide +kernel : ∀ t : Fin grid0.N, _)

theorem tlt (t : Fin cfg0.N) : t.val < 64 := t.isLt

/-- The batch, the key head and the query block of a point. -/
abbrev tb (t : Fin cfg0.N) : Fin 2 := ⟨t.val / 32, by have := tlt t; omega⟩
abbrev tg (t : Fin cfg0.N) : Fin 2 := ⟨t.val / 16 % 2, by omega⟩

theorem keys_apply (c : Dev nD) (t : Fin cfg0.N) (d : Fin 128) (j : Fin 8448) :
    iblk m c 1 t (ix4 0 0 d j : S1x1x128x8448.Idx) = m ((c : Thread nD τ).loc main_arg1) (ix4 (tb t) (tg t) d j : S2x2x128x8448.Idx) := by
  have hi := index1 t
  have h0 : win0_1.index t (0 : Fin 4) = t.val / 32 := congrFun hi 0
  have h1 : win0_1.index t (1 : Fin 4) = t.val / 16 % 2 := congrFun hi 1
  have h2 : win0_1.index t (2 : Fin 4) = 0 := congrFun hi 2
  have h3 : win0_1.index t (3 : Fin 4) = 0 := congrFun hi 3
  refine congrArg (m ((c : Thread nD τ).loc main_arg1)) (?_ : ((cfg0.win 1).blk t).view.emb (ix4 0 0 d j : S1x1x128x8448.Idx) = (ix4 (tb t) (tg t) d j : S2x2x128x8448.Idx))
  funext a; apply Fin.ext
  match a with
  | ⟨0, _⟩ => show win0_1.index t (0 : Fin 4) * 1 + 1 * 0 = t.val / 32; omega
  | ⟨1, _⟩ => show win0_1.index t (1 : Fin 4) * 1 + 1 * 0 = t.val / 16 % 2; omega
  | ⟨2, _⟩ => show win0_1.index t (2 : Fin 4) * 128 + 1 * d.val = d.val; omega
  | ⟨3, _⟩ => show win0_1.index t (3 : Fin 4) * 8448 + 1 * j.val = j.val; omega

theorem values_apply (c : Dev nD) (t : Fin cfg0.N) (j : Fin 8448) (d : Fin 128) :
    iblk m c 2 t (ix4 0 0 j d : S1x1x8448x128.Idx) = m ((c : Thread nD τ).loc main_arg2) (ix4 (tb t) (tg t) j d : S2x2x8448x128.Idx) := by
  have hi := index2 t
  have h0 : win0_2.index t (0 : Fin 4) = t.val / 32 := congrFun hi 0
  have h1 : win0_2.index t (1 : Fin 4) = t.val / 16 % 2 := congrFun hi 1
  have h2 : win0_2.index t (2 : Fin 4) = 0 := congrFun hi 2
  have h3 : win0_2.index t (3 : Fin 4) = 0 := congrFun hi 3
  refine congrArg (m ((c : Thread nD τ).loc main_arg2)) (?_ : ((cfg0.win 2).blk t).view.emb (ix4 0 0 j d : S1x1x8448x128.Idx) = (ix4 (tb t) (tg t) j d : S2x2x8448x128.Idx))
  funext a; apply Fin.ext
  match a with
  | ⟨0, _⟩ => show win0_2.index t (0 : Fin 4) * 1 + 1 * 0 = t.val / 32; omega
  | ⟨1, _⟩ => show win0_2.index t (1 : Fin 4) * 1 + 1 * 0 = t.val / 16 % 2; omega
  | ⟨2, _⟩ => show win0_2.index t (2 : Fin 4) * 8448 + 1 * j.val = j.val; omega
  | ⟨3, _⟩ => show win0_2.index t (3 : Fin 4) * 128 + 1 * d.val = d.val; omega

theorem queries_apply (c : Dev nD) (t : Fin cfg0.N) (h : Fin 4) (r : Fin 512) (d : Fin 128) :
    X0_0 m c t (ix4 0 h r d : S1x4x512x128.Idx)
      = m ((c : Thread nD τ).loc main_arg0) (ix4 (tb t) ⟨4 * (t.val / 16 % 2) + h.val, by omega⟩ ⟨512 * (t.val % 16) + r.val, by omega⟩ d : S2x8x8448x128.Idx) := by
  have hi := index0 t
  have h0 : win0_0.index t (0 : Fin 4) = t.val / 32 := congrFun hi 0
  have h1 : win0_0.index t (1 : Fin 4) = t.val / 16 % 2 := congrFun hi 1
  have h2 : win0_0.index t (2 : Fin 4) = t.val % 16 := congrFun hi 2
  have h3 : win0_0.index t (3 : Fin 4) = 0 := congrFun hi 3
  unfold X0_0 Pipeline.Window.fill
  rw [dif_pos (moved0_0 t _)]
  refine congrArg (m ((c : Thread nD τ).loc main_arg0)) ?_
  funext a; apply Fin.ext
  match a with
  | ⟨0, _⟩ => show win0_0.index t (0 : Fin 4) * 1 + 1 * 0 = t.val / 32; omega
  | ⟨1, _⟩ => show win0_0.index t (1 : Fin 4) * 4 + 1 * h.val = 4 * (t.val / 16 % 2) + h.val; omega
  | ⟨2, _⟩ => show win0_0.index t (2 : Fin 4) * 512 + 1 * r.val = 512 * (t.val % 16) + r.val; omega
  | ⟨3, _⟩ => show win0_0.index t (3 : Fin 4) * 128 + 1 * d.val = d.val; omega

/-- An index of the result is in point `t`'s block iff each coordinate is in the block's range on its axis. -/
theorem mem_blk3 (t : Fin cfg0.N) (i : S2x8192x512.Idx) :
    i ∈ ((cfg0.win 3).blk t).view.set ↔ ∀ a : Fin 3, win0_3.index t a * S1x512x256.size a ≤ (i a).val ∧ (i a).val < win0_3.index t a * S1x512x256.size a + S1x512x256.size a := by
  show i ∈ ((View.whole main_v0).slice (win0_3.rect t)).set ↔ _
  rw [View.set_slice_whole, Rect.mem_set_unit]
  exact Iff.rfl

/-- Every index of the result is in some point's block. -/
theorem cover3 (i : S2x8192x512.Idx) : ∃ t : Fin cfg0.N, (cfg0.win 3).flush t = true ∧ i ∈ ((cfg0.win 3).blk t).view.set := by
  have i0 : (i 0).val < 2 := (i 0).isLt
  have i1 : (i 1).val < 8192 := (i 1).isLt
  have i2 : (i 2).val < 512 := (i 2).isLt
  refine ⟨⟨32 * (i 0).val + 16 * ((i 2).val / 256) + (i 1).val / 512, lt_of_lt_of_eq (by omega) N_0.symm⟩, flush0_3 _, ?_⟩
  rw [mem_blk3, index3]
  intro a
  match a with
  | ⟨0, _⟩ => show (32 * (i 0).val + 16 * ((i 2).val / 256) + (i 1).val / 512) / 32 * 1 ≤ (i 0).val ∧ (i 0).val < (32 * (i 0).val + 16 * ((i 2).val / 256) + (i 1).val / 512) / 32 * 1 + 1; omega
  | ⟨1, _⟩ => show (32 * (i 0).val + 16 * ((i 2).val / 256) + (i 1).val / 512) % 16 * 512 ≤ (i 1).val ∧ (i 1).val < (32 * (i 0).val + 16 * ((i 2).val / 256) + (i 1).val / 512) % 16 * 512 + 512; omega
  | ⟨2, _⟩ => show (32 * (i 0).val + 16 * ((i 2).val / 256) + (i 1).val / 512) / 16 % 2 * 256 ≤ (i 2).val ∧ (i 2).val < (32 * (i 0).val + 16 * ((i 2).val / 256) + (i 1).val / 512) / 16 % 2 * 256 + 256; omega

/-- The array after the run is `G`, when each point's block of `G` is what the point leaves in the buffer. -/
theorem final3 (c : Dev nD) (G : Buf (Elt F) ((c : Thread nD τ).loc main_v0))
    (h : ∀ (t : Fin cfg0.N) (r : Fin 512) (y : Fin 256), outsAt m c t (ix3 0 r y)
      = G (ix3 (tb t) ⟨512 * (t.val % 16) + r.val, by omega⟩ ⟨256 * (t.val / 16 % 2) + y.val, by omega⟩ : S2x8192x512.Idx)) :
    (dats m 0 c).arrAt 3 cfg0.N = G := by
  refine (dats m 0 c).arrAt_eq_of_cover 3 G (fun t _ => ?_) cover3
  show (cfg0.win 3).cut (grid0.coords t) ((dats m 0 c).after 3 t) = _
  rw [after0_3]
  funext y
  have hi := index3 t
  have h0 : win0_3.index t (0 : Fin 3) = t.val / 32 := congrFun hi 0
  have h1 : win0_3.index t (1 : Fin 3) = t.val % 16 := congrFun hi 1
  have h2 : win0_3.index t (2 : Fin 3) = t.val / 16 % 2 := congrFun hi 2
  have e : (cfg0.win 3).xinj (grid0.coords t) y = (ix3 0 ⟨(y 1).val, (y 1).isLt⟩ ⟨(y 2).val, (y 2).isLt⟩ : S1x512x256.Idx) := by
    funext a; apply Fin.ext
    match a with
    | ⟨0, _⟩ => show (y 0).val = 0; have : (y 0).val < 1 := (y 0).isLt; omega
    | ⟨1, _⟩ => rfl
    | ⟨2, _⟩ => rfl
  show outsAt m c t ((cfg0.win 3).xinj (grid0.coords t) y) = G (((cfg0.win 3).blk t).view.emb y)
  rw [e, h]
  refine congrArg G ?_
  funext a; apply Fin.ext
  match a with
  | ⟨0, _⟩ => show t.val / 32 = win0_3.index t (0 : Fin 3) * 1 + 1 * (y 0).val; have : (y 0).val < 1 := (y 0).isLt; omega
  | ⟨1, _⟩ => show 512 * (t.val % 16) + (y 1).val = win0_3.index t (1 : Fin 3) * 512 + 1 * (y 1).val; omega
  | ⟨2, _⟩ => show 256 * (t.val / 16 % 2) + (y 2).val = win0_3.index t (2 : Fin 3) * 256 + 1 * (y 2).val; omega

/-- The run, with the result's array at `G` and the arguments unchanged. -/
theorem run_of (G : (c : Dev nD) → Buf (Elt F) ((c : Thread nD τ).loc main_v0))
    (h : ∀ (c : Dev nD) (t : Fin cfg0.N) (r : Fin 512) (y : Fin 256), outsAt m c t (ix3 0 r y)
      = G c (ix3 (tb t) ⟨512 * (t.val % 16) + r.val, by omega⟩ ⟨256 * (t.val / 16 % 2) + y.val, by omega⟩ : S2x8192x512.Idx)) :
    θ_run defs (onTc (τ := τ) (main (F := F))) ⟨m, fun _ => 0, ρ⟩ (fun r => ∀ c : Dev nD,
      r.2.mem ((c.tc : Thread nD τ).loc main_v0) = G c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r hr c => ⟨((hr.1 c).1 3).trans (final3 m c (G c) (h c)),
      ((hr.1 c).1 0).trans (((dats m 0 c).arrAt_in 0 rfl _).trans ((A_eq m c 0).trans (V_main_arg0 m c))),
      ((hr.1 c).1 1).trans (((dats m 0 c).arrAt_in 1 rfl _).trans ((A_eq m c 1).trans (V_main_arg1 m c))),
      ((hr.1 c).1 2).trans (((dats m 0 c).arrAt_in 2 rfl _).trans ((A_eq m c 2).trans (V_main_arg2 m c)))⟩) (run_main m ρ)

end Cert.KernelIdeal.Body

end
-- ==== Proof.AttnRef.lean ====
/-
  The attention's reference, read at an index.
-/
module

public import proofs.«01_k».proof.Proof.Gen.ReferenceIdeal
public import proofs.«01_k».proof.Proof.Gen.ReferenceIdeal.Run
public import proofs.«01_k».proof.Proof.Gen.ReferenceIdeal.Read
public import proofs.«01_k».proof.Proof.AttnMath
public import Idealize.ShloMosaic.Lib.Pointwise

@[expose] public section

set_option maxRecDepth 16384

noncomputable section

namespace Cert.ReferenceIdeal.Read

open Cert.ReferenceIdeal Cert.ReferenceIdeal.Gen
open Idealize.ShloMosaic Idealize.ShloMosaic.TcCoe Idealize.ShloMosaic.Pointwise

variable (q : (⟨S2x8x8448x128, .bf16⟩ : BufTy).Contents (Elt Ideal)) (k : (⟨S2x2x128x8448, .bf16⟩ : BufTy).Contents (Elt Ideal))
  (v : (⟨S2x2x8448x128, .bf16⟩ : BufTy).Contents (Elt Ideal))

/-- The score of a query against a key. -/
theorem score_apply (b g : Fin 2) (a : Fin 4) (l : Fin 8192) (j : Fin 8448) :
    val_main_v6 (F := Ideal) q k (ix5 b g a l j)
      = ∑ d : Fin 64, q (ix4 b ⟨g.val * 4 + a.val, by omega⟩ ⟨l.val, by omega⟩ ⟨d.val, by omega⟩) * k (ix4 b g ⟨d.val, by omega⟩ j) := by
  pointwise [val_main_v6, val_main_v5, val_main_v4, val_main_v2, val_main_v1, val_main_v0]

theorem ofBits_two : Ideal.ofBits FTy.f32 0x40000000#32 = ((2 : ℝ) : EReal) := by
  simp [Ideal.ofBits, Ideal.ieee]
  rw [← EReal.coe_mul]
  norm_num

theorem ofBits_negInf : Ideal.ofBits FTy.f32 0xFF800000#32 = ⊥ := by
  simp [Ideal.ofBits, Ideal.ieee]

theorem weight_apply (b g : Fin 2) (a : Fin 4) (l : Fin 8192) (j : Fin 8448) :
    val_main_v12 (F := Ideal) q k (ix5 b g a l j)
      = Ideal.pow ((2 : ℝ) : EReal) (val_main_v6 (F := Ideal) q k (ix5 b g a l j)
          - Finset.univ.fold max ⊥ fun j => val_main_v6 (F := Ideal) q k (ix5 b g a l j)) := by
  pointwise [val_main_v12, val_main_v11, val_main_v10, val_main_v9, val_main_v8, val_main_v7, val_main_cst, val_main_cst_0]
  rw [ofBits_two, ofBits_negInf]

theorem out_apply (b : Fin 2) (l : Fin 8192) (y : Fin 512) :
    val_main_v21 (F := Ideal) q k v (ix3 b l y)
      = ∑ j : Fin 8448, Ideal.div (val_main_v12 (F := Ideal) q k (ix5 b ⟨y.val / 256, by omega⟩ ⟨y.val / 64 % 4, by omega⟩ l j))
          (∑ j : Fin 8448, val_main_v12 (F := Ideal) q k (ix5 b ⟨y.val / 256, by omega⟩ ⟨y.val / 64 % 4, by omega⟩ l j))
          * v (ix4 b ⟨y.val / 256, by omega⟩ j ⟨y.val % 64, by omega⟩) := by
  pointwise [val_main_v21, val_main_v20, val_main_v19, val_main_v18, val_main_v17, val_main_v16, val_main_v15, val_main_v14, val_main_v13,
    val_main_v3, val_main_cst_1]

end Cert.ReferenceIdeal.Read

end
-- ==== Proof.AttnPre.lean ====
/-
  What the precondition of the attention says of the arguments' elements.
-/
module

public import proofs.«01_k».proof.Pre_laid_out
public import Idealize.ShloMosaic.Lib.Pointwise

@[expose] public section

set_option maxRecDepth 16384

noncomputable section

namespace Cert.Pre_laid_out

open Idealize.ShloMosaic Idealize.ShloMosaic.Pointwise

instance facts : Facts where
  slices_S2x8x8448x128_S2x8x8192x65_0_0_0_0 := by decide
  bitsLt_bf16_f32 := by decide
  bcast_S_S2x8x8192x65 := by decide
  slices_S2x2x128x8448_S2x2x64x8448_0_0_0_0 := by decide
  bcast_S_S2x2x64x8448 := by decide
  slices_S2x2x128x8448_S2x2x1x8448_0_0_64_0 := by decide
  shapeCasts_S2x2x1x8448_S2x2x8448 := by decide
  bcast_S_S2x2x8448 := by decide
  slices_S2x2x128x8448_S2x2x63x8448_0_0_65_0 := by decide
  bcast_S_S2x2x63x8448 := by decide
  slices_S2x2x8448x128_S2x2x8448x1_0_0_0_64 := by decide
  shapeCasts_S2x2x8448x1_S2x2x8448 := by decide

theorem real_of_abs_lt_top {x : EReal} (h : BitVec.ofBool (decide (max x (-x) < ⊤)) = 1#1) : ∃ r : ℝ, x = r := by
  have h' : max x (-x) < ⊤ := by
    by_contra hc
    rw [decide_eq_false hc] at h
    exact absurd h (by decide)
  induction x using EReal.rec with
  | bot => simp at h'
  | top => simp at h'
  | coe r => exact ⟨r, rfl⟩

theorem eq_of_oeq {x y : EReal} (h : BitVec.ofBool (decide (x = y)) = 1#1) : x = y := by
  by_contra hc
  rw [decide_eq_false hc] at h
  exact absurd h (by decide)

theorem ofBits_inf : Ideal.ofBits FTy.f32 0x7F800000#32 = ⊤ := by simp [Ideal.ofBits, Ideal.ieee]

variable (q : FVec Ideal S2x8x8448x128 .bf16) (k : FVec Ideal S2x2x128x8448 .bf16) (v : FVec Ideal S2x2x8448x128 .bf16)

/-- The queries that are read, and the shift beside each, are real. -/
theorem queries (h : (fn (F := Ideal) q k v).1 = fun _ => 1#1) (b : Fin 2) (a : Fin 8) (l : Fin 8192) (d : Fin 65) :
    ∃ r : ℝ, q (ix4 b a ⟨l.val, by omega⟩ ⟨d.val, by omega⟩) = r := by
  have h' := congrFun h (ix4 b a l d)
  revert h'
  pointwise [fn, fn_part1]
  intro h'
  exact real_of_abs_lt_top (by rw [← ofBits_inf]; exact h')

/-- The keys are real. -/
theorem keys (h : (fn (F := Ideal) q k v).2.1 = fun _ => 1#1) (b g : Fin 2) (d : Fin 64) (j : Fin 8448) :
    ∃ r : ℝ, k (ix4 b g ⟨d.val, by omega⟩ j) = r := by
  have h' := congrFun h (ix4 b g d j)
  revert h'
  pointwise [fn, fn_part1]
  intro h'
  exact real_of_abs_lt_top (by rw [← ofBits_inf]; exact h')

/-- Row 64 of the keys is one. -/
theorem keys_one (h : (fn (F := Ideal) q k v).2.2.1 = fun _ => 1#1) (b g : Fin 2) (j : Fin 8448) :
    k (ix4 b g 64 j) = 1 := by
  have h' := congrFun h (ix3 b g j)
  revert h'
  pointwise [fn, fn_part1]
  intro h'
  exact eq_of_oeq h'

/-- The rows of the keys after it are zero. -/
theorem keys_zero (h : (fn (F := Ideal) q k v).2.2.2.1 = fun _ => 1#1) (b g : Fin 2) (d : Fin 63) (j : Fin 8448) :
    k (ix4 b g ⟨65 + d.val, by omega⟩ j) = 0 := by
  have h' := congrFun h (ix4 b g d j)
  revert h'
  pointwise [fn, fn_part1]
  intro h'
  exact eq_of_oeq h'

/-- Lane 64 of the values is one. -/
theorem values_one (h : (fn (F := Ideal) q k v).2.2.2.2 = fun _ => 1#1) (b g : Fin 2) (j : Fin 8448) :
    v (ix4 b g j 64) = 1 := by
  have h' := congrFun h (ix3 b g j)
  revert h'
  pointwise [fn, fn_part1]
  intro h'
  exact eq_of_oeq h'

end Cert.Pre_laid_out

end
-- ==== Proof.Attn.lean ====
/-
  The attention call against its reference, over the extended reals.
-/
module

public import proofs.«01_k».proof.Proof.FlashArr
public import proofs.«01_k».proof.Proof.AttnRef
public import proofs.«01_k».proof.Proof.AttnPre
public import proofs.«01_k».proof.Defs

@[expose] public section

set_option maxRecDepth 16384

noncomputable section

namespace Cert.Attn

open Idealize.ShloMosaic Idealize.ShloMosaic.TcCoe Idealize.ShloMosaic.Pointwise
open Idealize.SL.Sem
open Cert.KernelIdeal Cert.KernelIdeal.Gen Cert.KernelIdeal.Body

/-- What the precondition gives, at one device's arguments. -/
structure Laid (q : FVec Ideal S2x8x8448x128 .bf16) (k : FVec Ideal S2x2x128x8448 .bf16) (v : FVec Ideal S2x2x8448x128 .bf16) : Prop where
  q_real : ∀ (b : Fin 2) (a : Fin 8) (l : Fin 8192) (d : Fin 65), ∃ r : ℝ, q (ix4 b a ⟨l.val, by omega⟩ ⟨d.val, by omega⟩) = r
  k_real : ∀ (b g : Fin 2) (d : Fin 64) (j : Fin 8448), ∃ r : ℝ, k (ix4 b g ⟨d.val, by omega⟩ j) = r
  k_one : ∀ (b g : Fin 2) (j : Fin 8448), k (ix4 b g 64 j) = 1
  k_zero : ∀ (b g : Fin 2) (d : Fin 63) (j : Fin 8448), k (ix4 b g ⟨65 + d.val, by omega⟩ j) = 0
  v_one : ∀ (b g : Fin 2) (j : Fin 8448), v (ix4 b g j 64) = 1

variable {q : FVec Ideal S2x8x8448x128 .bf16} {k : FVec Ideal S2x2x128x8448 .bf16} {v : FVec Ideal S2x2x8448x128 .bf16}

/-- The scores of one query: the kernel's are the reference's and a shift that every key shares. -/
theorem Laid.scores (h : Laid q k v) (b g : Fin 2) (a : Fin 8) (l : Fin 8192) :
    ∃ (s' : Fin 8448 → ℝ) (t : ℝ),
      (∀ j, ∑ d : Fin 64, q (ix4 b a ⟨l.val, by omega⟩ ⟨d.val, by omega⟩) * k (ix4 b g ⟨d.val, by omega⟩ j) = (s' j : EReal))
      ∧ ∀ j, ∑ d : Fin 128, q (ix4 b a ⟨l.val, by omega⟩ d) * k (ix4 b g d j) = ((s' j + t : ℝ) : EReal) := by
  have hj := fun j => Cert.AttnMath.dot_split (fun d => q (ix4 b a ⟨l.val, by omega⟩ d)) (fun d => k (ix4 b g d j))
    (h.q_real b a l) (fun d => h.k_real b g d j) (h.k_one b g j) (fun d => h.k_zero b g d j)
  choose s' t h1 h2 h3 using hj
  have ht : ∀ j, t j = t 0 := fun j => by exact_mod_cast (h2 j).symm.trans (h2 0)
  exact ⟨s', t 0, h1, fun j => by rw [h3 j, ht j]⟩

/-- The reference at an index is the weighted mean of the values. -/
theorem Laid.ref (h : Laid q k v) (b : Fin 2) (l : Fin 8192) (y : Fin 512) (s' : Fin 8448 → ℝ) (t : ℝ)
    (hs : ∀ j, ∑ d : Fin 64, q (ix4 b ⟨y.val / 256 * 4 + y.val / 64 % 4, by omega⟩ ⟨l.val, by omega⟩ ⟨d.val, by omega⟩)
      * k (ix4 b ⟨y.val / 256, by omega⟩ ⟨d.val, by omega⟩ j) = (s' j : EReal)) :
    Cert.ReferenceIdeal.Read.val_main_v21 (F := Ideal) q k v (ix3 b l y)
      = Cert.AttnMath.mean (fun j => s' j + t) fun j => v (ix4 b ⟨y.val / 256, by omega⟩ j ⟨y.val % 64, by omega⟩) := by
  rw [Cert.ReferenceIdeal.Read.out_apply]
  simp only [Cert.ReferenceIdeal.Read.weight_apply, Cert.ReferenceIdeal.Read.score_apply, hs]
  exact Cert.AttnMath.softmax (fun j => s' j + t) _ s' t fun j => rfl

theorem ix4_congr {n0 n1 n2 n3 : ℕ} {a a' : Fin n0} {b b' : Fin n1} {c c' : Fin n2} {d d' : Fin n3}
    (ha : a.val = a'.val) (hb : b.val = b'.val) (hc : c.val = c'.val) (hd : d.val = d'.val) : ix4 a b c d = ix4 a' b' c' d' := by
  obtain rfl := Fin.ext ha; obtain rfl := Fin.ext hb; obtain rfl := Fin.ext hc; obtain rfl := Fin.ext hd; rfl

theorem ix3_congr {n0 n1 n2 : ℕ} {a a' : Fin n0} {b b' : Fin n1} {c c' : Fin n2}
    (ha : a.val = a'.val) (hb : b.val = b'.val) (hc : c.val = c'.val) : ix3 a b c = ix3 a' b' c' := by
  obtain rfl := Fin.ext ha; obtain rfl := Fin.ext hb; obtain rfl := Fin.ext hc; rfl

section
variable (x0 : Vec Ideal S1x4x512x128 .bf16) (x1 : Vec Ideal S1x1x128x8448 .bf16) (x2 : Vec Ideal S1x1x8448x128 .bf16)
variable (b g : Fin 2) (n : Fin 16)

/-- The blocks of a point, in terms of the arrays. -/
structure Blocks (q : FVec Ideal S2x8x8448x128 .bf16) (k : FVec Ideal S2x2x128x8448 .bf16) (v : FVec Ideal S2x2x8448x128 .bf16) : Prop where
  hq : ∀ (h : Fin 4) (r : Fin 512) (d : Fin 128), x0 (ix4 0 h r d) = q (ix4 b ⟨4 * g.val + h.val, by omega⟩ ⟨512 * n.val + r.val, by omega⟩ d)
  hk : ∀ (d : Fin 128) (j : Fin 8448), x1 (ix4 0 0 d j) = k (ix4 b g d j)
  hv : ∀ (j : Fin 8448) (d : Fin 128), x2 (ix4 0 0 j d) = v (ix4 b g j d)

variable {x0 x1 x2 b g n}

/-- The scores that the body computes, from the arrays. -/
theorem Blocks.score (B : Blocks x0 x1 x2 b g n q k v) (r : Fin 512) (y : Fin 256) (i : ℕ) (j : Fin 768) :
    k0_pay5 (F := Ideal) (k0_pay12 x0) (kb x1 i) (ix2 ⟨512 * (y.val / 64) + r.val, by omega⟩ j)
      = ∑ d : Fin 128, q (ix4 b ⟨4 * g.val + y.val / 64, by omega⟩ ⟨512 * n.val + r.val, by omega⟩ d) * k (ix4 b g d (kpos i j)) := by
  rw [pay5_apply]
  refine Finset.sum_congr rfl fun d _ => ?_
  rw [pay12_apply, kb_apply]
  refine congrArg₂ (· * ·) ((B.hq _ _ d).trans (congrArg q (ix4_congr rfl ?_ ?_ rfl))) (B.hk d (kpos i j))
  · show 4 * g.val + (512 * (y.val / 64) + r.val) / 512 = 4 * g.val + y.val / 64; omega
  · show 512 * n.val + (512 * (y.val / 64) + r.val) % 512 = 512 * n.val + r.val; omega

/-- What the body leaves in the result's buffer, on either way, is the point's block of the reference. -/
theorem Blocks.out (B : Blocks x0 x1 x2 b g n q k v) (h : Laid q k v) (r : Fin 512) (y : Fin 256) :
    (outOf (F := Ideal) (accD x0 x1 x2 11) (ix3 0 r y)
      = Cert.ReferenceIdeal.Read.val_main_v21 (F := Ideal) q k v (ix3 b ⟨512 * n.val + r.val, by omega⟩ ⟨256 * g.val + y.val, by omega⟩))
    ∧ outOf (F := Ideal) (accO x0 x1 x2 11).1 (ix3 0 r y)
      = Cert.ReferenceIdeal.Read.val_main_v21 (F := Ideal) q k v (ix3 b ⟨512 * n.val + r.val, by omega⟩ ⟨256 * g.val + y.val, by omega⟩) := by
  obtain ⟨s', sh, h1, h2⟩ := h.scores b g ⟨4 * g.val + y.val / 64, by omega⟩ ⟨512 * n.val + r.val, by omega⟩
  have hsc : ∀ i j, k0_pay5 (F := Ideal) (k0_pay12 x0) (kb x1 i) (ix2 ⟨512 * (y.val / 64) + r.val, by omega⟩ j)
      = ((s' (kpos i j) + sh : ℝ) : EReal) := fun i j => (B.score r y i j).trans (h2 (kpos i j))
  have hone : ∀ j, x2 (ix4 0 0 j 64) = 1 := fun j => (B.hv j 64).trans (h.v_one b g j)
  have href : Cert.AttnMath.mean (fun j => s' j + sh) (fun j => x2 (ix4 0 0 j ⟨y.val % 64, by omega⟩))
      = Cert.ReferenceIdeal.Read.val_main_v21 (F := Ideal) q k v (ix3 b ⟨512 * n.val + r.val, by omega⟩ ⟨256 * g.val + y.val, by omega⟩) := by
    refine Eq.trans ?_ (h.ref b ⟨512 * n.val + r.val, by omega⟩ ⟨256 * g.val + y.val, by omega⟩ s' sh ?_).symm
    · refine congrArg _ (funext fun j => (B.hv j _).trans (congrArg v (ix4_congr rfl ?_ rfl ?_)))
      · show g.val = (256 * g.val + y.val) / 256; omega
      · show y.val % 64 = (256 * g.val + y.val) % 64; omega
    · intro j
      rw [← h1 j]
      refine Finset.sum_congr rfl fun d _ => congrArg₂ (· * ·) (congrArg q (ix4_congr rfl ?_ rfl rfl)) (congrArg k (ix4_congr rfl ?_ rfl rfl))
      · show (256 * g.val + y.val) / 256 * 4 + (256 * g.val + y.val) / 64 % 4 = 4 * g.val + y.val / 64; omega
      · show (256 * g.val + y.val) / 256 = g.val; omega
  constructor
  · rw [outOf_apply, ← href]
    exact quot_direct x0 x1 x2 _ (fun j => s' j + sh) hsc hone _
  · rw [outOf_apply, ← href]
    exact quot_loop x0 x1 x2 _ (fun j => s' j + sh) hsc hone _
end

variable (m : (ℓ : Loc nD τ sig) → Buf (Elt Ideal) ℓ)

/-- What a point leaves in the result's buffer is its block of the reference. -/
theorem point (c : Dev nD) (q : FVec Ideal S2x8x8448x128 .bf16) (k : FVec Ideal S2x2x128x8448 .bf16) (v : FVec Ideal S2x2x8448x128 .bf16)
    (hq : m ((c : Thread nD τ).loc main_arg0) = q) (hk : m ((c : Thread nD τ).loc main_arg1) = k) (hv : m ((c : Thread nD τ).loc main_arg2) = v)
    (h : Laid q k v) (t : Fin cfg0.N) (r : Fin 512) (y : Fin 256) :
    outsAt m c t (ix3 0 r y)
      = Cert.ReferenceIdeal.Read.val_main_v21 (F := Ideal) q k v (ix3 (tb t) ⟨512 * (t.val % 16) + r.val, by omega⟩ ⟨256 * (t.val / 16 % 2) + y.val, by omega⟩) := by
  have B : Blocks (X0_0 m c t) (iblk m c 1 t) (iblk m c 2 t) (tb t) (tg t) ⟨t.val % 16, by omega⟩ q k v := by
    subst hq hk hv
    exact ⟨fun h r d => queries_apply m c t h r d, fun d j => keys_apply m c t d j, fun j d => values_apply m c t j d⟩
  obtain ⟨e1, e2⟩ := B.out h r y
  have f1 : (runAt m c t).1.2.2 = outOf (accD (X0_0 m c t) (iblk m c 1 t) (iblk m c 2 t) 11) := found_direct ..
  have f2 : (runAt m c t).1.2.1 = outOf (accO (X0_0 m c t) (iblk m c 1 t) (iblk m c 2 t) 11).1 := found_loop ..
  unfold outsAt
  split_ifs
  · rw [f2]; exact e2
  · rw [f1]; exact e1

theorem algebraic : Cert.algebraic_KernelIdeal_ReferenceIdeal_pre_laid_out := by
  intro m g m' g' hpre hargs
  refine ⟨fun c => Cert.ReferenceIdeal.Read.val_main_v21 (F := Ideal) (m ((c : Thread nD τ).loc main_arg0)) (m ((c : Thread nD τ).loc main_arg1))
        (m ((c : Thread nD τ).loc main_arg2)), ?_, ?_⟩
  · refine run_of m g _ fun c t r y => point m c _ _ _ rfl rfl rfl ?_ t r y
    obtain ⟨p1, p2, p3, p4, p5⟩ := hpre c
    exact ⟨Cert.Pre_laid_out.queries _ _ _ p1, Cert.Pre_laid_out.keys _ _ _ p2, Cert.Pre_laid_out.keys_one _ _ _ p3,
      Cert.Pre_laid_out.keys_zero _ _ _ p4, Cert.Pre_laid_out.values_one _ _ _ p5⟩
  · refine (θ_run _ _ _).mono (fun r hr c => ?_) (Cert.ReferenceIdeal.Value.run m' g')
    obtain ⟨h0, h1⟩ := hr c
    obtain ⟨a0, a1, a2⟩ := hargs c
    refine ⟨h0.trans ?_, h1⟩
    rw [a0, a1, a2]
    exact Cert.ReferenceIdeal.Read.val_main_v21_eq _ _ _

end Cert.Attn

end
-- ==== Proof.FfnVals.lean ====
/-
  What the feed-forward call's body leaves in the result's buffer, as a function of the blocks it reads.

  The body keeps the modulated, normalised rows (`hid`, the block's 512 rows with 8 on either side) and takes the
  5632 columns of the up projection by chunks of 256: it projects a gate chunk and a value chunk into a slot
  (`slab`), reads each slot through three windows of 512 rows that start at rows 7, 8 and 9 (`win`), and writes the
  gated product (`chunk`) beside the others (`act`). The down projection reads all of them at once.
-/
module

public import proofs.«01_k».proof.Proof.Gen.FfnIdeal.Frame
public import Idealize.ShloMosaic.Lib.Pointwise
public import Idealize.ShloMosaic.Lib.Pipeline.ReadBack

@[expose] public section

set_option maxRecDepth 16384

noncomputable section

namespace Cert.FfnIdeal.Body

open Cert.FfnIdeal Cert.FfnIdeal.Gen
open Idealize.ShloMosaic Idealize.ShloMosaic.TcCoe Idealize.ShloMosaic.Tactic
open Idealize.SL Idealize.SL.RA Idealize.SL.BI Idealize.SL.Sem
open Idealize.ShloMosaic.Pointwise

variable {F : FTy → Type} [FloatOps F]

/-! ## The pieces of the computation -/

theorem inbW (n : ℕ) : ∀ a, (![0, 0, 256 * (n % 22)] : Fin 3 → ℕ) a + S1x1024x256.size a ≤ S1x1024x5632.size a := by
  intro a; fin_cases a <;> simp [Shape.size] <;> omega
theorem inbC (n : ℕ) : ∀ a, (![0, 256 * (n % 22)] : Fin 2 → ℕ) a + S3x256.size a ≤ S3x5632.size a := by
  intro a; fin_cases a <;> simp [Shape.size] <;> omega
theorem inbM (n : ℕ) : ∀ a, (![0, n % 6, 0] : Fin 3 → ℕ) a + S1x1x1024.size a ≤ S1x6x1024.size a := by
  intro a; fin_cases a <;> simp [Shape.size] <;> omega

/-- The `n`-th 256 columns of the up weights. -/
def wcol (x5 : Vec F S1x1024x5632 .bf16) (n : ℕ) : Vec F S1x1024x256 .bf16 :=
  View.ld x5 (Rect.unit (s := S1x1024x5632) ![0, 0, 256 * (n % 22)] S1x1024x256.size (inbW n))
/-- The `n`-th 256 columns of the convolution's taps. -/
def ccol (x6 : Vec F S3x5632 .f32) (n : ℕ) : Vec F S3x256 .f32 :=
  View.ld x6 (Rect.unit (s := S3x5632) ![0, 256 * (n % 22)] S3x256.size (inbC n))
/-- The `n`-th row of the modulation. -/
def mrow (x3 : Vec F S1x6x1024 .f32) (n : ℕ) : Vec F S1x1x1024 .f32 :=
  View.ld x3 (Rect.unit (s := S1x6x1024) ![0, n % 6, 0] S1x1x1024.size (inbM n))

/-- 512 of the 528 rows of a slot, from row `e`. -/
def win (e : ℕ) (P : Vec F S1x528x256 .f32) : Vec F S1x512x256 .f32 := fun y =>
  P (ix3 0 ⟨(y 1).val + e % 17, by have : (y 1).val < 512 := (y 1).isLt; omega⟩ ⟨(y 2).val, (y 2).isLt⟩)

/-- The rows that the call projects up: normalised, modulated, and zero outside the sequence. -/
def hid (i : grid0.Coords) (x0 : Vec F S1x512x1024 .f32) (x1 x2 : Vec F S1x8x1024 .f32) (x3 : Vec F S1x6x1024 .f32) (x4 : Vec F S1x1024 .f32) :
    FVec F S528x1024 .bf16 :=
  k0_pay4 (k0_pay2 i) (k0_pay3 x1 x0 x2 x4 (mrow x3 4) (mrow x3 3))

/-- The `n`-th 256 columns of the up projection, as a slot holds them. -/
def slab (h : FVec F S528x1024 .bf16) (x5 : Vec F S1x1024x5632 .bf16) (n : ℕ) : Vec F S1x528x256 .f32 := k0_pay5 h (wcol x5 n)

/-- The `n`-th 256 columns of the gated product. -/
def chunk (h : FVec F S528x1024 .bf16) (x5 : Vec F S1x1024x5632 .bf16) (x6 : Vec F S3x5632 .f32) (n : ℕ) : FVec F S512x256 .bf16 :=
  k0_pay10 (k0_pay9 (ccol x6 n) (k0_pay7 (ccol x6 n)) (k0_pay8 (win 7 (slab h x5 n))) (win 8 (slab h x5 n)) (win 9 (slab h x5 n))
    (ccol x6 (11 + n)) (win 7 (slab h x5 (11 + n))) (win 8 (slab h x5 (11 + n))) (win 9 (slab h x5 (11 + n))))

/-- The gated product, all columns. -/
def act (h : FVec F S528x1024 .bf16) (x5 : Vec F S1x1024x5632 .bf16) (x6 : Vec F S3x5632 .f32) : Vec F S512x2816 .bf16 := fun z =>
  chunk h x5 x6 ((z 1).val / 256) (ix2 ⟨(z 0).val, (z 0).isLt⟩ ⟨(z 1).val % 256, by omega⟩)

/-- A load through a window of the last slot written reads that window of it. -/
theorem rdw (v : View sig .tc .vmem S2x528x256 .f32) (s e : ℕ) (inb) (P : Vec F S1x528x256 .f32) (L : List (View.Piece (Elt F) S2x528x256 .f32)) (inb') :
    v.readCov (⟨Rect.unit (s := S2x528x256) ![s, 0, 0] S1x528x256.size inb, P⟩ :: L)
      (Rect.unit (s := S2x528x256) ![s, e, 0] S1x512x256.size inb').toLoadRect = win e P := by
  rw [View.readCov_eq_canon']
  funext y
  have he : e + 512 ≤ 528 := inb' 1
  have h0 : (y 0).val = 0 := by have : (y 0).val < 1 := (y 0).isLt; omega
  refine Eq.trans (congrArg _ ?_) (View.canon_cons_emb (Rect.unit (s := S2x528x256) ![s, 0, 0] S1x528x256.size inb) P L
    (ix3 0 ⟨(y 1).val + e % 17, by have : (y 1).val < 512 := (y 1).isLt; omega⟩ ⟨(y 2).val, (y 2).isLt⟩ : S1x528x256.Idx))
  funext a; apply Fin.ext
  match a with
  | ⟨0, _⟩ => show s + 1 * (y 0).val = s + 1 * 0; omega
  | ⟨1, _⟩ => show e + 1 * (y 1).val = 0 + 1 * ((y 1).val + e % 17); omega
  | ⟨2, _⟩ => show 0 + 1 * (y 2).val = 0 + 1 * (y 2).val; omega

variable (c : Dev nD) (i : grid0.Coords)
    (arg2 : Memref sig .tc .vmem S1x512x1024 .f32) (harg2 : arg2.IsWhole) (arg3 : Memref sig .tc .vmem S1x8x1024 .f32) (harg3 : arg3.IsWhole)
    (arg4 : Memref sig .tc .vmem S1x8x1024 .f32) (harg4 : arg4.IsWhole) (arg5 : Memref sig .tc .vmem S1x6x1024 .f32) (harg5 : arg5.IsWhole)
    (arg6 : Memref sig .tc .vmem S1x1024 .f32) (harg6 : arg6.IsWhole) (arg7 : Memref sig .tc .vmem S1x1024x5632 .bf16) (harg7 : arg7.IsWhole)
    (arg8 : Memref sig .tc .vmem S3x5632 .f32) (harg8 : arg8.IsWhole) (arg9 : Memref sig .tc .vmem S1x2816x1024 .bf16) (harg9 : arg9.IsWhole)
    (arg10 : Memref sig .tc .vmem S1x1024 .f32) (harg10 : arg10.IsWhole) (arg11 : Memref sig .tc .vmem S1x512x1024 .f32) (harg11 : arg11.IsWhole)
    (arg12 : Memref sig .tc .vmem S528x1024 .bf16) (harg12 : arg12.IsWhole) (arg13 : Memref sig .tc .vmem S2x528x256 .f32) (harg13 : arg13.IsWhole)
    (arg14 : Memref sig .tc .vmem S2x528x256 .f32) (harg14 : arg14.IsWhole) (arg15 : Memref sig .tc .vmem S512x2816 .bf16) (harg15 : arg15.IsWhole)
    (x0 : Vec F S1x512x1024 .f32) (x1 x2 : Vec F S1x8x1024 .f32) (x3 : Vec F S1x6x1024 .f32) (x4 : Vec F S1x1024 .f32)
    (x5 : Vec F S1x1024x5632 .bf16) (x6 : Vec F S3x5632 .f32) (x7 : Vec F S1x2816x1024 .bf16) (x8 : Vec F S1x1024 .f32)

/-! ## The loads -/

/-- A load of a whole block reads the block. -/
theorem rdAll {S : Shape} {e : EltTy} (g : Memref sig .tc .vmem S e) (hg : g.IsWhole) (x : Vec F S e) (off : Fin S.rank → ℕ) (inb) (h : ∀ a, off a = 0) :
    View.readAt (Elt F) g.view (Rect.unit (s := S) off S.size inb).toLoadRect (hg.unread x) = x := by
  rw [View.readAt_eq_ld, hg.read_unread, View.ld_unit_lit]; exact h
theorem rd5 (n : ℕ) (off : Fin 3 → ℕ) (h : off = ![0, n % 6, 0]) (inb) :
    View.readAt (Elt F) arg5.view (Rect.unit (s := S1x6x1024) off S1x1x1024.size inb).toLoadRect (harg5.unread x3) = mrow x3 n := by
  subst h; rw [View.readAt_eq_ld, harg5.read_unread]; rfl
theorem rd7 (n : ℕ) (off : Fin 3 → ℕ) (h : off = ![0, 0, 256 * (n % 22)]) (inb) :
    View.readAt (Elt F) arg7.view (Rect.unit (s := S1x1024x5632) off S1x1024x256.size inb).toLoadRect (harg7.unread x5) = wcol x5 n := by
  subst h; rw [View.readAt_eq_ld, harg7.read_unread]; rfl
theorem rd8 (n : ℕ) (off : Fin 2 → ℕ) (h : off = ![0, 256 * (n % 22)]) (inb) :
    View.readAt (Elt F) arg8.view (Rect.unit (s := S3x5632) off S3x256.size inb).toLoadRect (harg8.unread x6) = ccol x6 n := by
  subst h; rw [View.readAt_eq_ld, harg8.read_unread]; rfl

theorem rd2 : View.readAt (Elt F) arg2.view (Rect.unit (s := S1x512x1024) ![0, 0, 0] S1x512x1024.size inb_S1x512x1024_S1x512x1024_0_0_0).toLoadRect (harg2.unread x0) = x0 :=
  rdAll arg2 harg2 x0 _ _ (by intro a; fin_cases a <;> rfl)
theorem rd3 : View.readAt (Elt F) arg3.view (Rect.unit (s := S1x8x1024) ![0, 0, 0] S1x8x1024.size inb_S1x8x1024_S1x8x1024_0_0_0).toLoadRect (harg3.unread x1) = x1 :=
  rdAll arg3 harg3 x1 _ _ (by intro a; fin_cases a <;> rfl)
theorem rd6 : View.readAt (Elt F) arg6.view (Rect.unit (s := S1x1024) ![0, 0] S1x1024.size inb_S1x1024_S1x1024_0_0).toLoadRect (harg6.unread x4) = x4 :=
  rdAll arg6 harg6 x4 _ _ (by intro a; fin_cases a <;> rfl)
theorem rd9 : View.readAt (Elt F) arg9.view (Rect.unit (s := S1x2816x1024) ![0, 0, 0] S1x2816x1024.size inb_S1x2816x1024_S1x2816x1024_0_0_0).toLoadRect (harg9.unread x7) = x7 :=
  rdAll arg9 harg9 x7 _ _ (by intro a; fin_cases a <;> rfl)

/-! ## The hidden rows -/

theorem v46_eq : kernelRun0_A.sl.v46 c i arg2 harg2 arg3 harg3 arg4 harg4 arg5 harg5 arg6 harg6 arg12 x0 x1 x2 x3 x4 = hid i x0 x1 x2 x3 x4 := by
  rw [kernelRun0_A.sl.v46, kernelRun0_A.sl.HS0_1, View.readCov_cons_toLoadRect, kernelRun0_A.sl.r]
  rw [rd2, rd3, rd3, rd6, rd5 arg5 harg5 x3 4 _ rfl, rd5 arg5 harg5 x3 3 _ rfl]
  rfl

/-! ## The windows of the slots -/

theorem v62_eq : kernelRun0_A.sl.v62 c i arg2 harg2 arg3 harg3 arg4 harg4 arg5 harg5 arg6 harg6 arg7 harg7 arg12 arg13 x0 x1 x2 x3 x4 x5 = win 7 (slab (hid i x0 x1 x2 x3 x4) x5 0) := by
  rw [kernelRun0_A.sl.v62, kernelRun0_A.sl.HS1_1, rdw]
  refine congrArg (win 7) ?_
  rw [v46_eq, rd7 arg7 harg7 x5 0 _ rfl]
  rfl

theorem v67_eq : kernelRun0_A.sl.v67 c i arg2 harg2 arg3 harg3 arg4 harg4 arg5 harg5 arg6 harg6 arg7 harg7 arg12 arg13 x0 x1 x2 x3 x4 x5 = win 8 (slab (hid i x0 x1 x2 x3 x4) x5 0) := by
  rw [kernelRun0_A.sl.v67, kernelRun0_A.sl.HS1_1, rdw]
  refine congrArg (win 8) ?_
  rw [v46_eq, rd7 arg7 harg7 x5 0 _ rfl]
  rfl

theorem v73_eq : kernelRun0_A.sl.v73 c i arg2 harg2 arg3 harg3 arg4 harg4 arg5 harg5 arg6 harg6 arg7 harg7 arg12 arg13 x0 x1 x2 x3 x4 x5 = win 9 (slab (hid i x0 x1 x2 x3 x4) x5 0) := by
  rw [kernelRun0_A.sl.v73, kernelRun0_A.sl.HS1_1, rdw]
  refine congrArg (win 9) ?_
  rw [v46_eq, rd7 arg7 harg7 x5 0 _ rfl]
  rfl

theorem v84_eq : kernelRun0_A.sl.v84 c i arg2 harg2 arg3 harg3 arg4 harg4 arg5 harg5 arg6 harg6 arg7 harg7 arg12 arg14 x0 x1 x2 x3 x4 x5 = win 7 (slab (hid i x0 x1 x2 x3 x4) x5 11) := by
  rw [kernelRun0_A.sl.v84, kernelRun0_A.sl.HS2_1, rdw]
  refine congrArg (win 7) ?_
  rw [v46_eq, rd7 arg7 harg7 x5 11 _ rfl]
  rfl

theorem v89_eq : kernelRun0_A.sl.v89 c i arg2 harg2 arg3 harg3 arg4 harg4 arg5 harg5 arg6 harg6 arg7 harg7 arg12 arg14 x0 x1 x2 x3 x4 x5 = win 8 (slab (hid i x0 x1 x2 x3 x4) x5 11) := by
  rw [kernelRun0_A.sl.v89, kernelRun0_A.sl.HS2_1, rdw]
  refine congrArg (win 8) ?_
  rw [v46_eq, rd7 arg7 harg7 x5 11 _ rfl]
  rfl

theorem v95_eq : kernelRun0_A.sl.v95 c i arg2 harg2 arg3 harg3 arg4 harg4 arg5 harg5 arg6 harg6 arg7 harg7 arg12 arg14 x0 x1 x2 x3 x4 x5 = win 9 (slab (hid i x0 x1 x2 x3 x4) x5 11) := by
  rw [kernelRun0_A.sl.v95, kernelRun0_A.sl.HS2_1, rdw]
  refine congrArg (win 9) ?_
  rw [v46_eq, rd7 arg7 harg7 x5 11 _ rfl]
  rfl

theorem v121_eq : kernelRun0_A.sl.v121 c i arg2 harg2 arg3 harg3 arg4 harg4 arg5 harg5 arg6 harg6 arg7 harg7 arg12 arg13 x0 x1 x2 x3 x4 x5 = win 7 (slab (hid i x0 x1 x2 x3 x4) x5 1) := by
  rw [kernelRun0_A.sl.v121, kernelRun0_A.sl.HS1_2, rdw]
  refine congrArg (win 7) ?_
  rw [v46_eq, rd7 arg7 harg7 x5 1 _ rfl]
  rfl

theorem v126_eq : kernelRun0_A.sl.v126 c i arg2 harg2 arg3 harg3 arg4 harg4 arg5 harg5 arg6 harg6 arg7 harg7 arg12 arg13 x0 x1 x2 x3 x4 x5 = win 8 (slab (hid i x0 x1 x2 x3 x4) x5 1) := by
  rw [kernelRun0_A.sl.v126, kernelRun0_A.sl.HS1_2, rdw]
  refine congrArg (win 8) ?_
  rw [v46_eq, rd7 arg7 harg7 x5 1 _ rfl]
  rfl

theorem v132_eq : kernelRun0_A.sl.v132 c i arg2 harg2 arg3 harg3 arg4 harg4 arg5 harg5 arg6 harg6 arg7 harg7 arg12 arg13 x0 x1 x2 x3 x4 x5 = win 9 (slab (hid i x0 x1 x2 x3 x4) x5 1) := by
  rw [kernelRun0_A.sl.v132, kernelRun0_A.sl.HS1_2, rdw]
  refine congrArg (win 9) ?_
  rw [v46_eq, rd7 arg7 harg7 x5 1 _ rfl]
  rfl

theorem v143_eq : kernelRun0_A.sl.v143 c i arg2 harg2 arg3 harg3 arg4 harg4 arg5 harg5 arg6 harg6 arg7 harg7 arg12 arg14 x0 x1 x2 x3 x4 x5 = win 7 (slab (hid i x0 x1 x2 x3 x4) x5 12) := by
  rw [kernelRun0_A.sl.v143, kernelRun0_A.sl.HS2_2, rdw]
  refine congrArg (win 7) ?_
  rw [v46_eq, rd7 arg7 harg7 x5 12 _ rfl]
  rfl

theorem v148_eq : kernelRun0_A.sl.v148 c i arg2 harg2 arg3 harg3 arg4 harg4 arg5 harg5 arg6 harg6 arg7 harg7 arg12 arg14 x0 x1 x2 x3 x4 x5 = win 8 (slab (hid i x0 x1 x2 x3 x4) x5 12) := by
  rw [kernelRun0_A.sl.v148, kernelRun0_A.sl.HS2_2, rdw]
  refine congrArg (win 8) ?_
  rw [v46_eq, rd7 arg7 harg7 x5 12 _ rfl]
  rfl

theorem v154_eq : kernelRun0_A.sl.v154 c i arg2 harg2 arg3 harg3 arg4 harg4 arg5 harg5 arg6 harg6 arg7 harg7 arg12 arg14 x0 x1 x2 x3 x4 x5 = win 9 (slab (hid i x0 x1 x2 x3 x4) x5 12) := by
  rw [kernelRun0_A.sl.v154, kernelRun0_A.sl.HS2_2, rdw]
  refine congrArg (win 9) ?_
  rw [v46_eq, rd7 arg7 harg7 x5 12 _ rfl]
  rfl

theorem v180_eq : kernelRun0_A.sl.v180 c i arg2 harg2 arg3 harg3 arg4 harg4 arg5 harg5 arg6 harg6 arg7 harg7 arg12 arg13 x0 x1 x2 x3 x4 x5 = win 7 (slab (hid i x0 x1 x2 x3 x4) x5 2) := by
  rw [kernelRun0_A.sl.v180, kernelRun0_A.sl.HS1_3, rdw]
  refine congrArg (win 7) ?_
  rw [kernelRun0_A.sl.r_7, v46_eq, rd7 arg7 harg7 x5 2 _ rfl]
  rfl

theorem v185_eq : kernelRun0_A.sl.v185 c i arg2 harg2 arg3 harg3 arg4 harg4 arg5 harg5 arg6 harg6 arg7 harg7 arg12 arg13 x0 x1 x2 x3 x4 x5 = win 8 (slab (hid i x0 x1 x2 x3 x4) x5 2) := by
  rw [kernelRun0_A.sl.v185, kernelRun0_A.sl.HS1_3, rdw]
  refine congrArg (win 8) ?_
  rw [kernelRun0_A.sl.r_7, v46_eq, rd7 arg7 harg7 x5 2 _ rfl]
  rfl

theorem v191_eq : kernelRun0_A.sl.v191 c i arg2 harg2 arg3 harg3 arg4 harg4 arg5 harg5 arg6 harg6 arg7 harg7 arg12 arg13 x0 x1 x2 x3 x4 x5 = win 9 (slab (hid i x0 x1 x2 x3 x4) x5 2) := by
  rw [kernelRun0_A.sl.v191, kernelRun0_A.sl.HS1_3, rdw]
  refine congrArg (win 9) ?_
  rw [kernelRun0_A.sl.r_7, v46_eq, rd7 arg7 harg7 x5 2 _ rfl]
  rfl

theorem v202_eq : kernelRun0_A.sl.v202 c i arg2 harg2 arg3 harg3 arg4 harg4 arg5 harg5 arg6 harg6 arg7 harg7 arg12 arg14 x0 x1 x2 x3 x4 x5 = win 7 (slab (hid i x0 x1 x2 x3 x4) x5 13) := by
  rw [kernelRun0_A.sl.v202, kernelRun0_A.sl.HS2_3, rdw]
  refine congrArg (win 7) ?_
  rw [v46_eq, rd7 arg7 harg7 x5 13 _ rfl]
  rfl

theorem v207_eq : kernelRun0_A.sl.v207 c i arg2 harg2 arg3 harg3 arg4 harg4 arg5 harg5 arg6 harg6 arg7 harg7 arg12 arg14 x0 x1 x2 x3 x4 x5 = win 8 (slab (hid i x0 x1 x2 x3 x4) x5 13) := by
  rw [kernelRun0_A.sl.v207, kernelRun0_A.sl.HS2_3, rdw]
  refine congrArg (win 8) ?_
  rw [v46_eq, rd7 arg7 harg7 x5 13 _ rfl]
  rfl

theorem v213_eq : kernelRun0_A.sl.v213 c i arg2 harg2 arg3 harg3 arg4 harg4 arg5 harg5 arg6 harg6 arg7 harg7 arg12 arg14 x0 x1 x2 x3 x4 x5 = win 9 (slab (hid i x0 x1 x2 x3 x4) x5 13) := by
  rw [kernelRun0_A.sl.v213, kernelRun0_A.sl.HS2_3, rdw]
  refine congrArg (win 9) ?_
  rw [v46_eq, rd7 arg7 harg7 x5 13 _ rfl]
  rfl

theorem v239_eq : kernelRun0_A.sl.v239 c i arg2 harg2 arg3 harg3 arg4 harg4 arg5 harg5 arg6 harg6 arg7 harg7 arg12 arg13 x0 x1 x2 x3 x4 x5 = win 7 (slab (hid i x0 x1 x2 x3 x4) x5 3) := by
  rw [kernelRun0_A.sl.v239, kernelRun0_A.sl.HS1_4, rdw]
  refine congrArg (win 7) ?_
  rw [v46_eq, rd7 arg7 harg7 x5 3 _ rfl]
  rfl

theorem v244_eq : kernelRun0_A.sl.v244 c i arg2 harg2 arg3 harg3 arg4 harg4 arg5 harg5 arg6 harg6 arg7 harg7 arg12 arg13 x0 x1 x2 x3 x4 x5 = win 8 (slab (hid i x0 x1 x2 x3 x4) x5 3) := by
  rw [kernelRun0_A.sl.v244, kernelRun0_A.sl.HS1_4, rdw]
  refine congrArg (win 8) ?_
  rw [v46_eq, rd7 arg7 harg7 x5 3 _ rfl]
  rfl

theorem v250_eq : kernelRun0_A.sl.v250 c i arg2 harg2 arg3 harg3 arg4 harg4 arg5 harg5 arg6 harg6 arg7 harg7 arg12 arg13 x0 x1 x2 x3 x4 x5 = win 9 (slab (hid i x0 x1 x2 x3 x4) x5 3) := by
  rw [kernelRun0_A.sl.v250, kernelRun0_A.sl.HS1_4, rdw]
  refine congrArg (win 9) ?_
  rw [v46_eq, rd7 arg7 harg7 x5 3 _ rfl]
  rfl

theorem v261_eq : kernelRun0_A.sl.v261 c i arg2 harg2 arg3 harg3 arg4 harg4 arg5 harg5 arg6 harg6 arg7 harg7 arg12 arg14 x0 x1 x2 x3 x4 x5 = win 7 (slab (hid i x0 x1 x2 x3 x4) x5 14) := by
  rw [kernelRun0_A.sl.v261, kernelRun0_A.sl.HS2_4, rdw]
  refine congrArg (win 7) ?_
  rw [kernelRun0_A.sl.r_11, v46_eq, rd7 arg7 harg7 x5 14 _ rfl]
  rfl

theorem v266_eq : kernelRun0_A.sl.v266 c i arg2 harg2 arg3 harg3 arg4 harg4 arg5 harg5 arg6 harg6 arg7 harg7 arg12 arg14 x0 x1 x2 x3 x4 x5 = win 8 (slab (hid i x0 x1 x2 x3 x4) x5 14) := by
  rw [kernelRun0_A.sl.v266, kernelRun0_A.sl.HS2_4, rdw]
  refine congrArg (win 8) ?_
  rw [kernelRun0_A.sl.r_11, v46_eq, rd7 arg7 harg7 x5 14 _ rfl]
  rfl

theorem v272_eq : kernelRun0_A.sl.v272 c i arg2 harg2 arg3 harg3 arg4 harg4 arg5 harg5 arg6 harg6 arg7 harg7 arg12 arg14 x0 x1 x2 x3 x4 x5 = win 9 (slab (hid i x0 x1 x2 x3 x4) x5 14) := by
  rw [kernelRun0_A.sl.v272, kernelRun0_A.sl.HS2_4, rdw]
  refine congrArg (win 9) ?_
  rw [kernelRun0_A.sl.r_11, v46_eq, rd7 arg7 harg7 x5 14 _ rfl]
  rfl

theorem v298_eq : kernelRun0_A.sl.v298 c i arg2 harg2 arg3 harg3 arg4 harg4 arg5 harg5 arg6 harg6 arg7 harg7 arg12 arg13 x0 x1 x2 x3 x4 x5 = win 7 (slab (hid i x0 x1 x2 x3 x4) x5 4) := by
  rw [kernelRun0_A.sl.v298, kernelRun0_A.sl.HS1_5, rdw]
  refine congrArg (win 7) ?_
  rw [v46_eq, rd7 arg7 harg7 x5 4 _ rfl]
  rfl

theorem v303_eq : kernelRun0_A.sl.v303 c i arg2 harg2 arg3 harg3 arg4 harg4 arg5 harg5 arg6 harg6 arg7 harg7 arg12 arg13 x0 x1 x2 x3 x4 x5 = win 8 (slab (hid i x0 x1 x2 x3 x4) x5 4) := by
  rw [kernelRun0_A.sl.v303, kernelRun0_A.sl.HS1_5, rdw]
  refine congrArg (win 8) ?_
  rw [v46_eq, rd7 arg7 harg7 x5 4 _ rfl]
  rfl

theorem v309_eq : kernelRun0_A.sl.v309 c i arg2 harg2 arg3 harg3 arg4 harg4 arg5 harg5 arg6 harg6 arg7 harg7 arg12 arg13 x0 x1 x2 x3 x4 x5 = win 9 (slab (hid i x0 x1 x2 x3 x4) x5 4) := by
  rw [kernelRun0_A.sl.v309, kernelRun0_A.sl.HS1_5, rdw]
  refine congrArg (win 9) ?_
  rw [v46_eq, rd7 arg7 harg7 x5 4 _ rfl]
  rfl

theorem v320_eq : kernelRun0_A.sl.v320 c i arg2 harg2 arg3 harg3 arg4 harg4 arg5 harg5 arg6 harg6 arg7 harg7 arg12 arg14 x0 x1 x2 x3 x4 x5 = win 7 (slab (hid i x0 x1 x2 x3 x4) x5 15) := by
  rw [kernelRun0_A.sl.v320, kernelRun0_A.sl.HS2_5, rdw]
  refine congrArg (win 7) ?_
  rw [v46_eq, rd7 arg7 harg7 x5 15 _ rfl]
  rfl

theorem v325_eq : kernelRun0_A.sl.v325 c i arg2 harg2 arg3 harg3 arg4 harg4 arg5 harg5 arg6 harg6 arg7 harg7 arg12 arg14 x0 x1 x2 x3 x4 x5 = win 8 (slab (hid i x0 x1 x2 x3 x4) x5 15) := by
  rw [kernelRun0_A.sl.v325, kernelRun0_A.sl.HS2_5, rdw]
  refine congrArg (win 8) ?_
  rw [v46_eq, rd7 arg7 harg7 x5 15 _ rfl]
  rfl

theorem v331_eq : kernelRun0_A.sl.v331 c i arg2 harg2 arg3 harg3 arg4 harg4 arg5 harg5 arg6 harg6 arg7 harg7 arg12 arg14 x0 x1 x2 x3 x4 x5 = win 9 (slab (hid i x0 x1 x2 x3 x4) x5 15) := by
  rw [kernelRun0_A.sl.v331, kernelRun0_A.sl.HS2_5, rdw]
  refine congrArg (win 9) ?_
  rw [v46_eq, rd7 arg7 harg7 x5 15 _ rfl]
  rfl

theorem v357_eq : kernelRun0_A.sl.v357 c i arg2 harg2 arg3 harg3 arg4 harg4 arg5 harg5 arg6 harg6 arg7 harg7 arg12 arg13 x0 x1 x2 x3 x4 x5 = win 7 (slab (hid i x0 x1 x2 x3 x4) x5 5) := by
  rw [kernelRun0_A.sl.v357, kernelRun0_A.sl.HS1_6, rdw]
  refine congrArg (win 7) ?_
  rw [v46_eq, rd7 arg7 harg7 x5 5 _ rfl]
  rfl

theorem v362_eq : kernelRun0_A.sl.v362 c i arg2 harg2 arg3 harg3 arg4 harg4 arg5 harg5 arg6 harg6 arg7 harg7 arg12 arg13 x0 x1 x2 x3 x4 x5 = win 8 (slab (hid i x0 x1 x2 x3 x4) x5 5) := by
  rw [kernelRun0_A.sl.v362, kernelRun0_A.sl.HS1_6, rdw]
  refine congrArg (win 8) ?_
  rw [v46_eq, rd7 arg7 harg7 x5 5 _ rfl]
  rfl

theorem v368_eq : kernelRun0_A.sl.v368 c i arg2 harg2 arg3 harg3 arg4 harg4 arg5 harg5 arg6 harg6 arg7 harg7 arg12 arg13 x0 x1 x2 x3 x4 x5 = win 9 (slab (hid i x0 x1 x2 x3 x4) x5 5) := by
  rw [kernelRun0_A.sl.v368, kernelRun0_A.sl.HS1_6, rdw]
  refine congrArg (win 9) ?_
  rw [v46_eq, rd7 arg7 harg7 x5 5 _ rfl]
  rfl

theorem v379_eq : kernelRun0_A.sl.v379 c i arg2 harg2 arg3 harg3 arg4 harg4 arg5 harg5 arg6 harg6 arg7 harg7 arg12 arg14 x0 x1 x2 x3 x4 x5 = win 7 (slab (hid i x0 x1 x2 x3 x4) x5 16) := by
  rw [kernelRun0_A.sl.v379, kernelRun0_A.sl.HS2_6, rdw]
  refine congrArg (win 7) ?_
  rw [v46_eq, rd7 arg7 harg7 x5 16 _ rfl]
  rfl

theorem v384_eq : kernelRun0_A.sl.v384 c i arg2 harg2 arg3 harg3 arg4 harg4 arg5 harg5 arg6 harg6 arg7 harg7 arg12 arg14 x0 x1 x2 x3 x4 x5 = win 8 (slab (hid i x0 x1 x2 x3 x4) x5 16) := by
  rw [kernelRun0_A.sl.v384, kernelRun0_A.sl.HS2_6, rdw]
  refine congrArg (win 8) ?_
  rw [v46_eq, rd7 arg7 harg7 x5 16 _ rfl]
  rfl

theorem v390_eq : kernelRun0_A.sl.v390 c i arg2 harg2 arg3 harg3 arg4 harg4 arg5 harg5 arg6 harg6 arg7 harg7 arg12 arg14 x0 x1 x2 x3 x4 x5 = win 9 (slab (hid i x0 x1 x2 x3 x4) x5 16) := by
  rw [kernelRun0_A.sl.v390, kernelRun0_A.sl.HS2_6, rdw]
  refine congrArg (win 9) ?_
  rw [v46_eq, rd7 arg7 harg7 x5 16 _ rfl]
  rfl

theorem v416_eq : kernelRun0_A.sl.v416 c i arg2 harg2 arg3 harg3 arg4 harg4 arg5 harg5 arg6 harg6 arg7 harg7 arg12 arg13 x0 x1 x2 x3 x4 x5 = win 7 (slab (hid i x0 x1 x2 x3 x4) x5 6) := by
  rw [kernelRun0_A.sl.v416, kernelRun0_A.sl.HS1_7, rdw]
  refine congrArg (win 7) ?_
  rw [kernelRun0_A.sl.r_21, v46_eq, rd7 arg7 harg7 x5 6 _ rfl]
  rfl

theorem v421_eq : kernelRun0_A.sl.v421 c i arg2 harg2 arg3 harg3 arg4 harg4 arg5 harg5 arg6 harg6 arg7 harg7 arg12 arg13 x0 x1 x2 x3 x4 x5 = win 8 (slab (hid i x0 x1 x2 x3 x4) x5 6) := by
  rw [kernelRun0_A.sl.v421, kernelRun0_A.sl.HS1_7, rdw]
  refine congrArg (win 8) ?_
  rw [kernelRun0_A.sl.r_21, v46_eq, rd7 arg7 harg7 x5 6 _ rfl]
  rfl

theorem v427_eq : kernelRun0_A.sl.v427 c i arg2 harg2 arg3 harg3 arg4 harg4 arg5 harg5 arg6 harg6 arg7 harg7 arg12 arg13 x0 x1 x2 x3 x4 x5 = win 9 (slab (hid i x0 x1 x2 x3 x4) x5 6) := by
  rw [kernelRun0_A.sl.v427, kernelRun0_A.sl.HS1_7, rdw]
  refine congrArg (win 9) ?_
  rw [kernelRun0_A.sl.r_21, v46_eq, rd7 arg7 harg7 x5 6 _ rfl]
  rfl

theorem v438_eq : kernelRun0_A.sl.v438 c i arg2 harg2 arg3 harg3 arg4 harg4 arg5 harg5 arg6 harg6 arg7 harg7 arg12 arg14 x0 x1 x2 x3 x4 x5 = win 7 (slab (hid i x0 x1 x2 x3 x4) x5 17) := by
  rw [kernelRun0_A.sl.v438, kernelRun0_A.sl.HS2_7, rdw]
  refine congrArg (win 7) ?_
  rw [v46_eq, rd7 arg7 harg7 x5 17 _ rfl]
  rfl

theorem v443_eq : kernelRun0_A.sl.v443 c i arg2 harg2 arg3 harg3 arg4 harg4 arg5 harg5 arg6 harg6 arg7 harg7 arg12 arg14 x0 x1 x2 x3 x4 x5 = win 8 (slab (hid i x0 x1 x2 x3 x4) x5 17) := by
  rw [kernelRun0_A.sl.v443, kernelRun0_A.sl.HS2_7, rdw]
  refine congrArg (win 8) ?_
  rw [v46_eq, rd7 arg7 harg7 x5 17 _ rfl]
  rfl

theorem v449_eq : kernelRun0_A.sl.v449 c i arg2 harg2 arg3 harg3 arg4 harg4 arg5 harg5 arg6 harg6 arg7 harg7 arg12 arg14 x0 x1 x2 x3 x4 x5 = win 9 (slab (hid i x0 x1 x2 x3 x4) x5 17) := by
  rw [kernelRun0_A.sl.v449, kernelRun0_A.sl.HS2_7, rdw]
  refine congrArg (win 9) ?_
  rw [v46_eq, rd7 arg7 harg7 x5 17 _ rfl]
  rfl

theorem v475_eq : kernelRun0_A.sl.v475 c i arg2 harg2 arg3 harg3 arg4 harg4 arg5 harg5 arg6 harg6 arg7 harg7 arg12 arg13 x0 x1 x2 x3 x4 x5 = win 7 (slab (hid i x0 x1 x2 x3 x4) x5 7) := by
  rw [kernelRun0_A.sl.v475, kernelRun0_A.sl.HS1_8, rdw]
  refine congrArg (win 7) ?_
  rw [v46_eq, rd7 arg7 harg7 x5 7 _ rfl]
  rfl

theorem v480_eq : kernelRun0_A.sl.v480 c i arg2 harg2 arg3 harg3 arg4 harg4 arg5 harg5 arg6 harg6 arg7 harg7 arg12 arg13 x0 x1 x2 x3 x4 x5 = win 8 (slab (hid i x0 x1 x2 x3 x4) x5 7) := by
  rw [kernelRun0_A.sl.v480, kernelRun0_A.sl.HS1_8, rdw]
  refine congrArg (win 8) ?_
  rw [v46_eq, rd7 arg7 harg7 x5 7 _ rfl]
  rfl

theorem v486_eq : kernelRun0_A.sl.v486 c i arg2 harg2 arg3 harg3 arg4 harg4 arg5 harg5 arg6 harg6 arg7 harg7 arg12 arg13 x0 x1 x2 x3 x4 x5 = win 9 (slab (hid i x0 x1 x2 x3 x4) x5 7) := by
  rw [kernelRun0_A.sl.v486, kernelRun0_A.sl.HS1_8, rdw]
  refine congrArg (win 9) ?_
  rw [v46_eq, rd7 arg7 harg7 x5 7 _ rfl]
  rfl

theorem v497_eq : kernelRun0_A.sl.v497 c i arg2 harg2 arg3 harg3 arg4 harg4 arg5 harg5 arg6 harg6 arg7 harg7 arg12 arg14 x0 x1 x2 x3 x4 x5 = win 7 (slab (hid i x0 x1 x2 x3 x4) x5 18) := by
  rw [kernelRun0_A.sl.v497, kernelRun0_A.sl.HS2_8, rdw]
  refine congrArg (win 7) ?_
  rw [kernelRun0_A.sl.r_25, v46_eq, rd7 arg7 harg7 x5 18 _ rfl]
  rfl

theorem v502_eq : kernelRun0_A.sl.v502 c i arg2 harg2 arg3 harg3 arg4 harg4 arg5 harg5 arg6 harg6 arg7 harg7 arg12 arg14 x0 x1 x2 x3 x4 x5 = win 8 (slab (hid i x0 x1 x2 x3 x4) x5 18) := by
  rw [kernelRun0_A.sl.v502, kernelRun0_A.sl.HS2_8, rdw]
  refine congrArg (win 8) ?_
  rw [kernelRun0_A.sl.r_25, v46_eq, rd7 arg7 harg7 x5 18 _ rfl]
  rfl

theorem v508_eq : kernelRun0_A.sl.v508 c i arg2 harg2 arg3 harg3 arg4 harg4 arg5 harg5 arg6 harg6 arg7 harg7 arg12 arg14 x0 x1 x2 x3 x4 x5 = win 9 (slab (hid i x0 x1 x2 x3 x4) x5 18) := by
  rw [kernelRun0_A.sl.v508, kernelRun0_A.sl.HS2_8, rdw]
  refine congrArg (win 9) ?_
  rw [kernelRun0_A.sl.r_25, v46_eq, rd7 arg7 harg7 x5 18 _ rfl]
  rfl

theorem v534_eq : kernelRun0_A.sl.v534 c i arg2 harg2 arg3 harg3 arg4 harg4 arg5 harg5 arg6 harg6 arg7 harg7 arg12 arg13 x0 x1 x2 x3 x4 x5 = win 7 (slab (hid i x0 x1 x2 x3 x4) x5 8) := by
  rw [kernelRun0_A.sl.v534, kernelRun0_A.sl.HS1_9, rdw]
  refine congrArg (win 7) ?_
  rw [v46_eq, rd7 arg7 harg7 x5 8 _ rfl]
  rfl

theorem v539_eq : kernelRun0_A.sl.v539 c i arg2 harg2 arg3 harg3 arg4 harg4 arg5 harg5 arg6 harg6 arg7 harg7 arg12 arg13 x0 x1 x2 x3 x4 x5 = win 8 (slab (hid i x0 x1 x2 x3 x4) x5 8) := by
  rw [kernelRun0_A.sl.v539, kernelRun0_A.sl.HS1_9, rdw]
  refine congrArg (win 8) ?_
  rw [v46_eq, rd7 arg7 harg7 x5 8 _ rfl]
  rfl

theorem v545_eq : kernelRun0_A.sl.v545 c i arg2 harg2 arg3 harg3 arg4 harg4 arg5 harg5 arg6 harg6 arg7 harg7 arg12 arg13 x0 x1 x2 x3 x4 x5 = win 9 (slab (hid i x0 x1 x2 x3 x4) x5 8) := by
  rw [kernelRun0_A.sl.v545, kernelRun0_A.sl.HS1_9, rdw]
  refine congrArg (win 9) ?_
  rw [v46_eq, rd7 arg7 harg7 x5 8 _ rfl]
  rfl

theorem v556_eq : kernelRun0_A.sl.v556 c i arg2 harg2 arg3 harg3 arg4 harg4 arg5 harg5 arg6 harg6 arg7 harg7 arg12 arg14 x0 x1 x2 x3 x4 x5 = win 7 (slab (hid i x0 x1 x2 x3 x4) x5 19) := by
  rw [kernelRun0_A.sl.v556, kernelRun0_A.sl.HS2_9, rdw]
  refine congrArg (win 7) ?_
  rw [v46_eq, rd7 arg7 harg7 x5 19 _ rfl]
  rfl

theorem v561_eq : kernelRun0_A.sl.v561 c i arg2 harg2 arg3 harg3 arg4 harg4 arg5 harg5 arg6 harg6 arg7 harg7 arg12 arg14 x0 x1 x2 x3 x4 x5 = win 8 (slab (hid i x0 x1 x2 x3 x4) x5 19) := by
  rw [kernelRun0_A.sl.v561, kernelRun0_A.sl.HS2_9, rdw]
  refine congrArg (win 8) ?_
  rw [v46_eq, rd7 arg7 harg7 x5 19 _ rfl]
  rfl

theorem v567_eq : kernelRun0_A.sl.v567 c i arg2 harg2 arg3 harg3 arg4 harg4 arg5 harg5 arg6 harg6 arg7 harg7 arg12 arg14 x0 x1 x2 x3 x4 x5 = win 9 (slab (hid i x0 x1 x2 x3 x4) x5 19) := by
  rw [kernelRun0_A.sl.v567, kernelRun0_A.sl.HS2_9, rdw]
  refine congrArg (win 9) ?_
  rw [v46_eq, rd7 arg7 harg7 x5 19 _ rfl]
  rfl

theorem v593_eq : kernelRun0_A.sl.v593 c i arg2 harg2 arg3 harg3 arg4 harg4 arg5 harg5 arg6 harg6 arg7 harg7 arg12 arg13 x0 x1 x2 x3 x4 x5 = win 7 (slab (hid i x0 x1 x2 x3 x4) x5 9) := by
  rw [kernelRun0_A.sl.v593, kernelRun0_A.sl.HS1_10, rdw]
  refine congrArg (win 7) ?_
  rw [v46_eq, rd7 arg7 harg7 x5 9 _ rfl]
  rfl

theorem v598_eq : kernelRun0_A.sl.v598 c i arg2 harg2 arg3 harg3 arg4 harg4 arg5 harg5 arg6 harg6 arg7 harg7 arg12 arg13 x0 x1 x2 x3 x4 x5 = win 8 (slab (hid i x0 x1 x2 x3 x4) x5 9) := by
  rw [kernelRun0_A.sl.v598, kernelRun0_A.sl.HS1_10, rdw]
  refine congrArg (win 8) ?_
  rw [v46_eq, rd7 arg7 harg7 x5 9 _ rfl]
  rfl

theorem v604_eq : kernelRun0_A.sl.v604 c i arg2 harg2 arg3 harg3 arg4 harg4 arg5 harg5 arg6 harg6 arg7 harg7 arg12 arg13 x0 x1 x2 x3 x4 x5 = win 9 (slab (hid i x0 x1 x2 x3 x4) x5 9) := by
  rw [kernelRun0_A.sl.v604, kernelRun0_A.sl.HS1_10, rdw]
  refine congrArg (win 9) ?_
  rw [v46_eq, rd7 arg7 harg7 x5 9 _ rfl]
  rfl

theorem v615_eq : kernelRun0_A.sl.v615 c i arg2 harg2 arg3 harg3 arg4 harg4 arg5 harg5 arg6 harg6 arg7 harg7 arg12 arg14 x0 x1 x2 x3 x4 x5 = win 7 (slab (hid i x0 x1 x2 x3 x4) x5 20) := by
  rw [kernelRun0_A.sl.v615, kernelRun0_A.sl.HS2_10, rdw]
  refine congrArg (win 7) ?_
  rw [v46_eq, rd7 arg7 harg7 x5 20 _ rfl]
  rfl

theorem v620_eq : kernelRun0_A.sl.v620 c i arg2 harg2 arg3 harg3 arg4 harg4 arg5 harg5 arg6 harg6 arg7 harg7 arg12 arg14 x0 x1 x2 x3 x4 x5 = win 8 (slab (hid i x0 x1 x2 x3 x4) x5 20) := by
  rw [kernelRun0_A.sl.v620, kernelRun0_A.sl.HS2_10, rdw]
  refine congrArg (win 8) ?_
  rw [v46_eq, rd7 arg7 harg7 x5 20 _ rfl]
  rfl

theorem v626_eq : kernelRun0_A.sl.v626 c i arg2 harg2 arg3 harg3 arg4 harg4 arg5 harg5 arg6 harg6 arg7 harg7 arg12 arg14 x0 x1 x2 x3 x4 x5 = win 9 (slab (hid i x0 x1 x2 x3 x4) x5 20) := by
  rw [kernelRun0_A.sl.v626, kernelRun0_A.sl.HS2_10, rdw]
  refine congrArg (win 9) ?_
  rw [v46_eq, rd7 arg7 harg7 x5 20 _ rfl]
  rfl

theorem v652_eq : kernelRun0_A.sl.v652 c i arg2 harg2 arg3 harg3 arg4 harg4 arg5 harg5 arg6 harg6 arg7 harg7 arg12 arg13 x0 x1 x2 x3 x4 x5 = win 7 (slab (hid i x0 x1 x2 x3 x4) x5 10) := by
  rw [kernelRun0_A.sl.v652, kernelRun0_A.sl.HS1_11, rdw]
  refine congrArg (win 7) ?_
  rw [kernelRun0_A.sl.r_35, v46_eq, rd7 arg7 harg7 x5 10 _ rfl]
  rfl

theorem v657_eq : kernelRun0_A.sl.v657 c i arg2 harg2 arg3 harg3 arg4 harg4 arg5 harg5 arg6 harg6 arg7 harg7 arg12 arg13 x0 x1 x2 x3 x4 x5 = win 8 (slab (hid i x0 x1 x2 x3 x4) x5 10) := by
  rw [kernelRun0_A.sl.v657, kernelRun0_A.sl.HS1_11, rdw]
  refine congrArg (win 8) ?_
  rw [kernelRun0_A.sl.r_35, v46_eq, rd7 arg7 harg7 x5 10 _ rfl]
  rfl

theorem v663_eq : kernelRun0_A.sl.v663 c i arg2 harg2 arg3 harg3 arg4 harg4 arg5 harg5 arg6 harg6 arg7 harg7 arg12 arg13 x0 x1 x2 x3 x4 x5 = win 9 (slab (hid i x0 x1 x2 x3 x4) x5 10) := by
  rw [kernelRun0_A.sl.v663, kernelRun0_A.sl.HS1_11, rdw]
  refine congrArg (win 9) ?_
  rw [kernelRun0_A.sl.r_35, v46_eq, rd7 arg7 harg7 x5 10 _ rfl]
  rfl

theorem v674_eq : kernelRun0_A.sl.v674 c i arg2 harg2 arg3 harg3 arg4 harg4 arg5 harg5 arg6 harg6 arg7 harg7 arg12 arg14 x0 x1 x2 x3 x4 x5 = win 7 (slab (hid i x0 x1 x2 x3 x4) x5 21) := by
  rw [kernelRun0_A.sl.v674, kernelRun0_A.sl.HS2_11, rdw]
  refine congrArg (win 7) ?_
  rw [v46_eq, rd7 arg7 harg7 x5 21 _ rfl]
  rfl

theorem v679_eq : kernelRun0_A.sl.v679 c i arg2 harg2 arg3 harg3 arg4 harg4 arg5 harg5 arg6 harg6 arg7 harg7 arg12 arg14 x0 x1 x2 x3 x4 x5 = win 8 (slab (hid i x0 x1 x2 x3 x4) x5 21) := by
  rw [kernelRun0_A.sl.v679, kernelRun0_A.sl.HS2_11, rdw]
  refine congrArg (win 8) ?_
  rw [v46_eq, rd7 arg7 harg7 x5 21 _ rfl]
  rfl

theorem v685_eq : kernelRun0_A.sl.v685 c i arg2 harg2 arg3 harg3 arg4 harg4 arg5 harg5 arg6 harg6 arg7 harg7 arg12 arg14 x0 x1 x2 x3 x4 x5 = win 9 (slab (hid i x0 x1 x2 x3 x4) x5 21) := by
  rw [kernelRun0_A.sl.v685, kernelRun0_A.sl.HS2_11, rdw]
  refine congrArg (win 9) ?_
  rw [v46_eq, rd7 arg7 harg7 x5 21 _ rfl]
  rfl

theorem piece10 : k0_pay67 (kernelRun0_A.sl.r_36 c i arg2 harg2 arg3 harg3 arg4 harg4 arg5 harg5 arg6 harg6 arg7 harg7 arg8 harg8 arg12 arg13 x0 x1 x2 x3 x4 x5 x6) (kernelRun0_A.sl.r_37 c arg8 harg8 x6) (kernelRun0_A.sl.r_38 c arg8 harg8 x6) (kernelRun0_A.sl.v674 c i arg2 harg2 arg3 harg3 arg4 harg4 arg5 harg5 arg6 harg6 arg7 harg7 arg12 arg14 x0 x1 x2 x3 x4 x5) (kernelRun0_A.sl.v679 c i arg2 harg2 arg3 harg3 arg4 harg4 arg5 harg5 arg6 harg6 arg7 harg7 arg12 arg14 x0 x1 x2 x3 x4 x5) (kernelRun0_A.sl.v685 c i arg2 harg2 arg3 harg3 arg4 harg4 arg5 harg5 arg6 harg6 arg7 harg7 arg12 arg14 x0 x1 x2 x3 x4 x5) = chunk (hid i x0 x1 x2 x3 x4) x5 x6 10 := by
  simp only [kernelRun0_A.sl.r_36, kernelRun0_A.sl.r_37, kernelRun0_A.sl.r_38, v652_eq, v657_eq, v663_eq, v674_eq, v679_eq, v685_eq, rd8 arg8 harg8 x6 10 _ rfl, rd8 arg8 harg8 x6 21 _ rfl]
  rfl

theorem piece9 : k0_pay61 (kernelRun0_A.sl.r_33 c i arg2 harg2 arg3 harg3 arg4 harg4 arg5 harg5 arg6 harg6 arg7 harg7 arg8 harg8 arg12 arg13 x0 x1 x2 x3 x4 x5 x6) (kernelRun0_A.sl.r_34 c arg8 harg8 x6) (kernelRun0_A.sl.v604 c i arg2 harg2 arg3 harg3 arg4 harg4 arg5 harg5 arg6 harg6 arg7 harg7 arg12 arg13 x0 x1 x2 x3 x4 x5) (View.readAt (Elt F) arg8.view (Rect.unit (s := S3x5632) ![0, 5120] S3x256.size inb_S3x5632_S3x256_0_5120).toLoadRect (harg8.unread x6)) (kernelRun0_A.sl.v615 c i arg2 harg2 arg3 harg3 arg4 harg4 arg5 harg5 arg6 harg6 arg7 harg7 arg12 arg14 x0 x1 x2 x3 x4 x5) (kernelRun0_A.sl.v620 c i arg2 harg2 arg3 harg3 arg4 harg4 arg5 harg5 arg6 harg6 arg7 harg7 arg12 arg14 x0 x1 x2 x3 x4 x5) (kernelRun0_A.sl.v626 c i arg2 harg2 arg3 harg3 arg4 harg4 arg5 harg5 arg6 harg6 arg7 harg7 arg12 arg14 x0 x1 x2 x3 x4 x5) = chunk (hid i x0 x1 x2 x3 x4) x5 x6 9 := by
  simp only [kernelRun0_A.sl.r_33, kernelRun0_A.sl.r_34, v593_eq, v598_eq, v604_eq, v615_eq, v620_eq, v626_eq, rd8 arg8 harg8 x6 9 _ rfl, rd8 arg8 harg8 x6 20 _ rfl]
  rfl

theorem piece8 : k0_pay56 (kernelRun0_A.sl.r_32 c i arg2 harg2 arg3 harg3 arg4 harg4 arg5 harg5 arg6 harg6 arg7 harg7 arg8 harg8 arg12 arg13 arg14 x0 x1 x2 x3 x4 x5 x6) = chunk (hid i x0 x1 x2 x3 x4) x5 x6 8 := by
  simp only [kernelRun0_A.sl.r_32, kernelRun0_A.sl.r_29, kernelRun0_A.sl.r_30, kernelRun0_A.sl.r_31, v534_eq, v539_eq, v545_eq, v556_eq, v561_eq, v567_eq, rd8 arg8 harg8 x6 8 _ rfl, rd8 arg8 harg8 x6 19 _ rfl]
  rfl

theorem piece7 : k0_pay50 (kernelRun0_A.sl.r_26 c i arg2 harg2 arg3 harg3 arg4 harg4 arg5 harg5 arg6 harg6 arg7 harg7 arg8 harg8 arg12 arg13 x0 x1 x2 x3 x4 x5 x6) (kernelRun0_A.sl.r_27 c arg8 harg8 x6) (kernelRun0_A.sl.r_28 c i arg2 harg2 arg3 harg3 arg4 harg4 arg5 harg5 arg6 harg6 arg7 harg7 arg8 harg8 arg12 arg14 x0 x1 x2 x3 x4 x5 x6) (kernelRun0_A.sl.v508 c i arg2 harg2 arg3 harg3 arg4 harg4 arg5 harg5 arg6 harg6 arg7 harg7 arg12 arg14 x0 x1 x2 x3 x4 x5) = chunk (hid i x0 x1 x2 x3 x4) x5 x6 7 := by
  simp only [kernelRun0_A.sl.r_26, kernelRun0_A.sl.r_27, kernelRun0_A.sl.r_28, v475_eq, v480_eq, v486_eq, v497_eq, v502_eq, v508_eq, rd8 arg8 harg8 x6 7 _ rfl, rd8 arg8 harg8 x6 18 _ rfl]
  rfl

theorem piece6 : k0_pay44 (kernelRun0_A.sl.r_22 c i arg2 harg2 arg3 harg3 arg4 harg4 arg5 harg5 arg6 harg6 arg7 harg7 arg8 harg8 arg12 arg13 x0 x1 x2 x3 x4 x5 x6) (kernelRun0_A.sl.r_23 c arg8 harg8 x6) (kernelRun0_A.sl.r_24 c arg8 harg8 x6) (kernelRun0_A.sl.v438 c i arg2 harg2 arg3 harg3 arg4 harg4 arg5 harg5 arg6 harg6 arg7 harg7 arg12 arg14 x0 x1 x2 x3 x4 x5) (kernelRun0_A.sl.v443 c i arg2 harg2 arg3 harg3 arg4 harg4 arg5 harg5 arg6 harg6 arg7 harg7 arg12 arg14 x0 x1 x2 x3 x4 x5) (kernelRun0_A.sl.v449 c i arg2 harg2 arg3 harg3 arg4 harg4 arg5 harg5 arg6 harg6 arg7 harg7 arg12 arg14 x0 x1 x2 x3 x4 x5) = chunk (hid i x0 x1 x2 x3 x4) x5 x6 6 := by
  simp only [kernelRun0_A.sl.r_22, kernelRun0_A.sl.r_23, kernelRun0_A.sl.r_24, v416_eq, v421_eq, v427_eq, v438_eq, v443_eq, v449_eq, rd8 arg8 harg8 x6 6 _ rfl, rd8 arg8 harg8 x6 17 _ rfl]
  rfl

theorem piece5 : k0_pay38 (kernelRun0_A.sl.r_19 c i arg2 harg2 arg3 harg3 arg4 harg4 arg5 harg5 arg6 harg6 arg7 harg7 arg8 harg8 arg12 arg13 x0 x1 x2 x3 x4 x5 x6) (kernelRun0_A.sl.r_20 c arg8 harg8 x6) (kernelRun0_A.sl.v368 c i arg2 harg2 arg3 harg3 arg4 harg4 arg5 harg5 arg6 harg6 arg7 harg7 arg12 arg13 x0 x1 x2 x3 x4 x5) (View.readAt (Elt F) arg8.view (Rect.unit (s := S3x5632) ![0, 4096] S3x256.size inb_S3x5632_S3x256_0_4096).toLoadRect (harg8.unread x6)) (kernelRun0_A.sl.v379 c i arg2 harg2 arg3 harg3 arg4 harg4 arg5 harg5 arg6 harg6 arg7 harg7 arg12 arg14 x0 x1 x2 x3 x4 x5) (kernelRun0_A.sl.v384 c i arg2 harg2 arg3 harg3 arg4 harg4 arg5 harg5 arg6 harg6 arg7 harg7 arg12 arg14 x0 x1 x2 x3 x4 x5) (kernelRun0_A.sl.v390 c i arg2 harg2 arg3 harg3 arg4 harg4 arg5 harg5 arg6 harg6 arg7 harg7 arg12 arg14 x0 x1 x2 x3 x4 x5) = chunk (hid i x0 x1 x2 x3 x4) x5 x6 5 := by
  simp only [kernelRun0_A.sl.r_19, kernelRun0_A.sl.r_20, v357_eq, v362_eq, v368_eq, v379_eq, v384_eq, v390_eq, rd8 arg8 harg8 x6 5 _ rfl, rd8 arg8 harg8 x6 16 _ rfl]
  rfl

theorem piece4 : k0_pay33 (kernelRun0_A.sl.r_18 c i arg2 harg2 arg3 harg3 arg4 harg4 arg5 harg5 arg6 harg6 arg7 harg7 arg8 harg8 arg12 arg13 arg14 x0 x1 x2 x3 x4 x5 x6) = chunk (hid i x0 x1 x2 x3 x4) x5 x6 4 := by
  simp only [kernelRun0_A.sl.r_18, kernelRun0_A.sl.r_15, kernelRun0_A.sl.r_16, kernelRun0_A.sl.r_17, v298_eq, v303_eq, v309_eq, v320_eq, v325_eq, v331_eq, rd8 arg8 harg8 x6 4 _ rfl, rd8 arg8 harg8 x6 15 _ rfl]
  rfl

theorem piece3 : k0_pay27 (kernelRun0_A.sl.r_12 c i arg2 harg2 arg3 harg3 arg4 harg4 arg5 harg5 arg6 harg6 arg7 harg7 arg8 harg8 arg12 arg13 x0 x1 x2 x3 x4 x5 x6) (kernelRun0_A.sl.r_13 c arg8 harg8 x6) (kernelRun0_A.sl.r_14 c i arg2 harg2 arg3 harg3 arg4 harg4 arg5 harg5 arg6 harg6 arg7 harg7 arg8 harg8 arg12 arg14 x0 x1 x2 x3 x4 x5 x6) (kernelRun0_A.sl.v272 c i arg2 harg2 arg3 harg3 arg4 harg4 arg5 harg5 arg6 harg6 arg7 harg7 arg12 arg14 x0 x1 x2 x3 x4 x5) = chunk (hid i x0 x1 x2 x3 x4) x5 x6 3 := by
  simp only [kernelRun0_A.sl.r_12, kernelRun0_A.sl.r_13, kernelRun0_A.sl.r_14, v239_eq, v244_eq, v250_eq, v261_eq, v266_eq, v272_eq, rd8 arg8 harg8 x6 3 _ rfl, rd8 arg8 harg8 x6 14 _ rfl]
  rfl

theorem piece2 : k0_pay21 (kernelRun0_A.sl.r_8 c i arg2 harg2 arg3 harg3 arg4 harg4 arg5 harg5 arg6 harg6 arg7 harg7 arg8 harg8 arg12 arg13 x0 x1 x2 x3 x4 x5 x6) (kernelRun0_A.sl.r_9 c arg8 harg8 x6) (kernelRun0_A.sl.r_10 c arg8 harg8 x6) (kernelRun0_A.sl.v202 c i arg2 harg2 arg3 harg3 arg4 harg4 arg5 harg5 arg6 harg6 arg7 harg7 arg12 arg14 x0 x1 x2 x3 x4 x5) (kernelRun0_A.sl.v207 c i arg2 harg2 arg3 harg3 arg4 harg4 arg5 harg5 arg6 harg6 arg7 harg7 arg12 arg14 x0 x1 x2 x3 x4 x5) (kernelRun0_A.sl.v213 c i arg2 harg2 arg3 harg3 arg4 harg4 arg5 harg5 arg6 harg6 arg7 harg7 arg12 arg14 x0 x1 x2 x3 x4 x5) = chunk (hid i x0 x1 x2 x3 x4) x5 x6 2 := by
  simp only [kernelRun0_A.sl.r_8, kernelRun0_A.sl.r_9, kernelRun0_A.sl.r_10, v180_eq, v185_eq, v191_eq, v202_eq, v207_eq, v213_eq, rd8 arg8 harg8 x6 2 _ rfl, rd8 arg8 harg8 x6 13 _ rfl]
  rfl

theorem piece1 : k0_pay15 (kernelRun0_A.sl.r_5 c i arg2 harg2 arg3 harg3 arg4 harg4 arg5 harg5 arg6 harg6 arg7 harg7 arg8 harg8 arg12 arg13 x0 x1 x2 x3 x4 x5 x6) (kernelRun0_A.sl.r_6 c arg8 harg8 x6) (kernelRun0_A.sl.v132 c i arg2 harg2 arg3 harg3 arg4 harg4 arg5 harg5 arg6 harg6 arg7 harg7 arg12 arg13 x0 x1 x2 x3 x4 x5) (View.readAt (Elt F) arg8.view (Rect.unit (s := S3x5632) ![0, 3072] S3x256.size inb_S3x5632_S3x256_0_3072).toLoadRect (harg8.unread x6)) (kernelRun0_A.sl.v143 c i arg2 harg2 arg3 harg3 arg4 harg4 arg5 harg5 arg6 harg6 arg7 harg7 arg12 arg14 x0 x1 x2 x3 x4 x5) (kernelRun0_A.sl.v148 c i arg2 harg2 arg3 harg3 arg4 harg4 arg5 harg5 arg6 harg6 arg7 harg7 arg12 arg14 x0 x1 x2 x3 x4 x5) (kernelRun0_A.sl.v154 c i arg2 harg2 arg3 harg3 arg4 harg4 arg5 harg5 arg6 harg6 arg7 harg7 arg12 arg14 x0 x1 x2 x3 x4 x5) = chunk (hid i x0 x1 x2 x3 x4) x5 x6 1 := by
  simp only [kernelRun0_A.sl.r_5, kernelRun0_A.sl.r_6, v121_eq, v126_eq, v132_eq, v143_eq, v148_eq, v154_eq, rd8 arg8 harg8 x6 1 _ rfl, rd8 arg8 harg8 x6 12 _ rfl]
  rfl

theorem piece0 : k0_pay10 (kernelRun0_A.sl.r_4 c i arg2 harg2 arg3 harg3 arg4 harg4 arg5 harg5 arg6 harg6 arg7 harg7 arg8 harg8 arg12 arg13 arg14 x0 x1 x2 x3 x4 x5 x6) = chunk (hid i x0 x1 x2 x3 x4) x5 x6 0 := by
  simp only [kernelRun0_A.sl.r_4, kernelRun0_A.sl.r_1, kernelRun0_A.sl.r_2, kernelRun0_A.sl.r_3, v62_eq, v67_eq, v73_eq, v84_eq, v89_eq, v95_eq, rd8 arg8 harg8 x6 0 _ rfl, rd8 arg8 harg8 x6 11 _ rfl]
  rfl

/-! ## The gated product, all chunks -/

/-- The pieces that hold the gated product. -/
def actP (h : FVec F S528x1024 .bf16) (x5 : Vec F S1x1024x5632 .bf16) (x6 : Vec F S3x5632 .f32) : List (View.Piece (Elt F) S512x2816 .bf16) :=
  [⟨Rect.unit (s := S512x2816) ![0, 2560] S512x256.size inb_S512x2816_S512x256_0_2560, chunk h x5 x6 10⟩,
   ⟨Rect.unit (s := S512x2816) ![0, 2304] S512x256.size inb_S512x2816_S512x256_0_2304, chunk h x5 x6 9⟩,
   ⟨Rect.unit (s := S512x2816) ![0, 2048] S512x256.size inb_S512x2816_S512x256_0_2048, chunk h x5 x6 8⟩,
   ⟨Rect.unit (s := S512x2816) ![0, 1792] S512x256.size inb_S512x2816_S512x256_0_1792, chunk h x5 x6 7⟩,
   ⟨Rect.unit (s := S512x2816) ![0, 1536] S512x256.size inb_S512x2816_S512x256_0_1536, chunk h x5 x6 6⟩,
   ⟨Rect.unit (s := S512x2816) ![0, 1280] S512x256.size inb_S512x2816_S512x256_0_1280, chunk h x5 x6 5⟩,
   ⟨Rect.unit (s := S512x2816) ![0, 1024] S512x256.size inb_S512x2816_S512x256_0_1024, chunk h x5 x6 4⟩,
   ⟨Rect.unit (s := S512x2816) ![0, 768] S512x256.size inb_S512x2816_S512x256_0_768, chunk h x5 x6 3⟩,
   ⟨Rect.unit (s := S512x2816) ![0, 512] S512x256.size inb_S512x2816_S512x256_0_512, chunk h x5 x6 2⟩,
   ⟨Rect.unit (s := S512x2816) ![0, 256] S512x256.size inb_S512x2816_S512x256_0_256, chunk h x5 x6 1⟩,
   ⟨Rect.unit (s := S512x2816) ![0, 0] S512x256.size inb_S512x2816_S512x256_0_0, chunk h x5 x6 0⟩]

theorem act_emb (h : FVec F S528x1024 .bf16) (n : ℕ) (off : Fin 2 → ℕ) (ho : off = ![0, 256 * n]) (inb) (x : S512x256.Idx) :
    chunk h x5 x6 n x = act h x5 x6 ((Rect.unit (s := S512x2816) off S512x256.size inb).emb x) := by
  subst ho
  have h1 : (x 1).val < 256 := (x 1).isLt
  have e1 : (((Rect.unit (s := S512x2816) ![0, 256 * n] S512x256.size inb).emb x) 1).val = 256 * n + 1 * (x 1).val := rfl
  have e0 : (((Rect.unit (s := S512x2816) ![0, 256 * n] S512x256.size inb).emb x) 0).val = 0 + 1 * (x 0).val := rfl
  unfold act
  rw [show (((Rect.unit (s := S512x2816) ![0, 256 * n] S512x256.size inb).emb x) 1).val / 256 = n by omega]
  refine congrArg _ ?_
  funext a; apply Fin.ext
  match a with
  | ⟨0, _⟩ => show (x 0).val = (((Rect.unit (s := S512x2816) ![0, 256 * n] S512x256.size inb).emb x) 0).val; omega
  | ⟨1, _⟩ => show (x 1).val = (((Rect.unit (s := S512x2816) ![0, 256 * n] S512x256.size inb).emb x) 1).val % 256; omega

theorem act_mem (h : FVec F S528x1024 .bf16) (n : ℕ) (off : Fin 2 → ℕ) (ho : off = ![0, 256 * n]) (inb) (z : S512x2816.Idx) (hz : (z 1).val / 256 = n) :
    z ∈ (Rect.unit (s := S512x2816) off S512x256.size inb).set := by
  subst ho
  rw [Rect.mem_set_unit]
  intro a
  have h0 : (z 0).val < 512 := (z 0).isLt
  match a with
  | ⟨0, _⟩ => show 0 ≤ (z 0).val ∧ (z 0).val < 0 + 512; omega
  | ⟨1, _⟩ => show 256 * n ≤ (z 1).val ∧ (z 1).val < 256 * n + 256; omega

theorem actP_eq (h : FVec F S528x1024 .bf16) (z : S512x2816.Idx) : View.canon (actP h x5 x6) z = act h x5 x6 z := by
  refine View.canon_apply_of_pieces (act h x5 x6) _ ?_ z ?_
  · refine View.PiecesOf.mem ?_
    exact ⟨act_emb x5 x6 h 10 _ rfl inb_S512x2816_S512x256_0_2560, act_emb x5 x6 h 9 _ rfl inb_S512x2816_S512x256_0_2304, act_emb x5 x6 h 8 _ rfl inb_S512x2816_S512x256_0_2048, act_emb x5 x6 h 7 _ rfl inb_S512x2816_S512x256_0_1792, act_emb x5 x6 h 6 _ rfl inb_S512x2816_S512x256_0_1536, act_emb x5 x6 h 5 _ rfl inb_S512x2816_S512x256_0_1280, act_emb x5 x6 h 4 _ rfl inb_S512x2816_S512x256_0_1024, act_emb x5 x6 h 3 _ rfl inb_S512x2816_S512x256_0_768, act_emb x5 x6 h 2 _ rfl inb_S512x2816_S512x256_0_512, act_emb x5 x6 h 1 _ rfl inb_S512x2816_S512x256_0_256, act_emb x5 x6 h 0 _ rfl inb_S512x2816_S512x256_0_0, trivial⟩
  · have hz : (z 1).val < 2816 := (z 1).isLt
    obtain ⟨n, hn⟩ : ∃ n, (z 1).val / 256 = n := ⟨_, rfl⟩
    have hn' : n < 11 := by omega
    match n, hn' with
    | 0, _ => exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self)))))))))), act_mem h 0 _ rfl inb_S512x2816_S512x256_0_0 z hn⟩
    | 1, _ => exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self))))))))), act_mem h 1 _ rfl inb_S512x2816_S512x256_0_256 z hn⟩
    | 2, _ => exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self)))))))), act_mem h 2 _ rfl inb_S512x2816_S512x256_0_512 z hn⟩
    | 3, _ => exact ⟨_, List.mem_cons_of_mem _ (List.mem_cons_of_mem _ (List.mem_cons_of_mem _ (List.mem_cons_of_mem _ (List.mem_cons_of_mem _ (List.mem_cons_of_mem _ (List.mem_cons_of_mem _ (List.mem_cons_self))))))), act_mem h 3 _ rfl inb_S512x2816_S512x256_0_768 z hn⟩
    | 4, _ => exact ⟨_, List.mem_cons_of_mem _ (List.mem_cons_of_mem _ (List.mem_cons_of_mem _ (List.mem_cons_of_mem _ (List.mem_cons_of_mem _ (List.mem_cons_of_mem _ (List.mem_cons_self)))))), act_mem h 4 _ rfl inb_S512x2816_S512x256_0_1024 z hn⟩
    | 5, _ => exact ⟨_, List.mem_cons_of_mem _ (List.mem_cons_of_mem _ (List.mem_cons_of_mem _ (List.mem_cons_of_mem _ (List.mem_cons_of_mem _ (List.mem_cons_self))))), act_mem h 5 _ rfl inb_S512x2816_S512x256_0_1280 z hn⟩
    | 6, _ => exact ⟨_, List.mem_cons_of_mem _ (List.mem_cons_of_mem _ (List.mem_cons_of_mem _ (List.mem_cons_of_mem _ (List.mem_cons_self)))), act_mem h 6 _ rfl inb_S512x2816_S512x256_0_1536 z hn⟩
    | 7, _ => exact ⟨_, List.mem_cons_of_mem _ (List.mem_cons_of_mem _ (List.mem_cons_of_mem _ (List.mem_cons_self))), act_mem h 7 _ rfl inb_S512x2816_S512x256_0_1792 z hn⟩
    | 8, _ => exact ⟨_, List.mem_cons_of_mem _ (List.mem_cons_of_mem _ (List.mem_cons_self)), act_mem h 8 _ rfl inb_S512x2816_S512x256_0_2048 z hn⟩
    | 9, _ => exact ⟨_, List.mem_cons_of_mem _ (List.mem_cons_self), act_mem h 9 _ rfl inb_S512x2816_S512x256_0_2304 z hn⟩
    | 10, _ => exact ⟨_, List.mem_cons_self, act_mem h 10 _ rfl inb_S512x2816_S512x256_0_2560 z hn⟩

theorem HS3_eq : kernelRun0_A.sl.HS3_11 c i arg2 harg2 arg3 harg3 arg4 harg4 arg5 harg5 arg6 harg6 arg7 harg7 arg8 harg8 arg12 arg13 arg14 x0 x1 x2 x3 x4 x5 x6 = actP (hid i x0 x1 x2 x3 x4) x5 x6 := by
  rw [kernelRun0_A.sl.HS3_11, piece10, piece9, piece8, piece7, piece6, piece5, piece4, piece3, piece2, piece1, piece0]
  rfl

theorem v699_eq : kernelRun0_A.sl.v699 c i arg2 harg2 arg3 harg3 arg4 harg4 arg5 harg5 arg6 harg6 arg7 harg7 arg8 harg8 arg12 arg13 arg14 arg15 x0 x1 x2 x3 x4 x5 x6 = act (hid i x0 x1 x2 x3 x4) x5 x6 := by
  rw [kernelRun0_A.sl.v699, HS3_eq, View.readCov_eq_canon']
  funext z
  refine Eq.trans (congrArg _ ?_) (actP_eq x5 x6 (hid i x0 x1 x2 x3 x4) z)
  funext a; apply Fin.ext
  match a with
  | ⟨0, _⟩ => show 0 + 1 * (z 0).val = (z 0).val; omega
  | ⟨1, _⟩ => show 0 + 1 * (z 1).val = (z 1).val; omega

/-! ## The block the body leaves -/

/-- The result's block, from the blocks read. -/
def outF (i : grid0.Coords) (x0 : Vec F S1x512x1024 .f32) (x1 x2 : Vec F S1x8x1024 .f32) (x3 : Vec F S1x6x1024 .f32) (x4 : Vec F S1x1024 .f32)
    (x5 : Vec F S1x1024x5632 .bf16) (x6 : Vec F S3x5632 .f32) (x7 : Vec F S1x2816x1024 .bf16) (x8 : Vec F S1x1024 .f32) : FVec F S1x512x1024 .f32 :=
  k0_pay1 (k0_pay68 x0 (mrow x3 5) (act (hid i x0 x1 x2 x3 x4) x5 x6) x7) (k0_pay69 x0 (mrow x3 5) (act (hid i x0 x1 x2 x3 x4) x5 x6) x7)
    (kernelRun0_A.sl.cst_480 (F := F)) x8

set_option maxHeartbeats 1000000 in
theorem out_eq : out0_A_9 c i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8
    = outF i x0 x1 x2 x3 x4 x5 x6 x7 x8 := by
  have h0 : (![0, 0, 0] : Fin 3 → ℕ) = fun _ => 0 := by funext a; fin_cases a <;> rfl
  have h8 := rdAll arg10 harg10 x8 ![0, 0] inb_S1x1024_S1x1024_0_0 (by intro a; fin_cases a <;> rfl)
  have h : (kernelRun0_A c i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8).1
      = [⟨Rect.unit (s := S1x512x1024) ![0, 0, 0] S1x512x1024.size inb_S1x512x1024_S1x512x1024_0_0_0,
          k0_pay1 (kernelRun0_A.sl.r_39 c i arg2 harg2 arg3 harg3 arg4 harg4 arg5 harg5 arg6 harg6 arg7 harg7 arg8 harg8 arg9 harg9 arg12 arg13 arg14 arg15 x0 x1 x2 x3 x4 x5 x6 x7)
            (kernelRun0_A.sl.r_40 c i arg2 harg2 arg3 harg3 arg4 harg4 arg5 harg5 arg6 harg6 arg7 harg7 arg8 harg8 arg9 harg9 arg12 arg13 arg14 arg15 x0 x1 x2 x3 x4 x5 x6 x7)
            (kernelRun0_A.sl.cst_480 (F := F)) (View.readAt (Elt F) arg10.view (Rect.unit (s := S1x1024) ![0, 0] S1x1024.size inb_S1x1024_S1x1024_0_0).toLoadRect (harg10.unread x8))⟩] := rfl
  rw [kernelRun0_A.sl.r_39, kernelRun0_A.sl.r_40, v699_eq, rd2, rd9, rd5 arg5 harg5 x3 5 _ rfl, h8] at h
  rw [out0_A_9, h, View.read_writes_junk_eq_canon]
  exact View.canon_unit_zero h0 _ _

end Cert.FfnIdeal.Body

end
-- ==== Proof.FfnIdeal.lean ====
/-
  The feed-forward body's payloads at an index, over the extended reals.
-/
module

public import proofs.«01_k».proof.Proof.FfnVals
public import Idealize.ShloMosaic.Lib.Pointwise
public import Idealize.ShloMosaic.Lib.WordCmp
public import Idealize.ShloMosaic.Lib.Pipeline.ValueKit

@[expose] public section

set_option maxRecDepth 16384

noncomputable section

namespace Cert.FfnIdeal.Body

open Cert.FfnIdeal Cert.FfnIdeal.Gen
open Idealize.ShloMosaic Idealize.ShloMosaic.TcCoe Idealize.ShloMosaic.Tactic
open Idealize.ShloMosaic.Pointwise

theorem wcol_apply (x5 : Vec Ideal S1x1024x5632 .bf16) (n : ℕ) (d : Fin 1024) (k : Fin 256) :
    wcol x5 n (ix3 0 d k) = x5 (ix3 0 d ⟨256 * (n % 22) + k.val, by omega⟩) := by
  refine View.ld_unit_apply_of x5 _ _ _ _ _ ?_
  intro a; fin_cases a
  · show (0 : ℕ) = 0 + 0; omega
  · show d.val = 0 + d.val; omega
  · show 256 * (n % 22) + k.val = 256 * (n % 22) + k.val; rfl

theorem ccol_apply (x6 : Vec Ideal S3x5632 .f32) (n : ℕ) (r : Fin 3) (k : Fin 256) :
    ccol x6 n (ix2 r k) = x6 (ix2 r ⟨256 * (n % 22) + k.val, by omega⟩) := by
  refine View.ld_unit_apply_of x6 _ _ _ _ _ ?_
  intro a; fin_cases a
  · show r.val = 0 + r.val; omega
  · show 256 * (n % 22) + k.val = 256 * (n % 22) + k.val; rfl

theorem mrow_apply (x3 : Vec Ideal S1x6x1024 .f32) (n : ℕ) (d : Fin 1024) :
    mrow x3 n (ix3 0 0 d) = x3 (ix3 0 ⟨n % 6, by omega⟩ d) := by
  refine View.ld_unit_apply_of x3 _ _ _ _ _ ?_
  intro a; fin_cases a
  · show (0 : ℕ) = 0 + 0; omega
  · show n % 6 = n % 6 + 0; omega
  · show d.val = 0 + d.val; omega

theorem slab_apply (h : FVec Ideal S528x1024 .bf16) (x5 : Vec Ideal S1x1024x5632 .bf16) (n : ℕ) (r : Fin 528) (k : Fin 256) :
    slab h x5 n (ix3 0 r k) = ∑ d : Fin 1024, h (ix2 r d) * wcol x5 n (ix3 0 d k) := by
  pointwise [slab, k0_pay5]

theorem pay9_apply (cg : Vec Ideal S3x256 .f32) (p7 p8 p9 q7 q8 q9 : Vec Ideal S1x512x256 .f32) (cv : Vec Ideal S3x256 .f32) (r : Fin 512) (k : Fin 256) :
    k0_pay10 (k0_pay9 cg (k0_pay7 cg) (k0_pay8 p7) p8 p9 cv q7 q8 q9) (ix2 r k)
      = (cg (ix2 0 k) * p7 (ix3 0 r k) + cg (ix2 1 k) * p8 (ix3 0 r k) + cg (ix2 2 k) * p9 (ix3 0 r k))
          * (Ideal.tanh (cg (ix2 0 k) * p7 (ix3 0 r k) + cg (ix2 1 k) * p8 (ix3 0 r k) + cg (ix2 2 k) * p9 (ix3 0 r k)) + 1)
          * (cv (ix2 0 k) * q7 (ix3 0 r k) + cv (ix2 1 k) * q8 (ix3 0 r k) + cv (ix2 2 k) * q9 (ix3 0 r k)) := by
  pointwise [k0_pay10, k0_pay9, k0_pay8, k0_pay7]

/-- The 528 rows: eight before the block, the block's, eight after it. -/
def rows (x0 : Vec Ideal S1x512x1024 .f32) (x1 x2 : Vec Ideal S1x8x1024 .f32) (r : Fin 528) (d : Fin 1024) : EReal :=
  if h : r.val < 8 then x1 (ix3 0 ⟨r.val, h⟩ d)
  else if h' : r.val - 8 < 512 then x0 (ix3 0 ⟨r.val - 8, h'⟩ d) else x2 (ix3 0 ⟨r.val - 8 - 512, by omega⟩ d)

theorem pay3_apply (x0 : Vec Ideal S1x512x1024 .f32) (x1 x2 : Vec Ideal S1x8x1024 .f32) (x4 : Vec Ideal S1x1024 .f32) (sc sh : Vec Ideal S1x1x1024 .f32)
    (r : Fin 528) (d : Fin 1024) : k0_pay3 x1 x0 x2 x4 sc sh (ix2 r d)
      = rows x0 x1 x2 r d * Ideal.rsqrt (Ideal.div (∑ e : Fin 1024, rows x0 x1 x2 r e * rows x0 x1 x2 r e) (Ideal.ofBits FTy.f32 0x44800000#32)
          + Ideal.ofBits FTy.f32 0x358637BD#32) * (x4 (ix2 0 d) * (1 + sc (ix3 0 0 d))) + sh (ix3 0 0 d) := by
  pointwise [k0_pay3]
  rfl

/-- The mask's words, decided over the 16 row blocks and the 528 rows. -/
theorem mask : ∀ (j : Fin 16) (r : Fin 528),
    IntOp.andi (IntOp.cmpi CmpIPredicate.sge (IntOp.addi (Scalar.subi (Scalar.muli (BitVec.ofNat 32 j.val) 512#32) 8#32) (BitVec.ofNat 32 r.val)) 0#32)
      (IntOp.cmpi CmpIPredicate.slt (IntOp.addi (Scalar.subi (Scalar.muli (BitVec.ofNat 32 j.val) 512#32) 8#32) (BitVec.ofNat 32 r.val)) 8192#32)
    = BitVec.ofBool (decide (8 ≤ 512 * j.val + r.val ∧ 512 * j.val + r.val < 8200)) := by
  decide +kernel

theorem pay4_apply (i : grid0.Coords) (h : FVec Ideal S528x1024 .f32) (r : Fin 528) (d : Fin 1024) : k0_pay4 (k0_pay2 i) h (ix2 r d)
      = if 8 ≤ 512 * (i 1).val + r.val ∧ 512 * (i 1).val + r.val < 8200 then h (ix2 r d) else 0 := by
  pointwise [k0_pay4, k0_pay2]
  refine (congrArg (fun w => Scalar.select w (h (ix2 r d)) 0) (mask ⟨(i 1).val, (i 1).isLt⟩ r)).trans ?_
  rw [Scalar.select_ofBool]
  simp

theorem pay68_apply (x0 : Vec Ideal S1x512x1024 .f32) (sc : Vec Ideal S1x1x1024 .f32) (A : Vec Ideal S512x2816 .bf16) (wd : Vec Ideal S1x2816x1024 .bf16)
    (r : Fin 512) (d : Fin 1024) : k0_pay68 x0 sc A wd (ix2 r d) = x0 (ix3 0 r d) + sc (ix3 0 0 d) * ∑ f : Fin 2816, A (ix2 r f) * wd (ix3 0 f d) := by
  pointwise [k0_pay68]

theorem pay69_apply (x0 : Vec Ideal S1x512x1024 .f32) (sc : Vec Ideal S1x1x1024 .f32) (A : Vec Ideal S512x2816 .bf16) (wd : Vec Ideal S1x2816x1024 .bf16)
    (r : Fin 512) : k0_pay69 x0 sc A wd (ix2 r 0) = ∑ d : Fin 1024, k0_pay68 x0 sc A wd (ix2 r d) * k0_pay68 x0 sc A wd (ix2 r d) := by
  pointwise [k0_pay69]

theorem pay1_apply (v : FVec Ideal S512x1024 .f32) (s : FVec Ideal S512x1 .f32) (c : Ideal .f32) (fn : Vec Ideal S1x1024 .f32)
    (r : Fin 512) (d : Fin 1024) : k0_pay1 v s c fn (ix3 0 r d)
      = v (ix2 r d) * Ideal.rsqrt (Ideal.div (s (ix2 r 0)) c + Ideal.ofBits FTy.f32 0x358637BD#32) * fn (ix2 0 d) := by
  pointwise [k0_pay1]

end Cert.FfnIdeal.Body

end
-- ==== Proof.FfnRef.lean ====
/-
  The feed-forward call's reference, read at an index.
-/
module

public import proofs.«01_k».proof.Proof.Gen.FfnRefIdeal
public import proofs.«01_k».proof.Proof.Gen.FfnRefIdeal.Run
public import proofs.«01_k».proof.Proof.Gen.FfnRefIdeal.Read
public import Idealize.ShloMosaic.Lib.Pointwise
public import Idealize.ShloMosaic.Lib.KernelVsHost

@[expose] public section

set_option maxRecDepth 16384

noncomputable section

namespace Cert.FfnRefIdeal.Read

open Cert.FfnRefIdeal Cert.FfnRefIdeal.Gen
open Idealize.ShloMosaic Idealize.ShloMosaic.TcCoe Idealize.ShloMosaic.Pointwise

variable (x : (⟨S2x8192x1024, .f32⟩ : BufTy).Contents (Elt Ideal)) (mo : (⟨S2x6x1024, .f32⟩ : BufTy).Contents (Elt Ideal))
  (g : (⟨S1024, .f32⟩ : BufTy).Contents (Elt Ideal)) (wu : (⟨S2x1024x5632, .f32⟩ : BufTy).Contents (Elt Ideal))
  (cw : (⟨S3x5632, .f32⟩ : BufTy).Contents (Elt Ideal)) (wd : (⟨S2x2816x1024, .f32⟩ : BufTy).Contents (Elt Ideal))
  (fn : (⟨S1024, .f32⟩ : BufTy).Contents (Elt Ideal))

/-- A row, normalised and modulated. -/
theorem hid_apply (b : Fin 2) (l : Fin 8192) (d : Fin 1024) :
    val_main_v20 (F := Ideal) x mo g (ix3 b l d)
      = x (ix3 b l d) * Ideal.rsqrt (Ideal.div (∑ e : Fin 1024, x (ix3 b l e) * x (ix3 b l e)) (Ideal.ofBits FTy.f32 0x44800000#32)
          + Ideal.ofBits FTy.f32 0x358637BD#32) * g (ix1 d) * (1 + mo (ix3 b 4 d)) + mo (ix3 b 3 d) := by
  pointwise [val_main_v20, val_main_v19, val_main_v18, val_main_v17, val_main_v16, val_main_v15, val_main_v14, val_main_v13, val_main_v12, val_main_v11,
    val_main_v10, val_main_v9, val_main_v8, val_main_v7, val_main_v6, val_main_v5, val_main_v4, val_main_v3, val_main_v2, val_main_v1, val_main_v0,
    val_main_cst, val_main_cst_0, val_main_cst_1, val_main_cst_2]

/-- A row projected up. -/
theorem up_apply (b : Fin 2) (l : Fin 8192) (n : Fin 5632) :
    val_main_v23 (F := Ideal) x mo g wu (ix3 b l n) = ∑ d : Fin 1024, val_main_v20 (F := Ideal) x mo g (ix3 b l d) * wu (ix3 1 d n) := by
  pointwise [val_main_v23, val_main_v22, val_main_v21]

/-- The centred convolution over three rows. -/
theorem conv_apply (b : Fin 2) (l : Fin 8192) (n : Fin 5632) :
    val_main_v44 (F := Ideal) x mo g wu cw (ix3 b l n)
      = val_main_v24 (F := Ideal) x mo g wu (ix3 b ⟨l.val, by omega⟩ n) * cw (ix2 0 n)
        + val_main_v24 (F := Ideal) x mo g wu (ix3 b ⟨1 + l.val, by omega⟩ n) * cw (ix2 1 n)
        + val_main_v24 (F := Ideal) x mo g wu (ix3 b ⟨2 + l.val, by omega⟩ n) * cw (ix2 2 n) := by
  pointwise [val_main_v44, val_main_v43, val_main_v42, val_main_v41, val_main_v40, val_main_v39, val_main_v38, val_main_v37, val_main_v36, val_main_v35,
    val_main_v34, val_main_v33, val_main_v32, val_main_v31, val_main_v30, val_main_v29, val_main_v28, val_main_v27, val_main_v26, val_main_v25]

/-- The projected rows, with a zero row on either side. -/
theorem pad_apply (b : Fin 2) (l : Fin 8194) (n : Fin 5632) :
    val_main_v24 (F := Ideal) x mo g wu (ix3 b l n)
      = if h : 1 ≤ l.val ∧ l.val < 8193 then val_main_v23 (F := Ideal) x mo g wu (ix3 b ⟨l.val - 1, by omega⟩ n) else 0 := by
  unfold val_main_v24
  split_ifs with h
  · refine pad_apply_of_inside _ _ _ _ _ _ _ _ (ix3 b ⟨l.val - 1, by omega⟩ n) ?_
    intro a
    match a with
    | ⟨0, _⟩ => show b.val = 0 + b.val * 1; omega
    | ⟨1, _⟩ => show l.val = 1 + (l.val - 1) * 1; omega
    | ⟨2, _⟩ => show n.val = 0 + n.val * 1; omega
  · refine (pad_apply_of_not_inside _ _ _ _ _ _ _ _ (1 : Fin 3) ?_).trans ?_
    · show ¬ (1 ≤ l.val ∧ (l.val - 1) % (0 + 1) = 0 ∧ (l.val - 1) / (0 + 1) < 8192)
      omega
    · pointwise [val_main_call0_v0, val_main_c]
      show (((0#32).toInt : ℝ) : EReal) = 0
      simp

/-- The gated product. -/
theorem act_apply (b : Fin 2) (l : Fin 8192) (f : Fin 2816) :
    val_main_v54 (F := Ideal) x mo g wu cw (ix3 b l f)
      = val_main_v44 (F := Ideal) x mo g wu cw (ix3 b l ⟨f.val, by omega⟩)
          * Ideal.div 1 (1 + Ideal.exp (-val_main_v44 (F := Ideal) x mo g wu cw (ix3 b l ⟨f.val, by omega⟩)))
          * val_main_v44 (F := Ideal) x mo g wu cw (ix3 b l ⟨2816 + f.val, by omega⟩) := by
  pointwise [val_main_v54, val_main_v53, val_main_v52, val_main_v51, val_main_v50, val_main_v49, val_main_v48, val_main_v47, val_main_v46, val_main_v45,
    val_main_cst_3, val_main_cst_4]

/-- The layer's output before its last norm. -/
theorem out_apply (b : Fin 2) (l : Fin 8192) (d : Fin 1024) :
    val_main_v61 (F := Ideal) x mo g wu cw wd (ix3 b l d) = x (ix3 b l d)
      + mo (ix3 b 5 d) * ∑ f : Fin 2816, val_main_v54 (F := Ideal) x mo g wu cw (ix3 b l f) * wd (ix3 1 f d) := by
  pointwise [val_main_v61, val_main_v60, val_main_v59, val_main_v58, val_main_v57, val_main_v56, val_main_v55]

/-- The result. -/
theorem result_apply (b : Fin 2) (l : Fin 8192) (d : Fin 1024) :
    val_main_v74 (F := Ideal) x mo g wu cw wd fn (ix3 b l d)
      = val_main_v61 (F := Ideal) x mo g wu cw wd (ix3 b l d)
          * Ideal.rsqrt (Ideal.div (∑ e : Fin 1024, val_main_v61 (F := Ideal) x mo g wu cw wd (ix3 b l e) * val_main_v61 (F := Ideal) x mo g wu cw wd (ix3 b l e))
              (Ideal.ofBits FTy.f32 0x44800000#32) + Ideal.ofBits FTy.f32 0x358637BD#32) * fn (ix1 d) := by
  pointwise [val_main_v74, val_main_v73, val_main_v72, val_main_v71, val_main_v70, val_main_v69, val_main_v68, val_main_v67, val_main_v66, val_main_v65,
   val_main_v64, val_main_v63, val_main_v62, val_main_cst_5, val_main_cst_6, val_main_cst_7]

end Cert.FfnRefIdeal.Read

end
-- ==== Proof.FfnMath.lean ====
/-
  The mathematics of the feed-forward call over the extended reals: halving the gate's weights halves its
  pre-activation, and `h (tanh h + 1)` at half of `g` is `g` times its logistic.
-/
module

public import Idealize.ShloMosaic.PureOps.Ideal
public import Idealize.ShloMosaic.PureOps.Ideal.Laws

@[expose] public section

noncomputable section

namespace Cert.FfnMath

open Idealize.ShloMosaic

/-- One half. -/
def half : EReal := ((1 / 2 : ℝ) : EReal)

theorem ofBits_half : Ideal.ofBits FTy.f32 0x3F000000#32 = half := by
  simp [Ideal.ofBits, Ideal.ieee, half]
  try rw [← EReal.coe_mul]
  try norm_num

theorem ofBits_one : Ideal.ofBits FTy.f32 0x3F800000#32 = 1 := by
  simp [Ideal.ofBits, Ideal.ieee]
  try rw [← EReal.coe_mul]
  try norm_num

theorem half_add (a b : EReal) : half * (a + b) = half * a + half * b :=
  EReal.left_distrib_of_nonneg_of_ne_top (by exact_mod_cast (by norm_num : (0 : ℝ) ≤ 1 / 2)) (EReal.coe_ne_top _) a b

theorem half_sum {ι : Type} (s : Finset ι) (f : ι → EReal) : half * ∑ i ∈ s, f i = ∑ i ∈ s, half * f i := by
  classical
  induction s using Finset.induction_on with
  | empty => simp
  | insert a s ha ih => rw [Finset.sum_insert ha, Finset.sum_insert ha, half_add, ih]

/-- A row times the halved weights is half of the row times the weights. -/
theorem half_dot {n : ℕ} (h w : Fin n → EReal) : ∑ d, h d * (w d * half) = half * ∑ d, h d * w d := by
  rw [half_sum]
  exact Finset.sum_congr rfl fun d _ => by rw [← mul_assoc, mul_comm]

/-- The gate. -/
theorem gate (g : EReal) : (half * g) * (Ideal.tanh (half * g) + 1) = g * Ideal.div 1 (1 + Ideal.exp (-g)) := by
  show _ = g * Ideal.logistic g
  induction g with
  | bot =>
    have h : half * ⊥ = ⊥ := EReal.coe_mul_bot_of_pos (by norm_num)
    rw [h, Ideal.tanh_bot, Ideal.logistic_bot]
    have : (-1 + 1 : EReal) = 0 := by
      rw [show (-1 : EReal) = ((-1 : ℝ) : EReal) by simp, show (1 : EReal) = ((1 : ℝ) : EReal) by simp, ← EReal.coe_add]; simp
    rw [this]
  | top =>
    have h : half * ⊤ = ⊤ := EReal.coe_mul_top_of_pos (by norm_num)
    rw [h, Ideal.tanh_top, Ideal.logistic_top]
    have : (1 + 1 : EReal) = ((2 : ℝ) : EReal) := by
      rw [show (1 : EReal) = ((1 : ℝ) : EReal) by simp, ← EReal.coe_add]; norm_num
    rw [this, EReal.top_mul_coe_of_pos (by norm_num)]; simp
  | coe x =>
    have h : half * (x : EReal) = ((x / 2 : ℝ) : EReal) := by
      unfold half; rw [← EReal.coe_mul]; congr 1; ring
    rw [h, Ideal.tanh_coe, Ideal.logistic_coe, show (1 : EReal) = ((1 : ℝ) : EReal) by simp, ← EReal.coe_add, ← EReal.coe_mul, ← EReal.coe_mul]
    congr 1
    have e : Real.exp (-x) = Real.exp (-(x / 2)) / Real.exp (x / 2) := by
      rw [← Real.exp_sub]; congr 1; ring
    rw [Real.tanh_eq_sinh_div_cosh, Real.sinh_eq, Real.cosh_eq, e]
    have p1 := Real.exp_pos (x / 2)
    have p2 := Real.exp_pos (-(x / 2))
    field_simp
    ring

end Cert.FfnMath

end
-- ==== Proof.Ffn.lean ====
/-
  A point's block of the feed-forward call is its block of the reference.
-/
module

public import proofs.«01_k».proof.Proof.FfnIdeal
public import proofs.«01_k».proof.Proof.FfnRef
public import proofs.«01_k».proof.Proof.FfnMath

@[expose] public section

set_option maxRecDepth 16384

noncomputable section

namespace Cert.FfnAlg

open Cert.FfnIdeal Cert.FfnIdeal.Gen Cert.FfnIdeal.Body
open Cert.FfnRefIdeal.Read (val_main_v20 val_main_v23 val_main_v24 val_main_v44 val_main_v54 val_main_v61 val_main_v74)
open Cert.FfnMath (half)
open Idealize.ShloMosaic Idealize.ShloMosaic.TcCoe Idealize.ShloMosaic.Tactic
open Idealize.ShloMosaic.Pointwise

theorem ix3_congr {n0 n1 n2 : ℕ} {a a' : Fin n0} {b b' : Fin n1} {c c' : Fin n2} (ha : a = a') (hb : b.val = b'.val) (hc : c.val = c'.val) :
    ix3 a b c = ix3 a' b' c' := by
  obtain rfl := ha; obtain rfl := Fin.ext hb; obtain rfl := Fin.ext hc; rfl

theorem ix2_congr {n0 n1 : ℕ} {a a' : Fin n0} {b b' : Fin n1} (ha : a.val = a'.val) (hb : b.val = b'.val) : ix2 a b = ix2 a' b' := by
  obtain rfl := Fin.ext ha; obtain rfl := Fin.ext hb; rfl

/-- The blocks that the point of batch `b` and row block `j` reads, as parts of the arrays. -/
structure Blocks (i : grid0.Coords) (x0 : Vec Ideal S1x512x1024 .f32) (x1 x2 : Vec Ideal S1x8x1024 .f32) (x3 : Vec Ideal S1x6x1024 .f32)
    (x4 : Vec Ideal S1x1024 .f32) (x5 : Vec Ideal S1x1024x5632 .bf16) (x6 : Vec Ideal S3x5632 .f32) (x7 : Vec Ideal S1x2816x1024 .bf16)
    (x8 : Vec Ideal S1x1024 .f32) (b : Fin 2) (j : Fin 16) (x : FVec Ideal S2x8192x1024 .f32) (mo : FVec Ideal S2x6x1024 .f32)
    (g : FVec Ideal S1024 .f32) (wu : FVec Ideal S2x1024x5632 .f32) (cw : FVec Ideal S3x5632 .f32) (wd : FVec Ideal S2x2816x1024 .f32)
    (fn : FVec Ideal S1024 .f32) : Prop where
  hi : (i 1).val = j.val
  h0 : ∀ (r : Fin 512) (d : Fin 1024), x0 (ix3 0 r d) = x (ix3 b ⟨512 * j.val + r.val, by omega⟩ d)
  h1 : ∀ (r : Fin 8) (d : Fin 1024) (h : 1 ≤ j.val), x1 (ix3 0 r d) = x (ix3 b ⟨512 * j.val - 8 + r.val, by omega⟩ d)
  h2 : ∀ (r : Fin 8) (d : Fin 1024) (h : j.val < 15), x2 (ix3 0 r d) = x (ix3 b ⟨512 * j.val + 512 + r.val, by omega⟩ d)
  h3 : ∀ (k : Fin 6) (d : Fin 1024), x3 (ix3 0 k d) = mo (ix3 b k d)
  h4 : ∀ d : Fin 1024, x4 (ix2 0 d) = g (ix1 d)
  h5g : ∀ (d : Fin 1024) (n : Fin 2816), x5 (ix3 0 d ⟨n.val, by omega⟩) = wu (ix3 1 d ⟨n.val, by omega⟩) * half
  h5v : ∀ (d : Fin 1024) (n : Fin 2816), x5 (ix3 0 d ⟨2816 + n.val, by omega⟩) = wu (ix3 1 d ⟨2816 + n.val, by omega⟩)
  h6 : ∀ (k : Fin 3) (n : Fin 5632), x6 (ix2 k n) = cw (ix2 k n)
  h7 : ∀ (f : Fin 2816) (d : Fin 1024), x7 (ix3 0 f d) = wd (ix3 1 f d)
  h8 : ∀ d : Fin 1024, x8 (ix2 0 d) = fn (ix1 d)

section
variable {i : grid0.Coords} {x0 : Vec Ideal S1x512x1024 .f32} {x1 x2 : Vec Ideal S1x8x1024 .f32} {x3 : Vec Ideal S1x6x1024 .f32}
  {x4 : Vec Ideal S1x1024 .f32} {x5 : Vec Ideal S1x1024x5632 .bf16} {x6 : Vec Ideal S3x5632 .f32} {x7 : Vec Ideal S1x2816x1024 .bf16}
  {x8 : Vec Ideal S1x1024 .f32} {b : Fin 2} {j : Fin 16} {x : FVec Ideal S2x8192x1024 .f32} {mo : FVec Ideal S2x6x1024 .f32}
  {g : FVec Ideal S1024 .f32} {wu : FVec Ideal S2x1024x5632 .f32} {cw : FVec Ideal S3x5632 .f32} {wd : FVec Ideal S2x2816x1024 .f32}
  {fn : FVec Ideal S1024 .f32}

theorem Blocks.rows (B : Blocks i x0 x1 x2 x3 x4 x5 x6 x7 x8 b j x mo g wu cw wd fn) (r : Fin 528) (d : Fin 1024)
    (h : 8 ≤ 512 * j.val + r.val ∧ 512 * j.val + r.val < 8200) :
    rows x0 x1 x2 r d = x (ix3 b ⟨512 * j.val + r.val - 8, by omega⟩ d) := by
  unfold Cert.FfnIdeal.Body.rows
  split_ifs with h1 h2
  · refine (B.h1 _ d (by omega)).trans (congrArg x (ix3_congr rfl ?_ rfl)); show 512 * j.val - 8 + r.val = 512 * j.val + r.val - 8; omega
  · refine (B.h0 _ d).trans (congrArg x (ix3_congr rfl ?_ rfl)); show 512 * j.val + (r.val - 8) = 512 * j.val + r.val - 8; omega
  · refine (B.h2 _ d (by omega)).trans (congrArg x (ix3_congr rfl ?_ rfl)); show 512 * j.val + 512 + (r.val - 8 - 512) = 512 * j.val + r.val - 8; omega

/-- The rows the body projects up are the reference's, and zero outside the sequence. -/
theorem Blocks.hid (B : Blocks i x0 x1 x2 x3 x4 x5 x6 x7 x8 b j x mo g wu cw wd fn) (r : Fin 528) (d : Fin 1024) :
    hid i x0 x1 x2 x3 x4 (ix2 r d)
      = if h : 8 ≤ 512 * j.val + r.val ∧ 512 * j.val + r.val < 8200 then val_main_v20 (F := Ideal) x mo g (ix3 b ⟨512 * j.val + r.val - 8, by omega⟩ d) else 0 := by
  unfold Cert.FfnIdeal.Body.hid
  rw [pay4_apply, B.hi]
  split_ifs with h
  · rw [pay3_apply, Cert.FfnRefIdeal.Read.hid_apply, B.rows r d h, mrow_apply, mrow_apply, B.h3, B.h3, B.h4]
    rw [Finset.sum_congr rfl fun e _ => by rw [B.rows r e h]]
    simp only [mul_assoc]
    rfl
  · rfl

/-- A slot's gate columns are half of the reference's projected rows. -/
theorem Blocks.slab_gate (B : Blocks i x0 x1 x2 x3 x4 x5 x6 x7 x8 b j x mo g wu cw wd fn) (n : ℕ) (hn : n < 11) (r : Fin 528) (k : Fin 256)
    (hr : r.val < 521) (hr' : 7 ≤ r.val) :
    slab (Cert.FfnIdeal.Body.hid i x0 x1 x2 x3 x4) x5 n (ix3 0 r k)
      = half * val_main_v24 (F := Ideal) x mo g wu (ix3 b ⟨512 * j.val + r.val - 7, by omega⟩ ⟨256 * n + k.val, by omega⟩) := by
  rw [slab_apply, Cert.FfnRefIdeal.Read.pad_apply]
  have e5 : ∀ d, wcol x5 n (ix3 0 d k) = wu (ix3 1 d ⟨256 * n + k.val, by omega⟩) * half := fun d => by
    rw [wcol_apply]
    refine Eq.trans (congrArg x5 (ix3_congr rfl rfl ?_)) ((B.h5g d ⟨256 * n + k.val, by omega⟩).trans (congrArg (· * half) (congrArg wu (ix3_congr rfl rfl rfl))))
    show 256 * (n % 22) + k.val = 256 * n + k.val; omega
  simp only [e5, B.hid]
  by_cases h : 8 ≤ 512 * j.val + r.val ∧ 512 * j.val + r.val < 8200
  · rw [dif_pos (show 1 ≤ 512 * j.val + r.val - 7 ∧ 512 * j.val + r.val - 7 < 8193 by omega), Cert.FfnRefIdeal.Read.up_apply]
    simp only [dif_pos h]
    rw [Cert.FfnMath.half_dot]
    refine congrArg (half * ·) (Finset.sum_congr rfl fun d _ => congrArg (· * _) (congrArg _ (ix3_congr rfl ?_ rfl)))
    show 512 * j.val + r.val - 8 = 512 * j.val + r.val - 7 - 1; omega
  · rw [dif_neg (show ¬ (1 ≤ 512 * j.val + r.val - 7 ∧ 512 * j.val + r.val - 7 < 8193) by omega)]
    simp only [dif_neg h]
    simp

/-- A slot's value columns are the reference's projected rows. -/
theorem Blocks.slab_value (B : Blocks i x0 x1 x2 x3 x4 x5 x6 x7 x8 b j x mo g wu cw wd fn) (n : ℕ) (hn : n < 11) (r : Fin 528) (k : Fin 256)
    (hr : r.val < 521) (hr' : 7 ≤ r.val) :
    slab (Cert.FfnIdeal.Body.hid i x0 x1 x2 x3 x4) x5 (11 + n) (ix3 0 r k)
      = val_main_v24 (F := Ideal) x mo g wu (ix3 b ⟨512 * j.val + r.val - 7, by omega⟩ ⟨2816 + (256 * n + k.val), by omega⟩) := by
  rw [slab_apply, Cert.FfnRefIdeal.Read.pad_apply]
  have e5 : ∀ d, wcol x5 (11 + n) (ix3 0 d k) = wu (ix3 1 d ⟨2816 + (256 * n + k.val), by omega⟩) := fun d => by
    rw [wcol_apply]
    refine Eq.trans (congrArg x5 (ix3_congr rfl rfl ?_)) ((B.h5v d ⟨256 * n + k.val, by omega⟩).trans (congrArg wu (ix3_congr rfl rfl rfl)))
    show 256 * ((11 + n) % 22) + k.val = 2816 + (256 * n + k.val); omega
  simp only [e5, B.hid]
  by_cases h : 8 ≤ 512 * j.val + r.val ∧ 512 * j.val + r.val < 8200
  · rw [dif_pos (show 1 ≤ 512 * j.val + r.val - 7 ∧ 512 * j.val + r.val - 7 < 8193 by omega), Cert.FfnRefIdeal.Read.up_apply]
    simp only [dif_pos h]
    refine Finset.sum_congr rfl fun d _ => congrArg (· * _) (congrArg _ (ix3_congr rfl ?_ rfl))
    show 512 * j.val + r.val - 8 = 512 * j.val + r.val - 7 - 1; omega
  · rw [dif_neg (show ¬ (1 ≤ 512 * j.val + r.val - 7 ∧ 512 * j.val + r.val - 7 < 8193) by omega)]
    simp only [dif_neg h]
    simp

theorem win_apply (e : ℕ) (he : e < 17) (P : Vec Ideal S1x528x256 .f32) (r : Fin 512) (k : Fin 256) :
    win e P (ix3 0 r k) = P (ix3 0 ⟨r.val + e, by omega⟩ k) := by
  refine congrArg P (ix3_congr rfl ?_ rfl)
  show r.val + e % 17 = r.val + e; omega

theorem Blocks.conv_gate (B : Blocks i x0 x1 x2 x3 x4 x5 x6 x7 x8 b j x mo g wu cw wd fn) (n : ℕ) (hn : n < 11) (r : Fin 512) (k : Fin 256) :
    ccol x6 n (ix2 0 k) * win 7 (slab (Cert.FfnIdeal.Body.hid i x0 x1 x2 x3 x4) x5 n) (ix3 0 r k)
      + ccol x6 n (ix2 1 k) * win 8 (slab (Cert.FfnIdeal.Body.hid i x0 x1 x2 x3 x4) x5 n) (ix3 0 r k)
      + ccol x6 n (ix2 2 k) * win 9 (slab (Cert.FfnIdeal.Body.hid i x0 x1 x2 x3 x4) x5 n) (ix3 0 r k)
    = half * val_main_v44 (F := Ideal) x mo g wu cw (ix3 b ⟨512 * j.val + r.val, by omega⟩ ⟨256 * n + k.val, by omega⟩) := by
  have ec : ∀ q, ccol x6 n (ix2 q k) = cw (ix2 q ⟨256 * n + k.val, by omega⟩) := fun q => by
    rw [ccol_apply, B.h6]; exact congrArg cw (ix2_congr rfl (by show 256 * (n % 22) + k.val = 256 * n + k.val; omega))
  rw [win_apply 7 (by omega), win_apply 8 (by omega), win_apply 9 (by omega), B.slab_gate n hn _ _ (by show r.val + 7 < 521; omega) (by show 7 ≤ r.val + 7; omega),
    B.slab_gate n hn _ _ (by show r.val + 8 < 521; omega) (by show 7 ≤ r.val + 8; omega), B.slab_gate n hn _ _ (by show r.val + 9 < 521; omega) (by show 7 ≤ r.val + 9; omega),
    ec, ec, ec, Cert.FfnRefIdeal.Read.conv_apply, Cert.FfnMath.half_add, Cert.FfnMath.half_add]
  refine congrArg₂ (· + ·) (congrArg₂ (· + ·) ?_ ?_) ?_
  · rw [mul_comm, mul_assoc]; refine congrArg (half * ·) (congrArg (· * _) (congrArg _ (ix3_congr rfl ?_ rfl))); show 512 * j.val + (r.val + 7) - 7 = 512 * j.val + r.val; omega
  · rw [mul_comm, mul_assoc]; refine congrArg (half * ·) (congrArg (· * _) (congrArg _ (ix3_congr rfl ?_ rfl))); show 512 * j.val + (r.val + 8) - 7 = 1 + (512 * j.val + r.val); omega
  · rw [mul_comm, mul_assoc]; refine congrArg (half * ·) (congrArg (· * _) (congrArg _ (ix3_congr rfl ?_ rfl))); show 512 * j.val + (r.val + 9) - 7 = 2 + (512 * j.val + r.val); omega

theorem Blocks.conv_value (B : Blocks i x0 x1 x2 x3 x4 x5 x6 x7 x8 b j x mo g wu cw wd fn) (n : ℕ) (hn : n < 11) (r : Fin 512) (k : Fin 256) :
    ccol x6 (11 + n) (ix2 0 k) * win 7 (slab (Cert.FfnIdeal.Body.hid i x0 x1 x2 x3 x4) x5 (11 + n)) (ix3 0 r k)
      + ccol x6 (11 + n) (ix2 1 k) * win 8 (slab (Cert.FfnIdeal.Body.hid i x0 x1 x2 x3 x4) x5 (11 + n)) (ix3 0 r k)
      + ccol x6 (11 + n) (ix2 2 k) * win 9 (slab (Cert.FfnIdeal.Body.hid i x0 x1 x2 x3 x4) x5 (11 + n)) (ix3 0 r k)
    = val_main_v44 (F := Ideal) x mo g wu cw (ix3 b ⟨512 * j.val + r.val, by omega⟩ ⟨2816 + (256 * n + k.val), by omega⟩) := by
  have ec : ∀ q, ccol x6 (11 + n) (ix2 q k) = cw (ix2 q ⟨2816 + (256 * n + k.val), by omega⟩) := fun q => by
    rw [ccol_apply, B.h6]; exact congrArg cw (ix2_congr rfl (by show 256 * ((11 + n) % 22) + k.val = 2816 + (256 * n + k.val); omega))
  rw [win_apply 7 (by omega), win_apply 8 (by omega), win_apply 9 (by omega), B.slab_value n hn _ _ (by show r.val + 7 < 521; omega) (by show 7 ≤ r.val + 7; omega),
    B.slab_value n hn _ _ (by show r.val + 8 < 521; omega) (by show 7 ≤ r.val + 8; omega), B.slab_value n hn _ _ (by show r.val + 9 < 521; omega) (by show 7 ≤ r.val + 9; omega),
    ec, ec, ec, Cert.FfnRefIdeal.Read.conv_apply]
  refine congrArg₂ (· + ·) (congrArg₂ (· + ·) ?_ ?_) ?_
  · rw [mul_comm]; refine congrArg (· * _) (congrArg _ (ix3_congr rfl ?_ rfl)); show 512 * j.val + (r.val + 7) - 7 = 512 * j.val + r.val; omega
  · rw [mul_comm]; refine congrArg (· * _) (congrArg _ (ix3_congr rfl ?_ rfl)); show 512 * j.val + (r.val + 8) - 7 = 1 + (512 * j.val + r.val); omega
  · rw [mul_comm]; refine congrArg (· * _) (congrArg _ (ix3_congr rfl ?_ rfl)); show 512 * j.val + (r.val + 9) - 7 = 2 + (512 * j.val + r.val); omega

/-- The gated product is the reference's. -/
theorem Blocks.act_eq (B : Blocks i x0 x1 x2 x3 x4 x5 x6 x7 x8 b j x mo g wu cw wd fn) (r : Fin 512) (f : Fin 2816) :
    Cert.FfnIdeal.Body.act (Cert.FfnIdeal.Body.hid i x0 x1 x2 x3 x4) x5 x6 (ix2 r f)
      = val_main_v54 (F := Ideal) x mo g wu cw (ix3 b ⟨512 * j.val + r.val, by omega⟩ f) := by
  have hn : f.val / 256 < 11 := by omega
  have e : Cert.FfnIdeal.Body.act (Cert.FfnIdeal.Body.hid i x0 x1 x2 x3 x4) x5 x6 (ix2 r f)
      = chunk (Cert.FfnIdeal.Body.hid i x0 x1 x2 x3 x4) x5 x6 (f.val / 256) (ix2 r ⟨f.val % 256, by omega⟩) := rfl
  rw [e, chunk, pay9_apply, B.conv_gate _ hn, B.conv_value _ hn, Cert.FfnMath.gate, Cert.FfnRefIdeal.Read.act_apply]
  refine congrArg₂ (fun u v => val_main_v44 (F := Ideal) x mo g wu cw u * Ideal.div 1 (1 + Ideal.exp (-val_main_v44 (F := Ideal) x mo g wu cw u)) * val_main_v44 (F := Ideal) x mo g wu cw v)
    (ix3_congr rfl rfl ?_) (ix3_congr rfl rfl ?_)
  · show 256 * (f.val / 256) + f.val % 256 = f.val; omega
  · show 2816 + (256 * (f.val / 256) + f.val % 256) = 2816 + f.val; omega

theorem Blocks.mid (B : Blocks i x0 x1 x2 x3 x4 x5 x6 x7 x8 b j x mo g wu cw wd fn) (r : Fin 512) (d : Fin 1024) :
    k0_pay68 x0 (mrow x3 5) (Cert.FfnIdeal.Body.act (Cert.FfnIdeal.Body.hid i x0 x1 x2 x3 x4) x5 x6) x7 (ix2 r d)
      = val_main_v61 (F := Ideal) x mo g wu cw wd (ix3 b ⟨512 * j.val + r.val, by omega⟩ d) := by
  rw [pay68_apply, Cert.FfnRefIdeal.Read.out_apply, B.h0, mrow_apply, B.h3]
  refine congrArg₂ (· + ·) rfl (congrArg₂ (· * ·) rfl (Finset.sum_congr rfl fun f _ => ?_))
  rw [B.act_eq, B.h7]

/-- What the body leaves is the point's block of the reference. -/
theorem Blocks.out (B : Blocks i x0 x1 x2 x3 x4 x5 x6 x7 x8 b j x mo g wu cw wd fn) (r : Fin 512) (d : Fin 1024) :
    outF i x0 x1 x2 x3 x4 x5 x6 x7 x8 (ix3 0 r d)
      = val_main_v74 (F := Ideal) x mo g wu cw wd fn (ix3 b ⟨512 * j.val + r.val, by omega⟩ d) := by
  unfold outF
  rw [pay1_apply, Cert.FfnRefIdeal.Read.result_apply, pay69_apply, B.mid, B.h8]
  rw [Finset.sum_congr rfl fun e _ => by rw [B.mid r e]]
  rfl

end

end Cert.FfnAlg

end
-- ==== Proof.FfnArr.lean ====
/-
  The blocks that the feed-forward call reads and writes, as parts of its arrays.
-/
module

public import proofs.«01_k».proof.Proof.Gen.FfnIdeal.Frame
public import proofs.«01_k».proof.Proof.Gen.FfnIdeal.Value
public import proofs.«01_k».proof.Proof.Ffn
public import Idealize.ShloMosaic.Lib.Pipeline.Value
public import proofs.«01_k».proof.Defs

@[expose] public section

set_option maxRecDepth 16384

noncomputable section

namespace Cert.FfnIdeal.Body

open Cert.FfnIdeal Cert.FfnIdeal.Gen
open Idealize.ShloMosaic Idealize.ShloMosaic.TcCoe Idealize.ShloMosaic.Tactic
open Idealize.SL.Sem
open Idealize.ShloMosaic.Pointwise
open Idealize.ShloMosaic.Pipeline (Dat)

variable (m : (ℓ : Loc nD τ sig) → Buf (Elt Ideal) ℓ) (ρ : Dev nD → PrngReg)

/-- The blocks' places, decided over the grid: batch `t / 16`, row block `t % 16`. -/
theorem coord1 : ∀ t : Fin cfg0.N, (grid0.coords t 1).val = t.val % 16 := (by decide +kernel : ∀ t : Fin grid0.N, _)
theorem index0 : ∀ t : Fin cfg0.N, win0_0.index t = ![t.val / 16, t.val % 16, 0] := (by decide +kernel : ∀ t : Fin grid0.N, _)
theorem index1 : ∀ t : Fin cfg0.N, win0_1.index t = ![t.val / 16, 64 * (t.val % 16) - 1, 0] := (by decide +kernel : ∀ t : Fin grid0.N, _)
theorem index2 : ∀ t : Fin cfg0.N, win0_2.index t = ![t.val / 16, min (64 * (t.val % 16 + 1)) 1023, 0] := (by decide +kernel : ∀ t : Fin grid0.N, _)
theorem index3 : ∀ t : Fin cfg0.N, win0_3.index t = ![t.val / 16, 0, 0] := (by decide +kernel : ∀ t : Fin grid0.N, _)
theorem index4 : ∀ t : Fin cfg0.N, win0_4.index t = ![0, 0] := (by decide +kernel : ∀ t : Fin grid0.N, _)
theorem index5 : ∀ t : Fin cfg0.N, win0_5.index t = ![1, 0, 0] := (by decide +kernel : ∀ t : Fin grid0.N, _)
theorem index6 : ∀ t : Fin cfg0.N, win0_6.index t = ![0, 0] := (by decide +kernel : ∀ t : Fin grid0.N, _)
theorem index7 : ∀ t : Fin cfg0.N, win0_7.index t = ![1, 0, 0] := (by decide +kernel : ∀ t : Fin grid0.N, _)
theorem index8 : ∀ t : Fin cfg0.N, win0_8.index t = ![0, 0] := (by decide +kernel : ∀ t : Fin grid0.N, _)
theorem index9 : ∀ t : Fin cfg0.N, win0_9.index t = ![t.val / 16, t.val % 16, 0] := (by decide +kernel : ∀ t : Fin grid0.N, _)

theorem tlt (t : Fin cfg0.N) : t.val < 32 := t.isLt

/-- The batch and the row block of a point. -/
abbrev tb (t : Fin cfg0.N) : Fin 2 := ⟨t.val / 16, by have := tlt t; omega⟩
abbrev tj (t : Fin cfg0.N) : Fin 16 := ⟨t.val % 16, by omega⟩

/-! ## The arrays the host prepares -/

/-- The up weights, the gate's columns halved. -/
def prepUp (wu : FVec Ideal S2x1024x5632 .f32) : FVec Ideal S2x1024x5632 .bf16 :=
  truncf .bf16 (mulf wu (broadcastInDim S2x1024x5632 ![0, 1, 2] bcast_S1x1x5632_S2x1024x5632_0_1_2 (broadcastInDim S1x1x5632 ![2] bcast_S5632_S1x1x5632_2
    (concatenate S5632 0 [⟨S2816, broadcastInDim S2816 ![] bcast_S_S2816 (constant (F := Ideal) S_ .f32 0x3F000000#32)⟩,
      ⟨S2816, broadcastInDim S2816 ![] bcast_S_S2816 (constant (F := Ideal) S_ .f32 0x3F800000#32)⟩] concatenates_S2816_S2816_S5632_d0)))) bitsLt_bf16_f32

theorem prepUp_apply (wu : FVec Ideal S2x1024x5632 .f32) (b : Fin 2) (d : Fin 1024) (n : Fin 5632) :
    prepUp wu (ix3 b d n) = wu (ix3 b d n) * (if n.val < 2816 then Cert.FfnMath.half else 1) := by
  pointwise [prepUp]
  rw [Cert.FfnMath.ofBits_half]
  split_ifs <;> rfl

theorem V_v6 (c : Dev nD) : V m c main_v6 = prepUp (m ((c : Thread nD τ).loc main_arg3)) := by
  unfold_abbrev_sides
  after_results <;> rfl

/-- The down weights. -/
def prepDown (wd : FVec Ideal S2x2816x1024 .f32) : FVec Ideal S2x2816x1024 .bf16 := truncf .bf16 wd bitsLt_bf16_f32

theorem V_v7 (c : Dev nD) : V m c main_v7 = prepDown (m ((c : Thread nD τ).loc main_arg5)) := by
  unfold_abbrev_sides
  after_results <;> rfl

/-- A row of scales as a matrix of one row. -/
def asRow (g : FVec Ideal S1024 .f32) : FVec Ideal S1x1024 .f32 := shapeCast S1x1024 g shapeCasts_S1024_S1x1024

theorem asRow_apply (g : FVec Ideal S1024 .f32) (d : Fin 1024) : asRow g (ix2 0 d) = g (ix1 d) := by
  pointwise [asRow]

theorem V_v8 (c : Dev nD) : V m c main_v8 = asRow (m ((c : Thread nD τ).loc main_arg2)) := by
  unfold_abbrev_sides
  after_results <;> rfl

theorem V_v9 (c : Dev nD) : V m c main_v9 = asRow (m ((c : Thread nD τ).loc main_arg6)) := by
  unfold_abbrev_sides
  after_results <;> rfl

/-! ## The blocks read -/

theorem blk0 (c : Dev nD) (t : Fin cfg0.N) (r : Fin 512) (d : Fin 1024) :
    iblk m c 0 t (ix3 0 r d : S1x512x1024.Idx) = V m c main_arg0 (ix3 (tb t) ⟨512 * (tj t).val + r.val, by omega⟩ d : S2x8192x1024.Idx) := by
  have hi := index0 t
  have h0 : win0_0.index t (0 : Fin 3) = t.val / 16 := congrFun hi 0
  have h1 : win0_0.index t (1 : Fin 3) = t.val % 16 := congrFun hi 1
  have h2 : win0_0.index t (2 : Fin 3) = 0 := congrFun hi 2
  refine congrArg (V m c main_arg0) (?_ : ((cfg0.win 0).blk t).view.emb (ix3 0 r d : S1x512x1024.Idx) = (ix3 (tb t) ⟨512 * (tj t).val + r.val, by omega⟩ d : S2x8192x1024.Idx))
  funext a; apply Fin.ext
  match a with
  | ⟨0, _⟩ => show win0_0.index t (0 : Fin 3) * 1 + 1 * 0 = t.val / 16; omega
  | ⟨1, _⟩ => show win0_0.index t (1 : Fin 3) * 512 + 1 * r.val = 512 * (t.val % 16) + r.val; omega
  | ⟨2, _⟩ => show win0_0.index t (2 : Fin 3) * 1024 + 1 * d.val = d.val; omega

theorem blk1 (c : Dev nD) (t : Fin cfg0.N) (r : Fin 8) (d : Fin 1024) (h : 1 ≤ (tj t).val) :
    iblk m c 1 t (ix3 0 r d : S1x8x1024.Idx) = V m c main_arg0 (ix3 (tb t) ⟨512 * (tj t).val - 8 + r.val, by omega⟩ d : S2x8192x1024.Idx) := by
  have hi := index1 t
  have h0 : win0_1.index t (0 : Fin 3) = t.val / 16 := congrFun hi 0
  have h1 : win0_1.index t (1 : Fin 3) = 64 * (t.val % 16) - 1 := congrFun hi 1
  have h2 : win0_1.index t (2 : Fin 3) = 0 := congrFun hi 2
  refine congrArg (V m c main_arg0) (?_ : ((cfg0.win 1).blk t).view.emb (ix3 0 r d : S1x8x1024.Idx) = (ix3 (tb t) ⟨512 * (tj t).val - 8 + r.val, by omega⟩ d : S2x8192x1024.Idx))
  funext a; apply Fin.ext
  match a with
  | ⟨0, _⟩ => have hh : 1 ≤ t.val % 16 := h; show win0_1.index t (0 : Fin 3) * 1 + 1 * 0 = t.val / 16; omega
  | ⟨1, _⟩ => have hh : 1 ≤ t.val % 16 := h; show win0_1.index t (1 : Fin 3) * 8 + 1 * r.val = 512 * (t.val % 16) - 8 + r.val; omega
  | ⟨2, _⟩ => have hh : 1 ≤ t.val % 16 := h; show win0_1.index t (2 : Fin 3) * 1024 + 1 * d.val = d.val; omega

theorem blk2 (c : Dev nD) (t : Fin cfg0.N) (r : Fin 8) (d : Fin 1024) (h : (tj t).val < 15) :
    iblk m c 2 t (ix3 0 r d : S1x8x1024.Idx) = V m c main_arg0 (ix3 (tb t) ⟨512 * (tj t).val + 512 + r.val, by omega⟩ d : S2x8192x1024.Idx) := by
  have hi := index2 t
  have h0 : win0_2.index t (0 : Fin 3) = t.val / 16 := congrFun hi 0
  have h1 : win0_2.index t (1 : Fin 3) = min (64 * (t.val % 16 + 1)) 1023 := congrFun hi 1
  have h2 : win0_2.index t (2 : Fin 3) = 0 := congrFun hi 2
  refine congrArg (V m c main_arg0) (?_ : ((cfg0.win 2).blk t).view.emb (ix3 0 r d : S1x8x1024.Idx) = (ix3 (tb t) ⟨512 * (tj t).val + 512 + r.val, by omega⟩ d : S2x8192x1024.Idx))
  funext a; apply Fin.ext
  match a with
  | ⟨0, _⟩ => have hh : t.val % 16 < 15 := h; show win0_2.index t (0 : Fin 3) * 1 + 1 * 0 = t.val / 16; omega
  | ⟨1, _⟩ => have hh : t.val % 16 < 15 := h; show win0_2.index t (1 : Fin 3) * 8 + 1 * r.val = 512 * (t.val % 16) + 512 + r.val; omega
  | ⟨2, _⟩ => have hh : t.val % 16 < 15 := h; show win0_2.index t (2 : Fin 3) * 1024 + 1 * d.val = d.val; omega

theorem blk3 (c : Dev nD) (t : Fin cfg0.N) (k : Fin 6) (d : Fin 1024) :
    iblk m c 3 t (ix3 0 k d : S1x6x1024.Idx) = V m c main_arg1 (ix3 (tb t) k d : S2x6x1024.Idx) := by
  have hi := index3 t
  have h0 : win0_3.index t (0 : Fin 3) = t.val / 16 := congrFun hi 0
  have h1 : win0_3.index t (1 : Fin 3) = 0 := congrFun hi 1
  have h2 : win0_3.index t (2 : Fin 3) = 0 := congrFun hi 2
  refine congrArg (V m c main_arg1) (?_ : ((cfg0.win 3).blk t).view.emb (ix3 0 k d : S1x6x1024.Idx) = (ix3 (tb t) k d : S2x6x1024.Idx))
  funext a; apply Fin.ext
  match a with
  | ⟨0, _⟩ => show win0_3.index t (0 : Fin 3) * 1 + 1 * 0 = t.val / 16; omega
  | ⟨1, _⟩ => show win0_3.index t (1 : Fin 3) * 6 + 1 * k.val = k.val; omega
  | ⟨2, _⟩ => show win0_3.index t (2 : Fin 3) * 1024 + 1 * d.val = d.val; omega

theorem blk4 (c : Dev nD) (t : Fin cfg0.N) (d : Fin 1024) :
    iblk m c 4 t (ix2 0 d : S1x1024.Idx) = V m c main_v8 (ix2 0 d : S1x1024.Idx) := by
  have hi := index4 t
  have h0 : win0_4.index t (0 : Fin 2) = 0 := congrFun hi 0
  have h1 : win0_4.index t (1 : Fin 2) = 0 := congrFun hi 1
  refine congrArg (V m c main_v8) (?_ : ((cfg0.win 4).blk t).view.emb (ix2 0 d : S1x1024.Idx) = (ix2 0 d : S1x1024.Idx))
  funext a; apply Fin.ext
  match a with
  | ⟨0, _⟩ => show win0_4.index t (0 : Fin 2) * 1 + 1 * 0 = 0; omega
  | ⟨1, _⟩ => show win0_4.index t (1 : Fin 2) * 1024 + 1 * d.val = d.val; omega

theorem blk5 (c : Dev nD) (t : Fin cfg0.N) (d : Fin 1024) (n : Fin 5632) :
    iblk m c 5 t (ix3 0 d n : S1x1024x5632.Idx) = V m c main_v6 (ix3 1 d n : S2x1024x5632.Idx) := by
  have hi := index5 t
  have h0 : win0_5.index t (0 : Fin 3) = 1 := congrFun hi 0
  have h1 : win0_5.index t (1 : Fin 3) = 0 := congrFun hi 1
  have h2 : win0_5.index t (2 : Fin 3) = 0 := congrFun hi 2
  refine congrArg (V m c main_v6) (?_ : ((cfg0.win 5).blk t).view.emb (ix3 0 d n : S1x1024x5632.Idx) = (ix3 1 d n : S2x1024x5632.Idx))
  funext a; apply Fin.ext
  match a with
  | ⟨0, _⟩ => show win0_5.index t (0 : Fin 3) * 1 + 1 * 0 = 1; omega
  | ⟨1, _⟩ => show win0_5.index t (1 : Fin 3) * 1024 + 1 * d.val = d.val; omega
  | ⟨2, _⟩ => show win0_5.index t (2 : Fin 3) * 5632 + 1 * n.val = n.val; omega

theorem blk6 (c : Dev nD) (t : Fin cfg0.N) (k : Fin 3) (n : Fin 5632) :
    iblk m c 6 t (ix2 k n : S3x5632.Idx) = V m c main_arg4 (ix2 k n : S3x5632.Idx) := by
  have hi := index6 t
  have h0 : win0_6.index t (0 : Fin 2) = 0 := congrFun hi 0
  have h1 : win0_6.index t (1 : Fin 2) = 0 := congrFun hi 1
  refine congrArg (V m c main_arg4) (?_ : ((cfg0.win 6).blk t).view.emb (ix2 k n : S3x5632.Idx) = (ix2 k n : S3x5632.Idx))
  funext a; apply Fin.ext
  match a with
  | ⟨0, _⟩ => show win0_6.index t (0 : Fin 2) * 3 + 1 * k.val = k.val; omega
  | ⟨1, _⟩ => show win0_6.index t (1 : Fin 2) * 5632 + 1 * n.val = n.val; omega

theorem blk7 (c : Dev nD) (t : Fin cfg0.N) (f : Fin 2816) (d : Fin 1024) :
    iblk m c 7 t (ix3 0 f d : S1x2816x1024.Idx) = V m c main_v7 (ix3 1 f d : S2x2816x1024.Idx) := by
  have hi := index7 t
  have h0 : win0_7.index t (0 : Fin 3) = 1 := congrFun hi 0
  have h1 : win0_7.index t (1 : Fin 3) = 0 := congrFun hi 1
  have h2 : win0_7.index t (2 : Fin 3) = 0 := congrFun hi 2
  refine congrArg (V m c main_v7) (?_ : ((cfg0.win 7).blk t).view.emb (ix3 0 f d : S1x2816x1024.Idx) = (ix3 1 f d : S2x2816x1024.Idx))
  funext a; apply Fin.ext
  match a with
  | ⟨0, _⟩ => show win0_7.index t (0 : Fin 3) * 1 + 1 * 0 = 1; omega
  | ⟨1, _⟩ => show win0_7.index t (1 : Fin 3) * 2816 + 1 * f.val = f.val; omega
  | ⟨2, _⟩ => show win0_7.index t (2 : Fin 3) * 1024 + 1 * d.val = d.val; omega

theorem blk8 (c : Dev nD) (t : Fin cfg0.N) (d : Fin 1024) :
    iblk m c 8 t (ix2 0 d : S1x1024.Idx) = V m c main_v9 (ix2 0 d : S1x1024.Idx) := by
  have hi := index8 t
  have h0 : win0_8.index t (0 : Fin 2) = 0 := congrFun hi 0
  have h1 : win0_8.index t (1 : Fin 2) = 0 := congrFun hi 1
  refine congrArg (V m c main_v9) (?_ : ((cfg0.win 8).blk t).view.emb (ix2 0 d : S1x1024.Idx) = (ix2 0 d : S1x1024.Idx))
  funext a; apply Fin.ext
  match a with
  | ⟨0, _⟩ => show win0_8.index t (0 : Fin 2) * 1 + 1 * 0 = 0; omega
  | ⟨1, _⟩ => show win0_8.index t (1 : Fin 2) * 1024 + 1 * d.val = d.val; omega

/-- The blocks that a point reads are the point's parts of the arrays. -/
theorem blocks (c : Dev nD) (t : Fin cfg0.N) (x : FVec Ideal S2x8192x1024 .f32) (mo : FVec Ideal S2x6x1024 .f32)
    (g : FVec Ideal S1024 .f32) (wu : FVec Ideal S2x1024x5632 .f32) (cw : FVec Ideal S3x5632 .f32) (wd : FVec Ideal S2x2816x1024 .f32) (fn : FVec Ideal S1024 .f32)
    (e0 : m ((c : Thread nD τ).loc main_arg0) = x) (e1 : m ((c : Thread nD τ).loc main_arg1) = mo) (e2 : m ((c : Thread nD τ).loc main_arg2) = g)
    (e3 : m ((c : Thread nD τ).loc main_arg3) = wu) (e4 : m ((c : Thread nD τ).loc main_arg4) = cw) (e5 : m ((c : Thread nD τ).loc main_arg5) = wd)
    (e6 : m ((c : Thread nD τ).loc main_arg6) = fn) :
    Cert.FfnAlg.Blocks (grid0.coords t) (iblk m c 0 t) (iblk m c 1 t) (iblk m c 2 t) (iblk m c 3 t) (iblk m c 4 t) (iblk m c 5 t) (iblk m c 6 t) (iblk m c 7 t)
      (iblk m c 8 t) (tb t) (tj t) x mo g wu cw wd fn := by
  have a0 : V m c main_arg0 = x := (V_main_arg0 m c).trans e0
  have a1 : V m c main_arg1 = mo := (V_main_arg1 m c).trans e1
  have a4 : V m c main_arg4 = cw := (V_main_arg4 m c).trans e4
  have a6 : V m c main_v6 = prepUp wu := (V_v6 m c).trans (congrArg prepUp e3)
  have a7 : V m c main_v7 = prepDown wd := (V_v7 m c).trans (congrArg prepDown e5)
  have a8 : V m c main_v8 = asRow g := (V_v8 m c).trans (congrArg asRow e2)
  have a9 : V m c main_v9 = asRow fn := (V_v9 m c).trans (congrArg asRow e6)
  have up : ∀ (d : Fin 1024) (n : Fin 5632), (iblk m c 5 t : Vec Ideal S1x1024x5632 .bf16) (ix3 0 d n) = wu (ix3 1 d n) * (if n.val < 2816 then Cert.FfnMath.half else 1) :=
    fun d n => ((blk5 m c t d n).trans (congrFun a6 _)).trans (prepUp_apply wu 1 d n)
  exact {
    hi := coord1 t
    h0 := fun r d => (blk0 m c t r d).trans (congrFun a0 _)
    h1 := fun r d h => (blk1 m c t r d h).trans (congrFun a0 _)
    h2 := fun r d h => (blk2 m c t r d h).trans (congrFun a0 _)
    h3 := fun k d => (blk3 m c t k d).trans (congrFun a1 _)
    h4 := fun d => ((blk4 m c t d).trans (congrFun a8 _)).trans (asRow_apply g d)
    h5g := fun d n => (up d ⟨n.val, by omega⟩).trans (congrArg (_ * ·) (if_pos (show n.val < 2816 from n.isLt)))
    h5v := fun d n => (up d ⟨2816 + n.val, by omega⟩).trans
      ((congrArg (_ * ·) (if_neg (show ¬ 2816 + n.val < 2816 by omega))).trans (mul_one (M := EReal) _))
    h6 := fun k n => (blk6 m c t k n).trans (congrFun a4 _)
    h7 := fun f d => (blk7 m c t f d).trans (congrFun a7 _)
    h8 := fun d => ((blk8 m c t d).trans (congrFun a9 _)).trans (asRow_apply fn d) }

/-! ## The result's array -/

theorem mem_blk9 (t : Fin cfg0.N) (i : S2x8192x1024.Idx) :
    i ∈ ((cfg0.win 9).blk t).view.set ↔ ∀ a : Fin 3, win0_9.index t a * S1x512x1024.size a ≤ (i a).val ∧ (i a).val < win0_9.index t a * S1x512x1024.size a + S1x512x1024.size a := by
  show i ∈ ((View.whole main_v10).slice (win0_9.rect t)).set ↔ _
  rw [View.set_slice_whole, Rect.mem_set_unit]
  exact Iff.rfl

/-- Every index of the result is in some point's block. -/
theorem cover9 (i : S2x8192x1024.Idx) : ∃ t : Fin cfg0.N, (cfg0.win 9).flush t = true ∧ i ∈ ((cfg0.win 9).blk t).view.set := by
  have i0 : (i 0).val < 2 := (i 0).isLt
  have i1 : (i 1).val < 8192 := (i 1).isLt
  have i2 : (i 2).val < 1024 := (i 2).isLt
  refine ⟨⟨16 * (i 0).val + (i 1).val / 512, lt_of_lt_of_eq (by omega) N_0.symm⟩, flush0_9 _, ?_⟩
  rw [mem_blk9, index9]
  intro a
  match a with
  | ⟨0, _⟩ => show (16 * (i 0).val + (i 1).val / 512) / 16 * 1 ≤ (i 0).val ∧ (i 0).val < (16 * (i 0).val + (i 1).val / 512) / 16 * 1 + 1; omega
  | ⟨1, _⟩ => show (16 * (i 0).val + (i 1).val / 512) % 16 * 512 ≤ (i 1).val ∧ (i 1).val < (16 * (i 0).val + (i 1).val / 512) % 16 * 512 + 512; omega
  | ⟨2, _⟩ => show 0 * 1024 ≤ (i 2).val ∧ (i 2).val < 0 * 1024 + 1024; omega

/-- The array after the run is `G`, when each point's block of `G` is what the point leaves in the buffer. -/
theorem final9 (c : Dev nD) (G : Buf (Elt Ideal) ((c : Thread nD τ).loc main_v10))
    (h : ∀ (t : Fin cfg0.N) (r : Fin 512) (d : Fin 1024), outF (grid0.coords t) (iblk m c 0 t) (iblk m c 1 t) (iblk m c 2 t) (iblk m c 3 t) (iblk m c 4 t) (iblk m c 5 t)
        (iblk m c 6 t) (iblk m c 7 t) (iblk m c 8 t) (ix3 0 r d)
      = G (ix3 (tb t) ⟨512 * (tj t).val + r.val, by omega⟩ d : S2x8192x1024.Idx)) :
    (dats m 0 c).arrAt 9 cfg0.N = G := by
  refine (dats m 0 c).arrAt_eq_of_cover 9 G (fun t _ => ?_) cover9
  refine (Cert.FfnIdeal.Value.flushed9_A m c t).trans ?_
  rw [out_eq]
  funext y
  have hi := index9 t
  have h0 : win0_9.index t (0 : Fin 3) = t.val / 16 := congrFun hi 0
  have h1 : win0_9.index t (1 : Fin 3) = t.val % 16 := congrFun hi 1
  have h2 : win0_9.index t (2 : Fin 3) = 0 := congrFun hi 2
  have e : (cfg0.win 9).xinj (grid0.coords t) y = (ix3 0 ⟨(y 1).val, (y 1).isLt⟩ ⟨(y 2).val, (y 2).isLt⟩ : S1x512x1024.Idx) := by
    funext a; apply Fin.ext
    match a with
    | ⟨0, _⟩ => show (y 0).val = 0; have : (y 0).val < 1 := (y 0).isLt; omega
    | ⟨1, _⟩ => rfl
    | ⟨2, _⟩ => rfl
  show outF (F := Ideal) (grid0.coords t) (iblk m c 0 t) (iblk m c 1 t) (iblk m c 2 t) (iblk m c 3 t) (iblk m c 4 t) (iblk m c 5 t) (iblk m c 6 t) (iblk m c 7 t) (iblk m c 8 t) ((cfg0.win 9).xinj (grid0.coords t) y) = G (((cfg0.win 9).blk t).view.emb y)
  rw [e, h]
  refine congrArg G ?_
  funext a; apply Fin.ext
  match a with
  | ⟨0, _⟩ => show t.val / 16 = win0_9.index t (0 : Fin 3) * 1 + 1 * (y 0).val; have : (y 0).val < 1 := (y 0).isLt; omega
  | ⟨1, _⟩ => show 512 * (t.val % 16) + (y 1).val = win0_9.index t (1 : Fin 3) * 512 + 1 * (y 1).val; omega
  | ⟨2, _⟩ => show (y 2).val = win0_9.index t (2 : Fin 3) * 1024 + 1 * (y 2).val; omega

end Cert.FfnIdeal.Body

namespace Cert.FfnAlg

open Cert.FfnIdeal Cert.FfnIdeal.Gen Cert.FfnIdeal.Body
open Idealize.ShloMosaic Idealize.ShloMosaic.TcCoe Idealize.SL.Sem

/-- The feed-forward call leaves the reference's result. -/
theorem final (m : (ℓ : Loc nD τ sig) → Buf (Elt Ideal) ℓ) (c : Dev nD) (x : FVec Ideal S2x8192x1024 .f32) (mo : FVec Ideal S2x6x1024 .f32)
    (g : FVec Ideal S1024 .f32) (wu : FVec Ideal S2x1024x5632 .f32) (cw : FVec Ideal S3x5632 .f32) (wd : FVec Ideal S2x2816x1024 .f32) (fn : FVec Ideal S1024 .f32)
    (e0 : m ((c : Thread nD τ).loc main_arg0) = x) (e1 : m ((c : Thread nD τ).loc main_arg1) = mo) (e2 : m ((c : Thread nD τ).loc main_arg2) = g)
    (e3 : m ((c : Thread nD τ).loc main_arg3) = wu) (e4 : m ((c : Thread nD τ).loc main_arg4) = cw) (e5 : m ((c : Thread nD τ).loc main_arg5) = wd)
    (e6 : m ((c : Thread nD τ).loc main_arg6) = fn) :
    (dats m 0 c).arrAt 9 cfg0.N = Cert.FfnRefIdeal.Read.val_main_v74 (F := Ideal) x mo g wu cw wd fn :=
  final9 m c _ fun t r d => (blocks m c t x mo g wu cw wd fn e0 e1 e2 e3 e4 e5 e6).out r d

theorem algebraic [Cert.FfnIdeal.Facts] [Cert.FfnRefIdeal.Facts] : Cert.algebraic_FfnIdeal_FfnRefIdeal := by
  intro m g m' g' hpre hargs
  refine ⟨fun c => Cert.FfnRefIdeal.Read.val_main_v74 (F := Ideal) (m ((c : Thread nD τ).loc main_arg0)) (m ((c : Thread nD τ).loc main_arg1))
        (m ((c : Thread nD τ).loc main_arg2)) (m ((c : Thread nD τ).loc main_arg3)) (m ((c : Thread nD τ).loc main_arg4)) (m ((c : Thread nD τ).loc main_arg5))
        (m ((c : Thread nD τ).loc main_arg6)), ?_, ?_⟩
  · exact (θ_run _ _ _).mono (fun r hr c => ⟨(hr c).1.trans (final m c _ _ _ _ _ _ _ rfl rfl rfl rfl rfl rfl rfl), (hr c).2⟩) (Cert.FfnIdeal.Value.run_blocks m g)
  · refine (θ_run _ _ _).mono (fun r hr c => ?_) (Cert.FfnRefIdeal.Value.run m' g')
    obtain ⟨h0, h1⟩ := hr c
    obtain ⟨a0, a1, a2, a3, a4, a5, a6⟩ := hargs c
    refine ⟨h0.trans ?_, h1⟩
    rw [Cert.FfnRefIdeal.Read.val_main_v74_eq, a0, a1, a2, a3, a4, a5, a6]

end Cert.FfnAlg

end
-- ==== Proof.InprojVals.lean ====
/-
  What the input projection's body leaves, as a function of the blocks it reads.

  At the first column block of a row block the body normalises and modulates the 1024 rows and keeps them (`hid`);
  the later column blocks read the rows kept. Every point leaves the rows' products with its block of the weights.
-/
module

public import proofs.«01_k».proof.Proof.Gen.InprojIdeal.Frame
public import Idealize.ShloMosaic.Lib.Pointwise
public import Idealize.ShloMosaic.Lib.Pipeline.ReadBack
public import Idealize.ShloMosaic.Lib.Pipeline.ValueKit

@[expose] public section

set_option maxRecDepth 16384

noncomputable section

namespace Cert.InprojIdeal.Body

open Cert.InprojIdeal Cert.InprojIdeal.Gen
open Idealize.ShloMosaic Idealize.ShloMosaic.TcCoe Idealize.ShloMosaic.Tactic
open Idealize.SL Idealize.SL.RA Idealize.SL.BI Idealize.SL.Sem
open Idealize.ShloMosaic.Pointwise

section

variable {F : FTy → Type} [FloatOps F]

theorem inbM (n : ℕ) : ∀ a, (![0, n % 6, 0] : Fin 3 → ℕ) a + S1x1x1024.size a ≤ S1x6x1024.size a := by
  intro a; fin_cases a <;> simp [Shape.size] <;> omega

/-- The `n`-th row of the modulation. -/
def mrow (x1 : Vec F S1x6x1024 .f32) (n : ℕ) : Vec F S1x1x1024 .f32 :=
  View.ld x1 (Rect.unit (s := S1x6x1024) ![0, n % 6, 0] S1x1x1024.size (inbM n))

/-- The rows that the call projects: normalised and modulated. -/
def hid (x0 : Vec F S1x1024x1024 .f32) (x1 : Vec F S1x6x1024 .f32) (x2 : Vec F S1x1024 .f32) : Vec F S1024x1024 .bf16 :=
  k0_pay1 x0 x2 (mrow x1 1) (mrow x1 0)

variable (c : Dev nD) (i : grid0.Coords)
    (arg3 : Memref sig .tc .vmem S1x1024x1024 .f32) (harg3 : arg3.IsWhole) (arg4 : Memref sig .tc .vmem S1x6x1024 .f32) (harg4 : arg4.IsWhole)
    (arg5 : Memref sig .tc .vmem S1x1024 .f32) (harg5 : arg5.IsWhole) (arg6 : Memref sig .tc .vmem S1x2816x1024 .bf16) (harg6 : arg6.IsWhole)
    (arg7 : Memref sig .tc .vmem S1x1024x2816 .bf16) (harg7 : arg7.IsWhole) (arg8 : Memref sig .tc .vmem S1024x1024 .bf16) (harg8 : arg8.IsWhole)
    (x0 : Vec F S1x1024x1024 .f32) (x1 : Vec F S1x6x1024 .f32) (x2 : Vec F S1x1024 .f32) (x3 : Vec F S1x2816x1024 .bf16) (xs : Vec F S1024x1024 .bf16)

/-- A load of a whole block reads the block. -/
theorem rdAll {S : Shape} {e : EltTy} (g : Memref sig .tc .vmem S e) (hg : g.IsWhole) (x : Vec F S e) (off : Fin S.rank → ℕ) (inb) (h : ∀ a, off a = 0) :
    View.readAt (Elt F) g.view (Rect.unit (s := S) off S.size inb).toLoadRect (hg.unread x) = x := by
  rw [View.readAt_eq_ld, hg.read_unread, View.ld_unit_lit]; exact h

theorem rd4 (n : ℕ) (off : Fin 3 → ℕ) (h : off = ![0, n % 6, 0]) (inb) :
    View.readAt (Elt F) arg4.view (Rect.unit (s := S1x6x1024) off S1x1x1024.size inb).toLoadRect (harg4.unread x1) = mrow x1 n := by
  subst h; rw [View.readAt_eq_ld, harg4.read_unread]; rfl

theorem zero3 : (![0, 0, 0] : Fin 3 → ℕ) = fun _ => 0 := by funext a; fin_cases a <;> rfl
theorem zero2 : (![0, 0] : Fin 2 → ℕ) = fun _ => 0 := by funext a; fin_cases a <;> rfl

/-- The rows stored, as the loads give them. -/
theorem pay1_eq : k0_pay1
      (View.readAt (Elt F) arg3.view (Rect.unit (s := S1x1024x1024) ![0, 0, 0] S1x1024x1024.size inb_S1x1024x1024_S1x1024x1024_0_0_0).toLoadRect (harg3.unread x0))
      (View.readAt (Elt F) arg5.view (Rect.unit (s := S1x1024) ![0, 0] S1x1024.size inb_S1x1024_S1x1024_0_0).toLoadRect (harg5.unread x2))
      (View.readAt (Elt F) arg4.view (Rect.unit (s := S1x6x1024) ![0, 1, 0] S1x1x1024.size inb_S1x6x1024_S1x1x1024_0_1_0).toLoadRect (harg4.unread x1))
      (View.readAt (Elt F) arg4.view (Rect.unit (s := S1x6x1024) ![0, 0, 0] S1x1x1024.size inb_S1x6x1024_S1x1x1024_0_0_0).toLoadRect (harg4.unread x1))
    = hid x0 x1 x2 := by
  rw [rdAll arg3 harg3 x0 _ _ (fun a => congrFun zero3 a), rdAll arg5 harg5 x2 _ _ (fun a => congrFun zero2 a), rd4 arg4 harg4 x1 1 _ rfl, rd4 arg4 harg4 x1 0 _ rfl]
  rfl

/-- The rows kept after a first column block. -/
theorem keptA (hc : cond0_0 i) : sout0_A_0 c i arg3 harg3 arg4 harg4 arg5 harg5 arg6 harg6 arg7 harg7 arg8 harg8 hc x0 x1 x2 x3 = hid x0 x1 x2 := by
  have h : (kernelRun0_A c i arg3 harg3 arg4 harg4 arg5 harg5 arg6 harg6 arg7 harg7 arg8 harg8 hc x0 x1 x2 x3).2.1
      = [⟨Rect.unit (s := S1024x1024) ![0, 0] S1024x1024.size inb_S1024x1024_S1024x1024_0_0, k0_pay1
          (View.readAt (Elt F) arg3.view (Rect.unit (s := S1x1024x1024) ![0, 0, 0] S1x1024x1024.size inb_S1x1024x1024_S1x1024x1024_0_0_0).toLoadRect (harg3.unread x0))
          (View.readAt (Elt F) arg5.view (Rect.unit (s := S1x1024) ![0, 0] S1x1024.size inb_S1x1024_S1x1024_0_0).toLoadRect (harg5.unread x2))
          (View.readAt (Elt F) arg4.view (Rect.unit (s := S1x6x1024) ![0, 1, 0] S1x1x1024.size inb_S1x6x1024_S1x1x1024_0_1_0).toLoadRect (harg4.unread x1))
          (View.readAt (Elt F) arg4.view (Rect.unit (s := S1x6x1024) ![0, 0, 0] S1x1x1024.size inb_S1x6x1024_S1x1x1024_0_0_0).toLoadRect (harg4.unread x1))⟩] := rfl
  rw [pay1_eq] at h
  rw [sout0_A_0, h, View.read_writes_junk_eq_canon]
  exact View.canon_unit_zero zero2 _ _

/-- What a first column block leaves. -/
theorem outA (hc : cond0_0 i) : out0_A_4 c i arg3 harg3 arg4 harg4 arg5 harg5 arg6 harg6 arg7 harg7 arg8 harg8 hc x0 x1 x2 x3
    = k0_pay2 (hid x0 x1 x2) x3 := by
  have h : (kernelRun0_A c i arg3 harg3 arg4 harg4 arg5 harg5 arg6 harg6 arg7 harg7 arg8 harg8 hc x0 x1 x2 x3).1
      = [⟨Rect.unit (s := S1x1024x2816) ![0, 0, 0] S1x1024x2816.size inb_S1x1024x2816_S1x1024x2816_0_0_0, k0_pay2
          (arg8.view.readCov [⟨Rect.unit (s := S1024x1024) ![0, 0] S1024x1024.size inb_S1024x1024_S1024x1024_0_0, k0_pay1
          (View.readAt (Elt F) arg3.view (Rect.unit (s := S1x1024x1024) ![0, 0, 0] S1x1024x1024.size inb_S1x1024x1024_S1x1024x1024_0_0_0).toLoadRect (harg3.unread x0))
          (View.readAt (Elt F) arg5.view (Rect.unit (s := S1x1024) ![0, 0] S1x1024.size inb_S1x1024_S1x1024_0_0).toLoadRect (harg5.unread x2))
          (View.readAt (Elt F) arg4.view (Rect.unit (s := S1x6x1024) ![0, 1, 0] S1x1x1024.size inb_S1x6x1024_S1x1x1024_0_1_0).toLoadRect (harg4.unread x1))
          (View.readAt (Elt F) arg4.view (Rect.unit (s := S1x6x1024) ![0, 0, 0] S1x1x1024.size inb_S1x6x1024_S1x1x1024_0_0_0).toLoadRect (harg4.unread x1))⟩]
            (Rect.unit (s := S1024x1024) ![0, 0] S1024x1024.size inb_S1024x1024_S1024x1024_0_0).toLoadRect)
          (View.readAt (Elt F) arg6.view (Rect.unit (s := S1x2816x1024) ![0, 0, 0] S1x2816x1024.size inb_S1x2816x1024_S1x2816x1024_0_0_0).toLoadRect (harg6.unread x3))⟩] := rfl
  rw [pay1_eq, View.readCov_unit_zero _ zero2, rdAll arg6 harg6 x3 _ _ (fun a => congrFun zero3 a)] at h
  rw [out0_A_4, h, View.read_writes_junk_eq_canon]
  exact View.canon_unit_zero zero3 _ _

/-- What a later column block leaves, over the rows kept. -/
theorem outB (hc : ¬cond0_0 i) : out0_B_4 c i arg3 harg3 arg4 harg4 arg5 harg5 arg6 harg6 arg7 harg7 arg8 harg8 hc x0 x1 x2 x3 xs = k0_pay2 xs x3 := by
  have h : (kernelRun0_B c i arg3 harg3 arg4 harg4 arg5 harg5 arg6 harg6 arg7 harg7 arg8 harg8 hc x0 x1 x2 x3 xs).1
      = [⟨Rect.unit (s := S1x1024x2816) ![0, 0, 0] S1x1024x2816.size inb_S1x1024x2816_S1x1024x2816_0_0_0, k0_pay2
          (View.readAt (Elt F) arg8.view (Rect.unit (s := S1024x1024) ![0, 0] S1024x1024.size inb_S1024x1024_S1024x1024_0_0).toLoadRect (harg8.unread xs))
          (View.readAt (Elt F) arg6.view (Rect.unit (s := S1x2816x1024) ![0, 0, 0] S1x2816x1024.size inb_S1x2816x1024_S1x2816x1024_0_0_0).toLoadRect (harg6.unread x3))⟩] := rfl
  rw [rdAll arg8 harg8 xs _ _ (fun a => congrFun zero2 a), rdAll arg6 harg6 x3 _ _ (fun a => congrFun zero3 a)] at h
  rw [out0_B_4, h, View.read_writes_junk_eq_canon]
  exact View.canon_unit_zero zero3 _ _

end

/-! ## Read at an index -/

theorem mrow_apply (x1 : Vec Ideal S1x6x1024 .f32) (n : ℕ) (d : Fin 1024) :
    mrow x1 n (ix3 0 0 d) = x1 (ix3 0 ⟨n % 6, by omega⟩ d) := by
  refine View.ld_unit_apply_of x1 _ _ _ _ _ ?_
  intro a; fin_cases a
  · show (0 : ℕ) = 0 + 0; omega
  · show n % 6 = n % 6 + 0; omega
  · show d.val = 0 + d.val; omega

theorem pay1_apply (x0 : Vec Ideal S1x1024x1024 .f32) (x2 : Vec Ideal S1x1024 .f32) (sc sh : Vec Ideal S1x1x1024 .f32) (r d : Fin 1024) :
    k0_pay1 x0 x2 sc sh (ix2 r d)
      = x0 (ix3 0 r d) * Ideal.rsqrt (Ideal.div (∑ e : Fin 1024, x0 (ix3 0 r e) * x0 (ix3 0 r e)) (Ideal.ofBits FTy.f32 0x44800000#32)
          + Ideal.ofBits FTy.f32 0x358637BD#32) * (x2 (ix2 0 d) * (1 + sc (ix3 0 0 d))) + sh (ix3 0 0 d) := by
  pointwise [k0_pay1]

theorem pay2_apply (h : Vec Ideal S1024x1024 .bf16) (x3 : Vec Ideal S1x2816x1024 .bf16) (r : Fin 1024) (n : Fin 2816) :
    k0_pay2 h x3 (ix3 0 r n) = ∑ d : Fin 1024, h (ix2 r d) * x3 (ix3 0 n d) := by
  pointwise [k0_pay2]

end Cert.InprojIdeal.Body

end
-- ==== Proof.InprojRef.lean ====
/-
  The input projection's reference, read at an index.
-/
module

public import proofs.«01_k».proof.Proof.Gen.InprojRefIdeal
public import proofs.«01_k».proof.Proof.Gen.InprojRefIdeal.Run
public import proofs.«01_k».proof.Proof.Gen.InprojRefIdeal.Read
public import Idealize.ShloMosaic.Lib.Pointwise

@[expose] public section

set_option maxRecDepth 16384

noncomputable section

namespace Cert.InprojRefIdeal.Read

open Cert.InprojRefIdeal Cert.InprojRefIdeal.Gen
open Idealize.ShloMosaic Idealize.ShloMosaic.TcCoe Idealize.ShloMosaic.Pointwise

variable (x : (⟨S2x8192x1024, .f32⟩ : BufTy).Contents (Elt Ideal)) (mo : (⟨S2x6x1024, .f32⟩ : BufTy).Contents (Elt Ideal))
  (g : (⟨S1024, .f32⟩ : BufTy).Contents (Elt Ideal)) (w : (⟨S2x8448x1024, .bf16⟩ : BufTy).Contents (Elt Ideal))

/-- A row, normalised and modulated. -/
theorem hid_apply (b : Fin 2) (l : Fin 8192) (d : Fin 1024) :
    val_main_v20 (F := Ideal) x mo g (ix3 b l d)
      = x (ix3 b l d) * Ideal.rsqrt (Ideal.div (∑ e : Fin 1024, x (ix3 b l e) * x (ix3 b l e)) (Ideal.ofBits FTy.f32 0x44800000#32)
          + Ideal.ofBits FTy.f32 0x358637BD#32) * g (ix1 d) * (1 + mo (ix3 b 1 d)) + mo (ix3 b 0 d) := by
  pointwise [val_main_v20, val_main_v19, val_main_v18, val_main_v17, val_main_v16, val_main_v15, val_main_v14, val_main_v13, val_main_v12, val_main_v11,
    val_main_v10, val_main_v9, val_main_v8, val_main_v7, val_main_v6, val_main_v5, val_main_v4, val_main_v3, val_main_v2, val_main_v1, val_main_v0,
    val_main_cst, val_main_cst_0, val_main_cst_1, val_main_cst_2]

/-- The result. -/
theorem result_apply (b : Fin 2) (l : Fin 8192) (n : Fin 8448) :
    val_main_v25 (F := Ideal) x mo g w (ix3 b l n) = ∑ d : Fin 1024, val_main_v20 (F := Ideal) x mo g (ix3 b l d) * w (ix3 0 n d) := by
  pointwise [val_main_v25, val_main_v24, val_main_v23, val_main_v22, val_main_v21]

end Cert.InprojRefIdeal.Read

end
-- ==== Proof.InprojArr.lean ====
/-
  The blocks that the input projection reads and writes, as parts of its arrays; the claim.
-/
module

public import proofs.«01_k».proof.Proof.Gen.InprojIdeal.Frame
public import proofs.«01_k».proof.Proof.Gen.InprojIdeal.Value
public import proofs.«01_k».proof.Proof.InprojVals
public import proofs.«01_k».proof.Proof.InprojRef
public import Idealize.ShloMosaic.Lib.Pipeline.Value
public import proofs.«01_k».proof.Defs

@[expose] public section

set_option maxRecDepth 16384

noncomputable section

namespace Cert.InprojIdeal.Body

open Cert.InprojIdeal Cert.InprojIdeal.Gen
open Idealize.ShloMosaic Idealize.ShloMosaic.TcCoe Idealize.ShloMosaic.Tactic
open Idealize.SL.Sem
open Idealize.ShloMosaic.Pointwise
open Idealize.ShloMosaic.Pipeline (Dat)

variable (m : (ℓ : Loc nD τ sig) → Buf (Elt Ideal) ℓ) (ρ : Dev nD → PrngReg)

/-- The blocks' places, decided over the grid: batch `t / 24`, row block `t % 24 / 3`, column block `t % 3`. -/
theorem index0 : ∀ t : Fin cfg0.N, win0_0.index t = ![t.val / 24, t.val % 24 / 3, 0] := (by decide +kernel : ∀ t : Fin grid0.N, _)
theorem index1 : ∀ t : Fin cfg0.N, win0_1.index t = ![t.val / 24, 0, 0] := (by decide +kernel : ∀ t : Fin grid0.N, _)
theorem index2 : ∀ t : Fin cfg0.N, win0_2.index t = ![0, 0] := (by decide +kernel : ∀ t : Fin grid0.N, _)
theorem index3 : ∀ t : Fin cfg0.N, win0_3.index t = ![0, t.val % 3, 0] := (by decide +kernel : ∀ t : Fin grid0.N, _)
theorem index4 : ∀ t : Fin cfg0.N, win0_4.index t = ![t.val / 24, t.val % 24 / 3, t.val % 3] := (by decide +kernel : ∀ t : Fin grid0.N, _)

theorem tlt (t : Fin cfg0.N) : t.val < 48 := t.isLt

/-- The batch, the row block and the column block of a point. -/
abbrev tb (t : Fin cfg0.N) : Fin 2 := ⟨t.val / 24, by have := tlt t; omega⟩
abbrev ti (t : Fin cfg0.N) : Fin 8 := ⟨t.val % 24 / 3, by omega⟩
abbrev tj (t : Fin cfg0.N) : Fin 3 := ⟨t.val % 3, by omega⟩

/-- A row of scales as a matrix of one row. -/
def asRow (g : FVec Ideal S1024 .f32) : FVec Ideal S1x1024 .f32 := shapeCast S1x1024 g shapeCasts_S1024_S1x1024

theorem asRow_apply (g : FVec Ideal S1024 .f32) (d : Fin 1024) : asRow g (ix2 0 d) = g (ix1 d) := by
  pointwise [asRow]

theorem V_v0 (c : Dev nD) : V m c main_v0 = asRow (m ((c : Thread nD τ).loc main_arg2)) := by
  unfold_abbrev_sides
  after_results <;> rfl

/-! ## The blocks read -/

theorem blk0 (c : Dev nD) (t : Fin cfg0.N) (r d : Fin 1024) :
    iblk m c 0 t (ix3 0 r d : S1x1024x1024.Idx) = V m c main_arg0 (ix3 (tb t) ⟨1024 * (ti t).val + r.val, by omega⟩ d : S2x8192x1024.Idx) := by
  have hi := index0 t
  have h0 : win0_0.index t (0 : Fin 3) = t.val / 24 := congrFun hi 0
  have h1 : win0_0.index t (1 : Fin 3) = t.val % 24 / 3 := congrFun hi 1
  have h2 : win0_0.index t (2 : Fin 3) = 0 := congrFun hi 2
  refine congrArg (V m c main_arg0) (?_ : ((cfg0.win 0).blk t).view.emb (ix3 0 r d : S1x1024x1024.Idx) = (ix3 (tb t) ⟨1024 * (ti t).val + r.val, by omega⟩ d : S2x8192x1024.Idx))
  funext a; apply Fin.ext
  match a with
  | ⟨0, _⟩ => show win0_0.index t (0 : Fin 3) * 1 + 1 * 0 = t.val / 24; omega
  | ⟨1, _⟩ => show win0_0.index t (1 : Fin 3) * 1024 + 1 * r.val = 1024 * (t.val % 24 / 3) + r.val; omega
  | ⟨2, _⟩ => show win0_0.index t (2 : Fin 3) * 1024 + 1 * d.val = d.val; omega

theorem blk1 (c : Dev nD) (t : Fin cfg0.N) (k : Fin 6) (d : Fin 1024) :
    iblk m c 1 t (ix3 0 k d : S1x6x1024.Idx) = V m c main_arg1 (ix3 (tb t) k d : S2x6x1024.Idx) := by
  have hi := index1 t
  have h0 : win0_1.index t (0 : Fin 3) = t.val / 24 := congrFun hi 0
  have h1 : win0_1.index t (1 : Fin 3) = 0 := congrFun hi 1
  have h2 : win0_1.index t (2 : Fin 3) = 0 := congrFun hi 2
  refine congrArg (V m c main_arg1) (?_ : ((cfg0.win 1).blk t).view.emb (ix3 0 k d : S1x6x1024.Idx) = (ix3 (tb t) k d : S2x6x1024.Idx))
  funext a; apply Fin.ext
  match a with
  | ⟨0, _⟩ => show win0_1.index t (0 : Fin 3) * 1 + 1 * 0 = t.val / 24; omega
  | ⟨1, _⟩ => show win0_1.index t (1 : Fin 3) * 6 + 1 * k.val = k.val; omega
  | ⟨2, _⟩ => show win0_1.index t (2 : Fin 3) * 1024 + 1 * d.val = d.val; omega

theorem blk2 (c : Dev nD) (t : Fin cfg0.N) (d : Fin 1024) :
    iblk m c 2 t (ix2 0 d : S1x1024.Idx) = V m c main_v0 (ix2 0 d : S1x1024.Idx) := by
  have hi := index2 t
  have h0 : win0_2.index t (0 : Fin 2) = 0 := congrFun hi 0
  have h1 : win0_2.index t (1 : Fin 2) = 0 := congrFun hi 1
  refine congrArg (V m c main_v0) (?_ : ((cfg0.win 2).blk t).view.emb (ix2 0 d : S1x1024.Idx) = (ix2 0 d : S1x1024.Idx))
  funext a; apply Fin.ext
  match a with
  | ⟨0, _⟩ => show win0_2.index t (0 : Fin 2) * 1 + 1 * 0 = 0; omega
  | ⟨1, _⟩ => show win0_2.index t (1 : Fin 2) * 1024 + 1 * d.val = d.val; omega

theorem blk3 (c : Dev nD) (t : Fin cfg0.N) (n : Fin 2816) (d : Fin 1024) :
    iblk m c 3 t (ix3 0 n d : S1x2816x1024.Idx) = V m c main_arg3 (ix3 0 ⟨2816 * (tj t).val + n.val, by omega⟩ d : S2x8448x1024.Idx) := by
  have hi := index3 t
  have h0 : win0_3.index t (0 : Fin 3) = 0 := congrFun hi 0
  have h1 : win0_3.index t (1 : Fin 3) = t.val % 3 := congrFun hi 1
  have h2 : win0_3.index t (2 : Fin 3) = 0 := congrFun hi 2
  refine congrArg (V m c main_arg3) (?_ : ((cfg0.win 3).blk t).view.emb (ix3 0 n d : S1x2816x1024.Idx) = (ix3 0 ⟨2816 * (tj t).val + n.val, by omega⟩ d : S2x8448x1024.Idx))
  funext a; apply Fin.ext
  match a with
  | ⟨0, _⟩ => show win0_3.index t (0 : Fin 3) * 1 + 1 * 0 = 0; omega
  | ⟨1, _⟩ => show win0_3.index t (1 : Fin 3) * 2816 + 1 * n.val = 2816 * (t.val % 3) + n.val; omega
  | ⟨2, _⟩ => show win0_3.index t (2 : Fin 3) * 1024 + 1 * d.val = d.val; omega

/-! ## The rows kept -/

/-- The rows kept at a point are the reference's of its row block, when each point's blocks give the reference's rows. -/
theorem kept (c : Dev nD) (H : Fin 2 → Fin 8192 → Fin 1024 → EReal)
    (h : ∀ (t : Fin cfg0.N) (r d : Fin 1024), hid (F := Ideal) (iblk m c 0 t) (iblk m c 1 t) (iblk m c 2 t) (ix2 r d) = H (tb t) ⟨1024 * (ti t).val + r.val, by omega⟩ d) :
    ∀ (n : ℕ) (hn : n < cfg0.N) (r d : Fin 1024), ((outsAt0 m c n hn).2 : Vec Ideal S1024x1024 .bf16) (ix2 r d)
      = H (tb ⟨n, hn⟩) ⟨1024 * (ti ⟨n, hn⟩).val + r.val, by omega⟩ d := by
  intro n
  induction n with
  | zero =>
    intro hn r d
    rw [outsAt0_A m c ⟨0, hn⟩ (Nat.zero_mod _)]
    dsimp only
    rw [keptA]
    exact h ⟨0, hn⟩ r d
  | succ n ih =>
    intro hn r d
    by_cases h0 : (n + 1) % 3 = 0
    · rw [outsAt0_A m c ⟨n + 1, hn⟩ h0]
      dsimp only
      rw [keptA]
      exact h ⟨n + 1, hn⟩ r d
    · rw [outsAt0_B m c ⟨n + 1, hn⟩ h0]
      dsimp only
      rw [sout0_B_0]
      refine (ih (Nat.lt_of_succ_lt hn) r d).trans ?_
      congr 1
      · exact Fin.ext (show n / 24 = (n + 1) / 24 by omega)
      · exact Fin.ext (show 1024 * (n % 24 / 3) + r.val = 1024 * ((n + 1) % 24 / 3) + r.val by omega)

/-- What a point leaves: the products of the reference's rows with its block of the weights. -/
theorem left (c : Dev nD) (H : Fin 2 → Fin 8192 → Fin 1024 → EReal)
    (h : ∀ (t : Fin cfg0.N) (r d : Fin 1024), hid (F := Ideal) (iblk m c 0 t) (iblk m c 1 t) (iblk m c 2 t) (ix2 r d) = H (tb t) ⟨1024 * (ti t).val + r.val, by omega⟩ d)
    (t : Fin cfg0.N) (r : Fin 1024) (n : Fin 2816) :
    ((outsAt0 m c t.val t.isLt).1 : Vec Ideal S1x1024x2816 .bf16) (ix3 0 r n)
      = ∑ d : Fin 1024, H (tb t) ⟨1024 * (ti t).val + r.val, by omega⟩ d * (iblk m c 3 t : Vec Ideal S1x2816x1024 .bf16) (ix3 0 n d) := by
  by_cases h0 : t.val % 3 = 0
  · rw [outsAt0_A m c t h0]
    dsimp only
    rw [outA, pay2_apply]
    exact Finset.sum_congr rfl fun d _ => by rw [h]
  · have k := kept m c H h t.val t.isLt
    rw [outsAt0_B m c t h0] at k
    dsimp only at k
    rw [sout0_B_0] at k
    rw [outsAt0_B m c t h0]
    dsimp only
    rw [outB, pay2_apply]
    exact Finset.sum_congr rfl fun d _ => by rw [k r d]

/-! ## The result's array -/

/-- The array after the run is `G`, when each point's block of `G` is what the point leaves in the buffer. -/
theorem final4 (c : Dev nD) (G : Buf (Elt Ideal) ((c : Thread nD τ).loc main_v1))
    (h : ∀ (t : Fin cfg0.N) (r : Fin 1024) (n : Fin 2816), ((outsAt0 m c t.val t.isLt).1 : Vec Ideal S1x1024x2816 .bf16) (ix3 0 r n)
      = G (ix3 (tb t) ⟨1024 * (ti t).val + r.val, by omega⟩ ⟨2816 * (tj t).val + n.val, by omega⟩ : S2x8192x8448.Idx)) :
    (dats m 0 c).arrAt 4 cfg0.N = G := by
  refine (dats m 0 c).arrAt_eq_of_cover 4 G (fun t _ => ?_) (fun i => (Cert.InprojIdeal.Value.covered_iff4 i).2 (by
    have h0 : (i 0).val < 2 := (i 0).isLt; have h1 : (i 1).val < 8192 := (i 1).isLt; have h2 : (i 2).val < 8448 := (i 2).isLt; omega))
  refine (Cert.InprojIdeal.Value.flushed4 m c t).trans ?_
  funext y
  have hi := index4 t
  have h0 : win0_4.index t (0 : Fin 3) = t.val / 24 := congrFun hi 0
  have h1 : win0_4.index t (1 : Fin 3) = t.val % 24 / 3 := congrFun hi 1
  have h2 : win0_4.index t (2 : Fin 3) = t.val % 3 := congrFun hi 2
  have e : (cfg0.win 4).xinj (grid0.coords t) y = (ix3 0 ⟨(y 1).val, (y 1).isLt⟩ ⟨(y 2).val, (y 2).isLt⟩ : S1x1024x2816.Idx) := by
    funext a; apply Fin.ext
    match a with
    | ⟨0, _⟩ => show (y 0).val = 0; have : (y 0).val < 1 := (y 0).isLt; omega
    | ⟨1, _⟩ => rfl
    | ⟨2, _⟩ => rfl
  show ((outsAt0 m c t.val t.isLt).1 : Vec Ideal S1x1024x2816 .bf16) ((cfg0.win 4).xinj (grid0.coords t) y) = G (((cfg0.win 4).blk t).view.emb y)
  rw [e, h]
  refine congrArg G ?_
  funext a; apply Fin.ext
  match a with
  | ⟨0, _⟩ => show t.val / 24 = win0_4.index t (0 : Fin 3) * 1 + 1 * (y 0).val; have : (y 0).val < 1 := (y 0).isLt; omega
  | ⟨1, _⟩ => show 1024 * (t.val % 24 / 3) + (y 1).val = win0_4.index t (1 : Fin 3) * 1024 + 1 * (y 1).val; omega
  | ⟨2, _⟩ => show 2816 * (t.val % 3) + (y 2).val = win0_4.index t (2 : Fin 3) * 2816 + 1 * (y 2).val; omega

end Cert.InprojIdeal.Body

namespace Cert.InprojAlg

open Cert.InprojIdeal Cert.InprojIdeal.Gen Cert.InprojIdeal.Body
open Idealize.ShloMosaic Idealize.ShloMosaic.TcCoe Idealize.SL.Sem

/-- The input projection leaves the reference's result. -/
theorem final (m : (ℓ : Loc nD τ sig) → Buf (Elt Ideal) ℓ) (c : Dev nD) (x : FVec Ideal S2x8192x1024 .f32) (mo : FVec Ideal S2x6x1024 .f32)
    (g : FVec Ideal S1024 .f32) (w : FVec Ideal S2x8448x1024 .bf16)
    (e0 : m ((c : Thread nD τ).loc main_arg0) = x) (e1 : m ((c : Thread nD τ).loc main_arg1) = mo) (e2 : m ((c : Thread nD τ).loc main_arg2) = g)
    (e3 : m ((c : Thread nD τ).loc main_arg3) = w) :
    (dats m 0 c).arrAt 4 cfg0.N = Cert.InprojRefIdeal.Read.val_main_v25 (F := Ideal) x mo g w := by
  have a0 : V m c main_arg0 = x := (V_main_arg0 m c).trans e0
  have a1 : V m c main_arg1 = mo := (V_main_arg1 m c).trans e1
  have a2 : V m c main_v0 = asRow g := (V_v0 m c).trans (congrArg asRow e2)
  have a3 : V m c main_arg3 = w := (V_main_arg3 m c).trans e3
  have hh : ∀ (t : Fin cfg0.N) (r d : Fin 1024), hid (F := Ideal) (iblk m c 0 t) (iblk m c 1 t) (iblk m c 2 t) (ix2 r d)
      = Cert.InprojRefIdeal.Read.val_main_v20 (F := Ideal) x mo g (ix3 (tb t) ⟨1024 * (ti t).val + r.val, by omega⟩ d) := by
    intro t r d
    have b0 : ∀ d : Fin 1024, (iblk m c 0 t : Vec Ideal S1x1024x1024 .f32) (ix3 0 r d) = x (ix3 (tb t) ⟨1024 * (ti t).val + r.val, by omega⟩ d) :=
      fun d => (blk0 m c t r d).trans (congrFun a0 _)
    have b1 : ∀ k : Fin 6, (iblk m c 1 t : Vec Ideal S1x6x1024 .f32) (ix3 0 k d) = mo (ix3 (tb t) k d) := fun k => (blk1 m c t k d).trans (congrFun a1 _)
    have b2 : (iblk m c 2 t : Vec Ideal S1x1024 .f32) (ix2 0 d) = g (ix1 d) := ((blk2 m c t d).trans (congrFun a2 _)).trans (asRow_apply g d)
    unfold hid
    rw [pay1_apply, Cert.InprojRefIdeal.Read.hid_apply, mrow_apply, mrow_apply, b1, b1, b2]
    simp only [b0]
    simp only [mul_assoc]
    rfl
  refine final4 m c _ fun t r n => ?_
  rw [left m c (fun b l d => Cert.InprojRefIdeal.Read.val_main_v20 (F := Ideal) x mo g (ix3 b l d)) hh, Cert.InprojRefIdeal.Read.result_apply]
  exact Finset.sum_congr rfl fun d _ => congrArg (_ * ·) ((blk3 m c t n d).trans (congrFun a3 _))

theorem algebraic [Cert.InprojIdeal.Facts] [Cert.InprojRefIdeal.Facts] : Cert.algebraic_InprojIdeal_InprojRefIdeal := by
  intro m g m' g' hpre hargs
  refine ⟨fun c => Cert.InprojRefIdeal.Read.val_main_v25 (F := Ideal) (m ((c : Thread nD τ).loc main_arg0)) (m ((c : Thread nD τ).loc main_arg1))
        (m ((c : Thread nD τ).loc main_arg2)) (m ((c : Thread nD τ).loc main_arg3)), ?_, ?_⟩
  · exact (θ_run _ _ _).mono (fun r hr c => ⟨(hr c).1.trans (final m c _ _ _ _ rfl rfl rfl rfl), (hr c).2⟩) (Cert.InprojIdeal.Value.run_blocks m g)
  · refine (θ_run _ _ _).mono (fun r hr c => ?_) (Cert.InprojRefIdeal.Value.run m' g')
    obtain ⟨h0, h1⟩ := hr c
    obtain ⟨a0, a1, a2, a3⟩ := hargs c
    refine ⟨h0.trans ?_, h1⟩
    rw [Cert.InprojRefIdeal.Read.val_main_v25_eq, a0, a1, a2, a3]

end Cert.InprojAlg

end
-- ==== Proof.MergeRun.lean ====
/-
  The merge call's body, run once over whole staging buffers: what it leaves in the result and in its scratch.
-/
module

public import proofs.«01_k».proof.Proof.Gen.MergeIdeal.Frame.Runs

@[expose] public section

set_option maxRecDepth 16384

noncomputable section

namespace Cert.MergeIdeal.Body

open Cert.MergeIdeal Cert.MergeIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 40000000 in
/-- The body on whole staging buffers with the inputs at their contents: it ends with the inputs as they were, and with
    the result's buffer and the scratch written by the pieces found here. -/
noncomputable def kernelRun0_A (c : Dev nD) (i : grid0.Coords) (arg2 : Memref sig .tc .vmem S1x512x4096 .bf16) (harg2 : arg2.IsWhole) (arg3 : Memref sig .tc .vmem S1x512x512 .bf16) (harg3 : arg3.IsWhole) (arg4 : Memref sig .tc .vmem S1x512x512 .bf16) (harg4 : arg4.IsWhole) (arg5 : Memref sig .tc .vmem S1x16x512 .bf16) (harg5 : arg5.IsWhole) (arg6 : Memref sig .tc .vmem S1x16x512 .bf16) (harg6 : arg6.IsWhole) (arg7 : Memref sig .tc .vmem S1x512x512 .bf16) (harg7 : arg7.IsWhole) (arg8 : Memref sig .tc .vmem S1x16x512 .bf16) (harg8 : arg8.IsWhole) (arg9 : Memref sig .tc .vmem S1x16x512 .bf16) (harg9 : arg9.IsWhole) (arg10 : Memref sig .tc .vmem S1x512x512 .bf16) (harg10 : arg10.IsWhole) (arg11 : Memref sig .tc .vmem S1x16x512 .bf16) (harg11 : arg11.IsWhole) (arg12 : Memref sig .tc .vmem S1x16x512 .bf16) (harg12 : arg12.IsWhole) (arg13 : Memref sig .tc .vmem S1x512x512 .bf16) (harg13 : arg13.IsWhole) (arg14 : Memref sig .tc .vmem S1x512x512 .bf16) (harg14 : arg14.IsWhole) (arg15 : Memref sig .tc .vmem S1x512x512 .bf16) (harg15 : arg15.IsWhole) (arg16 : Memref sig .tc .vmem S1x512x512 .bf16) (harg16 : arg16.IsWhole) (arg17 : Memref sig .tc .vmem S1x512x512 .bf16) (harg17 : arg17.IsWhole) (arg18 : Memref sig .tc .vmem S1x512x1024 .f32) (harg18 : arg18.IsWhole) (arg19 : Memref sig .tc .vmem S1x6x1024 .f32) (harg19 : arg19.IsWhole) (arg20 : Memref sig .tc .vmem S3x512 .f32) (harg20 : arg20.IsWhole) (arg21 : Memref sig .tc .vmem S4x128x160 .bf16) (harg21 : arg21.IsWhole) (arg22 : Memref sig .tc .vmem S1x4x128x128 .bf16) (harg22 : arg22.IsWhole) (arg23 : Memref sig .tc .vmem S1x512 .f32) (harg23 : arg23.IsWhole) (arg24 : Memref sig .tc .vmem S1x512 .f32) (harg24 : arg24.IsWhole) (arg25 : Memref sig .tc .vmem S1x512 .f32) (harg25 : arg25.IsWhole) (arg26 : Memref sig .tc .vmem S1x4x512x1024 .bf16) (harg26 : arg26.IsWhole) (arg27 : Memref sig .tc .vmem S1x1024x1024 .bf16) (harg27 : arg27.IsWhole) (arg28 : Memref sig .tc .vmem S1x512x1024 .f32) (harg28 : arg28.IsWhole) (arg29 : Memref sig .tc .vmem S544x512 .f32) (harg29 : arg29.IsWhole)
    (x0 : Vec F S1x512x4096 .bf16) (x1 : Vec F S1x512x512 .bf16) (x2 : Vec F S1x512x512 .bf16) (x3 : Vec F S1x16x512 .bf16) (x4 : Vec F S1x16x512 .bf16) (x5 : Vec F S1x512x512 .bf16) (x6 : Vec F S1x16x512 .bf16) (x7 : Vec F S1x16x512 .bf16) (x8 : Vec F S1x512x512 .bf16) (x9 : Vec F S1x16x512 .bf16) (x10 : Vec F S1x16x512 .bf16) (x11 : Vec F S1x512x512 .bf16) (x12 : Vec F S1x512x512 .bf16) (x13 : Vec F S1x512x512 .bf16) (x14 : Vec F S1x512x512 .bf16) (x15 : Vec F S1x512x512 .bf16) (x16 : Vec F S1x512x1024 .f32) (x17 : Vec F S1x6x1024 .f32) (x18 : Vec F S3x512 .f32) (x19 : Vec F S4x128x160 .bf16) (x20 : Vec F S1x4x128x128 .bf16) (x21 : Vec F S1x512 .f32) (x22 : Vec F S1x512 .f32) (x23 : Vec F S1x512 .f32) (x24 : Vec F S1x4x512x1024 .bf16) (x25 : Vec F S1x1024x1024 .bf16) :
    Σ' (L26 : List (View.Piece (Elt F) S1x512x1024 .f32)), { LT0 : List (View.Piece (Elt F) S544x512 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ owns (c : Thread nD τ) arg16 fullShare x14 ∗ owns (c : Thread nD τ) arg17 fullShare x15 ∗ owns (c : Thread nD τ) arg18 fullShare x16 ∗ owns (c : Thread nD τ) arg19 fullShare x17 ∗ owns (c : Thread nD τ) arg20 fullShare x18 ∗ owns (c : Thread nD τ) arg21 fullShare x19 ∗ owns (c : Thread nD τ) arg22 fullShare x20 ∗ owns (c : Thread nD τ) arg23 fullShare x21 ∗ owns (c : Thread nD τ) arg24 fullShare x22 ∗ owns (c : Thread nD τ) arg25 fullShare x23 ∗ owns (c : Thread nD τ) arg26 fullShare x24 ∗ owns (c : Thread nD τ) arg27 fullShare x25 ∗ (∃ d, owns (c : Thread nD τ) arg28 fullShare d) ∗ (∃ d, owns (c : Thread nD τ) arg29 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ owns (c : Thread nD τ) arg16 fullShare x14 ∗ owns (c : Thread nD τ) arg17 fullShare x15 ∗ owns (c : Thread nD τ) arg18 fullShare x16 ∗ owns (c : Thread nD τ) arg19 fullShare x17 ∗ owns (c : Thread nD τ) arg20 fullShare x18 ∗ owns (c : Thread nD τ) arg21 fullShare x19 ∗ owns (c : Thread nD τ) arg22 fullShare x20 ∗ owns (c : Thread nD τ) arg23 fullShare x21 ∗ owns (c : Thread nD τ) arg24 fullShare x22 ∗ owns (c : Thread nD τ) arg25 fullShare x23 ∗ owns (c : Thread nD τ) arg26 fullShare x24 ∗ owns (c : Thread nD τ) arg27 fullShare x25 ∗ (∃ f, arg28.view.loc (c : Thread nD τ) ↦[arg28.view.set]{fullShare} arg28.view.writes (Elt F) f L26) ∗ (∃ f, arg29.view.loc (c : Thread nD τ) ↦[arg29.view.set]{fullShare} arg29.view.writes (Elt F) f LT0)) -∗ K ⟨⟩))
          ⊢ wp frame (wpE (defs₀ (F := F)) Variants.none c none) E (cc0_merge i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29) K } := by
  refine ⟨?_, ?_, fun E K => ?run⟩
  case run =>
    simp only [cc0_merge_eq_skeleton]; unfold cc0_merge_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩, ⟨%f20, %hf20, H20⟩, ⟨%f21, %hf21, H21⟩, ⟨%f22, %hf22, H22⟩, ⟨%f23, %hf23, H23⟩, ⟨%f24, %hf24, H24⟩, ⟨%f25, %hf25, H25⟩, ⟨%d26, %f26, -, H26⟩, ⟨%ds0, %fs0, -, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hf11; obtain rfl := harg14.eq_unread hf12; obtain rfl := harg15.eq_unread hf13; obtain rfl := harg16.eq_unread hf14; obtain rfl := harg17.eq_unread hf15; obtain rfl := harg18.eq_unread hf16; obtain rfl := harg19.eq_unread hf17; obtain rfl := harg20.eq_unread hf18; obtain rfl := harg21.eq_unread hf19; obtain rfl := harg22.eq_unread hf20; obtain rfl := harg23.eq_unread hf21; obtain rfl := harg24.eq_unread hf22; obtain rfl := harg25.eq_unread hf23; obtain rfl := harg26.eq_unread hf24; obtain rfl := harg27.eq_unread hf25
    sl_exec
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _; isplitr; · ipureintro; exact harg12.read_unread _
      iexact H10
    isplitl [H11]
    · iexists _; isplitr; · ipureintro; exact harg13.read_unread _
      iexact H11
    isplitl [H12]
    · iexists _; isplitr; · ipureintro; exact harg14.read_unread _
      iexact H12
    isplitl [H13]
    · iexists _; isplitr; · ipureintro; exact harg15.read_unread _
      iexact H13
    isplitl [H14]
    · iexists _; isplitr; · ipureintro; exact harg16.read_unread _
      iexact H14
    isplitl [H15]
    · iexists _; isplitr; · ipureintro; exact harg17.read_unread _
      iexact H15
    isplitl [H16]
    · iexists _; isplitr; · ipureintro; exact harg18.read_unread _
      iexact H16
    isplitl [H17]
    · iexists _; isplitr; · ipureintro; exact harg19.read_unread _
      iexact H17
    isplitl [H18]
    · iexists _; isplitr; · ipureintro; exact harg20.read_unread _
      iexact H18
    isplitl [H19]
    · iexists _; isplitr; · ipureintro; exact harg21.read_unread _
      iexact H19
    isplitl [H20]
    · iexists _; isplitr; · ipureintro; exact harg22.read_unread _
      iexact H20
    isplitl [H21]
    · iexists _; isplitr; · ipureintro; exact harg23.read_unread _
      iexact H21
    isplitl [H22]
    · iexists _; isplitr; · ipureintro; exact harg24.read_unread _
      iexact H22
    isplitl [H23]
    · iexists _; isplitr; · ipureintro; exact harg25.read_unread _
      iexact H23
    isplitl [H24]
    · iexists _; isplitr; · ipureintro; exact harg26.read_unread _
      iexact H24
    isplitl [H25]
    · iexists _; isplitr; · ipureintro; exact harg27.read_unread _
      iexact H25
    isplitl [H26]; · iexists _; iexact H26
    iexists _; iexact HS0

end Cert.MergeIdeal.Body

end
-- ==== Proof.MergeFrame.lean ====
/-
  The merge call over the extended reals: the pipeline's proof data over the body's run, and the frame.
-/
module

public import proofs.«01_k».proof.Proof.MergeRun
public import Idealize.ShloMosaic.Lib.Claim

@[expose] public section

set_option maxHeartbeats 40000000
set_option maxRecDepth 16384

noncomputable section

namespace Cert.MergeIdeal.Body

open Cert.MergeIdeal Cert.MergeIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-- The pieces that the body stores into the result's buffer cover it. -/
theorem cover0_A_26 (c : Dev nD) (i : grid0.Coords) (arg2 : Memref sig .tc .vmem S1x512x4096 .bf16) (harg2 : arg2.IsWhole) (arg3 : Memref sig .tc .vmem S1x512x512 .bf16) (harg3 : arg3.IsWhole) (arg4 : Memref sig .tc .vmem S1x512x512 .bf16) (harg4 : arg4.IsWhole) (arg5 : Memref sig .tc .vmem S1x16x512 .bf16) (harg5 : arg5.IsWhole) (arg6 : Memref sig .tc .vmem S1x16x512 .bf16) (harg6 : arg6.IsWhole) (arg7 : Memref sig .tc .vmem S1x512x512 .bf16) (harg7 : arg7.IsWhole) (arg8 : Memref sig .tc .vmem S1x16x512 .bf16) (harg8 : arg8.IsWhole) (arg9 : Memref sig .tc .vmem S1x16x512 .bf16) (harg9 : arg9.IsWhole) (arg10 : Memref sig .tc .vmem S1x512x512 .bf16) (harg10 : arg10.IsWhole) (arg11 : Memref sig .tc .vmem S1x16x512 .bf16) (harg11 : arg11.IsWhole) (arg12 : Memref sig .tc .vmem S1x16x512 .bf16) (harg12 : arg12.IsWhole) (arg13 : Memref sig .tc .vmem S1x512x512 .bf16) (harg13 : arg13.IsWhole) (arg14 : Memref sig .tc .vmem S1x512x512 .bf16) (harg14 : arg14.IsWhole) (arg15 : Memref sig .tc .vmem S1x512x512 .bf16) (harg15 : arg15.IsWhole) (arg16 : Memref sig .tc .vmem S1x512x512 .bf16) (harg16 : arg16.IsWhole) (arg17 : Memref sig .tc .vmem S1x512x512 .bf16) (harg17 : arg17.IsWhole) (arg18 : Memref sig .tc .vmem S1x512x1024 .f32) (harg18 : arg18.IsWhole) (arg19 : Memref sig .tc .vmem S1x6x1024 .f32) (harg19 : arg19.IsWhole) (arg20 : Memref sig .tc .vmem S3x512 .f32) (harg20 : arg20.IsWhole) (arg21 : Memref sig .tc .vmem S4x128x160 .bf16) (harg21 : arg21.IsWhole) (arg22 : Memref sig .tc .vmem S1x4x128x128 .bf16) (harg22 : arg22.IsWhole) (arg23 : Memref sig .tc .vmem S1x512 .f32) (harg23 : arg23.IsWhole) (arg24 : Memref sig .tc .vmem S1x512 .f32) (harg24 : arg24.IsWhole) (arg25 : Memref sig .tc .vmem S1x512 .f32) (harg25 : arg25.IsWhole) (arg26 : Memref sig .tc .vmem S1x4x512x1024 .bf16) (harg26 : arg26.IsWhole) (arg27 : Memref sig .tc .vmem S1x1024x1024 .bf16) (harg27 : arg27.IsWhole) (arg28 : Memref sig .tc .vmem S1x512x1024 .f32) (harg28 : arg28.IsWhole) (arg29 : Memref sig .tc .vmem S544x512 .f32) (harg29 : arg29.IsWhole)
    (x0 : Vec F S1x512x4096 .bf16) (x1 : Vec F S1x512x512 .bf16) (x2 : Vec F S1x512x512 .bf16) (x3 : Vec F S1x16x512 .bf16) (x4 : Vec F S1x16x512 .bf16) (x5 : Vec F S1x512x512 .bf16) (x6 : Vec F S1x16x512 .bf16) (x7 : Vec F S1x16x512 .bf16) (x8 : Vec F S1x512x512 .bf16) (x9 : Vec F S1x16x512 .bf16) (x10 : Vec F S1x16x512 .bf16) (x11 : Vec F S1x512x512 .bf16) (x12 : Vec F S1x512x512 .bf16) (x13 : Vec F S1x512x512 .bf16) (x14 : Vec F S1x512x512 .bf16) (x15 : Vec F S1x512x512 .bf16) (x16 : Vec F S1x512x1024 .f32) (x17 : Vec F S1x6x1024 .f32) (x18 : Vec F S3x512 .f32) (x19 : Vec F S4x128x160 .bf16) (x20 : Vec F S1x4x128x128 .bf16) (x21 : Vec F S1x512 .f32) (x22 : Vec F S1x512 .f32) (x23 : Vec F S1x512 .f32) (x24 : Vec F S1x4x512x1024 .bf16) (x25 : Vec F S1x1024x1024 .bf16) (y : S1x512x1024.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 x0 x1 x2 x3 x4 x5 x6 x7 x8 x9 x10 x11 x12 x13 x14 x15 x16 x17 x18 x19 x20 x21 x22 x23 x24 x25).1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 x0 x1 x2 x3 x4 x5 x6 x7 x8 x9 x10 x11 x12 x13 x14 x15 x16 x17 x18 x19 x20 x21 x22 x23 x24 x25).1 S1x512x1024.size (by sl_kernel_rfl) y

/-- What the result's buffer holds after the body. -/
def out0_A_26 (c : Dev nD) (i : grid0.Coords) (arg2 : Memref sig .tc .vmem S1x512x4096 .bf16) (harg2 : arg2.IsWhole) (arg3 : Memref sig .tc .vmem S1x512x512 .bf16) (harg3 : arg3.IsWhole) (arg4 : Memref sig .tc .vmem S1x512x512 .bf16) (harg4 : arg4.IsWhole) (arg5 : Memref sig .tc .vmem S1x16x512 .bf16) (harg5 : arg5.IsWhole) (arg6 : Memref sig .tc .vmem S1x16x512 .bf16) (harg6 : arg6.IsWhole) (arg7 : Memref sig .tc .vmem S1x512x512 .bf16) (harg7 : arg7.IsWhole) (arg8 : Memref sig .tc .vmem S1x16x512 .bf16) (harg8 : arg8.IsWhole) (arg9 : Memref sig .tc .vmem S1x16x512 .bf16) (harg9 : arg9.IsWhole) (arg10 : Memref sig .tc .vmem S1x512x512 .bf16) (harg10 : arg10.IsWhole) (arg11 : Memref sig .tc .vmem S1x16x512 .bf16) (harg11 : arg11.IsWhole) (arg12 : Memref sig .tc .vmem S1x16x512 .bf16) (harg12 : arg12.IsWhole) (arg13 : Memref sig .tc .vmem S1x512x512 .bf16) (harg13 : arg13.IsWhole) (arg14 : Memref sig .tc .vmem S1x512x512 .bf16) (harg14 : arg14.IsWhole) (arg15 : Memref sig .tc .vmem S1x512x512 .bf16) (harg15 : arg15.IsWhole) (arg16 : Memref sig .tc .vmem S1x512x512 .bf16) (harg16 : arg16.IsWhole) (arg17 : Memref sig .tc .vmem S1x512x512 .bf16) (harg17 : arg17.IsWhole) (arg18 : Memref sig .tc .vmem S1x512x1024 .f32) (harg18 : arg18.IsWhole) (arg19 : Memref sig .tc .vmem S1x6x1024 .f32) (harg19 : arg19.IsWhole) (arg20 : Memref sig .tc .vmem S3x512 .f32) (harg20 : arg20.IsWhole) (arg21 : Memref sig .tc .vmem S4x128x160 .bf16) (harg21 : arg21.IsWhole) (arg22 : Memref sig .tc .vmem S1x4x128x128 .bf16) (harg22 : arg22.IsWhole) (arg23 : Memref sig .tc .vmem S1x512 .f32) (harg23 : arg23.IsWhole) (arg24 : Memref sig .tc .vmem S1x512 .f32) (harg24 : arg24.IsWhole) (arg25 : Memref sig .tc .vmem S1x512 .f32) (harg25 : arg25.IsWhole) (arg26 : Memref sig .tc .vmem S1x4x512x1024 .bf16) (harg26 : arg26.IsWhole) (arg27 : Memref sig .tc .vmem S1x1024x1024 .bf16) (harg27 : arg27.IsWhole) (arg28 : Memref sig .tc .vmem S1x512x1024 .f32) (harg28 : arg28.IsWhole) (arg29 : Memref sig .tc .vmem S544x512 .f32) (harg29 : arg29.IsWhole)
    (x0 : Vec F S1x512x4096 .bf16) (x1 : Vec F S1x512x512 .bf16) (x2 : Vec F S1x512x512 .bf16) (x3 : Vec F S1x16x512 .bf16) (x4 : Vec F S1x16x512 .bf16) (x5 : Vec F S1x512x512 .bf16) (x6 : Vec F S1x16x512 .bf16) (x7 : Vec F S1x16x512 .bf16) (x8 : Vec F S1x512x512 .bf16) (x9 : Vec F S1x16x512 .bf16) (x10 : Vec F S1x16x512 .bf16) (x11 : Vec F S1x512x512 .bf16) (x12 : Vec F S1x512x512 .bf16) (x13 : Vec F S1x512x512 .bf16) (x14 : Vec F S1x512x512 .bf16) (x15 : Vec F S1x512x512 .bf16) (x16 : Vec F S1x512x1024 .f32) (x17 : Vec F S1x6x1024 .f32) (x18 : Vec F S3x512 .f32) (x19 : Vec F S4x128x160 .bf16) (x20 : Vec F S1x4x128x128 .bf16) (x21 : Vec F S1x512 .f32) (x22 : Vec F S1x512 .f32) (x23 : Vec F S1x512 .f32) (x24 : Vec F S1x4x512x1024 .bf16) (x25 : Vec F S1x1024x1024 .bf16) : Vec F S1x512x1024 .f32 :=
  VO0_26.read (Elt F) (VO0_26.writes (Elt F) VO0_26.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 x0 x1 x2 x3 x4 x5 x6 x7 x8 x9 x10 x11 x12 x13 x14 x15 x16 x17 x18 x19 x20 x21 x22 x23 x24 x25).1)

/-! ## The result's buffer after each point -/

/-- What the result's buffer holds after the point `t`, from the blocks that `t` reads. -/
def outsAt0 (c : Dev nD) (t : Fin cfg0.N) : Vec F S1x512x1024 .f32 :=
  out0_A_26 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (ms0_26 t) (hs0_26 t) scM0_0 (Memref.isWhole_whole _) (X0_0 m c t) (X0_1 m c t) (X0_2 m c t) (X0_3 m c t) (X0_4 m c t) (X0_5 m c t) (X0_6 m c t) (X0_7 m c t) (X0_8 m c t) (X0_9 m c t) (X0_10 m c t) (X0_11 m c t) (iblk m c 12 t) (X0_13 m c t) (X0_14 m c t) (X0_15 m c t) (iblk m c 16 t) (iblk m c 17 t) (iblk m c 18 t) (iblk m c 19 t) (iblk m c 20 t) (iblk m c 21 t) (iblk m c 22 t) (iblk m c 23 t) (iblk m c 24 t) (iblk m c 25 t)

/-! ## The launch's data -/

/-- The launch's data on the core `c`: the arrays as the host leaves them; after the point `t` every input's buffer at its block and the
    result's at `outsAt0`; the scratch at some contents in between. -/
def dats (_ : Fin 1) (c : Dev nD) : Dat τ (Elt F) Unit ℕ (UR sig nD τ) ℕ cfg0 c where
  A w := V m c (Pipeline.arrRef spec0 w)
  after w t := match w with
    | ⟨0, _⟩ => X0_0 m c t
    | ⟨1, _⟩ => X0_1 m c t
    | ⟨2, _⟩ => X0_2 m c t
    | ⟨3, _⟩ => X0_3 m c t
    | ⟨4, _⟩ => X0_4 m c t
    | ⟨5, _⟩ => X0_5 m c t
    | ⟨6, _⟩ => X0_6 m c t
    | ⟨7, _⟩ => X0_7 m c t
    | ⟨8, _⟩ => X0_8 m c t
    | ⟨9, _⟩ => X0_9 m c t
    | ⟨10, _⟩ => X0_10 m c t
    | ⟨11, _⟩ => X0_11 m c t
    | ⟨12, _⟩ => iblk m c 12 t
    | ⟨13, _⟩ => X0_13 m c t
    | ⟨14, _⟩ => X0_14 m c t
    | ⟨15, _⟩ => X0_15 m c t
    | ⟨16, _⟩ => iblk m c 16 t
    | ⟨17, _⟩ => iblk m c 17 t
    | ⟨18, _⟩ => iblk m c 18 t
    | ⟨19, _⟩ => iblk m c 19 t
    | ⟨20, _⟩ => iblk m c 20 t
    | ⟨21, _⟩ => iblk m c 21 t
    | ⟨22, _⟩ => iblk m c 22 t
    | ⟨23, _⟩ => iblk m c 23 t
    | ⟨24, _⟩ => iblk m c 24 t
    | ⟨25, _⟩ => iblk m c 25 t
    | ⟨26, _⟩ => (outsAt0 m c t)
    | ⟨_ + 27, h⟩ => absurd h (Nat.not_lt.2 (Nat.le_add_left _ _))
  Φ _ := Pipeline.ΦA spec0 c
  q w := Pipeline.shareOf spec0 w
  owed _ := 0

/-- The arrays are those that the host leaves. -/
theorem A_eq (c : Dev nD) (w : Fin cfg0.W) : (dats m 0 c).A w = V m c (Pipeline.arrRef spec0 w) := by
  dsimp only [dats]

/-- What each buffer holds after the body. -/
theorem after0_0 (c : Dev nD) (t : Fin cfg0.N) : (dats m 0 c).after 0 t = X0_0 m c t := by dsimp only [dats]
theorem after0_1 (c : Dev nD) (t : Fin cfg0.N) : (dats m 0 c).after 1 t = X0_1 m c t := by dsimp only [dats]
theorem after0_2 (c : Dev nD) (t : Fin cfg0.N) : (dats m 0 c).after 2 t = X0_2 m c t := by dsimp only [dats]
theorem after0_3 (c : Dev nD) (t : Fin cfg0.N) : (dats m 0 c).after 3 t = X0_3 m c t := by dsimp only [dats]
theorem after0_4 (c : Dev nD) (t : Fin cfg0.N) : (dats m 0 c).after 4 t = X0_4 m c t := by dsimp only [dats]
theorem after0_5 (c : Dev nD) (t : Fin cfg0.N) : (dats m 0 c).after 5 t = X0_5 m c t := by dsimp only [dats]
theorem after0_6 (c : Dev nD) (t : Fin cfg0.N) : (dats m 0 c).after 6 t = X0_6 m c t := by dsimp only [dats]
theorem after0_7 (c : Dev nD) (t : Fin cfg0.N) : (dats m 0 c).after 7 t = X0_7 m c t := by dsimp only [dats]
theorem after0_8 (c : Dev nD) (t : Fin cfg0.N) : (dats m 0 c).after 8 t = X0_8 m c t := by dsimp only [dats]
theorem after0_9 (c : Dev nD) (t : Fin cfg0.N) : (dats m 0 c).after 9 t = X0_9 m c t := by dsimp only [dats]
theorem after0_10 (c : Dev nD) (t : Fin cfg0.N) : (dats m 0 c).after 10 t = X0_10 m c t := by dsimp only [dats]
theorem after0_11 (c : Dev nD) (t : Fin cfg0.N) : (dats m 0 c).after 11 t = X0_11 m c t := by dsimp only [dats]
theorem after0_12 (c : Dev nD) (t : Fin cfg0.N) : (dats m 0 c).after 12 t = iblk m c 12 t := by dsimp only [dats]
theorem after0_13 (c : Dev nD) (t : Fin cfg0.N) : (dats m 0 c).after 13 t = X0_13 m c t := by dsimp only [dats]
theorem after0_14 (c : Dev nD) (t : Fin cfg0.N) : (dats m 0 c).after 14 t = X0_14 m c t := by dsimp only [dats]
theorem after0_15 (c : Dev nD) (t : Fin cfg0.N) : (dats m 0 c).after 15 t = X0_15 m c t := by dsimp only [dats]
theorem after0_16 (c : Dev nD) (t : Fin cfg0.N) : (dats m 0 c).after 16 t = iblk m c 16 t := by dsimp only [dats]
theorem after0_17 (c : Dev nD) (t : Fin cfg0.N) : (dats m 0 c).after 17 t = iblk m c 17 t := by dsimp only [dats]
theorem after0_18 (c : Dev nD) (t : Fin cfg0.N) : (dats m 0 c).after 18 t = iblk m c 18 t := by dsimp only [dats]
theorem after0_19 (c : Dev nD) (t : Fin cfg0.N) : (dats m 0 c).after 19 t = iblk m c 19 t := by dsimp only [dats]
theorem after0_20 (c : Dev nD) (t : Fin cfg0.N) : (dats m 0 c).after 20 t = iblk m c 20 t := by dsimp only [dats]
theorem after0_21 (c : Dev nD) (t : Fin cfg0.N) : (dats m 0 c).after 21 t = iblk m c 21 t := by dsimp only [dats]
theorem after0_22 (c : Dev nD) (t : Fin cfg0.N) : (dats m 0 c).after 22 t = iblk m c 22 t := by dsimp only [dats]
theorem after0_23 (c : Dev nD) (t : Fin cfg0.N) : (dats m 0 c).after 23 t = iblk m c 23 t := by dsimp only [dats]
theorem after0_24 (c : Dev nD) (t : Fin cfg0.N) : (dats m 0 c).after 24 t = iblk m c 24 t := by dsimp only [dats]
theorem after0_25 (c : Dev nD) (t : Fin cfg0.N) : (dats m 0 c).after 25 t = iblk m c 25 t := by dsimp only [dats]
theorem after0_26 (c : Dev nD) (t : Fin cfg0.N) : (dats m 0 c).after 26 t = (outsAt0 m c t) := by dsimp only [dats]

/-- Each input's buffer holds its block before the body. -/
theorem before0_0 (c : Dev nD) (t : Fin cfg0.N) (d) : (dats m 0 c).before 0 t d = X0_0 m c t :=
  before0_0_of m (dats m 0 c) (A_eq m c 0) (after0_0 m c) t d
theorem before0_1 (c : Dev nD) (t : Fin cfg0.N) (d) : (dats m 0 c).before 1 t d = X0_1 m c t :=
  before0_1_of m (dats m 0 c) (A_eq m c 1) (after0_1 m c) t d
theorem before0_2 (c : Dev nD) (t : Fin cfg0.N) (d) : (dats m 0 c).before 2 t d = X0_2 m c t :=
  before0_2_of m (dats m 0 c) (A_eq m c 2) (after0_2 m c) t d
theorem before0_3 (c : Dev nD) (t : Fin cfg0.N) (d) : (dats m 0 c).before 3 t d = X0_3 m c t :=
  before0_3_of m (dats m 0 c) (A_eq m c 3) (after0_3 m c) t d
theorem before0_4 (c : Dev nD) (t : Fin cfg0.N) (d) : (dats m 0 c).before 4 t d = X0_4 m c t :=
  before0_4_of m (dats m 0 c) (A_eq m c 4) (after0_4 m c) t d
theorem before0_5 (c : Dev nD) (t : Fin cfg0.N) (d) : (dats m 0 c).before 5 t d = X0_5 m c t :=
  before0_5_of m (dats m 0 c) (A_eq m c 5) (after0_5 m c) t d
theorem before0_6 (c : Dev nD) (t : Fin cfg0.N) (d) : (dats m 0 c).before 6 t d = X0_6 m c t :=
  before0_6_of m (dats m 0 c) (A_eq m c 6) (after0_6 m c) t d
theorem before0_7 (c : Dev nD) (t : Fin cfg0.N) (d) : (dats m 0 c).before 7 t d = X0_7 m c t :=
  before0_7_of m (dats m 0 c) (A_eq m c 7) (after0_7 m c) t d
theorem before0_8 (c : Dev nD) (t : Fin cfg0.N) (d) : (dats m 0 c).before 8 t d = X0_8 m c t :=
  before0_8_of m (dats m 0 c) (A_eq m c 8) (after0_8 m c) t d
theorem before0_9 (c : Dev nD) (t : Fin cfg0.N) (d) : (dats m 0 c).before 9 t d = X0_9 m c t :=
  before0_9_of m (dats m 0 c) (A_eq m c 9) (after0_9 m c) t d
theorem before0_10 (c : Dev nD) (t : Fin cfg0.N) (d) : (dats m 0 c).before 10 t d = X0_10 m c t :=
  before0_10_of m (dats m 0 c) (A_eq m c 10) (after0_10 m c) t d
theorem before0_11 (c : Dev nD) (t : Fin cfg0.N) (d) : (dats m 0 c).before 11 t d = X0_11 m c t :=
  before0_11_of m (dats m 0 c) (A_eq m c 11) (after0_11 m c) t d
theorem before0_12 (c : Dev nD) (t : Fin cfg0.N) (d) : (dats m 0 c).before 12 t d = iblk m c 12 t :=
  before0_12_of m (dats m 0 c) (A_eq m c 12) (after0_12 m c) t d
theorem before0_13 (c : Dev nD) (t : Fin cfg0.N) (d) : (dats m 0 c).before 13 t d = X0_13 m c t :=
  before0_13_of m (dats m 0 c) (A_eq m c 13) (after0_13 m c) t d
theorem before0_14 (c : Dev nD) (t : Fin cfg0.N) (d) : (dats m 0 c).before 14 t d = X0_14 m c t :=
  before0_14_of m (dats m 0 c) (A_eq m c 14) (after0_14 m c) t d
theorem before0_15 (c : Dev nD) (t : Fin cfg0.N) (d) : (dats m 0 c).before 15 t d = X0_15 m c t :=
  before0_15_of m (dats m 0 c) (A_eq m c 15) (after0_15 m c) t d
theorem before0_16 (c : Dev nD) (t : Fin cfg0.N) (d) : (dats m 0 c).before 16 t d = iblk m c 16 t :=
  before0_16_of m (dats m 0 c) (A_eq m c 16) (after0_16 m c) t d
theorem before0_17 (c : Dev nD) (t : Fin cfg0.N) (d) : (dats m 0 c).before 17 t d = iblk m c 17 t :=
  before0_17_of m (dats m 0 c) (A_eq m c 17) (after0_17 m c) t d
theorem before0_18 (c : Dev nD) (t : Fin cfg0.N) (d) : (dats m 0 c).before 18 t d = iblk m c 18 t :=
  before0_18_of m (dats m 0 c) (A_eq m c 18) (after0_18 m c) t d
theorem before0_19 (c : Dev nD) (t : Fin cfg0.N) (d) : (dats m 0 c).before 19 t d = iblk m c 19 t :=
  before0_19_of m (dats m 0 c) (A_eq m c 19) (after0_19 m c) t d
theorem before0_20 (c : Dev nD) (t : Fin cfg0.N) (d) : (dats m 0 c).before 20 t d = iblk m c 20 t :=
  before0_20_of m (dats m 0 c) (A_eq m c 20) (after0_20 m c) t d
theorem before0_21 (c : Dev nD) (t : Fin cfg0.N) (d) : (dats m 0 c).before 21 t d = iblk m c 21 t :=
  before0_21_of m (dats m 0 c) (A_eq m c 21) (after0_21 m c) t d
theorem before0_22 (c : Dev nD) (t : Fin cfg0.N) (d) : (dats m 0 c).before 22 t d = iblk m c 22 t :=
  before0_22_of m (dats m 0 c) (A_eq m c 22) (after0_22 m c) t d
theorem before0_23 (c : Dev nD) (t : Fin cfg0.N) (d) : (dats m 0 c).before 23 t d = iblk m c 23 t :=
  before0_23_of m (dats m 0 c) (A_eq m c 23) (after0_23 m c) t d
theorem before0_24 (c : Dev nD) (t : Fin cfg0.N) (d) : (dats m 0 c).before 24 t d = iblk m c 24 t :=
  before0_24_of m (dats m 0 c) (A_eq m c 24) (after0_24 m c) t d
theorem before0_25 (c : Dev nD) (t : Fin cfg0.N) (d) : (dats m 0 c).before 25 t d = iblk m c 25 t :=
  before0_25_of m (dats m 0 c) (A_eq m c 25) (after0_25 m c) t d

/-! ## The body at a point -/

/-- What the body holds before the point `t`, buffer by buffer. -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare ((dats m 0 c).before 13 t d))
    ∗ (∃ d, owns (c : Thread nD τ) (ms0_14 t) fullShare ((dats m 0 c).before 14 t d))
    ∗ (∃ d, owns (c : Thread nD τ) (ms0_15 t) fullShare ((dats m 0 c).before 15 t d))
    ∗ (∃ d, owns (c : Thread nD τ) (ms0_16 t) fullShare ((dats m 0 c).before 16 t d))
    ∗ (∃ d, owns (c : Thread nD τ) (ms0_17 t) fullShare ((dats m 0 c).before 17 t d))
    ∗ (∃ d, owns (c : Thread nD τ) (ms0_18 t) fullShare ((dats m 0 c).before 18 t d))
    ∗ (∃ d, owns (c : Thread nD τ) (ms0_19 t) fullShare ((dats m 0 c).before 19 t d))
    ∗ (∃ d, owns (c : Thread nD τ) (ms0_20 t) fullShare ((dats m 0 c).before 20 t d))
    ∗ (∃ d, owns (c : Thread nD τ) (ms0_21 t) fullShare ((dats m 0 c).before 21 t d))
    ∗ (∃ d, owns (c : Thread nD τ) (ms0_22 t) fullShare ((dats m 0 c).before 22 t d))
    ∗ (∃ d, owns (c : Thread nD τ) (ms0_23 t) fullShare ((dats m 0 c).before 23 t d))
    ∗ (∃ d, owns (c : Thread nD τ) (ms0_24 t) fullShare ((dats m 0 c).before 24 t d))
    ∗ (∃ d, owns (c : Thread nD τ) (ms0_25 t) fullShare ((dats m 0 c).before 25 t d))
    ∗ (∃ d, owns (c : Thread nD τ) (ms0_26 t) fullShare ((dats m 0 c).before 26 t d)))

/-- What it holds after the point. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t)
    ∗ owns (c : Thread nD τ) (ms0_10 t) fullShare ((dats m 0 c).after 10 t)
    ∗ owns (c : Thread nD τ) (ms0_11 t) fullShare ((dats m 0 c).after 11 t)
    ∗ owns (c : Thread nD τ) (ms0_12 t) fullShare ((dats m 0 c).after 12 t)
    ∗ owns (c : Thread nD τ) (ms0_13 t) fullShare ((dats m 0 c).after 13 t)
    ∗ owns (c : Thread nD τ) (ms0_14 t) fullShare ((dats m 0 c).after 14 t)
    ∗ owns (c : Thread nD τ) (ms0_15 t) fullShare ((dats m 0 c).after 15 t)
    ∗ owns (c : Thread nD τ) (ms0_16 t) fullShare ((dats m 0 c).after 16 t)
    ∗ owns (c : Thread nD τ) (ms0_17 t) fullShare ((dats m 0 c).after 17 t)
    ∗ owns (c : Thread nD τ) (ms0_18 t) fullShare ((dats m 0 c).after 18 t)
    ∗ owns (c : Thread nD τ) (ms0_19 t) fullShare ((dats m 0 c).after 19 t)
    ∗ owns (c : Thread nD τ) (ms0_20 t) fullShare ((dats m 0 c).after 20 t)
    ∗ owns (c : Thread nD τ) (ms0_21 t) fullShare ((dats m 0 c).after 21 t)
    ∗ owns (c : Thread nD τ) (ms0_22 t) fullShare ((dats m 0 c).after 22 t)
    ∗ owns (c : Thread nD τ) (ms0_23 t) fullShare ((dats m 0 c).after 23 t)
    ∗ owns (c : Thread nD τ) (ms0_24 t) fullShare ((dats m 0 c).after 24 t)
    ∗ owns (c : Thread nD τ) (ms0_25 t) fullShare ((dats m 0 c).after 25 t)
    ∗ owns (c : Thread nD τ) (ms0_26 t) fullShare ((dats m 0 c).after 26 t))

set_option maxHeartbeats 2800000 in
/-- The body at a point: it reads the blocks, writes the result's buffer and gives the scratch back. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11, before0_12, before0_13, before0_14, before0_15, before0_16, before0_17, before0_18, before0_19, before0_20, before0_21, before0_22, before0_23, before0_24, before0_25]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10, after0_11, after0_12, after0_13, after0_14, after0_15, after0_16, after0_17, after0_18, after0_19, after0_20, after0_21, after0_22, after0_23, after0_24, after0_25, after0_26]
  rw [show (dats m 0 c).Φ t.castSucc = Pipeline.ΦA spec0 c from rfl, PhiA0_eq]
  unfold outsAt0
  unfold out0_A_26
  iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩, ⟨%d24, H24⟩, ⟨%d25, H25⟩, ⟨%d26, H26⟩⟩
  iapply ((kernelRun0_A c (grid0.coords t) _ _ _ _ _ _ _ _ _ _ _ _ _ _ _ _ _ _ _ _ _ _ _ _ _ _ _ _ _ _ _ _ _ _ _ _ _ _ _ _ _ _ _ _ _ _ _ _ _ _ _ _ _ _ _ _ (X0_0 m c t) (X0_1 m c t) (X0_2 m c t) (X0_3 m c t) (X0_4 m c t) (X0_5 m c t) (X0_6 m c t) (X0_7 m c t) (X0_8 m c t) (X0_9 m c t) (X0_10 m c t) (X0_11 m c t) (iblk m c 12 t) (X0_13 m c t) (X0_14 m c t) (X0_15 m c t) (iblk m c 16 t) (iblk m c 17 t) (iblk m c 18 t) (iblk m c 19 t) (iblk m c 20 t) (iblk m c 21 t) (iblk m c 22 t) (iblk m c 23 t) (iblk m c 24 t) (iblk m c 25 t)).2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]; · iexact H24
  isplitl [H25]; · iexact H25
  isplitl [H26]; · iexists _; iexact H26
  isplitl [HS0]; · iexact HS0
  iintro ⟨H0, H1, H2, H3, H4, H5, H6, H7, H8, H9, H10, H11, H12, H13, H14, H15, H16, H17, H18, H19, H20, H21, H22, H23, H24, H25, ⟨%e26, H26⟩, ⟨%fT0, HS0⟩⟩
  isplitl [HS0 Hg]
  · isplitl [HS0]
    · iexists _; unfold owns; iexists _; isplitr
      swap; · iexact HS0
      ipureintro; rfl
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]; · iexact H24
  isplitl [H25]; · iexact H25
  unfold owns; iexists _; isplitr
  swap; · iexact H26
  ipureintro; exact View.read_writes_of_cover _ _ _ _ _ (cover0_A_26 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)

/-- The body that the launch runs at the point `t`. -/
theorem defs₀_row (t : Fin cfg0.N) :
    defs₀ (F := F) .tc cfg0.body (cfg0.bodyArgs t (cfg0.slots t)) = bodyAt0 t := by
  unfold defs₀; rw [Defs.onTc_tc]

/-- The body keeps what the launch asks of it at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

set_option backward.isDefEq.respectTransparency.types false in
/-- The launch ends with the arrays as the points leave them, and with the counters at zero. -/
theorem run_main_quiescent : θ_run defs (onTc (τ := τ) (main (F := F))) (s₀ m ρ) (fun r => (Pipeline.FramePost cfgs (dats m) 0 (V m)) r ∧ r.2.sem = fun _ => 0) :=
  Pipeline.θ_run_frame_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hΦ := fun _ _ => rfl)

/-- The same without the counters. -/
theorem run_main : θ_run defs (onTc (τ := τ) (main (F := F))) (s₀ m ρ) (Pipeline.FramePost cfgs (dats m) 0 (V m)) :=
  (θ_run defs _ _).mono (fun _ h => h.1) (run_main_quiescent m ρ)

/-- The arguments stay as launched. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  frame_of m ρ (dats m) (A_eq m) (run_main m ρ)

/-- The frame: the arguments stay as launched and the counters end at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13))
      ∧ r.2.sem = fun _ => 0) :=
  θ_run_and (unchanged m ρ) ((θ_run defs _ _).mono (fun _ h => h.2) (run_main_quiescent m ρ))

end Cert.MergeIdeal.Body

end
-- ==== Proof.MergeBlocks.lean ====
/-
  The merge call over the extended reals: its result's array, block by block, and its arguments after the run.
-/
module

public import proofs.«01_k».proof.Proof.MergeFrame
public import Idealize.ShloMosaic.Lib.Pipeline.Value

@[expose] public section

set_option maxHeartbeats 40000000

noncomputable section

namespace Cert.MergeIdeal.Blocks

open Cert.MergeIdeal Cert.MergeIdeal.Gen Cert.MergeIdeal.Body Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

/-! ## The result's array, block by block -/

/-- What the point `t` writes back to the result's array. -/
theorem flushed26 (c : Dev nD) (t : Fin cfg0.N) :
    (dats m 0 c).flushed 26 t = (cfg0.win 26).cut (grid0.coords t) (outsAt0 m c t) := by
  show (cfg0.win 26).cut (grid0.coords t) ((dats m 0 c).after 26 t) = _
  rw [after0_26]

/-- The same, by the body's run at the point. -/
theorem flushed26_A (c : Dev nD) (t : Fin cfg0.N) :
    (dats m 0 c).flushed 26 t = (cfg0.win 26).cut (grid0.coords t) (out0_A_26 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (ms0_26 t) (hs0_26 t) scM0_0 (Memref.isWhole_whole _) (X0_0 m c t) (X0_1 m c t) (X0_2 m c t) (X0_3 m c t) (X0_4 m c t) (X0_5 m c t) (X0_6 m c t) (X0_7 m c t) (X0_8 m c t) (X0_9 m c t) (X0_10 m c t) (X0_11 m c t) (iblk m c 12 t) (X0_13 m c t) (X0_14 m c t) (X0_15 m c t) (iblk m c 16 t) (iblk m c 17 t) (iblk m c 18 t) (iblk m c 19 t) (iblk m c 20 t) (iblk m c 21 t) (iblk m c 22 t) (iblk m c 23 t) (iblk m c 24 t) (iblk m c 25 t)) := by
  simp only [flushed26, outsAt0]

/-- Different points write different blocks. -/
theorem idx_inj26 : ∀ t t' : Fin cfg0.N, win0_26.index t = win0_26.index t' → t = t' :=
  (by decide +kernel : ∀ t t' : Fin grid0.N, win0_26.index t = win0_26.index t' → t = t')

/-- So two points' blocks share no index. -/
theorem disjoint26 : ∀ t t' : Fin cfg0.N, (cfg0.win 26).flush t = true → (cfg0.win 26).flush t' = true → t ≠ t' →
    Disjoint ((cfg0.win 26).blk t).view.set ((cfg0.win 26).blk t').view.set :=
  fun t t' _ _ hne => (cfg0.win 26).disjoint_blk fun h => hne (idx_inj26 t t' h)

/-- The block of the point `t` in the final array is what the point wrote back. -/
theorem blocks26 (c : Dev nD) (t : Fin cfg0.N) (hf : (cfg0.win 26).flush t = true) :
    ((cfg0.win 26).blk t).view.read (Elt F) ((dats m 0 c).arrAt 26 cfg0.N) = (dats m 0 c).flushed 26 t :=
  (dats m 0 c).read_blk_arrAt_eq_flushed 26 disjoint26 cfg0.N t t.isLt hf

/-- An index that no point's block holds keeps its contents. -/
theorem entry26 (c : Dev nD) (i : S2x8192x1024.Idx) (h : ∀ t : Fin cfg0.N, (cfg0.win 26).flush t = true → i ∉ ((cfg0.win 26).blk t).view.set) :
    (dats m 0 c).arrAt 26 cfg0.N i = V m c (Pipeline.arrRef spec0 26) i := by
  rw [(dats m 0 c).arrAt_apply_of_forall_not_mem 26 cfg0.N i (fun t _ hf => h t hf), A_eq]

/-- The result's array after the run. -/
theorem post26 (r : PUnit × MemSt nD τ sig (Elt F)) (h : Pipeline.FramePost cfgs (dats m) 0 (V m) r) (c : Dev nD) :
    r.2.mem ((c : Thread nD τ).loc main_v8) = (dats m 0 c).arrAt 26 cfg0.N :=
  (h c).1 26

/-- `main_arg0` is as launched after the run. -/
theorem kept_main_arg0 (r : PUnit × MemSt nD τ sig (Elt F)) (h : Pipeline.FramePost cfgs (dats m) 0 (V m) r) (c : Dev nD) :
    r.2.mem ((c : Thread nD τ).loc main_arg0) = m ((c : Thread nD τ).loc main_arg0) :=
  ((h c).1 11).trans (((dats m 0 c).arrAt_in 11 rfl _).trans ((A_eq m c 11).trans (V_main_arg0 m c)))

/-- `main_arg1` is as launched after the run. -/
theorem kept_main_arg1 (r : PUnit × MemSt nD τ sig (Elt F)) (h : Pipeline.FramePost cfgs (dats m) 0 (V m) r) (c : Dev nD) :
    r.2.mem ((c : Thread nD τ).loc main_arg1) = m ((c : Thread nD τ).loc main_arg1) :=
  ((h c).1 12).trans (((dats m 0 c).arrAt_in 12 rfl _).trans ((A_eq m c 12).trans (V_main_arg1 m c)))

/-- `main_arg2` is as launched after the run. -/
theorem kept_main_arg2 (r : PUnit × MemSt nD τ sig (Elt F)) (h : Pipeline.FramePost cfgs (dats m) 0 (V m) r) (c : Dev nD) :
    r.2.mem ((c : Thread nD τ).loc main_arg2) = m ((c : Thread nD τ).loc main_arg2) :=
  ((h c).1 13).trans (((dats m 0 c).arrAt_in 13 rfl _).trans ((A_eq m c 13).trans (V_main_arg2 m c)))

/-- `main_arg3` is as launched after the run. -/
theorem kept_main_arg3 (r : PUnit × MemSt nD τ sig (Elt F)) (h : Pipeline.FramePost cfgs (dats m) 0 (V m) r) (c : Dev nD) :
    r.2.mem ((c : Thread nD τ).loc main_arg3) = m ((c : Thread nD τ).loc main_arg3) :=
  ((h c).1 14).trans (((dats m 0 c).arrAt_in 14 rfl _).trans ((A_eq m c 14).trans (V_main_arg3 m c)))

/-- `main_arg4` is as launched after the run. -/
theorem kept_main_arg4 (r : PUnit × MemSt nD τ sig (Elt F)) (h : Pipeline.FramePost cfgs (dats m) 0 (V m) r) (c : Dev nD) :
    r.2.mem ((c : Thread nD τ).loc main_arg4) = m ((c : Thread nD τ).loc main_arg4) :=
  ((h c).1 15).trans (((dats m 0 c).arrAt_in 15 rfl _).trans ((A_eq m c 15).trans (V_main_arg4 m c)))

/-- `main_arg5` is as launched after the run. -/
theorem kept_main_arg5 (r : PUnit × MemSt nD τ sig (Elt F)) (h : Pipeline.FramePost cfgs (dats m) 0 (V m) r) (c : Dev nD) :
    r.2.mem ((c : Thread nD τ).loc main_arg5) = m ((c : Thread nD τ).loc main_arg5) :=
  ((h c).1 16).trans (((dats m 0 c).arrAt_in 16 rfl _).trans ((A_eq m c 16).trans (V_main_arg5 m c)))

/-- `main_arg6` is as launched after the run. -/
theorem kept_main_arg6 (r : PUnit × MemSt nD τ sig (Elt F)) (h : Pipeline.FramePost cfgs (dats m) 0 (V m) r) (c : Dev nD) :
    r.2.mem ((c : Thread nD τ).loc main_arg6) = m ((c : Thread nD τ).loc main_arg6) :=
  ((h c).1 17).trans (((dats m 0 c).arrAt_in 17 rfl _).trans ((A_eq m c 17).trans (V_main_arg6 m c)))

/-- `main_arg7` is as launched after the run. -/
theorem kept_main_arg7 (r : PUnit × MemSt nD τ sig (Elt F)) (h : Pipeline.FramePost cfgs (dats m) 0 (V m) r) (c : Dev nD) :
    r.2.mem ((c : Thread nD τ).loc main_arg7) = m ((c : Thread nD τ).loc main_arg7) :=
  ((h c).1 18).trans (((dats m 0 c).arrAt_in 18 rfl _).trans ((A_eq m c 18).trans (V_main_arg7 m c)))

/-- `main_arg8` is as launched after the run. -/
theorem kept_main_arg8 (r : PUnit × MemSt nD τ sig (Elt F)) (h : Pipeline.FramePost cfgs (dats m) 0 (V m) r) (c : Dev nD) :
    r.2.mem ((c : Thread nD τ).loc main_arg8) = m ((c : Thread nD τ).loc main_arg8) :=
  ((h c).2 main_arg8 (Pipeline.mem_restRefs_of main_arg8 (by decide) (by decide))).trans (V_main_arg8 m c)

/-- `main_arg9` is as launched after the run. -/
theorem kept_main_arg9 (r : PUnit × MemSt nD τ sig (Elt F)) (h : Pipeline.FramePost cfgs (dats m) 0 (V m) r) (c : Dev nD) :
    r.2.mem ((c : Thread nD τ).loc main_arg9) = m ((c : Thread nD τ).loc main_arg9) :=
  ((h c).2 main_arg9 (Pipeline.mem_restRefs_of main_arg9 (by decide) (by decide))).trans (V_main_arg9 m c)

/-- `main_arg10` is as launched after the run. -/
theorem kept_main_arg10 (r : PUnit × MemSt nD τ sig (Elt F)) (h : Pipeline.FramePost cfgs (dats m) 0 (V m) r) (c : Dev nD) :
    r.2.mem ((c : Thread nD τ).loc main_arg10) = m ((c : Thread nD τ).loc main_arg10) :=
  ((h c).2 main_arg10 (Pipeline.mem_restRefs_of main_arg10 (by decide) (by decide))).trans (V_main_arg10 m c)

/-- `main_arg11` is as launched after the run. -/
theorem kept_main_arg11 (r : PUnit × MemSt nD τ sig (Elt F)) (h : Pipeline.FramePost cfgs (dats m) 0 (V m) r) (c : Dev nD) :
    r.2.mem ((c : Thread nD τ).loc main_arg11) = m ((c : Thread nD τ).loc main_arg11) :=
  ((h c).2 main_arg11 (Pipeline.mem_restRefs_of main_arg11 (by decide) (by decide))).trans (V_main_arg11 m c)

/-- `main_arg12` is as launched after the run. -/
theorem kept_main_arg12 (r : PUnit × MemSt nD τ sig (Elt F)) (h : Pipeline.FramePost cfgs (dats m) 0 (V m) r) (c : Dev nD) :
    r.2.mem ((c : Thread nD τ).loc main_arg12) = m ((c : Thread nD τ).loc main_arg12) :=
  ((h c).2 main_arg12 (Pipeline.mem_restRefs_of main_arg12 (by decide) (by decide))).trans (V_main_arg12 m c)

/-- `main_arg13` is as launched after the run. -/
theorem kept_main_arg13 (r : PUnit × MemSt nD τ sig (Elt F)) (h : Pipeline.FramePost cfgs (dats m) 0 (V m) r) (c : Dev nD) :
    r.2.mem ((c : Thread nD τ).loc main_arg13) = m ((c : Thread nD τ).loc main_arg13) :=
  ((h c).2 main_arg13 (Pipeline.mem_restRefs_of main_arg13 (by decide) (by decide))).trans (V_main_arg13 m c)

/-- The run: the result's array after it, and the arguments unchanged. -/
theorem run_blocks : θ_run defs (onTc (τ := τ) (main (F := F))) ⟨m, fun _ => 0, ρ⟩ fun r => ∀ c : Dev nD,
      r.2.mem ((c : Thread nD τ).loc main_v8) = (dats m 0 c).arrAt 26 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11)
      ∧ r.2.mem ((c : Thread nD τ).loc main_arg12) = m ((c : Thread nD τ).loc main_arg12)
      ∧ r.2.mem ((c : Thread nD τ).loc main_arg13) = m ((c : Thread nD τ).loc main_arg13) :=
  (θ_run defs _ _).mono (fun r h c => ⟨post26 m r h c,
      kept_main_arg0 m r h c,
      kept_main_arg1 m r h c,
      kept_main_arg2 m r h c,
      kept_main_arg3 m r h c,
      kept_main_arg4 m r h c,
      kept_main_arg5 m r h c,
      kept_main_arg6 m r h c,
      kept_main_arg7 m r h c,
      kept_main_arg8 m r h c,
      kept_main_arg9 m r h c,
      kept_main_arg10 m r h c,
      kept_main_arg11 m r h c,
      kept_main_arg12 m r h c,
      kept_main_arg13 m r h c⟩)
    (run_main m ρ)

end Cert.MergeIdeal.Blocks

end
-- ==== Proof.MergeBand0.lean ====
/-
  The band that the merge call multiplies by: for a width of `2 h`, row `r` has ones at the columns from `16 + r - h` to
  `15 + r + h` and zeros elsewhere. Decided entry by entry over the literal, sixteen rows at a time.
-/
module

public import proofs.«01_k».proof.MergeIdeal
public import Idealize.ShloMosaic.Lib.Pointwise

@[expose] public section

set_option maxRecDepth 16384
set_option Elab.async false

noncomputable section

namespace Cert.MergeIdeal.Band

open Cert.MergeIdeal
open Idealize.ShloMosaic
open Idealize.ShloMosaic.Pointwise

theorem band0_0 : ∀ (r : Fin 16) (k : Fin 160), lit0t (0 + (160 * r.val + k.val)) = if 16 + r.val ≤ k.val + 1 ∧ k.val < 16 + r.val + 1 then 0x3F80#16 else 0#16 := by
  decide +kernel
theorem band0_1 : ∀ (r : Fin 16) (k : Fin 160), lit0t (2560 + (160 * r.val + k.val)) = if 32 + r.val ≤ k.val + 1 ∧ k.val < 32 + r.val + 1 then 0x3F80#16 else 0#16 := by
  decide +kernel
theorem band0_2 : ∀ (r : Fin 16) (k : Fin 160), lit0t (5120 + (160 * r.val + k.val)) = if 48 + r.val ≤ k.val + 1 ∧ k.val < 48 + r.val + 1 then 0x3F80#16 else 0#16 := by
  decide +kernel
theorem band0_3 : ∀ (r : Fin 16) (k : Fin 160), lit0t (7680 + (160 * r.val + k.val)) = if 64 + r.val ≤ k.val + 1 ∧ k.val < 64 + r.val + 1 then 0x3F80#16 else 0#16 := by
  decide +kernel
theorem band0_4 : ∀ (r : Fin 16) (k : Fin 160), lit0t (10240 + (160 * r.val + k.val)) = if 80 + r.val ≤ k.val + 1 ∧ k.val < 80 + r.val + 1 then 0x3F80#16 else 0#16 := by
  decide +kernel
theorem band0_5 : ∀ (r : Fin 16) (k : Fin 160), lit0t (12800 + (160 * r.val + k.val)) = if 96 + r.val ≤ k.val + 1 ∧ k.val < 96 + r.val + 1 then 0x3F80#16 else 0#16 := by
  decide +kernel
theorem band0_6 : ∀ (r : Fin 16) (k : Fin 160), lit0t (15360 + (160 * r.val + k.val)) = if 112 + r.val ≤ k.val + 1 ∧ k.val < 112 + r.val + 1 then 0x3F80#16 else 0#16 := by
  decide +kernel
theorem band0_7 : ∀ (r : Fin 16) (k : Fin 160), lit0t (17920 + (160 * r.val + k.val)) = if 128 + r.val ≤ k.val + 1 ∧ k.val < 128 + r.val + 1 then 0x3F80#16 else 0#16 := by
  decide +kernel

end Cert.MergeIdeal.Band

end
-- ==== Proof.MergeBand1.lean ====
/-
  The band that the merge call multiplies by: for a width of `2 h`, row `r` has ones at the columns from `16 + r - h` to
  `15 + r + h` and zeros elsewhere. Decided entry by entry over the literal, sixteen rows at a time.
-/
module

public import proofs.«01_k».proof.MergeIdeal
public import Idealize.ShloMosaic.Lib.Pointwise

@[expose] public section

set_option maxRecDepth 16384
set_option Elab.async false

noncomputable section

namespace Cert.MergeIdeal.Band

open Cert.MergeIdeal
open Idealize.ShloMosaic
open Idealize.ShloMosaic.Pointwise

theorem band1_0 : ∀ (r : Fin 16) (k : Fin 160), lit0t (20480 + (160 * r.val + k.val)) = if 16 + r.val ≤ k.val + 2 ∧ k.val < 16 + r.val + 2 then 0x3F80#16 else 0#16 := by
  decide +kernel
theorem band1_1 : ∀ (r : Fin 16) (k : Fin 160), lit0t (23040 + (160 * r.val + k.val)) = if 32 + r.val ≤ k.val + 2 ∧ k.val < 32 + r.val + 2 then 0x3F80#16 else 0#16 := by
  decide +kernel
theorem band1_2 : ∀ (r : Fin 16) (k : Fin 160), lit0t (25600 + (160 * r.val + k.val)) = if 48 + r.val ≤ k.val + 2 ∧ k.val < 48 + r.val + 2 then 0x3F80#16 else 0#16 := by
  decide +kernel
theorem band1_3 : ∀ (r : Fin 16) (k : Fin 160), lit0t (28160 + (160 * r.val + k.val)) = if 64 + r.val ≤ k.val + 2 ∧ k.val < 64 + r.val + 2 then 0x3F80#16 else 0#16 := by
  decide +kernel
theorem band1_4 : ∀ (r : Fin 16) (k : Fin 160), lit0t (30720 + (160 * r.val + k.val)) = if 80 + r.val ≤ k.val + 2 ∧ k.val < 80 + r.val + 2 then 0x3F80#16 else 0#16 := by
  decide +kernel
theorem band1_5 : ∀ (r : Fin 16) (k : Fin 160), lit0t (33280 + (160 * r.val + k.val)) = if 96 + r.val ≤ k.val + 2 ∧ k.val < 96 + r.val + 2 then 0x3F80#16 else 0#16 := by
  decide +kernel
theorem band1_6 : ∀ (r : Fin 16) (k : Fin 160), lit0t (35840 + (160 * r.val + k.val)) = if 112 + r.val ≤ k.val + 2 ∧ k.val < 112 + r.val + 2 then 0x3F80#16 else 0#16 := by
  decide +kernel
theorem band1_7 : ∀ (r : Fin 16) (k : Fin 160), lit0t (38400 + (160 * r.val + k.val)) = if 128 + r.val ≤ k.val + 2 ∧ k.val < 128 + r.val + 2 then 0x3F80#16 else 0#16 := by
  decide +kernel

end Cert.MergeIdeal.Band

end
-- ==== Proof.MergeBand2.lean ====
/-
  The band that the merge call multiplies by: for a width of `2 h`, row `r` has ones at the columns from `16 + r - h` to
  `15 + r + h` and zeros elsewhere. Decided entry by entry over the literal, sixteen rows at a time.
-/
module

public import proofs.«01_k».proof.MergeIdeal
public import Idealize.ShloMosaic.Lib.Pointwise

@[expose] public section

set_option maxRecDepth 16384
set_option Elab.async false

noncomputable section

namespace Cert.MergeIdeal.Band

open Cert.MergeIdeal
open Idealize.ShloMosaic
open Idealize.ShloMosaic.Pointwise

theorem band2_0 : ∀ (r : Fin 16) (k : Fin 160), lit0t (40960 + (160 * r.val + k.val)) = if 16 + r.val ≤ k.val + 4 ∧ k.val < 16 + r.val + 4 then 0x3F80#16 else 0#16 := by
  decide +kernel
theorem band2_1 : ∀ (r : Fin 16) (k : Fin 160), lit0t (43520 + (160 * r.val + k.val)) = if 32 + r.val ≤ k.val + 4 ∧ k.val < 32 + r.val + 4 then 0x3F80#16 else 0#16 := by
  decide +kernel
theorem band2_2 : ∀ (r : Fin 16) (k : Fin 160), lit0t (46080 + (160 * r.val + k.val)) = if 48 + r.val ≤ k.val + 4 ∧ k.val < 48 + r.val + 4 then 0x3F80#16 else 0#16 := by
  decide +kernel
theorem band2_3 : ∀ (r : Fin 16) (k : Fin 160), lit0t (48640 + (160 * r.val + k.val)) = if 64 + r.val ≤ k.val + 4 ∧ k.val < 64 + r.val + 4 then 0x3F80#16 else 0#16 := by
  decide +kernel
theorem band2_4 : ∀ (r : Fin 16) (k : Fin 160), lit0t (51200 + (160 * r.val + k.val)) = if 80 + r.val ≤ k.val + 4 ∧ k.val < 80 + r.val + 4 then 0x3F80#16 else 0#16 := by
  decide +kernel
theorem band2_5 : ∀ (r : Fin 16) (k : Fin 160), lit0t (53760 + (160 * r.val + k.val)) = if 96 + r.val ≤ k.val + 4 ∧ k.val < 96 + r.val + 4 then 0x3F80#16 else 0#16 := by
  decide +kernel
theorem band2_6 : ∀ (r : Fin 16) (k : Fin 160), lit0t (56320 + (160 * r.val + k.val)) = if 112 + r.val ≤ k.val + 4 ∧ k.val < 112 + r.val + 4 then 0x3F80#16 else 0#16 := by
  decide +kernel
theorem band2_7 : ∀ (r : Fin 16) (k : Fin 160), lit0t (58880 + (160 * r.val + k.val)) = if 128 + r.val ≤ k.val + 4 ∧ k.val < 128 + r.val + 4 then 0x3F80#16 else 0#16 := by
  decide +kernel

end Cert.MergeIdeal.Band

end
-- ==== Proof.MergeBand3.lean ====
/-
  The band that the merge call multiplies by: for a width of `2 h`, row `r` has ones at the columns from `16 + r - h` to
  `15 + r + h` and zeros elsewhere. Decided entry by entry over the literal, sixteen rows at a time.
-/
module

public import proofs.«01_k».proof.MergeIdeal
public import Idealize.ShloMosaic.Lib.Pointwise

@[expose] public section

set_option maxRecDepth 16384
set_option Elab.async false

noncomputable section

namespace Cert.MergeIdeal.Band

open Cert.MergeIdeal
open Idealize.ShloMosaic
open Idealize.ShloMosaic.Pointwise

theorem band3_0 : ∀ (r : Fin 16) (k : Fin 160), lit0t (61440 + (160 * r.val + k.val)) = if 16 + r.val ≤ k.val + 8 ∧ k.val < 16 + r.val + 8 then 0x3F80#16 else 0#16 := by
  decide +kernel
theorem band3_1 : ∀ (r : Fin 16) (k : Fin 160), lit0t (64000 + (160 * r.val + k.val)) = if 32 + r.val ≤ k.val + 8 ∧ k.val < 32 + r.val + 8 then 0x3F80#16 else 0#16 := by
  decide +kernel
theorem band3_2 : ∀ (r : Fin 16) (k : Fin 160), lit0t (66560 + (160 * r.val + k.val)) = if 48 + r.val ≤ k.val + 8 ∧ k.val < 48 + r.val + 8 then 0x3F80#16 else 0#16 := by
  decide +kernel
theorem band3_3 : ∀ (r : Fin 16) (k : Fin 160), lit0t (69120 + (160 * r.val + k.val)) = if 64 + r.val ≤ k.val + 8 ∧ k.val < 64 + r.val + 8 then 0x3F80#16 else 0#16 := by
  decide +kernel
theorem band3_4 : ∀ (r : Fin 16) (k : Fin 160), lit0t (71680 + (160 * r.val + k.val)) = if 80 + r.val ≤ k.val + 8 ∧ k.val < 80 + r.val + 8 then 0x3F80#16 else 0#16 := by
  decide +kernel
theorem band3_5 : ∀ (r : Fin 16) (k : Fin 160), lit0t (74240 + (160 * r.val + k.val)) = if 96 + r.val ≤ k.val + 8 ∧ k.val < 96 + r.val + 8 then 0x3F80#16 else 0#16 := by
  decide +kernel
theorem band3_6 : ∀ (r : Fin 16) (k : Fin 160), lit0t (76800 + (160 * r.val + k.val)) = if 112 + r.val ≤ k.val + 8 ∧ k.val < 112 + r.val + 8 then 0x3F80#16 else 0#16 := by
  decide +kernel
theorem band3_7 : ∀ (r : Fin 16) (k : Fin 160), lit0t (79360 + (160 * r.val + k.val)) = if 128 + r.val ≤ k.val + 8 ∧ k.val < 128 + r.val + 8 then 0x3F80#16 else 0#16 := by
  decide +kernel

end Cert.MergeIdeal.Band

end
-- ==== Proof.MergeBand.lean ====
/-
  The band that the merge call multiplies by, entry by entry.
-/
module

public import proofs.«01_k».proof.Proof.MergeBand0
public import proofs.«01_k».proof.Proof.MergeBand1
public import proofs.«01_k».proof.Proof.MergeBand2
public import proofs.«01_k».proof.Proof.MergeBand3

@[expose] public section

set_option maxRecDepth 16384

noncomputable section

namespace Cert.MergeIdeal.Band

open Cert.MergeIdeal
open Idealize.ShloMosaic
open Idealize.ShloMosaic.Pointwise

/-- The literal at an index. -/
theorem lit_at (g : Fin 4) (r : Fin 128) (k : Fin 160) : lit0 (S4x128x160.rowMajor (ix3 g r k)) = lit0t (20480 * g.val + (160 * r.val + k.val)) := by
  show lit0t (S4x128x160.rowMajor (ix3 g r k)).val = _
  congr 1
  refine (Shape.rowMajor_val_three (d := ![4, 128, 160]) (ix3 g r k)).trans ?_
  show (g.val * 128 + r.val) * 160 + k.val = _
  omega

theorem band0 (r : Fin 128) (k : Fin 160) : lit0t (0 + (160 * r.val + k.val)) = if 16 + r.val ≤ k.val + 1 ∧ k.val < 16 + r.val + 1 then 0x3F80#16 else 0#16 := by
  have hr := r.isLt
  obtain ⟨p, s, hp, hs, e⟩ : ∃ p s : ℕ, p < 8 ∧ s < 16 ∧ r.val = 16 * p + s := ⟨r.val / 16, r.val % 16, by omega, by omega, by omega⟩
  rw [e]
  have q : p = 0 ∨ p = 1 ∨ p = 2 ∨ p = 3 ∨ p = 4 ∨ p = 5 ∨ p = 6 ∨ p = 7 := by omega
  rcases q with rfl | rfl | rfl | rfl | rfl | rfl | rfl | rfl
  · refine Eq.trans (congrArg lit0t ?_) ((band0_0 ⟨s, hs⟩ k).trans (ite_congr (propext ?_) (fun _ => rfl) (fun _ => rfl)))
    · show _ = 0 + (160 * s + k.val); omega
    · show (16 + s ≤ k.val + 1 ∧ k.val < 16 + s + 1) ↔ _; omega
  · refine Eq.trans (congrArg lit0t ?_) ((band0_1 ⟨s, hs⟩ k).trans (ite_congr (propext ?_) (fun _ => rfl) (fun _ => rfl)))
    · show _ = 2560 + (160 * s + k.val); omega
    · show (32 + s ≤ k.val + 1 ∧ k.val < 32 + s + 1) ↔ _; omega
  · refine Eq.trans (congrArg lit0t ?_) ((band0_2 ⟨s, hs⟩ k).trans (ite_congr (propext ?_) (fun _ => rfl) (fun _ => rfl)))
    · show _ = 5120 + (160 * s + k.val); omega
    · show (48 + s ≤ k.val + 1 ∧ k.val < 48 + s + 1) ↔ _; omega
  · refine Eq.trans (congrArg lit0t ?_) ((band0_3 ⟨s, hs⟩ k).trans (ite_congr (propext ?_) (fun _ => rfl) (fun _ => rfl)))
    · show _ = 7680 + (160 * s + k.val); omega
    · show (64 + s ≤ k.val + 1 ∧ k.val < 64 + s + 1) ↔ _; omega
  · refine Eq.trans (congrArg lit0t ?_) ((band0_4 ⟨s, hs⟩ k).trans (ite_congr (propext ?_) (fun _ => rfl) (fun _ => rfl)))
    · show _ = 10240 + (160 * s + k.val); omega
    · show (80 + s ≤ k.val + 1 ∧ k.val < 80 + s + 1) ↔ _; omega
  · refine Eq.trans (congrArg lit0t ?_) ((band0_5 ⟨s, hs⟩ k).trans (ite_congr (propext ?_) (fun _ => rfl) (fun _ => rfl)))
    · show _ = 12800 + (160 * s + k.val); omega
    · show (96 + s ≤ k.val + 1 ∧ k.val < 96 + s + 1) ↔ _; omega
  · refine Eq.trans (congrArg lit0t ?_) ((band0_6 ⟨s, hs⟩ k).trans (ite_congr (propext ?_) (fun _ => rfl) (fun _ => rfl)))
    · show _ = 15360 + (160 * s + k.val); omega
    · show (112 + s ≤ k.val + 1 ∧ k.val < 112 + s + 1) ↔ _; omega
  · refine Eq.trans (congrArg lit0t ?_) ((band0_7 ⟨s, hs⟩ k).trans (ite_congr (propext ?_) (fun _ => rfl) (fun _ => rfl)))
    · show _ = 17920 + (160 * s + k.val); omega
    · show (128 + s ≤ k.val + 1 ∧ k.val < 128 + s + 1) ↔ _; omega

theorem band1 (r : Fin 128) (k : Fin 160) : lit0t (20480 + (160 * r.val + k.val)) = if 16 + r.val ≤ k.val + 2 ∧ k.val < 16 + r.val + 2 then 0x3F80#16 else 0#16 := by
  have hr := r.isLt
  obtain ⟨p, s, hp, hs, e⟩ : ∃ p s : ℕ, p < 8 ∧ s < 16 ∧ r.val = 16 * p + s := ⟨r.val / 16, r.val % 16, by omega, by omega, by omega⟩
  rw [e]
  have q : p = 0 ∨ p = 1 ∨ p = 2 ∨ p = 3 ∨ p = 4 ∨ p = 5 ∨ p = 6 ∨ p = 7 := by omega
  rcases q with rfl | rfl | rfl | rfl | rfl | rfl | rfl | rfl
  · refine Eq.trans (congrArg lit0t ?_) ((band1_0 ⟨s, hs⟩ k).trans (ite_congr (propext ?_) (fun _ => rfl) (fun _ => rfl)))
    · show _ = 20480 + (160 * s + k.val); omega
    · show (16 + s ≤ k.val + 2 ∧ k.val < 16 + s + 2) ↔ _; omega
  · refine Eq.trans (congrArg lit0t ?_) ((band1_1 ⟨s, hs⟩ k).trans (ite_congr (propext ?_) (fun _ => rfl) (fun _ => rfl)))
    · show _ = 23040 + (160 * s + k.val); omega
    · show (32 + s ≤ k.val + 2 ∧ k.val < 32 + s + 2) ↔ _; omega
  · refine Eq.trans (congrArg lit0t ?_) ((band1_2 ⟨s, hs⟩ k).trans (ite_congr (propext ?_) (fun _ => rfl) (fun _ => rfl)))
    · show _ = 25600 + (160 * s + k.val); omega
    · show (48 + s ≤ k.val + 2 ∧ k.val < 48 + s + 2) ↔ _; omega
  · refine Eq.trans (congrArg lit0t ?_) ((band1_3 ⟨s, hs⟩ k).trans (ite_congr (propext ?_) (fun _ => rfl) (fun _ => rfl)))
    · show _ = 28160 + (160 * s + k.val); omega
    · show (64 + s ≤ k.val + 2 ∧ k.val < 64 + s + 2) ↔ _; omega
  · refine Eq.trans (congrArg lit0t ?_) ((band1_4 ⟨s, hs⟩ k).trans (ite_congr (propext ?_) (fun _ => rfl) (fun _ => rfl)))
    · show _ = 30720 + (160 * s + k.val); omega
    · show (80 + s ≤ k.val + 2 ∧ k.val < 80 + s + 2) ↔ _; omega
  · refine Eq.trans (congrArg lit0t ?_) ((band1_5 ⟨s, hs⟩ k).trans (ite_congr (propext ?_) (fun _ => rfl) (fun _ => rfl)))
    · show _ = 33280 + (160 * s + k.val); omega
    · show (96 + s ≤ k.val + 2 ∧ k.val < 96 + s + 2) ↔ _; omega
  · refine Eq.trans (congrArg lit0t ?_) ((band1_6 ⟨s, hs⟩ k).trans (ite_congr (propext ?_) (fun _ => rfl) (fun _ => rfl)))
    · show _ = 35840 + (160 * s + k.val); omega
    · show (112 + s ≤ k.val + 2 ∧ k.val < 112 + s + 2) ↔ _; omega
  · refine Eq.trans (congrArg lit0t ?_) ((band1_7 ⟨s, hs⟩ k).trans (ite_congr (propext ?_) (fun _ => rfl) (fun _ => rfl)))
    · show _ = 38400 + (160 * s + k.val); omega
    · show (128 + s ≤ k.val + 2 ∧ k.val < 128 + s + 2) ↔ _; omega

theorem band2 (r : Fin 128) (k : Fin 160) : lit0t (40960 + (160 * r.val + k.val)) = if 16 + r.val ≤ k.val + 4 ∧ k.val < 16 + r.val + 4 then 0x3F80#16 else 0#16 := by
  have hr := r.isLt
  obtain ⟨p, s, hp, hs, e⟩ : ∃ p s : ℕ, p < 8 ∧ s < 16 ∧ r.val = 16 * p + s := ⟨r.val / 16, r.val % 16, by omega, by omega, by omega⟩
  rw [e]
  have q : p = 0 ∨ p = 1 ∨ p = 2 ∨ p = 3 ∨ p = 4 ∨ p = 5 ∨ p = 6 ∨ p = 7 := by omega
  rcases q with rfl | rfl | rfl | rfl | rfl | rfl | rfl | rfl
  · refine Eq.trans (congrArg lit0t ?_) ((band2_0 ⟨s, hs⟩ k).trans (ite_congr (propext ?_) (fun _ => rfl) (fun _ => rfl)))
    · show _ = 40960 + (160 * s + k.val); omega
    · show (16 + s ≤ k.val + 4 ∧ k.val < 16 + s + 4) ↔ _; omega
  · refine Eq.trans (congrArg lit0t ?_) ((band2_1 ⟨s, hs⟩ k).trans (ite_congr (propext ?_) (fun _ => rfl) (fun _ => rfl)))
    · show _ = 43520 + (160 * s + k.val); omega
    · show (32 + s ≤ k.val + 4 ∧ k.val < 32 + s + 4) ↔ _; omega
  · refine Eq.trans (congrArg lit0t ?_) ((band2_2 ⟨s, hs⟩ k).trans (ite_congr (propext ?_) (fun _ => rfl) (fun _ => rfl)))
    · show _ = 46080 + (160 * s + k.val); omega
    · show (48 + s ≤ k.val + 4 ∧ k.val < 48 + s + 4) ↔ _; omega
  · refine Eq.trans (congrArg lit0t ?_) ((band2_3 ⟨s, hs⟩ k).trans (ite_congr (propext ?_) (fun _ => rfl) (fun _ => rfl)))
    · show _ = 48640 + (160 * s + k.val); omega
    · show (64 + s ≤ k.val + 4 ∧ k.val < 64 + s + 4) ↔ _; omega
  · refine Eq.trans (congrArg lit0t ?_) ((band2_4 ⟨s, hs⟩ k).trans (ite_congr (propext ?_) (fun _ => rfl) (fun _ => rfl)))
    · show _ = 51200 + (160 * s + k.val); omega
    · show (80 + s ≤ k.val + 4 ∧ k.val < 80 + s + 4) ↔ _; omega
  · refine Eq.trans (congrArg lit0t ?_) ((band2_5 ⟨s, hs⟩ k).trans (ite_congr (propext ?_) (fun _ => rfl) (fun _ => rfl)))
    · show _ = 53760 + (160 * s + k.val); omega
    · show (96 + s ≤ k.val + 4 ∧ k.val < 96 + s + 4) ↔ _; omega
  · refine Eq.trans (congrArg lit0t ?_) ((band2_6 ⟨s, hs⟩ k).trans (ite_congr (propext ?_) (fun _ => rfl) (fun _ => rfl)))
    · show _ = 56320 + (160 * s + k.val); omega
    · show (112 + s ≤ k.val + 4 ∧ k.val < 112 + s + 4) ↔ _; omega
  · refine Eq.trans (congrArg lit0t ?_) ((band2_7 ⟨s, hs⟩ k).trans (ite_congr (propext ?_) (fun _ => rfl) (fun _ => rfl)))
    · show _ = 58880 + (160 * s + k.val); omega
    · show (128 + s ≤ k.val + 4 ∧ k.val < 128 + s + 4) ↔ _; omega

theorem band3 (r : Fin 128) (k : Fin 160) : lit0t (61440 + (160 * r.val + k.val)) = if 16 + r.val ≤ k.val + 8 ∧ k.val < 16 + r.val + 8 then 0x3F80#16 else 0#16 := by
  have hr := r.isLt
  obtain ⟨p, s, hp, hs, e⟩ : ∃ p s : ℕ, p < 8 ∧ s < 16 ∧ r.val = 16 * p + s := ⟨r.val / 16, r.val % 16, by omega, by omega, by omega⟩
  rw [e]
  have q : p = 0 ∨ p = 1 ∨ p = 2 ∨ p = 3 ∨ p = 4 ∨ p = 5 ∨ p = 6 ∨ p = 7 := by omega
  rcases q with rfl | rfl | rfl | rfl | rfl | rfl | rfl | rfl
  · refine Eq.trans (congrArg lit0t ?_) ((band3_0 ⟨s, hs⟩ k).trans (ite_congr (propext ?_) (fun _ => rfl) (fun _ => rfl)))
    · show _ = 61440 + (160 * s + k.val); omega
    · show (16 + s ≤ k.val + 8 ∧ k.val < 16 + s + 8) ↔ _; omega
  · refine Eq.trans (congrArg lit0t ?_) ((band3_1 ⟨s, hs⟩ k).trans (ite_congr (propext ?_) (fun _ => rfl) (fun _ => rfl)))
    · show _ = 64000 + (160 * s + k.val); omega
    · show (32 + s ≤ k.val + 8 ∧ k.val < 32 + s + 8) ↔ _; omega
  · refine Eq.trans (congrArg lit0t ?_) ((band3_2 ⟨s, hs⟩ k).trans (ite_congr (propext ?_) (fun _ => rfl) (fun _ => rfl)))
    · show _ = 66560 + (160 * s + k.val); omega
    · show (48 + s ≤ k.val + 8 ∧ k.val < 48 + s + 8) ↔ _; omega
  · refine Eq.trans (congrArg lit0t ?_) ((band3_3 ⟨s, hs⟩ k).trans (ite_congr (propext ?_) (fun _ => rfl) (fun _ => rfl)))
    · show _ = 69120 + (160 * s + k.val); omega
    · show (64 + s ≤ k.val + 8 ∧ k.val < 64 + s + 8) ↔ _; omega
  · refine Eq.trans (congrArg lit0t ?_) ((band3_4 ⟨s, hs⟩ k).trans (ite_congr (propext ?_) (fun _ => rfl) (fun _ => rfl)))
    · show _ = 71680 + (160 * s + k.val); omega
    · show (80 + s ≤ k.val + 8 ∧ k.val < 80 + s + 8) ↔ _; omega
  · refine Eq.trans (congrArg lit0t ?_) ((band3_5 ⟨s, hs⟩ k).trans (ite_congr (propext ?_) (fun _ => rfl) (fun _ => rfl)))
    · show _ = 74240 + (160 * s + k.val); omega
    · show (96 + s ≤ k.val + 8 ∧ k.val < 96 + s + 8) ↔ _; omega
  · refine Eq.trans (congrArg lit0t ?_) ((band3_6 ⟨s, hs⟩ k).trans (ite_congr (propext ?_) (fun _ => rfl) (fun _ => rfl)))
    · show _ = 76800 + (160 * s + k.val); omega
    · show (112 + s ≤ k.val + 8 ∧ k.val < 112 + s + 8) ↔ _; omega
  · refine Eq.trans (congrArg lit0t ?_) ((band3_7 ⟨s, hs⟩ k).trans (ite_congr (propext ?_) (fun _ => rfl) (fun _ => rfl)))
    · show _ = 79360 + (160 * s + k.val); omega
    · show (128 + s ≤ k.val + 8 ∧ k.val < 128 + s + 8) ↔ _; omega

/-- The band: ones at the columns within reach, zeros elsewhere. -/
theorem band (g : Fin 4) (r : Fin 128) (k : Fin 160) :
    (FloatOps.ofBits (F := Ideal) .bf16 (lit0 (S4x128x160.rowMajor (ix3 g r k))) : EReal)
      = if 16 + r.val ≤ k.val + 2 ^ g.val ∧ k.val < 16 + r.val + 2 ^ g.val then 1 else 0 := by
  have one : (FloatOps.ofBits (F := Ideal) .bf16 0x3F80#16 : EReal) = 1 := by
    show Ideal.ofBits FTy.bf16 0x3F80#16 = 1
    simp [Ideal.ofBits, Ideal.ieee]
    try rw [← EReal.coe_mul]
    try norm_num
  have zero : (FloatOps.ofBits (F := Ideal) .bf16 0#16 : EReal) = 0 := by
    show Ideal.ofBits FTy.bf16 0#16 = 0
    simp [Ideal.ofBits, Ideal.ieee]
  have fin : ∀ (P : Prop) [Decidable P] (w : BitVec 16), w = (if P then 0x3F80#16 else 0#16) → (FloatOps.ofBits (F := Ideal) .bf16 w : EReal) = if P then 1 else 0 := by
    intro P _ w e
    rw [e]
    split_ifs
    · exact one
    · exact zero
  refine fin _ _ ((lit_at g r k).trans ?_)
  match g with
  | ⟨0, _⟩ => exact (congrArg lit0t (by show 20480 * 0 + _ = _; rfl)).trans (band0 r k)
  | ⟨1, _⟩ => exact (congrArg lit0t (by show 20480 * 1 + _ = _; rfl)).trans (band1 r k)
  | ⟨2, _⟩ => exact (congrArg lit0t (by show 20480 * 2 + _ = _; rfl)).trans (band2 r k)
  | ⟨3, _⟩ => exact (congrArg lit0t (by show 20480 * 3 + _ = _; rfl)).trans (band3 r k)

end Cert.MergeIdeal.Band

end
-- ==== Proof.MergeVals.lean ====
/-
  What the merge call's body leaves in the result's buffer, as a function of the blocks it reads.

  The body keeps the gated sequence with 16 rows on either side and reads it through three windows of 512 rows
  for its convolution, sums the pooled sequence's rows over four widths by a product with a band (`bandW`), normalises
  and projects the result, gates the four branches and projects them into the residual.
-/
module

public import proofs.«01_k».proof.Proof.MergeFrame
public import Idealize.ShloMosaic.Lib.Pointwise
public import Idealize.ShloMosaic.Lib.Pipeline.ReadBack

@[expose] public section

set_option maxRecDepth 16384

noncomputable section

namespace Cert.MergeIdeal.Body

open Cert.MergeIdeal Cert.MergeIdeal.Gen
open Idealize.ShloMosaic Idealize.ShloMosaic.TcCoe Idealize.ShloMosaic.Tactic
open Idealize.SL Idealize.SL.RA Idealize.SL.BI Idealize.SL.Sem
open Idealize.ShloMosaic.Pointwise

variable {F : FTy → Type} [FloatOps F]

/-! ## The pieces of the computation -/

theorem inbB (g : ℕ) : ∀ a, (![g % 4, 0, 0] : Fin 3 → ℕ) a + S1x128x160.size a ≤ S4x128x160.size a := by
  intro a; fin_cases a <;> simp [Shape.size] <;> omega
theorem inbP (g : ℕ) : ∀ a, (![0, 0, 128 * (g % 4)] : Fin 3 → ℕ) a + S1x512x128.size a ≤ S1x512x512.size a := by
  intro a; fin_cases a <;> simp [Shape.size] <;> omega
theorem inbQ (g : ℕ) : ∀ a, (![0, g % 4, 0, 0] : Fin 4 → ℕ) a + S1x1x128x128.size a ≤ S1x4x128x128.size a := by
  intro a; fin_cases a <;> simp [Shape.size] <;> omega
theorem inbG (g : ℕ) : ∀ a, (![0, 0, 1024 * (g % 4)] : Fin 3 → ℕ) a + S1x512x1024.size a ≤ S1x512x4096.size a := by
  intro a; fin_cases a <;> simp [Shape.size] <;> omega
theorem inbW (g : ℕ) : ∀ a, (![0, g % 4, 0, 0] : Fin 4 → ℕ) a + S1x1x512x1024.size a ≤ S1x4x512x1024.size a := by
  intro a; fin_cases a <;> simp [Shape.size] <;> omega
theorem inbM : ∀ a, (![0, 2, 0] : Fin 3 → ℕ) a + S1x1x1024.size a ≤ S1x6x1024.size a := by
  intro a; fin_cases a <;> simp [Shape.size]

/-- The band of the `g`-th width. -/
def bandW (x : Vec F S4x128x160 .bf16) (g : ℕ) : Vec F S1x128x160 .bf16 := View.ld x (Rect.unit (s := S4x128x160) ![g % 4, 0, 0] S1x128x160.size (inbB g))
/-- The `g`-th 128 columns of the pooled sequence. -/
def puW (x : Vec F S1x512x512 .bf16) (g : ℕ) : Vec F S1x512x128 .bf16 := View.ld x (Rect.unit (s := S1x512x512) ![0, 0, 128 * (g % 4)] S1x512x128.size (inbP g))
/-- The `g`-th weights of the pooled sequence. -/
def pwW (x : Vec F S1x4x128x128 .bf16) (g : ℕ) : Vec F S1x1x128x128 .bf16 := View.ld x (Rect.unit (s := S1x4x128x128) ![0, g % 4, 0, 0] S1x1x128x128.size (inbQ g))
/-- The `g`-th 1024 gates. -/
def glW (x : Vec F S1x512x4096 .bf16) (g : ℕ) : Vec F S1x512x1024 .bf16 := View.ld x (Rect.unit (s := S1x512x4096) ![0, 0, 1024 * (g % 4)] S1x512x1024.size (inbG g))
/-- The `g`-th branch's weights. -/
def wbW (x : Vec F S1x4x512x1024 .bf16) (g : ℕ) : Vec F S1x1x512x1024 .bf16 := View.ld x (Rect.unit (s := S1x4x512x1024) ![0, g % 4, 0, 0] S1x1x512x1024.size (inbW g))
/-- The modulation's row that scales the result. -/
def modW (x : Vec F S1x6x1024 .f32) : Vec F S1x1x1024 .f32 := View.ld x (Rect.unit (s := S1x6x1024) ![0, 2, 0] S1x1x1024.size inbM)

/-- 512 of the 544 rows of the gated sequence, from row `e`. -/
def win (e : ℕ) (P : FVec F S544x512 .f32) : Vec F S512x512 .f32 := fun y =>
  P (ix2 ⟨(y 0).val + e % 33, by have : (y 0).val < 512 := (y 0).isLt; omega⟩ ⟨(y 1).val, (y 1).isLt⟩)

/-- The pooled sequence with 16 rows on either side. -/
def pe (i : grid0.Coords) (x8 : Vec F S1x512x512 .bf16) (x9 x10 : Vec F S1x16x512 .bf16) : FVec F S544x512 .bf16 :=
  k0_pay4 (Scalar.cmpi .sgt (BitVec.ofNat 32 (i 1).val) 0#32) (Scalar.cmpi .slt (BitVec.ofNat 32 (i 1).val) 15#32) x9 x10 x8

/-- The body's result, from what it loads. -/
def outL (i : grid0.Coords) (s15 s16 s17 : Vec F S512x512 .f32) (x18 : Vec F S3x512 .f32) (x1 : Vec F S1x512x512 .bf16)
    (x8 : Vec F S1x512x512 .bf16) (x9 x10 : Vec F S1x16x512 .bf16)
    (b0 b1 b2 b3 : Vec F S1x128x160 .bf16) (p0 p1 p2 p3 : Vec F S1x512x128 .bf16) (q0 q1 q2 q3 : Vec F S1x1x128x128 .bf16)
    (x21 : Vec F S1x512 .f32) (x13 x14 : Vec F S1x512x512 .bf16) (x22 : Vec F S1x512 .f32) (x15 x11 : Vec F S1x512x512 .bf16)
    (x23 : Vec F S1x512 .f32) (x12 : Vec F S1x512x512 .bf16) (g0 g1 g2 g3 : Vec F S1x512x1024 .bf16)
    (w0 w1 w2 w3 : Vec F S1x1x512x1024 .bf16) (x25 : Vec F S1x1024x1024 .bf16) (x16 : Vec F S1x512x1024 .f32) (md : Vec F S1x1x1024 .f32) :
    FVec F S1x512x1024 .f32 :=
  k0_pay1 (k0_pay17
    (k0_pay13 (k0_pay10
      (k0_pay6 (pe i x8 x9 x10) (k0_pay5 (BitVec.ofNat 32 (i 1).val)) b0 b0 b0 b0 p0 q0)
      (k0_pay7 (pe i x8 x9 x10) (k0_pay5 (BitVec.ofNat 32 (i 1).val)) b1 b1 b1 b1 p1 q1)
      (k0_pay8 (pe i x8 x9 x10) (k0_pay5 (BitVec.ofNat 32 (i 1).val)) b2 b2 b2 b2 p2 q2)
      (k0_pay9 (pe i x8 x9 x10) (k0_pay5 (BitVec.ofNat 32 (i 1).val)) b3 b3 b3 b3 p3 q3) x21))
    (k0_pay14 (k0_pay11 x13 x14 x22 x15 x11) (k0_pay12 x13 x14 x22 x15 x11) x23)
    (k0_pay15 (k0_pay3 x18 s15 s16 s17 x1) x12 g0 w0 g1 w1) (k0_pay16 g2) w2 g3 w3 x25 x16 md)

/-- The result's block, from the blocks read. -/
def outV (i : grid0.Coords) (x0 : Vec F S1x512x4096 .bf16) (x1 : Vec F S1x512x512 .bf16) (x2 : Vec F S1x512x512 .bf16) (x3 : Vec F S1x16x512 .bf16) (x4 : Vec F S1x16x512 .bf16) (x5 : Vec F S1x512x512 .bf16) (x6 : Vec F S1x16x512 .bf16) (x7 : Vec F S1x16x512 .bf16) (x8 : Vec F S1x512x512 .bf16) (x9 : Vec F S1x16x512 .bf16) (x10 : Vec F S1x16x512 .bf16) (x11 : Vec F S1x512x512 .bf16) (x12 : Vec F S1x512x512 .bf16) (x13 : Vec F S1x512x512 .bf16) (x14 : Vec F S1x512x512 .bf16) (x15 : Vec F S1x512x512 .bf16) (x16 : Vec F S1x512x1024 .f32) (x17 : Vec F S1x6x1024 .f32) (x18 : Vec F S3x512 .f32) (x19 : Vec F S4x128x160 .bf16) (x20 : Vec F S1x4x128x128 .bf16) (x21 : Vec F S1x512 .f32) (x22 : Vec F S1x512 .f32) (x23 : Vec F S1x512 .f32) (x24 : Vec F S1x4x512x1024 .bf16) (x25 : Vec F S1x1024x1024 .bf16) : FVec F S1x512x1024 .f32 :=
  outL i (win 15 (k0_pay2 i x3 x4 x2 x6 x7 x5)) (win 16 (k0_pay2 i x3 x4 x2 x6 x7 x5)) (win 17 (k0_pay2 i x3 x4 x2 x6 x7 x5)) x18 x1 x8 x9 x10
    (bandW x19 0) (bandW x19 1) (bandW x19 2) (bandW x19 3) (puW x8 0) (puW x8 1) (puW x8 2) (puW x8 3)
    (pwW x20 0) (pwW x20 1) (pwW x20 2) (pwW x20 3) x21 x13 x14 x22 x15 x11 x23 x12
    (glW x0 0) (glW x0 1) (glW x0 2) (glW x0 3) (wbW x24 0) (wbW x24 1) (wbW x24 2) (wbW x24 3) x25 x16 (modW x17)

/-! ## The loads -/

/-- A load of a whole block reads the block. -/
theorem rdAll {S : Shape} {e : EltTy} (g : Memref sig .tc .vmem S e) (hg : g.IsWhole) (x : Vec F S e) (off : Fin S.rank → ℕ) (inb) (h : ∀ a, off a = 0) :
    View.readAt (Elt F) g.view (Rect.unit (s := S) off S.size inb).toLoadRect (hg.unread x) = x := by
  rw [View.readAt_eq_ld, hg.read_unread, View.ld_unit_lit]; exact h
theorem rdWin {S : Shape} {e : EltTy} (g : Memref sig .tc .vmem S e) (hg : g.IsWhole) (x : Vec F S e) (off : Fin S.rank → ℕ) (n : Fin S.rank → ℕ) (inb) :
    View.readAt (Elt F) g.view (Rect.unit (s := S) off n inb).toLoadRect (hg.unread x) = View.ld x (Rect.unit (s := S) off n inb) := by
  rw [View.readAt_eq_ld, hg.read_unread]

/-- A load through a window of the gated sequence reads that window of it. -/
theorem rdw (v : View sig .tc .vmem S544x512 .f32) (e : ℕ) (inb) (P : Vec F S544x512 .f32) (L : List (View.Piece (Elt F) S544x512 .f32)) (inb') :
    v.readCov (⟨Rect.unit (s := S544x512) ![0, 0] S544x512.size inb, P⟩ :: L)
      (Rect.unit (s := S544x512) ![e, 0] S512x512.size inb').toLoadRect = win e P := by
  rw [View.readCov_eq_canon']
  funext y
  have he : e + 512 ≤ 544 := inb' 0
  refine Eq.trans (congrArg _ ?_) (View.canon_cons_emb (Rect.unit (s := S544x512) ![0, 0] S544x512.size inb) P L
    (ix2 ⟨(y 0).val + e % 33, by have : (y 0).val < 512 := (y 0).isLt; omega⟩ ⟨(y 1).val, (y 1).isLt⟩ : S544x512.Idx))
  funext a; apply Fin.ext
  match a with
  | ⟨0, _⟩ => show e + 1 * (y 0).val = 0 + 1 * ((y 0).val + e % 33); omega
  | ⟨1, _⟩ => show 0 + 1 * (y 1).val = 0 + 1 * (y 1).val; omega

variable (c : Dev nD) (i : grid0.Coords)
    (arg2 : Memref sig .tc .vmem S1x512x4096 .bf16) (harg2 : arg2.IsWhole)
    (arg3 : Memref sig .tc .vmem S1x512x512 .bf16) (harg3 : arg3.IsWhole)
    (arg4 : Memref sig .tc .vmem S1x512x512 .bf16) (harg4 : arg4.IsWhole)
    (arg5 : Memref sig .tc .vmem S1x16x512 .bf16) (harg5 : arg5.IsWhole)
    (arg6 : Memref sig .tc .vmem S1x16x512 .bf16) (harg6 : arg6.IsWhole)
    (arg7 : Memref sig .tc .vmem S1x512x512 .bf16) (harg7 : arg7.IsWhole)
    (arg8 : Memref sig .tc .vmem S1x16x512 .bf16) (harg8 : arg8.IsWhole)
    (arg9 : Memref sig .tc .vmem S1x16x512 .bf16) (harg9 : arg9.IsWhole)
    (arg10 : Memref sig .tc .vmem S1x512x512 .bf16) (harg10 : arg10.IsWhole)
    (arg11 : Memref sig .tc .vmem S1x16x512 .bf16) (harg11 : arg11.IsWhole)
    (arg12 : Memref sig .tc .vmem S1x16x512 .bf16) (harg12 : arg12.IsWhole)
    (arg13 : Memref sig .tc .vmem S1x512x512 .bf16) (harg13 : arg13.IsWhole)
    (arg14 : Memref sig .tc .vmem S1x512x512 .bf16) (harg14 : arg14.IsWhole)
    (arg15 : Memref sig .tc .vmem S1x512x512 .bf16) (harg15 : arg15.IsWhole)
    (arg16 : Memref sig .tc .vmem S1x512x512 .bf16) (harg16 : arg16.IsWhole)
    (arg17 : Memref sig .tc .vmem S1x512x512 .bf16) (harg17 : arg17.IsWhole)
    (arg18 : Memref sig .tc .vmem S1x512x1024 .f32) (harg18 : arg18.IsWhole)
    (arg19 : Memref sig .tc .vmem S1x6x1024 .f32) (harg19 : arg19.IsWhole)
    (arg20 : Memref sig .tc .vmem S3x512 .f32) (harg20 : arg20.IsWhole)
    (arg21 : Memref sig .tc .vmem S4x128x160 .bf16) (harg21 : arg21.IsWhole)
    (arg22 : Memref sig .tc .vmem S1x4x128x128 .bf16) (harg22 : arg22.IsWhole)
    (arg23 : Memref sig .tc .vmem S1x512 .f32) (harg23 : arg23.IsWhole)
    (arg24 : Memref sig .tc .vmem S1x512 .f32) (harg24 : arg24.IsWhole)
    (arg25 : Memref sig .tc .vmem S1x512 .f32) (harg25 : arg25.IsWhole)
    (arg26 : Memref sig .tc .vmem S1x4x512x1024 .bf16) (harg26 : arg26.IsWhole)
    (arg27 : Memref sig .tc .vmem S1x1024x1024 .bf16) (harg27 : arg27.IsWhole)
    (arg28 : Memref sig .tc .vmem S1x512x1024 .f32) (harg28 : arg28.IsWhole)
    (arg29 : Memref sig .tc .vmem S544x512 .f32) (harg29 : arg29.IsWhole)
    (x0 : Vec F S1x512x4096 .bf16) (x1 : Vec F S1x512x512 .bf16) (x2 : Vec F S1x512x512 .bf16) (x3 : Vec F S1x16x512 .bf16) (x4 : Vec F S1x16x512 .bf16) (x5 : Vec F S1x512x512 .bf16) (x6 : Vec F S1x16x512 .bf16) (x7 : Vec F S1x16x512 .bf16) (x8 : Vec F S1x512x512 .bf16) (x9 : Vec F S1x16x512 .bf16) (x10 : Vec F S1x16x512 .bf16) (x11 : Vec F S1x512x512 .bf16) (x12 : Vec F S1x512x512 .bf16) (x13 : Vec F S1x512x512 .bf16) (x14 : Vec F S1x512x512 .bf16) (x15 : Vec F S1x512x512 .bf16) (x16 : Vec F S1x512x1024 .f32) (x17 : Vec F S1x6x1024 .f32) (x18 : Vec F S3x512 .f32) (x19 : Vec F S4x128x160 .bf16) (x20 : Vec F S1x4x128x128 .bf16) (x21 : Vec F S1x512 .f32) (x22 : Vec F S1x512 .f32) (x23 : Vec F S1x512 .f32) (x24 : Vec F S1x4x512x1024 .bf16) (x25 : Vec F S1x1024x1024 .bf16)

/-- The one piece that the body writes to the result. -/
theorem pieces_eq : (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 x0 x1 x2 x3 x4 x5 x6 x7 x8 x9 x10 x11 x12 x13 x14 x15 x16 x17 x18 x19 x20 x21 x22 x23 x24 x25).1
    = [⟨Rect.unit (s := S1x512x1024) ![0, 0, 0] S1x512x1024.size inb_S1x512x1024_S1x512x1024_0_0_0,
        outL i
          (arg29.view.readCov [⟨Rect.unit (s := S544x512) ![0, 0] S544x512.size inb_S544x512_S544x512_0_0, (k0_pay2 i (View.readAt (Elt F) arg5.view (Rect.unit (s := S1x16x512) ![0, 0, 0] S1x16x512.size inb_S1x16x512_S1x16x512_0_0_0).toLoadRect (harg5.unread x3)) (View.readAt (Elt F) arg6.view (Rect.unit (s := S1x16x512) ![0, 0, 0] S1x16x512.size inb_S1x16x512_S1x16x512_0_0_0).toLoadRect (harg6.unread x4)) (View.readAt (Elt F) arg4.view (Rect.unit (s := S1x512x512) ![0, 0, 0] S1x512x512.size inb_S1x512x512_S1x512x512_0_0_0).toLoadRect (harg4.unread x2)) (View.readAt (Elt F) arg8.view (Rect.unit (s := S1x16x512) ![0, 0, 0] S1x16x512.size inb_S1x16x512_S1x16x512_0_0_0).toLoadRect (harg8.unread x6)) (View.readAt (Elt F) arg9.view (Rect.unit (s := S1x16x512) ![0, 0, 0] S1x16x512.size inb_S1x16x512_S1x16x512_0_0_0).toLoadRect (harg9.unread x7)) (View.readAt (Elt F) arg7.view (Rect.unit (s := S1x512x512) ![0, 0, 0] S1x512x512.size inb_S1x512x512_S1x512x512_0_0_0).toLoadRect (harg7.unread x5)))⟩] (Rect.unit (s := S544x512) ![15, 0] S512x512.size inb_S544x512_S512x512_15_0).toLoadRect)
          (arg29.view.readCov [⟨Rect.unit (s := S544x512) ![0, 0] S544x512.size inb_S544x512_S544x512_0_0, (k0_pay2 i (View.readAt (Elt F) arg5.view (Rect.unit (s := S1x16x512) ![0, 0, 0] S1x16x512.size inb_S1x16x512_S1x16x512_0_0_0).toLoadRect (harg5.unread x3)) (View.readAt (Elt F) arg6.view (Rect.unit (s := S1x16x512) ![0, 0, 0] S1x16x512.size inb_S1x16x512_S1x16x512_0_0_0).toLoadRect (harg6.unread x4)) (View.readAt (Elt F) arg4.view (Rect.unit (s := S1x512x512) ![0, 0, 0] S1x512x512.size inb_S1x512x512_S1x512x512_0_0_0).toLoadRect (harg4.unread x2)) (View.readAt (Elt F) arg8.view (Rect.unit (s := S1x16x512) ![0, 0, 0] S1x16x512.size inb_S1x16x512_S1x16x512_0_0_0).toLoadRect (harg8.unread x6)) (View.readAt (Elt F) arg9.view (Rect.unit (s := S1x16x512) ![0, 0, 0] S1x16x512.size inb_S1x16x512_S1x16x512_0_0_0).toLoadRect (harg9.unread x7)) (View.readAt (Elt F) arg7.view (Rect.unit (s := S1x512x512) ![0, 0, 0] S1x512x512.size inb_S1x512x512_S1x512x512_0_0_0).toLoadRect (harg7.unread x5)))⟩] (Rect.unit (s := S544x512) ![16, 0] S512x512.size inb_S544x512_S512x512_16_0).toLoadRect)
          (arg29.view.readCov [⟨Rect.unit (s := S544x512) ![0, 0] S544x512.size inb_S544x512_S544x512_0_0, (k0_pay2 i (View.readAt (Elt F) arg5.view (Rect.unit (s := S1x16x512) ![0, 0, 0] S1x16x512.size inb_S1x16x512_S1x16x512_0_0_0).toLoadRect (harg5.unread x3)) (View.readAt (Elt F) arg6.view (Rect.unit (s := S1x16x512) ![0, 0, 0] S1x16x512.size inb_S1x16x512_S1x16x512_0_0_0).toLoadRect (harg6.unread x4)) (View.readAt (Elt F) arg4.view (Rect.unit (s := S1x512x512) ![0, 0, 0] S1x512x512.size inb_S1x512x512_S1x512x512_0_0_0).toLoadRect (harg4.unread x2)) (View.readAt (Elt F) arg8.view (Rect.unit (s := S1x16x512) ![0, 0, 0] S1x16x512.size inb_S1x16x512_S1x16x512_0_0_0).toLoadRect (harg8.unread x6)) (View.readAt (Elt F) arg9.view (Rect.unit (s := S1x16x512) ![0, 0, 0] S1x16x512.size inb_S1x16x512_S1x16x512_0_0_0).toLoadRect (harg9.unread x7)) (View.readAt (Elt F) arg7.view (Rect.unit (s := S1x512x512) ![0, 0, 0] S1x512x512.size inb_S1x512x512_S1x512x512_0_0_0).toLoadRect (harg7.unread x5)))⟩] (Rect.unit (s := S544x512) ![17, 0] S512x512.size inb_S544x512_S512x512_17_0).toLoadRect)
          (View.readAt (Elt F) arg20.view (Rect.unit (s := S3x512) ![0, 0] S3x512.size inb_S3x512_S3x512_0_0).toLoadRect (harg20.unread x18))
          (View.readAt (Elt F) arg3.view (Rect.unit (s := S1x512x512) ![0, 0, 0] S1x512x512.size inb_S1x512x512_S1x512x512_0_0_0).toLoadRect (harg3.unread x1))
          (View.readAt (Elt F) arg10.view (Rect.unit (s := S1x512x512) ![0, 0, 0] S1x512x512.size inb_S1x512x512_S1x512x512_0_0_0).toLoadRect (harg10.unread x8))
          (View.readAt (Elt F) arg11.view (Rect.unit (s := S1x16x512) ![0, 0, 0] S1x16x512.size inb_S1x16x512_S1x16x512_0_0_0).toLoadRect (harg11.unread x9))
          (View.readAt (Elt F) arg12.view (Rect.unit (s := S1x16x512) ![0, 0, 0] S1x16x512.size inb_S1x16x512_S1x16x512_0_0_0).toLoadRect (harg12.unread x10))
          (View.readAt (Elt F) arg21.view (Rect.unit (s := S4x128x160) ![0, 0, 0] S1x128x160.size inb_S4x128x160_S1x128x160_0_0_0).toLoadRect (harg21.unread x19))
          (View.readAt (Elt F) arg21.view (Rect.unit (s := S4x128x160) ![1, 0, 0] S1x128x160.size inb_S4x128x160_S1x128x160_1_0_0).toLoadRect (harg21.unread x19))
          (View.readAt (Elt F) arg21.view (Rect.unit (s := S4x128x160) ![2, 0, 0] S1x128x160.size inb_S4x128x160_S1x128x160_2_0_0).toLoadRect (harg21.unread x19))
          (View.readAt (Elt F) arg21.view (Rect.unit (s := S4x128x160) ![3, 0, 0] S1x128x160.size inb_S4x128x160_S1x128x160_3_0_0).toLoadRect (harg21.unread x19))
          (View.readAt (Elt F) arg10.view (Rect.unit (s := S1x512x512) ![0, 0, 0] S1x512x128.size inb_S1x512x512_S1x512x128_0_0_0).toLoadRect (harg10.unread x8))
          (View.readAt (Elt F) arg10.view (Rect.unit (s := S1x512x512) ![0, 0, 128] S1x512x128.size inb_S1x512x512_S1x512x128_0_0_128).toLoadRect (harg10.unread x8))
          (View.readAt (Elt F) arg10.view (Rect.unit (s := S1x512x512) ![0, 0, 256] S1x512x128.size inb_S1x512x512_S1x512x128_0_0_256).toLoadRect (harg10.unread x8))
          (View.readAt (Elt F) arg10.view (Rect.unit (s := S1x512x512) ![0, 0, 384] S1x512x128.size inb_S1x512x512_S1x512x128_0_0_384).toLoadRect (harg10.unread x8))
          (View.readAt (Elt F) arg22.view (Rect.unit (s := S1x4x128x128) ![0, 0, 0, 0] S1x1x128x128.size inb_S1x4x128x128_S1x1x128x128_0_0_0_0).toLoadRect (harg22.unread x20))
          (View.readAt (Elt F) arg22.view (Rect.unit (s := S1x4x128x128) ![0, 1, 0, 0] S1x1x128x128.size inb_S1x4x128x128_S1x1x128x128_0_1_0_0).toLoadRect (harg22.unread x20))
          (View.readAt (Elt F) arg22.view (Rect.unit (s := S1x4x128x128) ![0, 2, 0, 0] S1x1x128x128.size inb_S1x4x128x128_S1x1x128x128_0_2_0_0).toLoadRect (harg22.unread x20))
          (View.readAt (Elt F) arg22.view (Rect.unit (s := S1x4x128x128) ![0, 3, 0, 0] S1x1x128x128.size inb_S1x4x128x128_S1x1x128x128_0_3_0_0).toLoadRect (harg22.unread x20))
          (View.readAt (Elt F) arg23.view (Rect.unit (s := S1x512) ![0, 0] S1x512.size inb_S1x512_S1x512_0_0).toLoadRect (harg23.unread x21))
          (View.readAt (Elt F) arg15.view (Rect.unit (s := S1x512x512) ![0, 0, 0] S1x512x512.size inb_S1x512x512_S1x512x512_0_0_0).toLoadRect (harg15.unread x13))
          (View.readAt (Elt F) arg16.view (Rect.unit (s := S1x512x512) ![0, 0, 0] S1x512x512.size inb_S1x512x512_S1x512x512_0_0_0).toLoadRect (harg16.unread x14))
          (View.readAt (Elt F) arg24.view (Rect.unit (s := S1x512) ![0, 0] S1x512.size inb_S1x512_S1x512_0_0).toLoadRect (harg24.unread x22))
          (View.readAt (Elt F) arg17.view (Rect.unit (s := S1x512x512) ![0, 0, 0] S1x512x512.size inb_S1x512x512_S1x512x512_0_0_0).toLoadRect (harg17.unread x15))
          (View.readAt (Elt F) arg13.view (Rect.unit (s := S1x512x512) ![0, 0, 0] S1x512x512.size inb_S1x512x512_S1x512x512_0_0_0).toLoadRect (harg13.unread x11))
          (View.readAt (Elt F) arg25.view (Rect.unit (s := S1x512) ![0, 0] S1x512.size inb_S1x512_S1x512_0_0).toLoadRect (harg25.unread x23))
          (View.readAt (Elt F) arg14.view (Rect.unit (s := S1x512x512) ![0, 0, 0] S1x512x512.size inb_S1x512x512_S1x512x512_0_0_0).toLoadRect (harg14.unread x12))
          (View.readAt (Elt F) arg2.view (Rect.unit (s := S1x512x4096) ![0, 0, 0] S1x512x1024.size inb_S1x512x4096_S1x512x1024_0_0_0).toLoadRect (harg2.unread x0))
          (View.readAt (Elt F) arg2.view (Rect.unit (s := S1x512x4096) ![0, 0, 1024] S1x512x1024.size inb_S1x512x4096_S1x512x1024_0_0_1024).toLoadRect (harg2.unread x0))
          (View.readAt (Elt F) arg2.view (Rect.unit (s := S1x512x4096) ![0, 0, 2048] S1x512x1024.size inb_S1x512x4096_S1x512x1024_0_0_2048).toLoadRect (harg2.unread x0))
          (View.readAt (Elt F) arg2.view (Rect.unit (s := S1x512x4096) ![0, 0, 3072] S1x512x1024.size inb_S1x512x4096_S1x512x1024_0_0_3072).toLoadRect (harg2.unread x0))
          (View.readAt (Elt F) arg26.view (Rect.unit (s := S1x4x512x1024) ![0, 0, 0, 0] S1x1x512x1024.size inb_S1x4x512x1024_S1x1x512x1024_0_0_0_0).toLoadRect (harg26.unread x24))
          (View.readAt (Elt F) arg26.view (Rect.unit (s := S1x4x512x1024) ![0, 1, 0, 0] S1x1x512x1024.size inb_S1x4x512x1024_S1x1x512x1024_0_1_0_0).toLoadRect (harg26.unread x24))
          (View.readAt (Elt F) arg26.view (Rect.unit (s := S1x4x512x1024) ![0, 2, 0, 0] S1x1x512x1024.size inb_S1x4x512x1024_S1x1x512x1024_0_2_0_0).toLoadRect (harg26.unread x24))
          (View.readAt (Elt F) arg26.view (Rect.unit (s := S1x4x512x1024) ![0, 3, 0, 0] S1x1x512x1024.size inb_S1x4x512x1024_S1x1x512x1024_0_3_0_0).toLoadRect (harg26.unread x24))
          (View.readAt (Elt F) arg27.view (Rect.unit (s := S1x1024x1024) ![0, 0, 0] S1x1024x1024.size inb_S1x1024x1024_S1x1024x1024_0_0_0).toLoadRect (harg27.unread x25))
          (View.readAt (Elt F) arg18.view (Rect.unit (s := S1x512x1024) ![0, 0, 0] S1x512x1024.size inb_S1x512x1024_S1x512x1024_0_0_0).toLoadRect (harg18.unread x16))
          (View.readAt (Elt F) arg19.view (Rect.unit (s := S1x6x1024) ![0, 2, 0] S1x1x1024.size inb_S1x6x1024_S1x1x1024_0_2_0).toLoadRect (harg19.unread x17))⟩] := rfl

set_option maxHeartbeats 4000000 in
theorem out_eq : out0_A_26 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 x0 x1 x2 x3 x4 x5 x6 x7 x8 x9 x10 x11 x12 x13 x14 x15 x16 x17 x18 x19 x20 x21 x22 x23 x24 x25
    = outV i x0 x1 x2 x3 x4 x5 x6 x7 x8 x9 x10 x11 x12 x13 x14 x15 x16 x17 x18 x19 x20 x21 x22 x23 x24 x25 := by
  have h0 : (![0, 0, 0] : Fin 3 → ℕ) = fun _ => 0 := by funext a; fin_cases a <;> rfl
  have e1 := rdAll arg3 harg3 x1 ![0, 0, 0] inb_S1x512x512_S1x512x512_0_0_0 (by intro a; fin_cases a <;> rfl)
  have e2 := rdAll arg4 harg4 x2 ![0, 0, 0] inb_S1x512x512_S1x512x512_0_0_0 (by intro a; fin_cases a <;> rfl)
  have e3 := rdAll arg5 harg5 x3 ![0, 0, 0] inb_S1x16x512_S1x16x512_0_0_0 (by intro a; fin_cases a <;> rfl)
  have e4 := rdAll arg6 harg6 x4 ![0, 0, 0] inb_S1x16x512_S1x16x512_0_0_0 (by intro a; fin_cases a <;> rfl)
  have e5 := rdAll arg7 harg7 x5 ![0, 0, 0] inb_S1x512x512_S1x512x512_0_0_0 (by intro a; fin_cases a <;> rfl)
  have e6 := rdAll arg8 harg8 x6 ![0, 0, 0] inb_S1x16x512_S1x16x512_0_0_0 (by intro a; fin_cases a <;> rfl)
  have e7 := rdAll arg9 harg9 x7 ![0, 0, 0] inb_S1x16x512_S1x16x512_0_0_0 (by intro a; fin_cases a <;> rfl)
  have e8 := rdAll arg10 harg10 x8 ![0, 0, 0] inb_S1x512x512_S1x512x512_0_0_0 (by intro a; fin_cases a <;> rfl)
  have e9 := rdAll arg11 harg11 x9 ![0, 0, 0] inb_S1x16x512_S1x16x512_0_0_0 (by intro a; fin_cases a <;> rfl)
  have e10 := rdAll arg12 harg12 x10 ![0, 0, 0] inb_S1x16x512_S1x16x512_0_0_0 (by intro a; fin_cases a <;> rfl)
  have e11 := rdAll arg13 harg13 x11 ![0, 0, 0] inb_S1x512x512_S1x512x512_0_0_0 (by intro a; fin_cases a <;> rfl)
  have e12 := rdAll arg14 harg14 x12 ![0, 0, 0] inb_S1x512x512_S1x512x512_0_0_0 (by intro a; fin_cases a <;> rfl)
  have e13 := rdAll arg15 harg15 x13 ![0, 0, 0] inb_S1x512x512_S1x512x512_0_0_0 (by intro a; fin_cases a <;> rfl)
  have e14 := rdAll arg16 harg16 x14 ![0, 0, 0] inb_S1x512x512_S1x512x512_0_0_0 (by intro a; fin_cases a <;> rfl)
  have e15 := rdAll arg17 harg17 x15 ![0, 0, 0] inb_S1x512x512_S1x512x512_0_0_0 (by intro a; fin_cases a <;> rfl)
  have e16 := rdAll arg18 harg18 x16 ![0, 0, 0] inb_S1x512x1024_S1x512x1024_0_0_0 (by intro a; fin_cases a <;> rfl)
  have e18 := rdAll arg20 harg20 x18 ![0, 0] inb_S3x512_S3x512_0_0 (by intro a; fin_cases a <;> rfl)
  have e21 := rdAll arg23 harg23 x21 ![0, 0] inb_S1x512_S1x512_0_0 (by intro a; fin_cases a <;> rfl)
  have e22 := rdAll arg24 harg24 x22 ![0, 0] inb_S1x512_S1x512_0_0 (by intro a; fin_cases a <;> rfl)
  have e23 := rdAll arg25 harg25 x23 ![0, 0] inb_S1x512_S1x512_0_0 (by intro a; fin_cases a <;> rfl)
  have e25 := rdAll arg27 harg27 x25 ![0, 0, 0] inb_S1x1024x1024_S1x1024x1024_0_0_0 (by intro a; fin_cases a <;> rfl)
  rw [out0_A_26, pieces_eq, View.read_writes_junk_eq_canon]
  refine (View.canon_unit_zero h0 _ _).trans ?_
  rw [rdw, rdw, rdw, e1, e2, e3, e4, e5, e6, e7, e8, e9, e10, e11, e12, e13, e14, e15, e16, e18, e21, e22, e23, e25]
  rw [rdWin arg21 harg21 x19 ![0, 0, 0], rdWin arg21 harg21 x19 ![1, 0, 0], rdWin arg21 harg21 x19 ![2, 0, 0], rdWin arg21 harg21 x19 ![3, 0, 0], rdWin arg10 harg10 x8 ![0, 0, 0], rdWin arg10 harg10 x8 ![0, 0, 128], rdWin arg10 harg10 x8 ![0, 0, 256], rdWin arg10 harg10 x8 ![0, 0, 384], rdWin arg22 harg22 x20 ![0, 0, 0, 0], rdWin arg22 harg22 x20 ![0, 1, 0, 0], rdWin arg22 harg22 x20 ![0, 2, 0, 0], rdWin arg22 harg22 x20 ![0, 3, 0, 0], rdWin arg2 harg2 x0 ![0, 0, 0], rdWin arg2 harg2 x0 ![0, 0, 1024], rdWin arg2 harg2 x0 ![0, 0, 2048], rdWin arg2 harg2 x0 ![0, 0, 3072], rdWin arg26 harg26 x24 ![0, 0, 0, 0], rdWin arg26 harg26 x24 ![0, 1, 0, 0], rdWin arg26 harg26 x24 ![0, 2, 0, 0], rdWin arg26 harg26 x24 ![0, 3, 0, 0], rdWin arg19 harg19 x17 ![0, 2, 0]]
  rfl

end Cert.MergeIdeal.Body

end
-- ==== Proof.MergeMath.lean ====
/-
  The mathematics of the merge over the extended reals: the gates, the window sums of the pooling branch and the
  words of its counts.
-/
module

public import proofs.«01_k».proof.Proof.FfnMath
public import Idealize.ShloMosaic.PureOps.ShapeOps
public import Idealize.ShloMosaic.Lib.WordCmp

@[expose] public section

noncomputable section

namespace Cert.MergeMath

open Idealize.ShloMosaic
open Cert.FfnMath

/-- Two. -/
def two : EReal := ((2 : ℝ) : EReal)

theorem ofBits_two : Ideal.ofBits FTy.f32 0x40000000#32 = two := by
  simp [Ideal.ofBits, Ideal.ieee, two]
  try rw [← EReal.coe_mul]
  try norm_num

/-- Half of `tanh p + 1` is the logistic of twice `p`. -/
theorem gate2 (p : EReal) : half * (Ideal.tanh p + 1) = Ideal.div 1 (1 + Ideal.exp (-(two * p))) := by
  show _ = Ideal.logistic (two * p)
  induction p with
  | bot =>
    have h : two * ⊥ = ⊥ := EReal.coe_mul_bot_of_pos (by norm_num)
    rw [h, Ideal.tanh_bot, Ideal.logistic_bot]
    have : (-1 + 1 : EReal) = 0 := by
      rw [show (-1 : EReal) = ((-1 : ℝ) : EReal) by simp, show (1 : EReal) = ((1 : ℝ) : EReal) by simp, ← EReal.coe_add]; simp
    rw [this, mul_zero]
  | top =>
    have h : two * ⊤ = ⊤ := EReal.coe_mul_top_of_pos (by norm_num)
    rw [h, Ideal.tanh_top, Ideal.logistic_top]
    unfold half
    rw [show (1 : EReal) = ((1 : ℝ) : EReal) by simp, ← EReal.coe_add, ← EReal.coe_mul]; norm_num
  | coe x =>
    have h : two * (x : EReal) = ((2 * x : ℝ) : EReal) := by unfold two; rw [← EReal.coe_mul]
    unfold half
    rw [h, Ideal.tanh_coe, Ideal.logistic_coe, show (1 : EReal) = ((1 : ℝ) : EReal) by simp, ← EReal.coe_add, ← EReal.coe_mul]
    congr 1
    have e : Real.exp (-(2 * x)) = Real.exp (-x) / Real.exp x := by
      rw [← Real.exp_sub]; congr 1; ring
    rw [Real.tanh_eq_sinh_div_cosh, Real.sinh_eq, Real.cosh_eq, e]
    have p1 := Real.exp_pos x
    have p2 := Real.exp_pos (-x)
    field_simp
    ring

/-- The four gated branches, halved at the end, are the four branches under their logistic gates. -/
theorem merge4 (p0 p1 p2 p3 X0 X1 X2 X3 : EReal) :
    half * ((Ideal.tanh p0 + 1) * X0 + (Ideal.tanh p1 + 1) * X1 + (Ideal.tanh p2 + 1) * X2 + (Ideal.tanh p3 + 1) * X3)
      = Ideal.div 1 (1 + Ideal.exp (-(two * p0))) * X0 + Ideal.div 1 (1 + Ideal.exp (-(two * p1))) * X1
        + Ideal.div 1 (1 + Ideal.exp (-(two * p2))) * X2 + Ideal.div 1 (1 + Ideal.exp (-(two * p3))) * X3 := by
  rw [half_add, half_add, half_add, ← mul_assoc, ← mul_assoc, ← mul_assoc, ← mul_assoc, gate2, gate2, gate2, gate2]

/-- A sum over part of the positions that a window touches, where the function vanishes at the window's other positions,
    is the sum over the window. -/
theorem sum_window (N B a b : ℕ) (F : ℕ → EReal) (h : ∀ n, a ≤ n → n < b → ¬ (B ≤ n ∧ n < B + N) → F n = 0) :
    ∑ k : Fin N, (if a ≤ B + k.val ∧ B + k.val < b then F (B + k.val) else 0) = ∑ n ∈ Finset.Ico a b, F n := by
  rw [Fin.sum_univ_eq_sum_range (fun k => if a ≤ B + k ∧ B + k < b then F (B + k) else 0) N]
  have e := Finset.sum_Ico_eq_sum_range (fun n => if a ≤ n ∧ n < b then F n else 0) B (B + N)
  rw [Nat.add_sub_cancel_left] at e
  rw [← e, ← Finset.sum_filter]
  refine Finset.sum_subset ?_ ?_
  · intro n hn
    simp only [Finset.mem_filter, Finset.mem_Ico] at hn ⊢
    exact hn.2
  · intro n hn hn'
    simp only [Finset.mem_filter, Finset.mem_Ico] at hn hn'
    exact h n hn.1 hn.2 (fun hh => hn' ⟨hh, hn⟩)

/-! ## The words -/

/-- The count of the tokens within reach, as the kernel's words give it, is the one from the clipped ends. -/
def cntK (h : BitVec 32) (pos : BitVec 32) : BitVec 32 :=
  IntOp.addi (IntOp.minsi pos h) (IntOp.minsi (IntOp.subi 8192#32 pos) h)
def cntR (h : BitVec 32) (pos : BitVec 32) : BitVec 32 :=
  IntOp.subi (IntOp.minsi 8192#32 (IntOp.maxsi 0#32 (IntOp.addi pos h))) (IntOp.minsi 8192#32 (IntOp.maxsi 0#32 (IntOp.subi pos h)))

theorem toInt_small {n : ℕ} (h : n < 16384) : (BitVec.ofNat 32 n).toInt = (n : Int) := WordCmp.toInt_ofNat_of_lt (by omega)

theorem toInt_sub {a b : ℕ} (ha : a < 16384) (hb : b < 16384) : (IntOp.subi (BitVec.ofNat 32 a) (BitVec.ofNat 32 b)).toInt = (a : Int) - b := by
  show (BitVec.ofNat 32 a - BitVec.ofNat 32 b).toInt = _
  rw [BitVec.toInt_sub, toInt_small ha, toInt_small hb, Int.bmod_def]
  omega

theorem toInt_add {a b : ℕ} (ha : a < 16384) (hb : b < 16384) : (IntOp.addi (BitVec.ofNat 32 a) (BitVec.ofNat 32 b)).toInt = (a : Int) + b := by
  show (BitVec.ofNat 32 a + BitVec.ofNat 32 b).toInt = _
  rw [BitVec.toInt_add, toInt_small ha, toInt_small hb, Int.bmod_def]
  omega

theorem toInt_min (x y : BitVec 32) : (IntOp.minsi x y).toInt = min x.toInt y.toInt := by
  unfold IntOp.minsi
  rw [BitVec.slt_eq_decide]
  split_ifs with h
  · simp only [decide_eq_true_eq] at h; omega
  · simp only [decide_eq_true_eq] at h; omega

theorem toInt_max (x y : BitVec 32) : (IntOp.maxsi x y).toInt = max x.toInt y.toInt := by
  unfold IntOp.maxsi
  rw [BitVec.slt_eq_decide]
  split_ifs with h
  · simp only [decide_eq_true_eq] at h; omega
  · simp only [decide_eq_true_eq] at h; omega

/-- A position's word is its block's start plus its offset. -/
theorem pos_word (j r : ℕ) : IntOp.addi (Scalar.muli (BitVec.ofNat 32 j) 512#32) (BitVec.ofNat 32 r) = BitVec.ofNat 32 (512 * j + r) := by
  show BitVec.ofNat 32 j * 512#32 + BitVec.ofNat 32 r = _
  rw [show (512#32 : BitVec 32) = BitVec.ofNat 32 512 from rfl, ← BitVec.ofNat_mul, ← BitVec.ofNat_add, Nat.mul_comm]

theorem cnt_eq (h t : ℕ) (h1 : h ≤ 8) (ht : t < 8192) : (cntK (BitVec.ofNat 32 h) (BitVec.ofNat 32 t)).toInt = (cntR (BitVec.ofNat 32 h) (BitVec.ofNat 32 t)).toInt := by
  have s8 : (8192#32 : BitVec 32) = BitVec.ofNat 32 8192 := rfl
  have z8 : (0#32 : BitVec 32).toInt = 0 := rfl
  have e8 : (8192#32 : BitVec 32).toInt = 8192 := rfl
  have m1 : (IntOp.minsi (BitVec.ofNat 32 t) (BitVec.ofNat 32 h)).toInt = min (t : Int) h := by
    rw [toInt_min, toInt_small (by omega), toInt_small (by omega)]
  have m2 : (IntOp.minsi (IntOp.subi 8192#32 (BitVec.ofNat 32 t)) (BitVec.ofNat 32 h)).toInt = min (8192 - (t : Int)) h := by
    rw [toInt_min, s8, toInt_sub (by omega) (by omega), toInt_small (by omega)]; rfl
  have m3 : (IntOp.minsi 8192#32 (IntOp.maxsi 0#32 (IntOp.addi (BitVec.ofNat 32 t) (BitVec.ofNat 32 h)))).toInt = min 8192 (max 0 ((t : Int) + h)) := by
    rw [toInt_min, toInt_max, toInt_add (by omega) (by omega), z8, e8]
  have m4 : (IntOp.minsi 8192#32 (IntOp.maxsi 0#32 (IntOp.subi (BitVec.ofNat 32 t) (BitVec.ofNat 32 h)))).toInt = min 8192 (max 0 ((t : Int) - h)) := by
    rw [toInt_min, toInt_max, toInt_sub (by omega) (by omega), z8, e8]
  have l : (cntK (BitVec.ofNat 32 h) (BitVec.ofNat 32 t)).toInt = min (t : Int) h + min (8192 - (t : Int)) h := by
    show (IntOp.minsi (BitVec.ofNat 32 t) (BitVec.ofNat 32 h) + IntOp.minsi (IntOp.subi 8192#32 (BitVec.ofNat 32 t)) (BitVec.ofNat 32 h)).toInt = _
    rw [BitVec.toInt_add, m1, m2, Int.bmod_def]
    omega
  have r : (cntR (BitVec.ofNat 32 h) (BitVec.ofNat 32 t)).toInt = min 8192 (max 0 ((t : Int) + h)) - min 8192 (max 0 ((t : Int) - h)) := by
    show (IntOp.minsi 8192#32 (IntOp.maxsi 0#32 (IntOp.addi (BitVec.ofNat 32 t) (BitVec.ofNat 32 h)))
      - IntOp.minsi 8192#32 (IntOp.maxsi 0#32 (IntOp.subi (BitVec.ofNat 32 t) (BitVec.ofNat 32 h)))).toInt = _
    rw [BitVec.toInt_sub, m3, m4, Int.bmod_def]
    omega
  rw [l, r]
  omega

theorem near (h : ℕ) (h1 : h ≤ 8) (t k : Fin 8192) :
    IntOp.andi (IntOp.cmpi CmpIPredicate.sge (BitVec.ofNat 32 k.val) (IntOp.subi (BitVec.ofNat 32 t.val) (BitVec.ofNat 32 h)))
        (IntOp.cmpi CmpIPredicate.slt (BitVec.ofNat 32 k.val) (IntOp.addi (BitVec.ofNat 32 t.val) (BitVec.ofNat 32 h)))
      = BitVec.ofBool (decide (t.val ≤ k.val + h ∧ k.val < t.val + h)) := by
  have hk : (BitVec.ofNat 32 k.val).toInt = (k.val : Int) := WordCmp.toInt_ofNat_of_lt (by have := k.isLt; omega)
  have e1 : IntOp.cmpi CmpIPredicate.sge (BitVec.ofNat 32 k.val) (IntOp.subi (BitVec.ofNat 32 t.val) (BitVec.ofNat 32 h)) = BitVec.ofBool (decide (t.val ≤ k.val + h)) := by
    show BitVec.ofBool (decide ((IntOp.subi (BitVec.ofNat 32 t.val) (BitVec.ofNat 32 h)).toInt ≤ (BitVec.ofNat 32 k.val).toInt)) = _
    rw [toInt_sub (by omega) (by omega), hk]
    congr 1; simp only [decide_eq_decide]; omega
  have e2 : IntOp.cmpi CmpIPredicate.slt (BitVec.ofNat 32 k.val) (IntOp.addi (BitVec.ofNat 32 t.val) (BitVec.ofNat 32 h)) = BitVec.ofBool (decide (k.val < t.val + h)) := by
    show BitVec.ofBool (decide ((BitVec.ofNat 32 k.val).toInt < (IntOp.addi (BitVec.ofNat 32 t.val) (BitVec.ofNat 32 h)).toInt)) = _
    rw [toInt_add (by omega) (by omega), hk]
    congr 1; simp only [decide_eq_decide]; omega
  rw [e1, e2, WordCmp.andi_ofBool]
  congr 1
  simp

end Cert.MergeMath

end
-- ==== Proof.MergePays.lean ====
/-
  The merge call's arithmetic at an index, over the exact values.
-/
module

public import proofs.«01_k».proof.Proof.Gen.MergeIdeal.Skeleton
public import proofs.«01_k».proof.Proof.MergeMath
public import Idealize.ShloMosaic.Lib.Pointwise

@[expose] public section

set_option maxRecDepth 16384

noncomputable section

namespace Cert.MergeIdeal.Pays

open Cert.MergeIdeal Cert.MergeIdeal.Gen Cert.MergeMath
open Idealize.ShloMosaic Idealize.ShloMosaic.TcCoe Idealize.ShloMosaic.Tactic
open Idealize.ShloMosaic.Pointwise

/-- The words that say whether the block has rows before it, and rows after it. -/
abbrev wLo (j : ℕ) : BitVec 1 := Scalar.cmpi .sgt (BitVec.ofNat 32 j) 0#32
abbrev wHi (j : ℕ) : BitVec 1 := Scalar.cmpi .slt (BitVec.ofNat 32 j) 15#32

/-- A block with 16 rows on either side, those outside the sequence zero. -/
def ext (v0 v1 : BitVec 1) (a b : Vec Ideal S1x16x512 .bf16) (m : Vec Ideal S1x512x512 .bf16) (r : Fin 544) (n : Fin 512) : EReal :=
  if h : r.val < 16 then Scalar.select v0 (a (ix3 0 ⟨r.val, h⟩ n)) 0
  else if h' : r.val - 16 < 512 then m (ix3 0 ⟨r.val - 16, h'⟩ n)
  else Scalar.select v1 (b (ix3 0 ⟨r.val - 16 - 512, by have := r.isLt; omega⟩ n)) 0

theorem select_apply {ι : Type} (w : BitVec 1) (x y : ι → EReal) (i : ι) : (Scalar.select w x y) i = Scalar.select w (x i) (y i) := by
  unfold Scalar.select; split <;> rfl

theorem pay4_apply (v0 v1 : BitVec 1) (a b : Vec Ideal S1x16x512 .bf16) (m : Vec Ideal S1x512x512 .bf16) (r : Fin 544) (n : Fin 512) :
    k0_pay4 (F := Ideal) v0 v1 a b m (ix2 r n) = ext v0 v1 a b m r n := by
  pointwise [k0_pay4]
  all_goals simp only [select_apply, ext]

theorem pay2_apply (i : grid0.Coords) (v2 v6 : Vec Ideal S1x16x512 .bf16) (v10 : Vec Ideal S1x512x512 .bf16) (v14 v18 : Vec Ideal S1x16x512 .bf16)
    (v22 : Vec Ideal S1x512x512 .bf16) (r : Fin 544) (n : Fin 512) :
    k0_pay2 (F := Ideal) i v2 v6 v10 v14 v18 v22 (ix2 r n)
      = ext (wLo (i 1).val) (wHi (i 1).val) v2 v6 v10 r n * ext (wLo (i 1).val) (wHi (i 1).val) v14 v18 v22 r n := by
  rw [← pay4_apply, ← pay4_apply]
  pointwise [k0_pay2, k0_pay4]

theorem pay3_apply (v30 : Vec Ideal S3x512 .f32) (v32 v36 v41 : Vec Ideal S512x512 .f32) (v45 : Vec Ideal S1x512x512 .bf16) (r n : Fin 512) :
    k0_pay3 (F := Ideal) v30 v32 v36 v41 v45 (ix2 r n)
      = v45 (ix3 0 r n) * (v30 (ix2 0 n) * v32 (ix2 r n) + v30 (ix2 1 n) * v36 (ix2 r n) + v30 (ix2 2 n) * v41 (ix2 r n)) := by
  pointwise [k0_pay3]

theorem pay5_apply (j : ℕ) (r : Fin 512) (e : Fin 128) :
    k0_pay5 (BitVec.ofNat 32 j) (ix2 r e) = BitVec.ofNat 32 (512 * j + r.val) := by
  rw [← pos_word]
  pointwise [k0_pay5]
  all_goals rfl

/-- One of four, by the group of 128. -/
def four (f0 f1 f2 f3 : Fin 128 → EReal) (r : Fin 512) : EReal :=
  if h : r.val < 128 then f0 ⟨r.val, h⟩
  else if h' : r.val - 128 < 128 then f1 ⟨r.val - 128, h'⟩
  else if h'' : r.val - 128 - 128 < 128 then f2 ⟨r.val - 128 - 128, h''⟩
  else f3 ⟨r.val - 128 - 128 - 128, by have := r.isLt; omega⟩

theorem four_eq (f : ℕ → Fin 128 → EReal) (r : Fin 512) : four (f 0) (f 1) (f 2) (f 3) r = f (r.val / 128) ⟨r.val % 128, by omega⟩ := by
  unfold four
  have hr := r.isLt
  split_ifs with h h' h''
  · rw [show r.val / 128 = 0 by omega]; congr 1; apply Fin.ext; show r.val = r.val % 128; omega
  · rw [show r.val / 128 = 1 by omega]; congr 1; apply Fin.ext; show r.val - 128 = r.val % 128; omega
  · rw [show r.val / 128 = 2 by omega]; congr 1; apply Fin.ext; show r.val - 128 - 128 = r.val % 128; omega
  · rw [show r.val / 128 = 3 by omega]; congr 1; apply Fin.ext; show r.val - 128 - 128 - 128 = r.val % 128; omega

/-- A band's product with 160 of the rows, from row `128 * q`. -/
def tot (b : Vec Ideal S1x128x160 .bf16) (p : FVec Ideal S544x512 .bf16) (g : Fin 4) (e : Fin 128) (q : ℕ) (s : Fin 128) : EReal :=
  ∑ k : Fin 160, b (ix3 0 s k) * p (ix2 ⟨128 * (q % 4) + k.val, by omega⟩ ⟨128 * g.val + e.val, by omega⟩)

theorem pay6_raw (p : FVec Ideal S544x512 .bf16) (v63 : IVec S512x128 32) (b : Vec Ideal S1x128x160 .bf16) (u : Vec Ideal S1x512x128 .bf16)
    (w : Vec Ideal S1x1x128x128 .bf16) (r : Fin 512) (e : Fin 128) :
    k0_pay6 (F := Ideal) p v63 b b b b u w (ix2 r e)
      = ∑ c : Fin 128, (Ideal.div (four (fun s => ∑ k : Fin 160, b (ix3 0 s k) * p (ix2 ⟨k.val, by omega⟩ ⟨c.val, by omega⟩)) (fun s => ∑ k : Fin 160, b (ix3 0 s k) * p (ix2 ⟨128 + k.val, by omega⟩ ⟨c.val, by omega⟩)) (fun s => ∑ k : Fin 160, b (ix3 0 s k) * p (ix2 ⟨256 + k.val, by omega⟩ ⟨c.val, by omega⟩)) (fun s => ∑ k : Fin 160, b (ix3 0 s k) * p (ix2 ⟨384 + k.val, by omega⟩ ⟨c.val, by omega⟩)) r)
          (((cntK (BitVec.ofNat 32 1) (v63 (ix2 r c))).toInt : ℝ) : EReal) - u (ix3 0 r c)) * w (ix4 0 0 c e) := by
  pointwise [k0_pay6]
  all_goals rfl

theorem pay6_apply (p : FVec Ideal S544x512 .bf16) (v63 : IVec S512x128 32) (b : Vec Ideal S1x128x160 .bf16) (u : Vec Ideal S1x512x128 .bf16)
    (w : Vec Ideal S1x1x128x128 .bf16) (r : Fin 512) (e : Fin 128) :
    k0_pay6 (F := Ideal) p v63 b b b b u w (ix2 r e)
      = ∑ c : Fin 128, (Ideal.div (tot b p 0 c (r.val / 128) ⟨r.val % 128, by omega⟩)
          (((cntK (BitVec.ofNat 32 1) (v63 (ix2 r c))).toInt : ℝ) : EReal) - u (ix3 0 r c)) * w (ix4 0 0 c e) := by
  rw [pay6_raw]
  refine Finset.sum_congr rfl fun c _ => ?_
  refine congrArg (fun t => (Ideal.div t _ - _) * _) ?_
  rw [← four_eq (tot b p 0 c) r]
  unfold four tot
  refine dite_congr rfl (fun _ => ?_) (fun _ => dite_congr rfl (fun _ => ?_) (fun _ => dite_congr rfl (fun _ => ?_) (fun _ => ?_)))
  all_goals
    refine Finset.sum_congr rfl fun k _ => ?_
    refine congrArg (fun z => _ * p z) ?_
    refine congrArg₂ ix2 (Fin.ext ?_) (Fin.ext ?_)
  all_goals
    first
      | rfl
      | (show k.val = 128 * 0 + k.val; omega)
      | (show c.val = 128 * 0 + c.val; omega)

theorem pay7_raw (p : FVec Ideal S544x512 .bf16) (v63 : IVec S512x128 32) (b : Vec Ideal S1x128x160 .bf16) (u : Vec Ideal S1x512x128 .bf16)
    (w : Vec Ideal S1x1x128x128 .bf16) (r : Fin 512) (e : Fin 128) :
    k0_pay7 (F := Ideal) p v63 b b b b u w (ix2 r e)
      = ∑ c : Fin 128, (Ideal.div (four (fun s => ∑ k : Fin 160, b (ix3 0 s k) * p (ix2 ⟨k.val, by omega⟩ ⟨128 + c.val, by omega⟩)) (fun s => ∑ k : Fin 160, b (ix3 0 s k) * p (ix2 ⟨128 + k.val, by omega⟩ ⟨128 + c.val, by omega⟩)) (fun s => ∑ k : Fin 160, b (ix3 0 s k) * p (ix2 ⟨256 + k.val, by omega⟩ ⟨128 + c.val, by omega⟩)) (fun s => ∑ k : Fin 160, b (ix3 0 s k) * p (ix2 ⟨384 + k.val, by omega⟩ ⟨128 + c.val, by omega⟩)) r)
          (((cntK (BitVec.ofNat 32 2) (v63 (ix2 r c))).toInt : ℝ) : EReal) - u (ix3 0 r c)) * w (ix4 0 0 c e) := by
  pointwise [k0_pay7]
  all_goals rfl

theorem pay7_apply (p : FVec Ideal S544x512 .bf16) (v63 : IVec S512x128 32) (b : Vec Ideal S1x128x160 .bf16) (u : Vec Ideal S1x512x128 .bf16)
    (w : Vec Ideal S1x1x128x128 .bf16) (r : Fin 512) (e : Fin 128) :
    k0_pay7 (F := Ideal) p v63 b b b b u w (ix2 r e)
      = ∑ c : Fin 128, (Ideal.div (tot b p 1 c (r.val / 128) ⟨r.val % 128, by omega⟩)
          (((cntK (BitVec.ofNat 32 2) (v63 (ix2 r c))).toInt : ℝ) : EReal) - u (ix3 0 r c)) * w (ix4 0 0 c e) := by
  rw [pay7_raw]
  refine Finset.sum_congr rfl fun c _ => ?_
  refine congrArg (fun t => (Ideal.div t _ - _) * _) ?_
  rw [← four_eq (tot b p 1 c) r]
  unfold four tot
  refine dite_congr rfl (fun _ => ?_) (fun _ => dite_congr rfl (fun _ => ?_) (fun _ => dite_congr rfl (fun _ => ?_) (fun _ => ?_)))
  all_goals
    refine Finset.sum_congr rfl fun k _ => ?_
    refine congrArg (fun z => _ * p z) ?_
    refine congrArg₂ ix2 (Fin.ext ?_) (Fin.ext ?_)
  all_goals
    first
      | rfl
      | (show k.val = 128 * 0 + k.val; omega)
      | (show c.val = 128 * 0 + c.val; omega)

theorem pay8_raw (p : FVec Ideal S544x512 .bf16) (v63 : IVec S512x128 32) (b : Vec Ideal S1x128x160 .bf16) (u : Vec Ideal S1x512x128 .bf16)
    (w : Vec Ideal S1x1x128x128 .bf16) (r : Fin 512) (e : Fin 128) :
    k0_pay8 (F := Ideal) p v63 b b b b u w (ix2 r e)
      = ∑ c : Fin 128, (Ideal.div (four (fun s => ∑ k : Fin 160, b (ix3 0 s k) * p (ix2 ⟨k.val, by omega⟩ ⟨256 + c.val, by omega⟩)) (fun s => ∑ k : Fin 160, b (ix3 0 s k) * p (ix2 ⟨128 + k.val, by omega⟩ ⟨256 + c.val, by omega⟩)) (fun s => ∑ k : Fin 160, b (ix3 0 s k) * p (ix2 ⟨256 + k.val, by omega⟩ ⟨256 + c.val, by omega⟩)) (fun s => ∑ k : Fin 160, b (ix3 0 s k) * p (ix2 ⟨384 + k.val, by omega⟩ ⟨256 + c.val, by omega⟩)) r)
          (((cntK (BitVec.ofNat 32 4) (v63 (ix2 r c))).toInt : ℝ) : EReal) - u (ix3 0 r c)) * w (ix4 0 0 c e) := by
  pointwise [k0_pay8]
  all_goals rfl

theorem pay8_apply (p : FVec Ideal S544x512 .bf16) (v63 : IVec S512x128 32) (b : Vec Ideal S1x128x160 .bf16) (u : Vec Ideal S1x512x128 .bf16)
    (w : Vec Ideal S1x1x128x128 .bf16) (r : Fin 512) (e : Fin 128) :
    k0_pay8 (F := Ideal) p v63 b b b b u w (ix2 r e)
      = ∑ c : Fin 128, (Ideal.div (tot b p 2 c (r.val / 128) ⟨r.val % 128, by omega⟩)
          (((cntK (BitVec.ofNat 32 4) (v63 (ix2 r c))).toInt : ℝ) : EReal) - u (ix3 0 r c)) * w (ix4 0 0 c e) := by
  rw [pay8_raw]
  refine Finset.sum_congr rfl fun c _ => ?_
  refine congrArg (fun t => (Ideal.div t _ - _) * _) ?_
  rw [← four_eq (tot b p 2 c) r]
  unfold four tot
  refine dite_congr rfl (fun _ => ?_) (fun _ => dite_congr rfl (fun _ => ?_) (fun _ => dite_congr rfl (fun _ => ?_) (fun _ => ?_)))
  all_goals
    refine Finset.sum_congr rfl fun k _ => ?_
    refine congrArg (fun z => _ * p z) ?_
    refine congrArg₂ ix2 (Fin.ext ?_) (Fin.ext ?_)
  all_goals
    first
      | rfl
      | (show k.val = 128 * 0 + k.val; omega)
      | (show c.val = 128 * 0 + c.val; omega)

theorem pay9_raw (p : FVec Ideal S544x512 .bf16) (v63 : IVec S512x128 32) (b : Vec Ideal S1x128x160 .bf16) (u : Vec Ideal S1x512x128 .bf16)
    (w : Vec Ideal S1x1x128x128 .bf16) (r : Fin 512) (e : Fin 128) :
    k0_pay9 (F := Ideal) p v63 b b b b u w (ix2 r e)
      = ∑ c : Fin 128, (Ideal.div (four (fun s => ∑ k : Fin 160, b (ix3 0 s k) * p (ix2 ⟨k.val, by omega⟩ ⟨384 + c.val, by omega⟩)) (fun s => ∑ k : Fin 160, b (ix3 0 s k) * p (ix2 ⟨128 + k.val, by omega⟩ ⟨384 + c.val, by omega⟩)) (fun s => ∑ k : Fin 160, b (ix3 0 s k) * p (ix2 ⟨256 + k.val, by omega⟩ ⟨384 + c.val, by omega⟩)) (fun s => ∑ k : Fin 160, b (ix3 0 s k) * p (ix2 ⟨384 + k.val, by omega⟩ ⟨384 + c.val, by omega⟩)) r)
          (((cntK (BitVec.ofNat 32 8) (v63 (ix2 r c))).toInt : ℝ) : EReal) - u (ix3 0 r c)) * w (ix4 0 0 c e) := by
  pointwise [k0_pay9]
  all_goals rfl

theorem pay9_apply (p : FVec Ideal S544x512 .bf16) (v63 : IVec S512x128 32) (b : Vec Ideal S1x128x160 .bf16) (u : Vec Ideal S1x512x128 .bf16)
    (w : Vec Ideal S1x1x128x128 .bf16) (r : Fin 512) (e : Fin 128) :
    k0_pay9 (F := Ideal) p v63 b b b b u w (ix2 r e)
      = ∑ c : Fin 128, (Ideal.div (tot b p 3 c (r.val / 128) ⟨r.val % 128, by omega⟩)
          (((cntK (BitVec.ofNat 32 8) (v63 (ix2 r c))).toInt : ℝ) : EReal) - u (ix3 0 r c)) * w (ix4 0 0 c e) := by
  rw [pay9_raw]
  refine Finset.sum_congr rfl fun c _ => ?_
  refine congrArg (fun t => (Ideal.div t _ - _) * _) ?_
  rw [← four_eq (tot b p 3 c) r]
  unfold four tot
  refine dite_congr rfl (fun _ => ?_) (fun _ => dite_congr rfl (fun _ => ?_) (fun _ => dite_congr rfl (fun _ => ?_) (fun _ => ?_)))
  all_goals
    refine Finset.sum_congr rfl fun k _ => ?_
    refine congrArg (fun z => _ * p z) ?_
    refine congrArg₂ ix2 (Fin.ext ?_) (Fin.ext ?_)
  all_goals
    first
      | rfl
      | (show k.val = 128 * 0 + k.val; omega)
      | (show c.val = 128 * 0 + c.val; omega)

theorem pay10_apply (p0 p1 p2 p3 : FVec Ideal S512x128 .f32) (v201 : Vec Ideal S1x512 .f32) (r n : Fin 512) :
    k0_pay10 (F := Ideal) p0 p1 p2 p3 v201 (ix2 r n)
      = four (fun e => p0 (ix2 r e)) (fun e => p1 (ix2 r e)) (fun e => p2 (ix2 r e)) (fun e => p3 (ix2 r e)) n * v201 (ix2 0 n) := by
  pointwise [k0_pay10]
  all_goals rfl

theorem pay11_apply (v205 v208 : Vec Ideal S1x512x512 .bf16) (v212 : Vec Ideal S1x512 .f32) (v214 v220 : Vec Ideal S1x512x512 .bf16) (r n : Fin 512) :
    k0_pay11 (F := Ideal) v205 v208 v212 v214 v220 (ix2 r n)
      = (v205 (ix3 0 r n) + v208 (ix3 0 r n) + v212 (ix2 0 n) * v214 (ix3 0 r n))
        * (Ideal.ofBits FTy.f32 0x3F000000#32 * v220 (ix3 0 r n) * (Ideal.tanh (Ideal.ofBits FTy.f32 0x3F000000#32 * v220 (ix3 0 r n)) + 1)) := by
  pointwise [k0_pay11]

theorem pay12_apply (v205 v208 : Vec Ideal S1x512x512 .bf16) (v212 : Vec Ideal S1x512 .f32) (v214 v220 : Vec Ideal S1x512x512 .bf16) (r n : Fin 512) :
    k0_pay12 (F := Ideal) v205 v208 v212 v214 v220 (ix2 r n)
      = Ideal.rsqrt (Ideal.div (∑ e : Fin 512, k0_pay11 (F := Ideal) v205 v208 v212 v214 v220 (ix2 r e) * k0_pay11 (F := Ideal) v205 v208 v212 v214 v220 (ix2 r e))
          (Ideal.ofBits FTy.f32 0x44000000#32) + Ideal.ofBits FTy.f32 0x358637BD#32) := by
  pointwise [k0_pay12]

theorem pay14_apply (v229 v238 : FVec Ideal S512x512 .f32) (v240 : Vec Ideal S1x512 .f32) (r n : Fin 512) :
    k0_pay14 (F := Ideal) v229 v238 v240 (ix2 r n) = v229 (ix2 r n) * v238 (ix2 r n) * v240 (ix2 0 n) := by
  pointwise [k0_pay14]

theorem pay13_apply (v : FVec Ideal S512x512 .f32) (r n : Fin 512) : k0_pay13 (F := Ideal) v (ix2 r n) = v (ix2 r n) := by
  pointwise [k0_pay13]

theorem pay15_apply (v48 : FVec Ideal S512x512 .f32) (v244 : Vec Ideal S1x512x512 .bf16) (v249 : Vec Ideal S1x512x1024 .bf16) (v255 : Vec Ideal S1x1x512x1024 .bf16)
    (v259 : Vec Ideal S1x512x1024 .bf16) (v265 : Vec Ideal S1x1x512x1024 .bf16) (r : Fin 512) (d : Fin 1024) :
    k0_pay15 (F := Ideal) v48 v244 v249 v255 v259 v265 (ix2 r d)
      = (Ideal.tanh (v249 (ix3 0 r d)) + 1) * (∑ e : Fin 512, v244 (ix3 0 r e) * v255 (ix4 0 0 e d))
        + (Ideal.tanh (v259 (ix3 0 r d)) + 1) * (∑ e : Fin 512, v48 (ix2 r e) * v265 (ix4 0 0 e d)) := by
  pointwise [k0_pay15]

theorem pay16_apply (v : Vec Ideal S1x512x1024 .bf16) (r : Fin 512) (d : Fin 1024) : k0_pay16 (F := Ideal) v (ix2 r d) = v (ix3 0 r d) := by
  pointwise [k0_pay16]

theorem pay17_apply (v247 v248 : FVec Ideal S512x512 .bf16) (v269 v272 : FVec Ideal S512x1024 .f32) (v276 : Vec Ideal S1x1x512x1024 .bf16)
    (v281 : Vec Ideal S1x512x1024 .bf16) (v287 : Vec Ideal S1x1x512x1024 .bf16) (v295 : Vec Ideal S1x1024x1024 .bf16) (v298 : Vec Ideal S1x512x1024 .f32)
    (v300 : Vec Ideal S1x1x1024 .f32) (r : Fin 512) (d : Fin 1024) :
    k0_pay17 (F := Ideal) v247 v248 v269 v272 v276 v281 v287 v295 v298 v300 (ix2 r d)
      = v298 (ix3 0 r d) + v300 (ix3 0 0 d) * ∑ k : Fin 1024, (Ideal.ofBits FTy.f32 0x3F000000#32
          * (v269 (ix2 r k) + (Ideal.tanh (v272 (ix2 r k)) + 1) * (∑ e : Fin 512, v247 (ix2 r e) * v276 (ix4 0 0 e k))
            + (Ideal.tanh (v281 (ix3 0 r k)) + 1) * (∑ e : Fin 512, v248 (ix2 r e) * v287 (ix4 0 0 e k)))) * v295 (ix3 0 k d) := by
  pointwise [k0_pay17]

theorem pay1_apply (v : FVec Ideal S512x1024 .f32) (r : Fin 512) (d : Fin 1024) : k0_pay1 (F := Ideal) v (ix3 0 r d) = v (ix2 r d) := by
  pointwise [k0_pay1]

end Cert.MergeIdeal.Pays

end
-- ==== Proof.MergeRef.lean ====
/-
  The merge's reference, read at an index.
-/
module

public import proofs.«01_k».proof.Proof.Gen.MergeRefIdeal
public import proofs.«01_k».proof.Proof.Gen.MergeRefIdeal.Run
public import proofs.«01_k».proof.Proof.Gen.MergeRefIdeal.Read
public import proofs.«01_k».proof.Proof.MergeMath
public import Idealize.ShloMosaic.Lib.Pointwise
public import Idealize.ShloMosaic.Lib.KernelVsHost

@[expose] public section

set_option maxRecDepth 16384

noncomputable section

namespace Cert.MergeRefIdeal.Read

open Cert.MergeRefIdeal Cert.MergeRefIdeal.Gen
open Idealize.ShloMosaic Idealize.ShloMosaic.TcCoe Idealize.ShloMosaic.Pointwise
open Cert.MergeMath

variable (x0 : (⟨S2x8192x8448, .bf16⟩ : BufTy).Contents (Elt Ideal)) (x1 : (⟨S2x8192x512, .bf16⟩ : BufTy).Contents (Elt Ideal))
  (x2 x3 x4 : (⟨S2x8448x512, .bf16⟩ : BufTy).Contents (Elt Ideal)) (x5 : (⟨S2x8192x1024, .f32⟩ : BufTy).Contents (Elt Ideal))
  (x6 : (⟨S2x6x1024, .f32⟩ : BufTy).Contents (Elt Ideal)) (x7 : (⟨S3x512, .f32⟩ : BufTy).Contents (Elt Ideal))
  (x8 : (⟨S2x4x128x128, .f32⟩ : BufTy).Contents (Elt Ideal)) (x9 : (⟨S512, .f32⟩ : BufTy).Contents (Elt Ideal))
  (x10 : (⟨S8, .f32⟩ : BufTy).Contents (Elt Ideal)) (x11 : (⟨S512, .f32⟩ : BufTy).Contents (Elt Ideal))
  (x12 : (⟨S2x4x512x1024, .f32⟩ : BufTy).Contents (Elt Ideal)) (x13 : (⟨S2x1024x1024, .f32⟩ : BufTy).Contents (Elt Ideal))

/-- The products that the convolution reads, with a zero row on either side. -/
theorem pad_apply (b : Fin 2) (l : Fin 8194) (n : Fin 512) :
    val_main_v10 (F := Ideal) x0 (ix3 b l n)
      = if h : 1 ≤ l.val ∧ l.val < 8193 then x0 (ix3 b ⟨l.val - 1, by omega⟩ ⟨4608 + n.val, by omega⟩) * x0 (ix3 b ⟨l.val - 1, by omega⟩ ⟨5120 + n.val, by omega⟩) else 0 := by
  unfold val_main_v10
  split_ifs with h
  · refine (pad_apply_of_inside _ _ _ _ _ _ _ _ (ix3 b ⟨l.val - 1, by omega⟩ n) ?_).trans ?_
    · intro a
      match a with
      | ⟨0, _⟩ => show b.val = 0 + b.val * 1; omega
      | ⟨1, _⟩ => show l.val = 1 + (l.val - 1) * 1; omega
      | ⟨2, _⟩ => show n.val = 0 + n.val * 1; omega
    · pointwise [val_main_v9, val_main_v5, val_main_v6, val_main_v0]
  · refine (pad_apply_of_not_inside _ _ _ _ _ _ _ _ (1 : Fin 3) ?_).trans ?_
    · show ¬ (1 ≤ l.val ∧ (l.val - 1) % (0 + 1) = 0 ∧ (l.val - 1) / (0 + 1) < 8192)
      omega
    · pointwise [val_main_call0_v0, val_main_c]
      show (((0#32).toInt : ℝ) : EReal) = 0
      simp

/-- The convolution's branch. -/
theorem conv_apply (b : Fin 2) (l : Fin 8192) (n : Fin 512) :
    val_main_v31 (F := Ideal) x0 x7 (ix3 b l n)
      = x0 (ix3 b l ⟨4096 + n.val, by omega⟩) * (val_main_v10 (F := Ideal) x0 (ix3 b ⟨l.val, by omega⟩ n) * x7 (ix2 0 n)
        + val_main_v10 (F := Ideal) x0 (ix3 b ⟨1 + l.val, by omega⟩ n) * x7 (ix2 1 n)
        + val_main_v10 (F := Ideal) x0 (ix3 b ⟨2 + l.val, by omega⟩ n) * x7 (ix2 2 n)) := by
  pointwise [val_main_v31, val_main_v30, val_main_v29, val_main_v28, val_main_v27, val_main_v26, val_main_v25, val_main_v24, val_main_v23,
    val_main_v22, val_main_v21, val_main_v20, val_main_v19, val_main_v18, val_main_v17, val_main_v16, val_main_v15, val_main_v14,
    val_main_v13, val_main_v12, val_main_v11, val_main_v4, val_main_v0]

/-- The words that say which tokens reach a token, 2 wide. -/
theorem near1_apply (l k : Fin 8192) :
    val_main_v47 (F := Ideal) (ix2 l k) = BitVec.ofBool (decide (l.val ≤ k.val + 1 ∧ k.val < l.val + 1)) := by
  refine Eq.trans ?_ (near 1 (by omega) l k)
  pointwise [val_main_v47, val_main_v46, val_main_v45, val_main_v44, val_main_v43, val_main_v42, val_main_v41, val_main_v40, val_main_v39,
    val_main_v38, val_main_v37, val_main_v36, val_main_v35, val_main_v34, val_main_v33, val_main_c_0, val_main_c_1]

/-- Their total. -/
theorem total1_apply (b : Fin 2) (l : Fin 8192) (e : Fin 128) :
    val_main_v51 (F := Ideal) x0 (ix3 b l e)
      = ∑ k : Fin 8192, (if l.val ≤ k.val + 1 ∧ k.val < l.val + 1 then x0 (ix3 b k ⟨5632 + e.val, by omega⟩) else 0) := by
  have e1 : val_main_v51 (F := Ideal) x0 (ix3 b l e) = ∑ k : Fin 8192, val_main_v50 (F := Ideal) x0 (ix4 b l k e) := by
    pointwise [val_main_v51, val_main_cst_3]
  rw [e1]
  refine Finset.sum_congr rfl fun k _ => ?_
  have e2 : val_main_v50 (F := Ideal) x0 (ix4 b l k e)
      = Scalar.select (val_main_v47 (F := Ideal) (ix2 l k)) (x0 (ix3 b k ⟨5632 + e.val, by omega⟩)) 0 := by
    pointwise [val_main_v50, val_main_call1_v0, val_main_call1_v1, val_main_call1_v2, val_main_call1_v3, val_main_v48, val_main_v49, val_main_cst_2, val_main_v32, val_main_v7, val_main_v0]
    all_goals exact congrArg _ Ideal.ofBits_zero_f32
  rw [e2, near1_apply]
  by_cases hh : l.val ≤ k.val + 1 ∧ k.val < l.val + 1
  · rw [decide_eq_true hh, if_pos hh]; rfl
  · rw [decide_eq_false hh, if_neg hh]; rfl

/-- Their mean less the token. -/
theorem pooled1_apply (b : Fin 2) (l : Fin 8192) (e : Fin 128) :
    val_main_v64 (F := Ideal) x0 (ix3 b l e)
      = Ideal.div (val_main_v51 (F := Ideal) x0 (ix3 b l e)) (((cntR (BitVec.ofNat 32 1) (BitVec.ofNat 32 l.val)).toInt : ℝ) : EReal)
        - x0 (ix3 b l ⟨5632 + e.val, by omega⟩) := by
  pointwise [val_main_v64, val_main_v63, val_main_v62, val_main_v61, val_main_v60, val_main_v59, val_main_v58, val_main_v57, val_main_v56,
    val_main_v55, val_main_v54, val_main_v53, val_main_v52, val_main_c_4, val_main_c_5, val_main_c_6, val_main_c_7, val_main_c_8,
    val_main_c_9, val_main_call2_v0, val_main_call2_v1, val_main_call2_v2, val_main_call2_v3, val_main_call2_v4, val_main_call3_v0,
    val_main_call3_v1, val_main_call3_v2, val_main_call3_v3, val_main_call3_v4, val_main_v32, val_main_v7, val_main_v0]
  all_goals rfl

/-- The words that say which tokens reach a token, 4 wide. -/
theorem near2_apply (l k : Fin 8192) :
    val_main_v80 (F := Ideal) (ix2 l k) = BitVec.ofBool (decide (l.val ≤ k.val + 2 ∧ k.val < l.val + 2)) := by
  refine Eq.trans ?_ (near 2 (by omega) l k)
  pointwise [val_main_v80, val_main_v79, val_main_v78, val_main_v77, val_main_v76, val_main_v75, val_main_v74, val_main_v73, val_main_v72,
    val_main_v71, val_main_v70, val_main_v69, val_main_v68, val_main_v67, val_main_v66, val_main_c_10, val_main_c_11]

/-- Their total. -/
theorem total2_apply (b : Fin 2) (l : Fin 8192) (e : Fin 128) :
    val_main_v84 (F := Ideal) x0 (ix3 b l e)
      = ∑ k : Fin 8192, (if l.val ≤ k.val + 2 ∧ k.val < l.val + 2 then x0 (ix3 b k ⟨5632 + (128 + e.val), by omega⟩) else 0) := by
  have e1 : val_main_v84 (F := Ideal) x0 (ix3 b l e) = ∑ k : Fin 8192, val_main_v83 (F := Ideal) x0 (ix4 b l k e) := by
    pointwise [val_main_v84, val_main_cst_13]
  rw [e1]
  refine Finset.sum_congr rfl fun k _ => ?_
  have e2 : val_main_v83 (F := Ideal) x0 (ix4 b l k e)
      = Scalar.select (val_main_v80 (F := Ideal) (ix2 l k)) (x0 (ix3 b k ⟨5632 + (128 + e.val), by omega⟩)) 0 := by
    pointwise [val_main_v83, val_main_call4_v0, val_main_call4_v1, val_main_call4_v2, val_main_call4_v3, val_main_v81, val_main_v82, val_main_cst_12, val_main_v65, val_main_v7, val_main_v0]
    all_goals exact congrArg _ Ideal.ofBits_zero_f32
  rw [e2, near2_apply]
  by_cases hh : l.val ≤ k.val + 2 ∧ k.val < l.val + 2
  · rw [decide_eq_true hh, if_pos hh]; rfl
  · rw [decide_eq_false hh, if_neg hh]; rfl

/-- Their mean less the token. -/
theorem pooled2_apply (b : Fin 2) (l : Fin 8192) (e : Fin 128) :
    val_main_v97 (F := Ideal) x0 (ix3 b l e)
      = Ideal.div (val_main_v84 (F := Ideal) x0 (ix3 b l e)) (((cntR (BitVec.ofNat 32 2) (BitVec.ofNat 32 l.val)).toInt : ℝ) : EReal)
        - x0 (ix3 b l ⟨5632 + (128 + e.val), by omega⟩) := by
  pointwise [val_main_v97, val_main_v96, val_main_v95, val_main_v94, val_main_v93, val_main_v92, val_main_v91, val_main_v90, val_main_v89,
    val_main_v88, val_main_v87, val_main_v86, val_main_v85, val_main_c_14, val_main_c_15, val_main_c_16, val_main_c_17, val_main_c_18,
    val_main_c_19, val_main_call5_v0, val_main_call5_v1, val_main_call5_v2, val_main_call5_v3, val_main_call5_v4, val_main_call6_v0,
    val_main_call6_v1, val_main_call6_v2, val_main_call6_v3, val_main_call6_v4, val_main_v65, val_main_v7, val_main_v0]
  all_goals rfl

/-- The words that say which tokens reach a token, 8 wide. -/
theorem near4_apply (l k : Fin 8192) :
    val_main_v113 (F := Ideal) (ix2 l k) = BitVec.ofBool (decide (l.val ≤ k.val + 4 ∧ k.val < l.val + 4)) := by
  refine Eq.trans ?_ (near 4 (by omega) l k)
  pointwise [val_main_v113, val_main_v112, val_main_v111, val_main_v110, val_main_v109, val_main_v108, val_main_v107, val_main_v106,
    val_main_v105, val_main_v104, val_main_v103, val_main_v102, val_main_v101, val_main_v100, val_main_v99, val_main_c_20,
    val_main_c_21]

/-- Their total. -/
theorem total4_apply (b : Fin 2) (l : Fin 8192) (e : Fin 128) :
    val_main_v117 (F := Ideal) x0 (ix3 b l e)
      = ∑ k : Fin 8192, (if l.val ≤ k.val + 4 ∧ k.val < l.val + 4 then x0 (ix3 b k ⟨5632 + (256 + e.val), by omega⟩) else 0) := by
  have e1 : val_main_v117 (F := Ideal) x0 (ix3 b l e) = ∑ k : Fin 8192, val_main_v116 (F := Ideal) x0 (ix4 b l k e) := by
    pointwise [val_main_v117, val_main_cst_23]
  rw [e1]
  refine Finset.sum_congr rfl fun k _ => ?_
  have e2 : val_main_v116 (F := Ideal) x0 (ix4 b l k e)
      = Scalar.select (val_main_v113 (F := Ideal) (ix2 l k)) (x0 (ix3 b k ⟨5632 + (256 + e.val), by omega⟩)) 0 := by
    pointwise [val_main_v116, val_main_call7_v0, val_main_call7_v1, val_main_call7_v2, val_main_call7_v3, val_main_v114, val_main_v115, val_main_cst_22, val_main_v98, val_main_v7, val_main_v0]
    all_goals exact congrArg _ Ideal.ofBits_zero_f32
  rw [e2, near4_apply]
  by_cases hh : l.val ≤ k.val + 4 ∧ k.val < l.val + 4
  · rw [decide_eq_true hh, if_pos hh]; rfl
  · rw [decide_eq_false hh, if_neg hh]; rfl

/-- Their mean less the token. -/
theorem pooled4_apply (b : Fin 2) (l : Fin 8192) (e : Fin 128) :
    val_main_v130 (F := Ideal) x0 (ix3 b l e)
      = Ideal.div (val_main_v117 (F := Ideal) x0 (ix3 b l e)) (((cntR (BitVec.ofNat 32 4) (BitVec.ofNat 32 l.val)).toInt : ℝ) : EReal)
        - x0 (ix3 b l ⟨5632 + (256 + e.val), by omega⟩) := by
  pointwise [val_main_v130, val_main_v129, val_main_v128, val_main_v127, val_main_v126, val_main_v125, val_main_v124, val_main_v123,
    val_main_v122, val_main_v121, val_main_v120, val_main_v119, val_main_v118, val_main_c_24, val_main_c_25, val_main_c_26,
    val_main_c_27, val_main_c_28, val_main_c_29, val_main_call8_v0, val_main_call8_v1, val_main_call8_v2, val_main_call8_v3,
    val_main_call8_v4, val_main_call9_v0, val_main_call9_v1, val_main_call9_v2, val_main_call9_v3, val_main_call9_v4, val_main_v98,
    val_main_v7, val_main_v0]
  all_goals rfl

/-- The words that say which tokens reach a token, 16 wide. -/
theorem near8_apply (l k : Fin 8192) :
    val_main_v146 (F := Ideal) (ix2 l k) = BitVec.ofBool (decide (l.val ≤ k.val + 8 ∧ k.val < l.val + 8)) := by
  refine Eq.trans ?_ (near 8 (by omega) l k)
  pointwise [val_main_v146, val_main_v145, val_main_v144, val_main_v143, val_main_v142, val_main_v141, val_main_v140, val_main_v139,
    val_main_v138, val_main_v137, val_main_v136, val_main_v135, val_main_v134, val_main_v133, val_main_v132, val_main_c_30,
    val_main_c_31]

/-- Their total. -/
theorem total8_apply (b : Fin 2) (l : Fin 8192) (e : Fin 128) :
    val_main_v150 (F := Ideal) x0 (ix3 b l e)
      = ∑ k : Fin 8192, (if l.val ≤ k.val + 8 ∧ k.val < l.val + 8 then x0 (ix3 b k ⟨5632 + (384 + e.val), by omega⟩) else 0) := by
  have e1 : val_main_v150 (F := Ideal) x0 (ix3 b l e) = ∑ k : Fin 8192, val_main_v149 (F := Ideal) x0 (ix4 b l k e) := by
    pointwise [val_main_v150, val_main_cst_33]
  rw [e1]
  refine Finset.sum_congr rfl fun k _ => ?_
  have e2 : val_main_v149 (F := Ideal) x0 (ix4 b l k e)
      = Scalar.select (val_main_v146 (F := Ideal) (ix2 l k)) (x0 (ix3 b k ⟨5632 + (384 + e.val), by omega⟩)) 0 := by
    pointwise [val_main_v149, val_main_call10_v0, val_main_call10_v1, val_main_call10_v2, val_main_call10_v3, val_main_v147, val_main_v148, val_main_cst_32, val_main_v131, val_main_v7, val_main_v0]
    all_goals exact congrArg _ Ideal.ofBits_zero_f32
  rw [e2, near8_apply]
  by_cases hh : l.val ≤ k.val + 8 ∧ k.val < l.val + 8
  · rw [decide_eq_true hh, if_pos hh]; rfl
  · rw [decide_eq_false hh, if_neg hh]; rfl

/-- Their mean less the token. -/
theorem pooled8_apply (b : Fin 2) (l : Fin 8192) (e : Fin 128) :
    val_main_v163 (F := Ideal) x0 (ix3 b l e)
      = Ideal.div (val_main_v150 (F := Ideal) x0 (ix3 b l e)) (((cntR (BitVec.ofNat 32 8) (BitVec.ofNat 32 l.val)).toInt : ℝ) : EReal)
        - x0 (ix3 b l ⟨5632 + (384 + e.val), by omega⟩) := by
  pointwise [val_main_v163, val_main_v162, val_main_v161, val_main_v160, val_main_v159, val_main_v158, val_main_v157, val_main_v156,
    val_main_v155, val_main_v154, val_main_v153, val_main_v152, val_main_v151, val_main_c_34, val_main_c_35, val_main_c_36,
    val_main_c_37, val_main_c_38, val_main_c_39, val_main_call11_v0, val_main_call11_v1, val_main_call11_v2, val_main_call11_v3,
    val_main_call11_v4, val_main_call12_v0, val_main_call12_v1, val_main_call12_v2, val_main_call12_v3, val_main_call12_v4,
    val_main_v131, val_main_v7, val_main_v0]
  all_goals rfl

/-- The four pooled groups, side by side. -/
theorem stack0 (b : Fin 2) (l : Fin 8192) (e : Fin 128) : val_main_v168 (F := Ideal) x0 (ix4 b l 0 e) = val_main_v64 (F := Ideal) x0 (ix3 b l e) := by
  pointwise [val_main_v168, val_main_v164, val_main_v165, val_main_v166, val_main_v167]
theorem stack1 (b : Fin 2) (l : Fin 8192) (e : Fin 128) : val_main_v168 (F := Ideal) x0 (ix4 b l 1 e) = val_main_v97 (F := Ideal) x0 (ix3 b l e) := by
  pointwise [val_main_v168, val_main_v164, val_main_v165, val_main_v166, val_main_v167]
theorem stack2 (b : Fin 2) (l : Fin 8192) (e : Fin 128) : val_main_v168 (F := Ideal) x0 (ix4 b l 2 e) = val_main_v130 (F := Ideal) x0 (ix3 b l e) := by
  pointwise [val_main_v168, val_main_v164, val_main_v165, val_main_v166, val_main_v167]
theorem stack3 (b : Fin 2) (l : Fin 8192) (e : Fin 128) : val_main_v168 (F := Ideal) x0 (ix4 b l 3 e) = val_main_v163 (F := Ideal) x0 (ix3 b l e) := by
  pointwise [val_main_v168, val_main_v164, val_main_v165, val_main_v166, val_main_v167]

/-- The pooling branch. -/
theorem pool_apply (b : Fin 2) (l : Fin 8192) (n : Fin 512) :
    val_main_v176 (F := Ideal) x0 x8 x9 (ix3 b l n)
      = (∑ e : Fin 128, x8 (ix4 1 ⟨n.val / 128, by omega⟩ e ⟨n.val % 128, by omega⟩) * val_main_v168 (F := Ideal) x0 (ix4 b l ⟨n.val / 128, by omega⟩ e)) * x9 (ix1 n) := by
  pointwise [val_main_v176, val_main_v175, val_main_v174, val_main_v173, val_main_v172, val_main_v171, val_main_v170, val_main_v169]

/-- The recurrence's outputs, gated. -/
theorem gated_apply (b : Fin 2) (l : Fin 8192) (n : Fin 512) :
    val_main_v197 (F := Ideal) x0 x2 x3 x4 x10 (ix3 b l n)
      = (x10 (ix1 ⟨n.val / 64, by omega⟩) * x4 (ix3 b ⟨l.val, by omega⟩ n) + x2 (ix3 b ⟨l.val, by omega⟩ n) + x3 (ix3 b ⟨l.val, by omega⟩ n))
        * (x0 (ix3 b l ⟨6144 + n.val, by omega⟩) * Ideal.div 1 (1 + Ideal.exp (-x0 (ix3 b l ⟨6144 + n.val, by omega⟩)))) := by
  pointwise [val_main_v197, val_main_v196, val_main_v195, val_main_v194, val_main_v193, val_main_v192, val_main_v191, val_main_v190,
    val_main_v189, val_main_v188, val_main_v187, val_main_v186, val_main_v185, val_main_v184, val_main_v183, val_main_v182,
    val_main_v181, val_main_v180, val_main_v179, val_main_v178, val_main_v177, val_main_cst_40, val_main_cst_41, val_main_v8,
    val_main_v0]

/-- The recurrence's branch. -/
theorem ssd_apply (b : Fin 2) (l : Fin 8192) (n : Fin 512) :
    val_main_v210 (F := Ideal) x0 x2 x3 x4 x10 x11 (ix3 b l n)
      = val_main_v197 (F := Ideal) x0 x2 x3 x4 x10 (ix3 b l n)
        * Ideal.rsqrt (Ideal.div (∑ e : Fin 512, val_main_v197 (F := Ideal) x0 x2 x3 x4 x10 (ix3 b l e) * val_main_v197 (F := Ideal) x0 x2 x3 x4 x10 (ix3 b l e))
            (Ideal.ofBits FTy.f32 0x44000000#32) + Ideal.ofBits FTy.f32 0x358637BD#32) * x11 (ix1 n) := by
  pointwise [val_main_v210, val_main_v209, val_main_v208, val_main_v207, val_main_v206, val_main_v205, val_main_v204, val_main_v203,
    val_main_v202, val_main_v201, val_main_v200, val_main_v199, val_main_v198, val_main_cst_42, val_main_cst_43, val_main_cst_44]

theorem branch0 (b : Fin 2) (l : Fin 8192) (e : Fin 512) : val_main_v223 (F := Ideal) x0 x1 x2 x3 x4 x7 x8 x9 x10 x11 (ix4 b l 0 e) = x1 (ix3 b l e) := by
  pointwise [val_main_v223, val_main_v219, val_main_v220, val_main_v221, val_main_v222, val_main_v218]

theorem branch1 (b : Fin 2) (l : Fin 8192) (e : Fin 512) : val_main_v223 (F := Ideal) x0 x1 x2 x3 x4 x7 x8 x9 x10 x11 (ix4 b l 1 e) = val_main_v31 (F := Ideal) x0 x7 (ix3 b l e) := by
  pointwise [val_main_v223, val_main_v219, val_main_v220, val_main_v221, val_main_v222, val_main_v218]

theorem branch2 (b : Fin 2) (l : Fin 8192) (e : Fin 512) : val_main_v223 (F := Ideal) x0 x1 x2 x3 x4 x7 x8 x9 x10 x11 (ix4 b l 2 e) = val_main_v176 (F := Ideal) x0 x8 x9 (ix3 b l e) := by
  pointwise [val_main_v223, val_main_v219, val_main_v220, val_main_v221, val_main_v222, val_main_v218]

theorem branch3 (b : Fin 2) (l : Fin 8192) (e : Fin 512) : val_main_v223 (F := Ideal) x0 x1 x2 x3 x4 x7 x8 x9 x10 x11 (ix4 b l 3 e) = val_main_v210 (F := Ideal) x0 x2 x3 x4 x10 x11 (ix3 b l e) := by
  pointwise [val_main_v223, val_main_v219, val_main_v220, val_main_v221, val_main_v222, val_main_v218]

/-- A gated branch, projected. -/
theorem proj_apply (b : Fin 2) (l : Fin 8192) (k : Fin 4) (d : Fin 1024) :
    val_main_v228 (F := Ideal) x0 x1 x2 x3 x4 x7 x8 x9 x10 x11 x12 (ix4 b l k d)
      = Ideal.div 1 (1 + Ideal.exp (-(Ideal.ofBits FTy.f32 0x40000000#32 * x0 (ix3 b l ⟨k.val * 1024 + d.val, by omega⟩))))
        * ∑ e : Fin 512, x12 (ix4 1 k e d) * val_main_v223 (F := Ideal) x0 x1 x2 x3 x4 x7 x8 x9 x10 x11 (ix4 b l k e) := by
  pointwise [val_main_v228, val_main_v227, val_main_v226, val_main_v225, val_main_v224, val_main_v217, val_main_v216, val_main_v215,
    val_main_v214, val_main_v213, val_main_v212, val_main_v211, val_main_cst_45, val_main_cst_46, val_main_v3, val_main_v2,
    val_main_cst, val_main_v1, val_main_v0]

/-- The four of them. -/
theorem merged_apply (b : Fin 2) (l : Fin 8192) (d : Fin 1024) :
    val_main_v229 (F := Ideal) x0 x1 x2 x3 x4 x7 x8 x9 x10 x11 x12 (ix3 b l d) = ∑ k : Fin 4, val_main_v228 (F := Ideal) x0 x1 x2 x3 x4 x7 x8 x9 x10 x11 x12 (ix4 b l k d) := by
  pointwise [val_main_v229, val_main_cst_47]

/-- The result. -/
theorem result_apply (b : Fin 2) (l : Fin 8192) (d : Fin 1024) :
    val_main_v236 (F := Ideal) x0 x1 x2 x3 x4 x5 x6 x7 x8 x9 x10 x11 x12 x13 (ix3 b l d)
      = x5 (ix3 b l d) + x6 (ix3 b 2 d) * ∑ e : Fin 1024, val_main_v229 (F := Ideal) x0 x1 x2 x3 x4 x7 x8 x9 x10 x11 x12 (ix3 b l e) * x13 (ix3 1 e d) := by
  pointwise [val_main_v236, val_main_v235, val_main_v234, val_main_v233, val_main_v232, val_main_v231, val_main_v230]

end Cert.MergeRefIdeal.Read

end
-- ==== Proof.Merge.lean ====
/-
  A point's block of the merge call is its block of the reference.
-/
module

public import proofs.«01_k».proof.Proof.MergeVals
public import proofs.«01_k».proof.Proof.MergePays
public import proofs.«01_k».proof.Proof.MergeRef
public import Idealize.ShloMosaic.Lib.Pipeline.ValueKit

@[expose] public section

set_option maxRecDepth 16384

noncomputable section

namespace Cert.MergeAlg

open Cert.MergeIdeal Cert.MergeIdeal.Gen Cert.MergeIdeal.Body Cert.MergeIdeal.Pays
open Cert.MergeRefIdeal.Read (val_main_v10 val_main_v31 val_main_v51 val_main_v84 val_main_v117 val_main_v150 val_main_v168 val_main_v176 val_main_v197 val_main_v210
  val_main_v223 val_main_v228 val_main_v229 val_main_v236)
open Cert.MergeMath Cert.FfnMath
open Idealize.ShloMosaic Idealize.ShloMosaic.TcCoe Idealize.ShloMosaic.Tactic
open Idealize.ShloMosaic.Pointwise

theorem ix3_congr {n0 n1 n2 : ℕ} {a a' : Fin n0} {b b' : Fin n1} {c c' : Fin n2} (ha : a = a') (hb : b.val = b'.val) (hc : c.val = c'.val) :
    ix3 a b c = ix3 a' b' c' := by
  obtain rfl := ha; obtain rfl := Fin.ext hb; obtain rfl := Fin.ext hc; rfl

/-! ## The parts of the blocks -/

theorem bandW_apply (x : Vec Ideal S4x128x160 .bf16) (g : Fin 4) (s : Fin 128) (k : Fin 160) : bandW x g.val (ix3 0 s k) = x (ix3 g s k) := by
  have hg := g.isLt
  refine View.ld_unit_apply_of x _ _ _ _ _ ?_
  intro a; fin_cases a
  · show g.val = g.val % 4 + 0; omega
  · show s.val = 0 + s.val; omega
  · show k.val = 0 + k.val; omega

theorem puW_apply (x : Vec Ideal S1x512x512 .bf16) (g : Fin 4) (r : Fin 512) (e : Fin 128) :
    puW x g.val (ix3 0 r e) = x (ix3 0 r ⟨128 * g.val + e.val, by omega⟩) := by
  have hg := g.isLt
  refine View.ld_unit_apply_of x _ _ _ _ _ ?_
  intro a; fin_cases a
  · show (0 : ℕ) = 0 + 0; omega
  · show r.val = 0 + r.val; omega
  · show 128 * g.val + e.val = 128 * (g.val % 4) + e.val; omega

theorem pwW_apply (x : Vec Ideal S1x4x128x128 .bf16) (g : Fin 4) (k e : Fin 128) : pwW x g.val (ix4 0 0 k e) = x (ix4 0 g k e) := by
  have hg := g.isLt
  refine View.ld_unit_apply_of x _ _ _ _ _ ?_
  intro a; fin_cases a
  · show (0 : ℕ) = 0 + 0; omega
  · show g.val = g.val % 4 + 0; omega
  · show k.val = 0 + k.val; omega
  · show e.val = 0 + e.val; omega

theorem glW_apply (x : Vec Ideal S1x512x4096 .bf16) (g : Fin 4) (r : Fin 512) (d : Fin 1024) :
    glW x g.val (ix3 0 r d) = x (ix3 0 r ⟨1024 * g.val + d.val, by omega⟩) := by
  have hg := g.isLt
  refine View.ld_unit_apply_of x _ _ _ _ _ ?_
  intro a; fin_cases a
  · show (0 : ℕ) = 0 + 0; omega
  · show r.val = 0 + r.val; omega
  · show 1024 * g.val + d.val = 1024 * (g.val % 4) + d.val; omega

theorem wbW_apply (x : Vec Ideal S1x4x512x1024 .bf16) (g : Fin 4) (k : Fin 512) (d : Fin 1024) : wbW x g.val (ix4 0 0 k d) = x (ix4 0 g k d) := by
  have hg := g.isLt
  refine View.ld_unit_apply_of x _ _ _ _ _ ?_
  intro a; fin_cases a
  · show (0 : ℕ) = 0 + 0; omega
  · show g.val = g.val % 4 + 0; omega
  · show k.val = 0 + k.val; omega
  · show d.val = 0 + d.val; omega

theorem modW_apply (x : Vec Ideal S1x6x1024 .f32) (d : Fin 1024) : modW x (ix3 0 0 d) = x (ix3 0 2 d) := by
  refine View.ld_unit_apply_of x _ _ _ _ _ ?_
  intro a; fin_cases a
  · show (0 : ℕ) = 0 + 0; omega
  · show (2 : ℕ) = 2 + 0; omega
  · show d.val = 0 + d.val; omega

theorem win_apply (e : ℕ) (P : FVec Ideal S544x512 .f32) (r n : Fin 512) : win e P (ix2 r n) = P (ix2 ⟨r.val + e % 33, by omega⟩ n) := rfl

/-- The words that say whether a block has rows before it and after it. -/
theorem wLo_eq : ∀ j : Fin 16, wLo j.val = BitVec.ofBool (decide (1 ≤ j.val)) := by decide
theorem wHi_eq : ∀ j : Fin 16, wHi j.val = BitVec.ofBool (decide (j.val < 15)) := by decide

theorem select_of (P : Prop) [Decidable P] (x y : EReal) : Scalar.select (BitVec.ofBool (decide P)) x y = if P then x else y := by
  by_cases h : P
  · rw [decide_eq_true h, if_pos h]; rfl
  · rw [decide_eq_false h, if_neg h]; rfl

/-- The rows with 16 on either side are the sequence's, and zero outside it. -/
theorem ext_eq (j : Fin 16) (a b : Vec Ideal S1x16x512 .bf16) (m : Vec Ideal S1x512x512 .bf16) (f : Fin 8192 → EReal) (n : Fin 512)
    (ha : ∀ (r : Fin 16) (h : 1 ≤ j.val), a (ix3 0 r n) = f ⟨512 * j.val - 16 + r.val, by omega⟩)
    (hb : ∀ (r : Fin 16) (h : j.val < 15), b (ix3 0 r n) = f ⟨512 * j.val + 512 + r.val, by omega⟩)
    (hm : ∀ r : Fin 512, m (ix3 0 r n) = f ⟨512 * j.val + r.val, by omega⟩) (r : Fin 544) :
    ext (wLo j.val) (wHi j.val) a b m r n
      = if h : 16 ≤ 512 * j.val + r.val ∧ 512 * j.val + r.val < 8208 then f ⟨512 * j.val + r.val - 16, by omega⟩ else 0 := by
  have hr := r.isLt
  have hj := j.isLt
  unfold ext
  rw [wLo_eq, wHi_eq]
  split_ifs with h1 h2 h3 h4 h5 h6
  · rw [select_of, if_pos (by omega : 1 ≤ j.val), ha _ (by omega)]; refine congrArg f (Fin.ext ?_); show 512 * j.val - 16 + r.val = 512 * j.val + r.val - 16; omega
  · rw [select_of, if_neg (by omega)]
  · rw [hm]; refine congrArg f (Fin.ext ?_); show 512 * j.val + (r.val - 16) = 512 * j.val + r.val - 16; omega
  · exact absurd (And.intro (by omega) (by omega)) h4
  · rw [select_of, if_pos (by omega : j.val < 15), hb _ (by omega)]; refine congrArg f (Fin.ext ?_); show 512 * j.val + 512 + (r.val - 16 - 512) = 512 * j.val + r.val - 16; omega
  · rw [select_of, if_neg (by omega)]

/-- A band's product with the rows is the sum of the sequence's rows within reach. -/
theorem reach (j : Fin 16) (h : ℕ) (h1 : 1 ≤ h) (h8 : h ≤ 8) (f : Fin 8192 → EReal) (r : Fin 512) :
    ∑ k : Fin 160, (if 16 + r.val % 128 ≤ k.val + h ∧ k.val < 16 + r.val % 128 + h then (1 : EReal) else 0)
        * (if c : 16 ≤ 512 * j.val + (128 * (r.val / 128 % 4) + k.val) ∧ 512 * j.val + (128 * (r.val / 128 % 4) + k.val) < 8208
            then f ⟨512 * j.val + (128 * (r.val / 128 % 4) + k.val) - 16, by omega⟩ else 0)
      = ∑ k : Fin 8192, if 512 * j.val + r.val ≤ k.val + h ∧ k.val < 512 * j.val + r.val + h then f k else 0 := by
  have hr := r.isLt
  have hj := j.isLt
  let F : ℕ → EReal := fun n => if c : 16 ≤ n ∧ n < 8208 then f ⟨n - 16, by omega⟩ else 0
  have L := sum_window 160 (512 * j.val + 128 * (r.val / 128 % 4)) (512 * j.val + r.val + 16 - h) (512 * j.val + r.val + 16 + h) F
    (fun n ha hb hc => absurd (And.intro (by omega) (by omega)) hc)
  have R := sum_window 8192 16 (512 * j.val + r.val + 16 - h) (512 * j.val + r.val + 16 + h) F (fun n ha hb hc => dif_neg (fun hh => hc (And.intro hh.1 (by omega))))
  refine Eq.trans (Finset.sum_congr rfl fun k _ => ?_) ((L.trans R.symm).trans (Finset.sum_congr rfl fun k _ => ?_))
  · have e : F (512 * j.val + 128 * (r.val / 128 % 4) + k.val)
        = (if c : 16 ≤ 512 * j.val + (128 * (r.val / 128 % 4) + k.val) ∧ 512 * j.val + (128 * (r.val / 128 % 4) + k.val) < 8208
            then f ⟨512 * j.val + (128 * (r.val / 128 % 4) + k.val) - 16, by omega⟩ else 0) := by
      rw [Nat.add_assoc]
    rw [← e]
    by_cases c : 16 + r.val % 128 ≤ k.val + h ∧ k.val < 16 + r.val % 128 + h
    · rw [if_pos c, one_mul, if_pos (by omega)]
    · rw [if_neg c, zero_mul, if_neg (by omega)]
  · have hk := k.isLt
    have e : F (16 + k.val) = f k := by
      show (if c : 16 ≤ 16 + k.val ∧ 16 + k.val < 8208 then f ⟨16 + k.val - 16, by omega⟩ else 0) = f k
      rw [dif_pos (by omega)]
      refine congrArg f (Fin.ext ?_); show 16 + k.val - 16 = k.val; omega
    rw [e]
    exact ite_congr (propext (by omega)) (fun _ => rfl) (fun _ => rfl)

/-- The kernel's gate of the recurrence's outputs is the reference's. -/
theorem silu (z : EReal) : half * z * (Ideal.tanh (half * z) + 1) = z * Ideal.div 1 (1 + Ideal.exp (-z)) := by
  have e : two * (half * z) = z := by
    rw [← mul_assoc]
    have : two * half = 1 := by unfold two half; rw [← EReal.coe_mul]; norm_num
    rw [this, one_mul]
  have g := gate2 (half * z)
  rw [e] at g
  rw [← g]
  rw [mul_comm half z, mul_assoc]

/-- The blocks that the point of batch `b` and row block `j` reads, as parts of the arrays. -/
structure Blocks (i : grid0.Coords) (x0 : Vec Ideal S1x512x4096 .bf16) (x1 : Vec Ideal S1x512x512 .bf16) (x2 : Vec Ideal S1x512x512 .bf16) (x3 : Vec Ideal S1x16x512 .bf16) (x4 : Vec Ideal S1x16x512 .bf16)
    (x5 : Vec Ideal S1x512x512 .bf16) (x6 : Vec Ideal S1x16x512 .bf16) (x7 : Vec Ideal S1x16x512 .bf16) (x8 : Vec Ideal S1x512x512 .bf16) (x9 : Vec Ideal S1x16x512 .bf16)
    (x10 : Vec Ideal S1x16x512 .bf16) (x11 : Vec Ideal S1x512x512 .bf16) (x12 : Vec Ideal S1x512x512 .bf16) (x13 : Vec Ideal S1x512x512 .bf16) (x14 : Vec Ideal S1x512x512 .bf16)
    (x15 : Vec Ideal S1x512x512 .bf16) (x16 : Vec Ideal S1x512x1024 .f32) (x17 : Vec Ideal S1x6x1024 .f32) (x18 : Vec Ideal S3x512 .f32) (x19 : Vec Ideal S4x128x160 .bf16)
    (x20 : Vec Ideal S1x4x128x128 .bf16) (x21 : Vec Ideal S1x512 .f32) (x22 : Vec Ideal S1x512 .f32) (x23 : Vec Ideal S1x512 .f32) (x24 : Vec Ideal S1x4x512x1024 .bf16)
    (x25 : Vec Ideal S1x1024x1024 .bf16)
    (b : Fin 2) (j : Fin 16) (pr : FVec Ideal S2x8192x8448 .bf16) (atn : FVec Ideal S2x8192x512 .bf16) (yf : FVec Ideal S2x8448x512 .bf16) (yb : FVec Ideal S2x8448x512 .bf16) (xs : FVec Ideal S2x8448x512 .bf16)
    (xr : FVec Ideal S2x8192x1024 .f32) (mo : FVec Ideal S2x6x1024 .f32) (cv : FVec Ideal S3x512 .f32) (pw : FVec Ideal S2x4x128x128 .f32) (ps : FVec Ideal S512 .f32)
    (sd : FVec Ideal S8 .f32) (sn : FVec Ideal S512 .f32) (wb : FVec Ideal S2x4x512x1024 .f32) (wo : FVec Ideal S2x1024x1024 .f32) : Prop where
  hi : (i 1).val = j.val
  h0 : ∀ (r : Fin 512) (d : Fin 4096), x0 (ix3 0 r d) = pr (ix3 b ⟨512 * j.val + r.val, by omega⟩ ⟨d.val, by omega⟩)
  h1 : ∀ r n : Fin 512, x1 (ix3 0 r n) = pr (ix3 b ⟨512 * j.val + r.val, by omega⟩ ⟨4096 + n.val, by omega⟩)
  h2 : ∀ r n : Fin 512, x2 (ix3 0 r n) = pr (ix3 b ⟨512 * j.val + r.val, by omega⟩ ⟨4608 + n.val, by omega⟩)
  h5 : ∀ r n : Fin 512, x5 (ix3 0 r n) = pr (ix3 b ⟨512 * j.val + r.val, by omega⟩ ⟨5120 + n.val, by omega⟩)
  h8 : ∀ r n : Fin 512, x8 (ix3 0 r n) = pr (ix3 b ⟨512 * j.val + r.val, by omega⟩ ⟨5632 + n.val, by omega⟩)
  h11 : ∀ r n : Fin 512, x11 (ix3 0 r n) = pr (ix3 b ⟨512 * j.val + r.val, by omega⟩ ⟨6144 + n.val, by omega⟩)
  h3 : ∀ (r : Fin 16) (n : Fin 512) (h : 1 ≤ j.val), x3 (ix3 0 r n) = pr (ix3 b ⟨512 * j.val - 16 + r.val, by omega⟩ ⟨4608 + n.val, by omega⟩)
  h4 : ∀ (r : Fin 16) (n : Fin 512) (h : j.val < 15), x4 (ix3 0 r n) = pr (ix3 b ⟨512 * j.val + 512 + r.val, by omega⟩ ⟨4608 + n.val, by omega⟩)
  h6 : ∀ (r : Fin 16) (n : Fin 512) (h : 1 ≤ j.val), x6 (ix3 0 r n) = pr (ix3 b ⟨512 * j.val - 16 + r.val, by omega⟩ ⟨5120 + n.val, by omega⟩)
  h7 : ∀ (r : Fin 16) (n : Fin 512) (h : j.val < 15), x7 (ix3 0 r n) = pr (ix3 b ⟨512 * j.val + 512 + r.val, by omega⟩ ⟨5120 + n.val, by omega⟩)
  h9 : ∀ (r : Fin 16) (n : Fin 512) (h : 1 ≤ j.val), x9 (ix3 0 r n) = pr (ix3 b ⟨512 * j.val - 16 + r.val, by omega⟩ ⟨5632 + n.val, by omega⟩)
  h10 : ∀ (r : Fin 16) (n : Fin 512) (h : j.val < 15), x10 (ix3 0 r n) = pr (ix3 b ⟨512 * j.val + 512 + r.val, by omega⟩ ⟨5632 + n.val, by omega⟩)
  h12 : ∀ r n : Fin 512, x12 (ix3 0 r n) = atn (ix3 b ⟨512 * j.val + r.val, by omega⟩ n)
  h13 : ∀ r n : Fin 512, x13 (ix3 0 r n) = yf (ix3 b ⟨512 * j.val + r.val, by omega⟩ n)
  h14 : ∀ r n : Fin 512, x14 (ix3 0 r n) = yb (ix3 b ⟨512 * j.val + r.val, by omega⟩ n)
  h15 : ∀ r n : Fin 512, x15 (ix3 0 r n) = xs (ix3 b ⟨512 * j.val + r.val, by omega⟩ n)
  h16 : ∀ (r : Fin 512) (d : Fin 1024), x16 (ix3 0 r d) = xr (ix3 b ⟨512 * j.val + r.val, by omega⟩ d)
  h17 : ∀ (k : Fin 6) (d : Fin 1024), x17 (ix3 0 k d) = mo (ix3 b k d)
  h18 : ∀ (k : Fin 3) (n : Fin 512), x18 (ix2 k n) = cv (ix2 k n)
  h19 : ∀ (g : Fin 4) (r : Fin 128) (k : Fin 160), x19 (ix3 g r k) = if 16 + r.val ≤ k.val + 2 ^ g.val ∧ k.val < 16 + r.val + 2 ^ g.val then (1 : EReal) else 0
  h20 : ∀ (g : Fin 4) (k e : Fin 128), x20 (ix4 0 g k e) = pw (ix4 1 g k e)
  h21 : ∀ n : Fin 512, x21 (ix2 0 n) = ps (ix1 n)
  h22 : ∀ n : Fin 512, x22 (ix2 0 n) = sd (ix1 ⟨n.val / 64, by omega⟩)
  h23 : ∀ n : Fin 512, x23 (ix2 0 n) = sn (ix1 n)
  h24 : ∀ (g : Fin 4) (k : Fin 512) (d : Fin 1024), x24 (ix4 0 g k d) = wb (ix4 1 g k d)
  h25 : ∀ k d : Fin 1024, x25 (ix3 0 k d) = wo (ix3 1 k d)

section
variable {i : grid0.Coords} {x0 : Vec Ideal S1x512x4096 .bf16} {x1 : Vec Ideal S1x512x512 .bf16} {x2 : Vec Ideal S1x512x512 .bf16} {x3 : Vec Ideal S1x16x512 .bf16} {x4 : Vec Ideal S1x16x512 .bf16}
    {x5 : Vec Ideal S1x512x512 .bf16} {x6 : Vec Ideal S1x16x512 .bf16} {x7 : Vec Ideal S1x16x512 .bf16} {x8 : Vec Ideal S1x512x512 .bf16} {x9 : Vec Ideal S1x16x512 .bf16}
    {x10 : Vec Ideal S1x16x512 .bf16} {x11 : Vec Ideal S1x512x512 .bf16} {x12 : Vec Ideal S1x512x512 .bf16} {x13 : Vec Ideal S1x512x512 .bf16} {x14 : Vec Ideal S1x512x512 .bf16}
    {x15 : Vec Ideal S1x512x512 .bf16} {x16 : Vec Ideal S1x512x1024 .f32} {x17 : Vec Ideal S1x6x1024 .f32} {x18 : Vec Ideal S3x512 .f32} {x19 : Vec Ideal S4x128x160 .bf16}
    {x20 : Vec Ideal S1x4x128x128 .bf16} {x21 : Vec Ideal S1x512 .f32} {x22 : Vec Ideal S1x512 .f32} {x23 : Vec Ideal S1x512 .f32} {x24 : Vec Ideal S1x4x512x1024 .bf16}
    {x25 : Vec Ideal S1x1024x1024 .bf16}
    {b : Fin 2} {j : Fin 16} {pr : FVec Ideal S2x8192x8448 .bf16} {atn : FVec Ideal S2x8192x512 .bf16} {yf : FVec Ideal S2x8448x512 .bf16} {yb : FVec Ideal S2x8448x512 .bf16} {xs : FVec Ideal S2x8448x512 .bf16}
    {xr : FVec Ideal S2x8192x1024 .f32} {mo : FVec Ideal S2x6x1024 .f32} {cv : FVec Ideal S3x512 .f32} {pw : FVec Ideal S2x4x128x128 .f32} {ps : FVec Ideal S512 .f32}
    {sd : FVec Ideal S8 .f32} {sn : FVec Ideal S512 .f32} {wb : FVec Ideal S2x4x512x1024 .f32} {wo : FVec Ideal S2x1024x1024 .f32}

/-! ## The convolution's branch -/

theorem Blocks.gated (B : Blocks i x0 x1 x2 x3 x4 x5 x6 x7 x8 x9 x10 x11 x12 x13 x14 x15 x16 x17 x18 x19 x20 x21 x22 x23 x24 x25 b j pr atn yf yb xs xr mo cv pw ps sd sn wb wo) (r : Fin 544) (n : Fin 512) :
    k0_pay2 (F := Ideal) i x3 x4 x2 x6 x7 x5 (ix2 r n)
      = if h : 16 ≤ 512 * j.val + r.val ∧ 512 * j.val + r.val < 8208 then
          pr (ix3 b ⟨512 * j.val + r.val - 16, by omega⟩ ⟨4608 + n.val, by omega⟩) * pr (ix3 b ⟨512 * j.val + r.val - 16, by omega⟩ ⟨5120 + n.val, by omega⟩) else 0 := by
  rw [pay2_apply, B.hi,
    ext_eq j x3 x4 x2 (fun l => pr (ix3 b l ⟨4608 + n.val, by omega⟩)) n (fun r h => B.h3 r n h) (fun r h => B.h4 r n h) (fun r => B.h2 r n),
    ext_eq j x6 x7 x5 (fun l => pr (ix3 b l ⟨5120 + n.val, by omega⟩)) n (fun r h => B.h6 r n h) (fun r h => B.h7 r n h) (fun r => B.h5 r n)]
  by_cases h : 16 ≤ 512 * j.val + r.val ∧ 512 * j.val + r.val < 8208
  · rw [dif_pos h, dif_pos h, dif_pos h]
  · rw [dif_neg h, dif_neg h, dif_neg h, mul_zero]

theorem Blocks.tap (B : Blocks i x0 x1 x2 x3 x4 x5 x6 x7 x8 x9 x10 x11 x12 x13 x14 x15 x16 x17 x18 x19 x20 x21 x22 x23 x24 x25 b j pr atn yf yb xs xr mo cv pw ps sd sn wb wo) (e : ℕ) (he : e < 3) (r n : Fin 512) :
    win (15 + e) (k0_pay2 (F := Ideal) i x3 x4 x2 x6 x7 x5) (ix2 r n) = val_main_v10 (F := Ideal) pr (ix3 b ⟨e + (512 * j.val + r.val), by omega⟩ n) := by
  have hr := r.isLt
  have hj := j.isLt
  rw [win_apply, B.gated, Cert.MergeRefIdeal.Read.pad_apply]
  have q : (15 + e) % 33 = 15 + e := by omega
  refine dite_congr (propext ?_) (fun h => ?_) (fun _ => rfl)
  · show (16 ≤ 512 * j.val + (r.val + (15 + e) % 33) ∧ 512 * j.val + (r.val + (15 + e) % 33) < 8208) ↔ (1 ≤ e + (512 * j.val + r.val) ∧ e + (512 * j.val + r.val) < 8193)
    omega
  · refine congrArg₂ (· * ·) (congrArg pr (ix3_congr rfl ?_ rfl)) (congrArg pr (ix3_congr rfl ?_ rfl))
    all_goals
      show 512 * j.val + (r.val + (15 + e) % 33) - 16 = e + (512 * j.val + r.val) - 1
      omega

theorem Blocks.conv (B : Blocks i x0 x1 x2 x3 x4 x5 x6 x7 x8 x9 x10 x11 x12 x13 x14 x15 x16 x17 x18 x19 x20 x21 x22 x23 x24 x25 b j pr atn yf yb xs xr mo cv pw ps sd sn wb wo) (r n : Fin 512) :
    k0_pay3 (F := Ideal) x18 (win 15 (k0_pay2 i x3 x4 x2 x6 x7 x5)) (win 16 (k0_pay2 i x3 x4 x2 x6 x7 x5)) (win 17 (k0_pay2 i x3 x4 x2 x6 x7 x5)) x1 (ix2 r n)
      = val_main_v31 (F := Ideal) pr cv (ix3 b ⟨512 * j.val + r.val, by omega⟩ n) := by
  have t0 : win 15 (k0_pay2 (F := Ideal) i x3 x4 x2 x6 x7 x5) (ix2 r n) = val_main_v10 (F := Ideal) pr (ix3 b ⟨512 * j.val + r.val, by omega⟩ n) :=
    (B.tap 0 (by omega) r n).trans (congrArg (val_main_v10 (F := Ideal) pr) (ix3_congr rfl (Nat.zero_add _) rfl))
  have t1 := B.tap 1 (by omega) r n
  have t2 := B.tap 2 (by omega) r n
  rw [pay3_apply, Cert.MergeRefIdeal.Read.conv_apply, t0, t1, t2, B.h1, B.h18, B.h18, B.h18]
  refine congrArg (_ * ·) ?_
  refine congrArg₂ (· + ·) (congrArg₂ (· + ·) (mul_comm _ _) (mul_comm _ _)) (mul_comm _ _)

/-! ## The pooling branch -/

theorem Blocks.rows (B : Blocks i x0 x1 x2 x3 x4 x5 x6 x7 x8 x9 x10 x11 x12 x13 x14 x15 x16 x17 x18 x19 x20 x21 x22 x23 x24 x25 b j pr atn yf yb xs xr mo cv pw ps sd sn wb wo) (r : Fin 544) (n : Fin 512) :
    pe i x8 x9 x10 (ix2 r n)
      = if h : 16 ≤ 512 * j.val + r.val ∧ 512 * j.val + r.val < 8208 then pr (ix3 b ⟨512 * j.val + r.val - 16, by omega⟩ ⟨5632 + n.val, by omega⟩) else 0 := by
  unfold pe
  rw [pay4_apply, B.hi]
  exact ext_eq j x9 x10 x8 (fun l => pr (ix3 b l ⟨5632 + n.val, by omega⟩)) n (fun r h => B.h9 r n h) (fun r h => B.h10 r n h) (fun r => B.h8 r n) r

theorem Blocks.total (B : Blocks i x0 x1 x2 x3 x4 x5 x6 x7 x8 x9 x10 x11 x12 x13 x14 x15 x16 x17 x18 x19 x20 x21 x22 x23 x24 x25 b j pr atn yf yb xs xr mo cv pw ps sd sn wb wo) (g : Fin 4) (c : Fin 128) (r : Fin 512) :
    tot (bandW x19 g.val) (pe i x8 x9 x10) g c (r.val / 128) ⟨r.val % 128, by omega⟩
      = ∑ k : Fin 8192, if 512 * j.val + r.val ≤ k.val + 2 ^ g.val ∧ k.val < 512 * j.val + r.val + 2 ^ g.val
          then pr (ix3 b k ⟨5632 + (128 * g.val + c.val), by omega⟩) else 0 := by
  have p1 : 1 ≤ 2 ^ g.val := Nat.one_le_two_pow
  have p8 : 2 ^ g.val ≤ 8 := by have hg := g.isLt; calc 2 ^ g.val ≤ 2 ^ 3 := Nat.pow_le_pow_right (by omega) (by omega)
      _ = 8 := rfl
  refine Eq.trans ?_ (reach j (2 ^ g.val) p1 p8 (fun l => pr (ix3 b l ⟨5632 + (128 * g.val + c.val), by omega⟩)) r)
  unfold tot
  refine Finset.sum_congr rfl fun k _ => ?_
  rw [bandW_apply, B.h19, B.rows]

theorem Blocks.pool0 (B : Blocks i x0 x1 x2 x3 x4 x5 x6 x7 x8 x9 x10 x11 x12 x13 x14 x15 x16 x17 x18 x19 x20 x21 x22 x23 x24 x25 b j pr atn yf yb xs xr mo cv pw ps sd sn wb wo) (r : Fin 512) (e : Fin 128) :
    k0_pay6 (F := Ideal) (pe i x8 x9 x10) (k0_pay5 (BitVec.ofNat 32 (i 1).val)) (bandW x19 0) (bandW x19 0) (bandW x19 0) (bandW x19 0) (puW x8 0) (pwW x20 0) (ix2 r e)
      = ∑ c : Fin 128, pw (ix4 1 0 c e) * val_main_v168 (F := Ideal) pr (ix4 b ⟨512 * j.val + r.val, by omega⟩ 0 c) := by
  have hr := r.isLt
  have hj := j.isLt
  rw [pay6_apply]
  refine Finset.sum_congr rfl fun c _ => ?_
  have t := B.total (0 : Fin 4) c r
  have u := puW_apply x8 (0 : Fin 4) r c
  have w := pwW_apply x20 (0 : Fin 4) c e
  have n := cnt_eq 1 (512 * j.val + r.val) (by omega) (by omega)
  refine (mul_comm _ _).trans (congrArg₂ (· * ·) (w.trans (B.h20 _ _ _)) ?_)
  rw [pay5_apply, B.hi, n, Cert.MergeRefIdeal.Read.stack0, Cert.MergeRefIdeal.Read.pooled1_apply, Cert.MergeRefIdeal.Read.total1_apply]
  refine congrArg₂ (· - ·) (congrArg (Ideal.div · _) (t.trans (Finset.sum_congr rfl fun k _ => ?_))) ((u.trans (B.h8 _ _)).trans (congrArg pr (ix3_congr rfl rfl ?_)))
  · refine ite_congr rfl (fun _ => congrArg pr (ix3_congr rfl rfl ?_)) (fun _ => rfl)
    show 5632 + (128 * 0 + c.val) = 5632 + c.val; omega
  · show 5632 + (128 * 0 + c.val) = 5632 + c.val; omega

theorem Blocks.pool1 (B : Blocks i x0 x1 x2 x3 x4 x5 x6 x7 x8 x9 x10 x11 x12 x13 x14 x15 x16 x17 x18 x19 x20 x21 x22 x23 x24 x25 b j pr atn yf yb xs xr mo cv pw ps sd sn wb wo) (r : Fin 512) (e : Fin 128) :
    k0_pay7 (F := Ideal) (pe i x8 x9 x10) (k0_pay5 (BitVec.ofNat 32 (i 1).val)) (bandW x19 1) (bandW x19 1) (bandW x19 1) (bandW x19 1) (puW x8 1) (pwW x20 1) (ix2 r e)
      = ∑ c : Fin 128, pw (ix4 1 1 c e) * val_main_v168 (F := Ideal) pr (ix4 b ⟨512 * j.val + r.val, by omega⟩ 1 c) := by
  have hr := r.isLt
  have hj := j.isLt
  rw [pay7_apply]
  refine Finset.sum_congr rfl fun c _ => ?_
  have t := B.total (1 : Fin 4) c r
  have u := puW_apply x8 (1 : Fin 4) r c
  have w := pwW_apply x20 (1 : Fin 4) c e
  have n := cnt_eq 2 (512 * j.val + r.val) (by omega) (by omega)
  refine (mul_comm _ _).trans (congrArg₂ (· * ·) (w.trans (B.h20 _ _ _)) ?_)
  rw [pay5_apply, B.hi, n, Cert.MergeRefIdeal.Read.stack1, Cert.MergeRefIdeal.Read.pooled2_apply, Cert.MergeRefIdeal.Read.total2_apply]
  refine congrArg₂ (· - ·) (congrArg (Ideal.div · _) (t.trans (Finset.sum_congr rfl fun k _ => ?_))) ((u.trans (B.h8 _ _)).trans (congrArg pr (ix3_congr rfl rfl ?_)))
  · refine ite_congr rfl (fun _ => congrArg pr (ix3_congr rfl rfl ?_)) (fun _ => rfl)
    show 5632 + (128 * 1 + c.val) = 5632 + (128 + c.val); omega
  · show 5632 + (128 * 1 + c.val) = 5632 + (128 + c.val); omega

theorem Blocks.pool2 (B : Blocks i x0 x1 x2 x3 x4 x5 x6 x7 x8 x9 x10 x11 x12 x13 x14 x15 x16 x17 x18 x19 x20 x21 x22 x23 x24 x25 b j pr atn yf yb xs xr mo cv pw ps sd sn wb wo) (r : Fin 512) (e : Fin 128) :
    k0_pay8 (F := Ideal) (pe i x8 x9 x10) (k0_pay5 (BitVec.ofNat 32 (i 1).val)) (bandW x19 2) (bandW x19 2) (bandW x19 2) (bandW x19 2) (puW x8 2) (pwW x20 2) (ix2 r e)
      = ∑ c : Fin 128, pw (ix4 1 2 c e) * val_main_v168 (F := Ideal) pr (ix4 b ⟨512 * j.val + r.val, by omega⟩ 2 c) := by
  have hr := r.isLt
  have hj := j.isLt
  rw [pay8_apply]
  refine Finset.sum_congr rfl fun c _ => ?_
  have t := B.total (2 : Fin 4) c r
  have u := puW_apply x8 (2 : Fin 4) r c
  have w := pwW_apply x20 (2 : Fin 4) c e
  have n := cnt_eq 4 (512 * j.val + r.val) (by omega) (by omega)
  refine (mul_comm _ _).trans (congrArg₂ (· * ·) (w.trans (B.h20 _ _ _)) ?_)
  rw [pay5_apply, B.hi, n, Cert.MergeRefIdeal.Read.stack2, Cert.MergeRefIdeal.Read.pooled4_apply, Cert.MergeRefIdeal.Read.total4_apply]
  refine congrArg₂ (· - ·) (congrArg (Ideal.div · _) (t.trans (Finset.sum_congr rfl fun k _ => ?_))) ((u.trans (B.h8 _ _)).trans (congrArg pr (ix3_congr rfl rfl ?_)))
  · refine ite_congr rfl (fun _ => congrArg pr (ix3_congr rfl rfl ?_)) (fun _ => rfl)
    show 5632 + (128 * 2 + c.val) = 5632 + (256 + c.val); omega
  · show 5632 + (128 * 2 + c.val) = 5632 + (256 + c.val); omega

theorem Blocks.pool3 (B : Blocks i x0 x1 x2 x3 x4 x5 x6 x7 x8 x9 x10 x11 x12 x13 x14 x15 x16 x17 x18 x19 x20 x21 x22 x23 x24 x25 b j pr atn yf yb xs xr mo cv pw ps sd sn wb wo) (r : Fin 512) (e : Fin 128) :
    k0_pay9 (F := Ideal) (pe i x8 x9 x10) (k0_pay5 (BitVec.ofNat 32 (i 1).val)) (bandW x19 3) (bandW x19 3) (bandW x19 3) (bandW x19 3) (puW x8 3) (pwW x20 3) (ix2 r e)
      = ∑ c : Fin 128, pw (ix4 1 3 c e) * val_main_v168 (F := Ideal) pr (ix4 b ⟨512 * j.val + r.val, by omega⟩ 3 c) := by
  have hr := r.isLt
  have hj := j.isLt
  rw [pay9_apply]
  refine Finset.sum_congr rfl fun c _ => ?_
  have t := B.total (3 : Fin 4) c r
  have u := puW_apply x8 (3 : Fin 4) r c
  have w := pwW_apply x20 (3 : Fin 4) c e
  have n := cnt_eq 8 (512 * j.val + r.val) (by omega) (by omega)
  refine (mul_comm _ _).trans (congrArg₂ (· * ·) (w.trans (B.h20 _ _ _)) ?_)
  rw [pay5_apply, B.hi, n, Cert.MergeRefIdeal.Read.stack3, Cert.MergeRefIdeal.Read.pooled8_apply, Cert.MergeRefIdeal.Read.total8_apply]
  refine congrArg₂ (· - ·) (congrArg (Ideal.div · _) (t.trans (Finset.sum_congr rfl fun k _ => ?_))) ((u.trans (B.h8 _ _)).trans (congrArg pr (ix3_congr rfl rfl ?_)))
  · refine ite_congr rfl (fun _ => congrArg pr (ix3_congr rfl rfl ?_)) (fun _ => rfl)
    show 5632 + (128 * 3 + c.val) = 5632 + (384 + c.val); omega
  · show 5632 + (128 * 3 + c.val) = 5632 + (384 + c.val); omega

theorem Blocks.pool (B : Blocks i x0 x1 x2 x3 x4 x5 x6 x7 x8 x9 x10 x11 x12 x13 x14 x15 x16 x17 x18 x19 x20 x21 x22 x23 x24 x25 b j pr atn yf yb xs xr mo cv pw ps sd sn wb wo) (r n : Fin 512) :
    k0_pay10 (F := Ideal) (k0_pay6 (pe i x8 x9 x10) (k0_pay5 (BitVec.ofNat 32 (i 1).val)) (bandW x19 0) (bandW x19 0) (bandW x19 0) (bandW x19 0) (puW x8 0) (pwW x20 0))
      (k0_pay7 (pe i x8 x9 x10) (k0_pay5 (BitVec.ofNat 32 (i 1).val)) (bandW x19 1) (bandW x19 1) (bandW x19 1) (bandW x19 1) (puW x8 1) (pwW x20 1))
      (k0_pay8 (pe i x8 x9 x10) (k0_pay5 (BitVec.ofNat 32 (i 1).val)) (bandW x19 2) (bandW x19 2) (bandW x19 2) (bandW x19 2) (puW x8 2) (pwW x20 2))
      (k0_pay9 (pe i x8 x9 x10) (k0_pay5 (BitVec.ofNat 32 (i 1).val)) (bandW x19 3) (bandW x19 3) (bandW x19 3) (bandW x19 3) (puW x8 3) (pwW x20 3)) x21 (ix2 r n)
      = val_main_v176 (F := Ideal) pr pw ps (ix3 b ⟨512 * j.val + r.val, by omega⟩ n) := by
  have hn := n.isLt
  rw [pay10_apply, Cert.MergeRefIdeal.Read.pool_apply, B.h21]
  refine congrArg (· * _) ?_
  let f : ℕ → Fin 128 → EReal := fun g e => ∑ c : Fin 128, pw (ix4 1 ⟨g % 4, by omega⟩ c e) * val_main_v168 (F := Ideal) pr (ix4 b ⟨512 * j.val + r.val, by omega⟩ ⟨g % 4, by omega⟩ c)
  have q := four_eq f n
  have e0 := funext (fun e => B.pool0 r e)
  have e1 := funext (fun e => B.pool1 r e)
  have e2 := funext (fun e => B.pool2 r e)
  have e3 := funext (fun e => B.pool3 r e)
  rw [e0, e1, e2, e3]
  refine q.trans ?_
  have w : (⟨n.val / 128 % 4, by omega⟩ : Fin 4) = ⟨n.val / 128, by omega⟩ := Fin.ext (by show n.val / 128 % 4 = n.val / 128; omega)
  show (∑ c : Fin 128, pw (ix4 1 ⟨n.val / 128 % 4, by omega⟩ c ⟨n.val % 128, by omega⟩) * val_main_v168 (F := Ideal) pr (ix4 b ⟨512 * j.val + r.val, by omega⟩ ⟨n.val / 128 % 4, by omega⟩ c)) = _
  rw [w]

/-! ## The recurrence's branch -/

theorem Blocks.scan (B : Blocks i x0 x1 x2 x3 x4 x5 x6 x7 x8 x9 x10 x11 x12 x13 x14 x15 x16 x17 x18 x19 x20 x21 x22 x23 x24 x25 b j pr atn yf yb xs xr mo cv pw ps sd sn wb wo) (r n : Fin 512) :
    k0_pay11 (F := Ideal) x13 x14 x22 x15 x11 (ix2 r n) = val_main_v197 (F := Ideal) pr yf yb xs sd (ix3 b ⟨512 * j.val + r.val, by omega⟩ n) := by
  rw [pay11_apply, Cert.MergeRefIdeal.Read.gated_apply, Cert.FfnMath.ofBits_half, silu, B.h13, B.h14, B.h15, B.h22, B.h11]
  refine congrArg (· * _) ?_
  rw [add_comm, ← add_assoc]

theorem Blocks.ssd (B : Blocks i x0 x1 x2 x3 x4 x5 x6 x7 x8 x9 x10 x11 x12 x13 x14 x15 x16 x17 x18 x19 x20 x21 x22 x23 x24 x25 b j pr atn yf yb xs xr mo cv pw ps sd sn wb wo) (r n : Fin 512) :
    k0_pay14 (F := Ideal) (k0_pay11 x13 x14 x22 x15 x11) (k0_pay12 x13 x14 x22 x15 x11) x23 (ix2 r n)
      = val_main_v210 (F := Ideal) pr yf yb xs sd sn (ix3 b ⟨512 * j.val + r.val, by omega⟩ n) := by
  have s : (∑ e : Fin 512, k0_pay11 (F := Ideal) x13 x14 x22 x15 x11 (ix2 r e) * k0_pay11 (F := Ideal) x13 x14 x22 x15 x11 (ix2 r e))
      = ∑ e : Fin 512, val_main_v197 (F := Ideal) pr yf yb xs sd (ix3 b ⟨512 * j.val + r.val, by omega⟩ e) * val_main_v197 (F := Ideal) pr yf yb xs sd (ix3 b ⟨512 * j.val + r.val, by omega⟩ e) :=
    Finset.sum_congr rfl fun e _ => by rw [B.scan]
  rw [pay14_apply, pay12_apply, Cert.MergeRefIdeal.Read.ssd_apply, s, B.scan, B.h23]

/-! ## The merge -/

theorem Blocks.gate (B : Blocks i x0 x1 x2 x3 x4 x5 x6 x7 x8 x9 x10 x11 x12 x13 x14 x15 x16 x17 x18 x19 x20 x21 x22 x23 x24 x25 b j pr atn yf yb xs xr mo cv pw ps sd sn wb wo) (g : Fin 4) (r : Fin 512) (d : Fin 1024) :
    glW x0 g.val (ix3 0 r d) = pr (ix3 b ⟨512 * j.val + r.val, by omega⟩ ⟨g.val * 1024 + d.val, by omega⟩) :=
  ((glW_apply x0 g r d).trans (B.h0 _ _)).trans (congrArg pr (ix3_congr rfl rfl (by show 1024 * g.val + d.val = g.val * 1024 + d.val; omega)))

theorem Blocks.weight (B : Blocks i x0 x1 x2 x3 x4 x5 x6 x7 x8 x9 x10 x11 x12 x13 x14 x15 x16 x17 x18 x19 x20 x21 x22 x23 x24 x25 b j pr atn yf yb xs xr mo cv pw ps sd sn wb wo) (g : Fin 4) (k : Fin 512) (d : Fin 1024) :
    wbW x24 g.val (ix4 0 0 k d) = wb (ix4 1 g k d) := (wbW_apply x24 g k d).trans (B.h24 _ _ _)

theorem Blocks.merged (B : Blocks i x0 x1 x2 x3 x4 x5 x6 x7 x8 x9 x10 x11 x12 x13 x14 x15 x16 x17 x18 x19 x20 x21 x22 x23 x24 x25 b j pr atn yf yb xs xr mo cv pw ps sd sn wb wo) (r : Fin 512) (d : Fin 1024) :
    half * ((Ideal.tanh (glW x0 0 (ix3 0 r d)) + 1) * (∑ e : Fin 512, x12 (ix3 0 r e) * wbW x24 0 (ix4 0 0 e d))
        + (Ideal.tanh (glW x0 1 (ix3 0 r d)) + 1) * (∑ e : Fin 512, val_main_v31 (F := Ideal) pr cv (ix3 b ⟨512 * j.val + r.val, by omega⟩ e) * wbW x24 1 (ix4 0 0 e d))
        + (Ideal.tanh (glW x0 2 (ix3 0 r d)) + 1) * (∑ e : Fin 512, val_main_v176 (F := Ideal) pr pw ps (ix3 b ⟨512 * j.val + r.val, by omega⟩ e) * wbW x24 2 (ix4 0 0 e d))
        + (Ideal.tanh (glW x0 3 (ix3 0 r d)) + 1) * (∑ e : Fin 512, val_main_v210 (F := Ideal) pr yf yb xs sd sn (ix3 b ⟨512 * j.val + r.val, by omega⟩ e) * wbW x24 3 (ix4 0 0 e d)))
      = val_main_v229 (F := Ideal) pr atn yf yb xs cv pw ps sd sn wb (ix3 b ⟨512 * j.val + r.val, by omega⟩ d) := by
  rw [merge4, Cert.MergeRefIdeal.Read.merged_apply, Fin.sum_univ_four]
  have g0 := B.gate 0 r d
  have g1 := B.gate 1 r d
  have g2 := B.gate 2 r d
  have g3 := B.gate 3 r d
  refine congrArg₂ (· + ·) (congrArg₂ (· + ·) (congrArg₂ (· + ·) ?_ ?_) ?_) ?_
  · rw [Cert.MergeRefIdeal.Read.proj_apply, ofBits_two]
    refine congrArg₂ (· * ·) (congrArg (fun z => Ideal.div 1 (1 + Ideal.exp (-(two * z)))) g0) (Finset.sum_congr rfl fun e _ => ?_)
    rw [Cert.MergeRefIdeal.Read.branch0]
    refine (mul_comm _ _).trans (congrArg₂ (· * ·) (B.weight 0 e d) ?_)
    exact B.h12 r e
  · rw [Cert.MergeRefIdeal.Read.proj_apply, ofBits_two]
    refine congrArg₂ (· * ·) (congrArg (fun z => Ideal.div 1 (1 + Ideal.exp (-(two * z)))) g1) (Finset.sum_congr rfl fun e _ => ?_)
    rw [Cert.MergeRefIdeal.Read.branch1]
    refine (mul_comm _ _).trans (congrArg₂ (· * ·) (B.weight 1 e d) ?_)
    rfl
  · rw [Cert.MergeRefIdeal.Read.proj_apply, ofBits_two]
    refine congrArg₂ (· * ·) (congrArg (fun z => Ideal.div 1 (1 + Ideal.exp (-(two * z)))) g2) (Finset.sum_congr rfl fun e _ => ?_)
    rw [Cert.MergeRefIdeal.Read.branch2]
    refine (mul_comm _ _).trans (congrArg₂ (· * ·) (B.weight 2 e d) ?_)
    rfl
  · rw [Cert.MergeRefIdeal.Read.proj_apply, ofBits_two]
    refine congrArg₂ (· * ·) (congrArg (fun z => Ideal.div 1 (1 + Ideal.exp (-(two * z)))) g3) (Finset.sum_congr rfl fun e _ => ?_)
    rw [Cert.MergeRefIdeal.Read.branch3]
    refine (mul_comm _ _).trans (congrArg₂ (· * ·) (B.weight 3 e d) ?_)
    rfl

/-- A point's block of the result. -/
theorem Blocks.out (B : Blocks i x0 x1 x2 x3 x4 x5 x6 x7 x8 x9 x10 x11 x12 x13 x14 x15 x16 x17 x18 x19 x20 x21 x22 x23 x24 x25 b j pr atn yf yb xs xr mo cv pw ps sd sn wb wo) (r : Fin 512) (d : Fin 1024) :
    outV (F := Ideal) i x0 x1 x2 x3 x4 x5 x6 x7 x8 x9 x10 x11 x12 x13 x14 x15 x16 x17 x18 x19 x20 x21 x22 x23 x24 x25 (ix3 0 r d)
      = val_main_v236 (F := Ideal) pr atn yf yb xs xr mo cv pw ps sd sn wb wo (ix3 b ⟨512 * j.val + r.val, by omega⟩ d) := by
  unfold outV outL
  rw [pay1_apply, pay17_apply, Cert.MergeRefIdeal.Read.result_apply, B.h16, modW_apply, B.h17]
  refine congrArg (_ + _ * ·) (Finset.sum_congr rfl fun k _ => ?_)
  rw [B.h25]
  refine congrArg (· * _) ?_
  rw [← B.merged r k, Cert.FfnMath.ofBits_half, pay15_apply, pay16_apply]
  refine congrArg (half * ·) ?_
  refine congrArg₂ (· + ·) (congrArg₂ (· + ·) (congrArg₂ (· + ·) rfl ?_) ?_) ?_
  · refine congrArg (_ * ·) (Finset.sum_congr rfl fun e _ => congrArg (· * _) (B.conv r e))
  · refine congrArg (_ * ·) (Finset.sum_congr rfl fun e _ => congrArg (· * _) ((pay13_apply _ r e).trans (B.pool r e)))
  · refine congrArg (_ * ·) (Finset.sum_congr rfl fun e _ => congrArg (· * _) (B.ssd r e))

end

end Cert.MergeAlg

end
-- ==== Proof.MergeArr.lean ====
/-
  The blocks that the merge call reads and writes, as parts of its arrays.
-/
module

public import proofs.«01_k».proof.Proof.MergeFrame
public import proofs.«01_k».proof.Proof.MergeBlocks
public import proofs.«01_k».proof.Proof.MergeBand
public import proofs.«01_k».proof.Proof.Merge
public import Idealize.ShloMosaic.Lib.Pipeline.Value
public import proofs.«01_k».proof.Defs

@[expose] public section

set_option maxRecDepth 16384

noncomputable section

namespace Cert.MergeIdeal.Body

open Cert.MergeIdeal Cert.MergeIdeal.Gen
open Idealize.ShloMosaic Idealize.ShloMosaic.TcCoe Idealize.ShloMosaic.Tactic
open Idealize.SL.Sem
open Idealize.ShloMosaic.Pointwise
open Idealize.ShloMosaic.Pipeline (Dat)

variable (m : (ℓ : Loc nD τ sig) → Buf (Elt Ideal) ℓ) (ρ : Dev nD → PrngReg)

/-- The blocks' places, decided over the grid: batch `t / 16`, row block `t % 16`. -/
theorem coord1 : ∀ t : Fin cfg0.N, (grid0.coords t 1).val = t.val % 16 := (by decide +kernel : ∀ t : Fin grid0.N, _)
theorem index0 : ∀ t : Fin cfg0.N, win0_0.index t = ![t.val / 16, t.val % 16, 0] := (by decide +kernel : ∀ t : Fin grid0.N, _)
theorem index1 : ∀ t : Fin cfg0.N, win0_1.index t = ![t.val / 16, t.val % 16, 8] := (by decide +kernel : ∀ t : Fin grid0.N, _)
theorem index2 : ∀ t : Fin cfg0.N, win0_2.index t = ![t.val / 16, t.val % 16, 9] := (by decide +kernel : ∀ t : Fin grid0.N, _)
theorem index3 : ∀ t : Fin cfg0.N, win0_3.index t = ![t.val / 16, 32 * (t.val % 16) - 1, 9] := (by decide +kernel : ∀ t : Fin grid0.N, _)
theorem index4 : ∀ t : Fin cfg0.N, win0_4.index t = ![t.val / 16, min (32 * (t.val % 16 + 1)) 511, 9] := (by decide +kernel : ∀ t : Fin grid0.N, _)
theorem index5 : ∀ t : Fin cfg0.N, win0_5.index t = ![t.val / 16, t.val % 16, 10] := (by decide +kernel : ∀ t : Fin grid0.N, _)
theorem index6 : ∀ t : Fin cfg0.N, win0_6.index t = ![t.val / 16, 32 * (t.val % 16) - 1, 10] := (by decide +kernel : ∀ t : Fin grid0.N, _)
theorem index7 : ∀ t : Fin cfg0.N, win0_7.index t = ![t.val / 16, min (32 * (t.val % 16 + 1)) 511, 10] := (by decide +kernel : ∀ t : Fin grid0.N, _)
theorem index8 : ∀ t : Fin cfg0.N, win0_8.index t = ![t.val / 16, t.val % 16, 11] := (by decide +kernel : ∀ t : Fin grid0.N, _)
theorem index9 : ∀ t : Fin cfg0.N, win0_9.index t = ![t.val / 16, 32 * (t.val % 16) - 1, 11] := (by decide +kernel : ∀ t : Fin grid0.N, _)
theorem index10 : ∀ t : Fin cfg0.N, win0_10.index t = ![t.val / 16, min (32 * (t.val % 16 + 1)) 511, 11] := (by decide +kernel : ∀ t : Fin grid0.N, _)
theorem index11 : ∀ t : Fin cfg0.N, win0_11.index t = ![t.val / 16, t.val % 16, 12] := (by decide +kernel : ∀ t : Fin grid0.N, _)
theorem index12 : ∀ t : Fin cfg0.N, win0_12.index t = ![t.val / 16, t.val % 16, 0] := (by decide +kernel : ∀ t : Fin grid0.N, _)
theorem index13 : ∀ t : Fin cfg0.N, win0_13.index t = ![t.val / 16, t.val % 16, 0] := (by decide +kernel : ∀ t : Fin grid0.N, _)
theorem index14 : ∀ t : Fin cfg0.N, win0_14.index t = ![t.val / 16, t.val % 16, 0] := (by decide +kernel : ∀ t : Fin grid0.N, _)
theorem index15 : ∀ t : Fin cfg0.N, win0_15.index t = ![t.val / 16, t.val % 16, 0] := (by decide +kernel : ∀ t : Fin grid0.N, _)
theorem index16 : ∀ t : Fin cfg0.N, win0_16.index t = ![t.val / 16, t.val % 16, 0] := (by decide +kernel : ∀ t : Fin grid0.N, _)
theorem index17 : ∀ t : Fin cfg0.N, win0_17.index t = ![t.val / 16, 0, 0] := (by decide +kernel : ∀ t : Fin grid0.N, _)
theorem index18 : ∀ t : Fin cfg0.N, win0_18.index t = ![0, 0] := (by decide +kernel : ∀ t : Fin grid0.N, _)
theorem index19 : ∀ t : Fin cfg0.N, win0_19.index t = ![0, 0, 0] := (by decide +kernel : ∀ t : Fin grid0.N, _)
theorem index20 : ∀ t : Fin cfg0.N, win0_20.index t = ![1, 0, 0, 0] := (by decide +kernel : ∀ t : Fin grid0.N, _)
theorem index21 : ∀ t : Fin cfg0.N, win0_21.index t = ![0, 0] := (by decide +kernel : ∀ t : Fin grid0.N, _)
theorem index22 : ∀ t : Fin cfg0.N, win0_22.index t = ![0, 0] := (by decide +kernel : ∀ t : Fin grid0.N, _)
theorem index23 : ∀ t : Fin cfg0.N, win0_23.index t = ![0, 0] := (by decide +kernel : ∀ t : Fin grid0.N, _)
theorem index24 : ∀ t : Fin cfg0.N, win0_24.index t = ![1, 0, 0, 0] := (by decide +kernel : ∀ t : Fin grid0.N, _)
theorem index25 : ∀ t : Fin cfg0.N, win0_25.index t = ![1, 0, 0] := (by decide +kernel : ∀ t : Fin grid0.N, _)
theorem index26 : ∀ t : Fin cfg0.N, win0_26.index t = ![t.val / 16, t.val % 16, 0] := (by decide +kernel : ∀ t : Fin grid0.N, _)

theorem tlt (t : Fin cfg0.N) : t.val < 32 := t.isLt

/-- The batch and the row block of a point. -/
abbrev tb (t : Fin cfg0.N) : Fin 2 := ⟨t.val / 16, by have := tlt t; omega⟩
abbrev tj (t : Fin cfg0.N) : Fin 16 := ⟨t.val % 16, by omega⟩

/-! ## The arrays the host prepares -/

def narrow12 (w : FVec Ideal S2x4x512x1024 .f32) : FVec Ideal S2x4x512x1024 .bf16 := truncf .bf16 w bitsLt_bf16_f32
def narrow13 (w : FVec Ideal S2x1024x1024 .f32) : FVec Ideal S2x1024x1024 .bf16 := truncf .bf16 w bitsLt_bf16_f32
def narrow8 (w : FVec Ideal S2x4x128x128 .f32) : FVec Ideal S2x4x128x128 .bf16 := truncf .bf16 w bitsLt_bf16_f32

/-- A row of scales as a matrix of one row. -/
def asRow (g : FVec Ideal S512 .f32) : FVec Ideal S1x512 .f32 := shapeCast S1x512 g shapeCasts_S512_S1x512

theorem asRow_apply (g : FVec Ideal S512 .f32) (n : Fin 512) : asRow g (ix2 0 n) = g (ix1 n) := by
  pointwise [asRow]

/-- Each head's factor, repeated along the head's 64 columns. -/
def headRow (g : FVec Ideal S8 .f32) : FVec Ideal S1x512 .f32 :=
  shapeCast S1x512 (shapeCast S512 (broadcastInDim S8x64 ![0] bcast_S8_S8x64_0 g) shapeCasts_S8x64_S512) shapeCasts_S512_S1x512

theorem headRow_apply (g : FVec Ideal S8 .f32) (n : Fin 512) : headRow g (ix2 0 n) = g (ix1 ⟨n.val / 64, by omega⟩) := by
  pointwise [headRow]

theorem V_v0 (c : Dev nD) : V m c main_v0 = narrow12 (m ((c : Thread nD τ).loc main_arg12)) := by
  unfold_abbrev_sides
  after_results <;> rfl

theorem V_v1 (c : Dev nD) : V m c main_v1 = narrow13 (m ((c : Thread nD τ).loc main_arg13)) := by
  unfold_abbrev_sides
  after_results <;> rfl

theorem V_v2 (c : Dev nD) : V m c main_v2 = narrow8 (m ((c : Thread nD τ).loc main_arg8)) := by
  unfold_abbrev_sides
  after_results <;> rfl

theorem V_v5 (c : Dev nD) : V m c main_v5 = headRow (m ((c : Thread nD τ).loc main_arg10)) := by
  unfold_abbrev_sides
  after_results <;> rfl

theorem V_v6 (c : Dev nD) : V m c main_v6 = asRow (m ((c : Thread nD τ).loc main_arg9)) := by
  unfold_abbrev_sides
  after_results <;> rfl

theorem V_v7 (c : Dev nD) : V m c main_v7 = asRow (m ((c : Thread nD τ).loc main_arg11)) := by
  unfold_abbrev_sides
  after_results <;> rfl

theorem V_cst (c : Dev nD) : V m c main_cst = fun i => FloatOps.ofBits (F := Ideal) .bf16 (lit0 (S4x128x160.rowMajor i)) := by
  unfold_abbrev_sides
  after_results <;> rfl

/-! ## The blocks read -/

theorem blk0 (c : Dev nD) (t : Fin cfg0.N) (i1 : Fin 512) (i2 : Fin 4096) :
    X0_0 m c t (ix3 0 i1 i2 : S1x512x4096.Idx) = V m c main_arg0 (ix3 (tb t) ⟨512 * (tj t).val + i1.val, by omega⟩ ⟨i2.val, by omega⟩ : S2x8192x8448.Idx) := by
  have hi := index0 t
  have h0 : win0_0.index t (0 : Fin 3) = t.val / 16 := congrFun hi 0
  have h1 : win0_0.index t (1 : Fin 3) = t.val % 16 := congrFun hi 1
  have h2 : win0_0.index t (2 : Fin 3) = 0 := congrFun hi 2
  unfold X0_0 Pipeline.Window.fill
  rw [dif_pos (moved0_0 t _)]
  refine congrArg (V m c main_arg0) (?_ : ((cfg0.win 0).blk t).view.emb (fun a => ⟨((ix3 0 i1 i2 : S1x512x4096.Idx) a).val, _⟩) = (ix3 (tb t) ⟨512 * (tj t).val + i1.val, by omega⟩ ⟨i2.val, by omega⟩ : S2x8192x8448.Idx))
  funext a; apply Fin.ext
  match a with
  | ⟨0, _⟩ => show win0_0.index t (0 : Fin 3) * 1 + 1 * 0 = t.val / 16; omega
  | ⟨1, _⟩ => show win0_0.index t (1 : Fin 3) * 512 + 1 * i1.val = 512 * (t.val % 16) + i1.val; omega
  | ⟨2, _⟩ => show win0_0.index t (2 : Fin 3) * 4096 + 1 * i2.val = i2.val; omega

theorem blk1 (c : Dev nD) (t : Fin cfg0.N) (i1 : Fin 512) (i2 : Fin 512) :
    X0_1 m c t (ix3 0 i1 i2 : S1x512x512.Idx) = V m c main_arg0 (ix3 (tb t) ⟨512 * (tj t).val + i1.val, by omega⟩ ⟨4096 + i2.val, by omega⟩ : S2x8192x8448.Idx) := by
  have hi := index1 t
  have h0 : win0_1.index t (0 : Fin 3) = t.val / 16 := congrFun hi 0
  have h1 : win0_1.index t (1 : Fin 3) = t.val % 16 := congrFun hi 1
  have h2 : win0_1.index t (2 : Fin 3) = 8 := congrFun hi 2
  unfold X0_1 Pipeline.Window.fill
  rw [dif_pos (moved0_1 t _)]
  refine congrArg (V m c main_arg0) (?_ : ((cfg0.win 1).blk t).view.emb (fun a => ⟨((ix3 0 i1 i2 : S1x512x512.Idx) a).val, _⟩) = (ix3 (tb t) ⟨512 * (tj t).val + i1.val, by omega⟩ ⟨4096 + i2.val, by omega⟩ : S2x8192x8448.Idx))
  funext a; apply Fin.ext
  match a with
  | ⟨0, _⟩ => show win0_1.index t (0 : Fin 3) * 1 + 1 * 0 = t.val / 16; omega
  | ⟨1, _⟩ => show win0_1.index t (1 : Fin 3) * 512 + 1 * i1.val = 512 * (t.val % 16) + i1.val; omega
  | ⟨2, _⟩ => show win0_1.index t (2 : Fin 3) * 512 + 1 * i2.val = 4096 + i2.val; omega

theorem blk2 (c : Dev nD) (t : Fin cfg0.N) (i1 : Fin 512) (i2 : Fin 512) :
    X0_2 m c t (ix3 0 i1 i2 : S1x512x512.Idx) = V m c main_arg0 (ix3 (tb t) ⟨512 * (tj t).val + i1.val, by omega⟩ ⟨4608 + i2.val, by omega⟩ : S2x8192x8448.Idx) := by
  have hi := index2 t
  have h0 : win0_2.index t (0 : Fin 3) = t.val / 16 := congrFun hi 0
  have h1 : win0_2.index t (1 : Fin 3) = t.val % 16 := congrFun hi 1
  have h2 : win0_2.index t (2 : Fin 3) = 9 := congrFun hi 2
  unfold X0_2 Pipeline.Window.fill
  rw [dif_pos (moved0_2 t _)]
  refine congrArg (V m c main_arg0) (?_ : ((cfg0.win 2).blk t).view.emb (fun a => ⟨((ix3 0 i1 i2 : S1x512x512.Idx) a).val, _⟩) = (ix3 (tb t) ⟨512 * (tj t).val + i1.val, by omega⟩ ⟨4608 + i2.val, by omega⟩ : S2x8192x8448.Idx))
  funext a; apply Fin.ext
  match a with
  | ⟨0, _⟩ => show win0_2.index t (0 : Fin 3) * 1 + 1 * 0 = t.val / 16; omega
  | ⟨1, _⟩ => show win0_2.index t (1 : Fin 3) * 512 + 1 * i1.val = 512 * (t.val % 16) + i1.val; omega
  | ⟨2, _⟩ => show win0_2.index t (2 : Fin 3) * 512 + 1 * i2.val = 4608 + i2.val; omega

theorem blk3 (c : Dev nD) (t : Fin cfg0.N) (i1 : Fin 16) (i2 : Fin 512) (h : 1 ≤ (tj t).val) :
    X0_3 m c t (ix3 0 i1 i2 : S1x16x512.Idx) = V m c main_arg0 (ix3 (tb t) ⟨512 * (tj t).val - 16 + i1.val, by omega⟩ ⟨4608 + i2.val, by omega⟩ : S2x8192x8448.Idx) := by
  have hi := index3 t
  have h0 : win0_3.index t (0 : Fin 3) = t.val / 16 := congrFun hi 0
  have h1 : win0_3.index t (1 : Fin 3) = 32 * (t.val % 16) - 1 := congrFun hi 1
  have h2 : win0_3.index t (2 : Fin 3) = 9 := congrFun hi 2
  unfold X0_3 Pipeline.Window.fill
  rw [dif_pos (moved0_3 t _)]
  refine congrArg (V m c main_arg0) (?_ : ((cfg0.win 3).blk t).view.emb (fun a => ⟨((ix3 0 i1 i2 : S1x16x512.Idx) a).val, _⟩) = (ix3 (tb t) ⟨512 * (tj t).val - 16 + i1.val, by omega⟩ ⟨4608 + i2.val, by omega⟩ : S2x8192x8448.Idx))
  funext a; apply Fin.ext
  match a with
  | ⟨0, _⟩ => have hh : 1 ≤ t.val % 16 := h; show win0_3.index t (0 : Fin 3) * 1 + 1 * 0 = t.val / 16; omega
  | ⟨1, _⟩ => have hh : 1 ≤ t.val % 16 := h; show win0_3.index t (1 : Fin 3) * 16 + 1 * i1.val = 512 * (t.val % 16) - 16 + i1.val; omega
  | ⟨2, _⟩ => have hh : 1 ≤ t.val % 16 := h; show win0_3.index t (2 : Fin 3) * 512 + 1 * i2.val = 4608 + i2.val; omega

theorem blk4 (c : Dev nD) (t : Fin cfg0.N) (i1 : Fin 16) (i2 : Fin 512) (h : (tj t).val < 15) :
    X0_4 m c t (ix3 0 i1 i2 : S1x16x512.Idx) = V m c main_arg0 (ix3 (tb t) ⟨512 * (tj t).val + 512 + i1.val, by omega⟩ ⟨4608 + i2.val, by omega⟩ : S2x8192x8448.Idx) := by
  have hi := index4 t
  have h0 : win0_4.index t (0 : Fin 3) = t.val / 16 := congrFun hi 0
  have h1 : win0_4.index t (1 : Fin 3) = min (32 * (t.val % 16 + 1)) 511 := congrFun hi 1
  have h2 : win0_4.index t (2 : Fin 3) = 9 := congrFun hi 2
  unfold X0_4 Pipeline.Window.fill
  rw [dif_pos (moved0_4 t _)]
  refine congrArg (V m c main_arg0) (?_ : ((cfg0.win 4).blk t).view.emb (fun a => ⟨((ix3 0 i1 i2 : S1x16x512.Idx) a).val, _⟩) = (ix3 (tb t) ⟨512 * (tj t).val + 512 + i1.val, by omega⟩ ⟨4608 + i2.val, by omega⟩ : S2x8192x8448.Idx))
  funext a; apply Fin.ext
  match a with
  | ⟨0, _⟩ => have hh : t.val % 16 < 15 := h; show win0_4.index t (0 : Fin 3) * 1 + 1 * 0 = t.val / 16; omega
  | ⟨1, _⟩ => have hh : t.val % 16 < 15 := h; show win0_4.index t (1 : Fin 3) * 16 + 1 * i1.val = 512 * (t.val % 16) + 512 + i1.val; omega
  | ⟨2, _⟩ => have hh : t.val % 16 < 15 := h; show win0_4.index t (2 : Fin 3) * 512 + 1 * i2.val = 4608 + i2.val; omega

theorem blk5 (c : Dev nD) (t : Fin cfg0.N) (i1 : Fin 512) (i2 : Fin 512) :
    X0_5 m c t (ix3 0 i1 i2 : S1x512x512.Idx) = V m c main_arg0 (ix3 (tb t) ⟨512 * (tj t).val + i1.val, by omega⟩ ⟨5120 + i2.val, by omega⟩ : S2x8192x8448.Idx) := by
  have hi := index5 t
  have h0 : win0_5.index t (0 : Fin 3) = t.val / 16 := congrFun hi 0
  have h1 : win0_5.index t (1 : Fin 3) = t.val % 16 := congrFun hi 1
  have h2 : win0_5.index t (2 : Fin 3) = 10 := congrFun hi 2
  unfold X0_5 Pipeline.Window.fill
  rw [dif_pos (moved0_5 t _)]
  refine congrArg (V m c main_arg0) (?_ : ((cfg0.win 5).blk t).view.emb (fun a => ⟨((ix3 0 i1 i2 : S1x512x512.Idx) a).val, _⟩) = (ix3 (tb t) ⟨512 * (tj t).val + i1.val, by omega⟩ ⟨5120 + i2.val, by omega⟩ : S2x8192x8448.Idx))
  funext a; apply Fin.ext
  match a with
  | ⟨0, _⟩ => show win0_5.index t (0 : Fin 3) * 1 + 1 * 0 = t.val / 16; omega
  | ⟨1, _⟩ => show win0_5.index t (1 : Fin 3) * 512 + 1 * i1.val = 512 * (t.val % 16) + i1.val; omega
  | ⟨2, _⟩ => show win0_5.index t (2 : Fin 3) * 512 + 1 * i2.val = 5120 + i2.val; omega

theorem blk6 (c : Dev nD) (t : Fin cfg0.N) (i1 : Fin 16) (i2 : Fin 512) (h : 1 ≤ (tj t).val) :
    X0_6 m c t (ix3 0 i1 i2 : S1x16x512.Idx) = V m c main_arg0 (ix3 (tb t) ⟨512 * (tj t).val - 16 + i1.val, by omega⟩ ⟨5120 + i2.val, by omega⟩ : S2x8192x8448.Idx) := by
  have hi := index6 t
  have h0 : win0_6.index t (0 : Fin 3) = t.val / 16 := congrFun hi 0
  have h1 : win0_6.index t (1 : Fin 3) = 32 * (t.val % 16) - 1 := congrFun hi 1
  have h2 : win0_6.index t (2 : Fin 3) = 10 := congrFun hi 2
  unfold X0_6 Pipeline.Window.fill
  rw [dif_pos (moved0_6 t _)]
  refine congrArg (V m c main_arg0) (?_ : ((cfg0.win 6).blk t).view.emb (fun a => ⟨((ix3 0 i1 i2 : S1x16x512.Idx) a).val, _⟩) = (ix3 (tb t) ⟨512 * (tj t).val - 16 + i1.val, by omega⟩ ⟨5120 + i2.val, by omega⟩ : S2x8192x8448.Idx))
  funext a; apply Fin.ext
  match a with
  | ⟨0, _⟩ => have hh : 1 ≤ t.val % 16 := h; show win0_6.index t (0 : Fin 3) * 1 + 1 * 0 = t.val / 16; omega
  | ⟨1, _⟩ => have hh : 1 ≤ t.val % 16 := h; show win0_6.index t (1 : Fin 3) * 16 + 1 * i1.val = 512 * (t.val % 16) - 16 + i1.val; omega
  | ⟨2, _⟩ => have hh : 1 ≤ t.val % 16 := h; show win0_6.index t (2 : Fin 3) * 512 + 1 * i2.val = 5120 + i2.val; omega

theorem blk7 (c : Dev nD) (t : Fin cfg0.N) (i1 : Fin 16) (i2 : Fin 512) (h : (tj t).val < 15) :
    X0_7 m c t (ix3 0 i1 i2 : S1x16x512.Idx) = V m c main_arg0 (ix3 (tb t) ⟨512 * (tj t).val + 512 + i1.val, by omega⟩ ⟨5120 + i2.val, by omega⟩ : S2x8192x8448.Idx) := by
  have hi := index7 t
  have h0 : win0_7.index t (0 : Fin 3) = t.val / 16 := congrFun hi 0
  have h1 : win0_7.index t (1 : Fin 3) = min (32 * (t.val % 16 + 1)) 511 := congrFun hi 1
  have h2 : win0_7.index t (2 : Fin 3) = 10 := congrFun hi 2
  unfold X0_7 Pipeline.Window.fill
  rw [dif_pos (moved0_7 t _)]
  refine congrArg (V m c main_arg0) (?_ : ((cfg0.win 7).blk t).view.emb (fun a => ⟨((ix3 0 i1 i2 : S1x16x512.Idx) a).val, _⟩) = (ix3 (tb t) ⟨512 * (tj t).val + 512 + i1.val, by omega⟩ ⟨5120 + i2.val, by omega⟩ : S2x8192x8448.Idx))
  funext a; apply Fin.ext
  match a with
  | ⟨0, _⟩ => have hh : t.val % 16 < 15 := h; show win0_7.index t (0 : Fin 3) * 1 + 1 * 0 = t.val / 16; omega
  | ⟨1, _⟩ => have hh : t.val % 16 < 15 := h; show win0_7.index t (1 : Fin 3) * 16 + 1 * i1.val = 512 * (t.val % 16) + 512 + i1.val; omega
  | ⟨2, _⟩ => have hh : t.val % 16 < 15 := h; show win0_7.index t (2 : Fin 3) * 512 + 1 * i2.val = 5120 + i2.val; omega

theorem blk8 (c : Dev nD) (t : Fin cfg0.N) (i1 : Fin 512) (i2 : Fin 512) :
    X0_8 m c t (ix3 0 i1 i2 : S1x512x512.Idx) = V m c main_arg0 (ix3 (tb t) ⟨512 * (tj t).val + i1.val, by omega⟩ ⟨5632 + i2.val, by omega⟩ : S2x8192x8448.Idx) := by
  have hi := index8 t
  have h0 : win0_8.index t (0 : Fin 3) = t.val / 16 := congrFun hi 0
  have h1 : win0_8.index t (1 : Fin 3) = t.val % 16 := congrFun hi 1
  have h2 : win0_8.index t (2 : Fin 3) = 11 := congrFun hi 2
  unfold X0_8 Pipeline.Window.fill
  rw [dif_pos (moved0_8 t _)]
  refine congrArg (V m c main_arg0) (?_ : ((cfg0.win 8).blk t).view.emb (fun a => ⟨((ix3 0 i1 i2 : S1x512x512.Idx) a).val, _⟩) = (ix3 (tb t) ⟨512 * (tj t).val + i1.val, by omega⟩ ⟨5632 + i2.val, by omega⟩ : S2x8192x8448.Idx))
  funext a; apply Fin.ext
  match a with
  | ⟨0, _⟩ => show win0_8.index t (0 : Fin 3) * 1 + 1 * 0 = t.val / 16; omega
  | ⟨1, _⟩ => show win0_8.index t (1 : Fin 3) * 512 + 1 * i1.val = 512 * (t.val % 16) + i1.val; omega
  | ⟨2, _⟩ => show win0_8.index t (2 : Fin 3) * 512 + 1 * i2.val = 5632 + i2.val; omega

theorem blk9 (c : Dev nD) (t : Fin cfg0.N) (i1 : Fin 16) (i2 : Fin 512) (h : 1 ≤ (tj t).val) :
    X0_9 m c t (ix3 0 i1 i2 : S1x16x512.Idx) = V m c main_arg0 (ix3 (tb t) ⟨512 * (tj t).val - 16 + i1.val, by omega⟩ ⟨5632 + i2.val, by omega⟩ : S2x8192x8448.Idx) := by
  have hi := index9 t
  have h0 : win0_9.index t (0 : Fin 3) = t.val / 16 := congrFun hi 0
  have h1 : win0_9.index t (1 : Fin 3) = 32 * (t.val % 16) - 1 := congrFun hi 1
  have h2 : win0_9.index t (2 : Fin 3) = 11 := congrFun hi 2
  unfold X0_9 Pipeline.Window.fill
  rw [dif_pos (moved0_9 t _)]
  refine congrArg (V m c main_arg0) (?_ : ((cfg0.win 9).blk t).view.emb (fun a => ⟨((ix3 0 i1 i2 : S1x16x512.Idx) a).val, _⟩) = (ix3 (tb t) ⟨512 * (tj t).val - 16 + i1.val, by omega⟩ ⟨5632 + i2.val, by omega⟩ : S2x8192x8448.Idx))
  funext a; apply Fin.ext
  match a with
  | ⟨0, _⟩ => have hh : 1 ≤ t.val % 16 := h; show win0_9.index t (0 : Fin 3) * 1 + 1 * 0 = t.val / 16; omega
  | ⟨1, _⟩ => have hh : 1 ≤ t.val % 16 := h; show win0_9.index t (1 : Fin 3) * 16 + 1 * i1.val = 512 * (t.val % 16) - 16 + i1.val; omega
  | ⟨2, _⟩ => have hh : 1 ≤ t.val % 16 := h; show win0_9.index t (2 : Fin 3) * 512 + 1 * i2.val = 5632 + i2.val; omega

theorem blk10 (c : Dev nD) (t : Fin cfg0.N) (i1 : Fin 16) (i2 : Fin 512) (h : (tj t).val < 15) :
    X0_10 m c t (ix3 0 i1 i2 : S1x16x512.Idx) = V m c main_arg0 (ix3 (tb t) ⟨512 * (tj t).val + 512 + i1.val, by omega⟩ ⟨5632 + i2.val, by omega⟩ : S2x8192x8448.Idx) := by
  have hi := index10 t
  have h0 : win0_10.index t (0 : Fin 3) = t.val / 16 := congrFun hi 0
  have h1 : win0_10.index t (1 : Fin 3) = min (32 * (t.val % 16 + 1)) 511 := congrFun hi 1
  have h2 : win0_10.index t (2 : Fin 3) = 11 := congrFun hi 2
  unfold X0_10 Pipeline.Window.fill
  rw [dif_pos (moved0_10 t _)]
  refine congrArg (V m c main_arg0) (?_ : ((cfg0.win 10).blk t).view.emb (fun a => ⟨((ix3 0 i1 i2 : S1x16x512.Idx) a).val, _⟩) = (ix3 (tb t) ⟨512 * (tj t).val + 512 + i1.val, by omega⟩ ⟨5632 + i2.val, by omega⟩ : S2x8192x8448.Idx))
  funext a; apply Fin.ext
  match a with
  | ⟨0, _⟩ => have hh : t.val % 16 < 15 := h; show win0_10.index t (0 : Fin 3) * 1 + 1 * 0 = t.val / 16; omega
  | ⟨1, _⟩ => have hh : t.val % 16 < 15 := h; show win0_10.index t (1 : Fin 3) * 16 + 1 * i1.val = 512 * (t.val % 16) + 512 + i1.val; omega
  | ⟨2, _⟩ => have hh : t.val % 16 < 15 := h; show win0_10.index t (2 : Fin 3) * 512 + 1 * i2.val = 5632 + i2.val; omega

theorem blk11 (c : Dev nD) (t : Fin cfg0.N) (i1 : Fin 512) (i2 : Fin 512) :
    X0_11 m c t (ix3 0 i1 i2 : S1x512x512.Idx) = V m c main_arg0 (ix3 (tb t) ⟨512 * (tj t).val + i1.val, by omega⟩ ⟨6144 + i2.val, by omega⟩ : S2x8192x8448.Idx) := by
  have hi := index11 t
  have h0 : win0_11.index t (0 : Fin 3) = t.val / 16 := congrFun hi 0
  have h1 : win0_11.index t (1 : Fin 3) = t.val % 16 := congrFun hi 1
  have h2 : win0_11.index t (2 : Fin 3) = 12 := congrFun hi 2
  unfold X0_11 Pipeline.Window.fill
  rw [dif_pos (moved0_11 t _)]
  refine congrArg (V m c main_arg0) (?_ : ((cfg0.win 11).blk t).view.emb (fun a => ⟨((ix3 0 i1 i2 : S1x512x512.Idx) a).val, _⟩) = (ix3 (tb t) ⟨512 * (tj t).val + i1.val, by omega⟩ ⟨6144 + i2.val, by omega⟩ : S2x8192x8448.Idx))
  funext a; apply Fin.ext
  match a with
  | ⟨0, _⟩ => show win0_11.index t (0 : Fin 3) * 1 + 1 * 0 = t.val / 16; omega
  | ⟨1, _⟩ => show win0_11.index t (1 : Fin 3) * 512 + 1 * i1.val = 512 * (t.val % 16) + i1.val; omega
  | ⟨2, _⟩ => show win0_11.index t (2 : Fin 3) * 512 + 1 * i2.val = 6144 + i2.val; omega

theorem blk12 (c : Dev nD) (t : Fin cfg0.N) (i1 : Fin 512) (i2 : Fin 512) :
    iblk m c 12 t (ix3 0 i1 i2 : S1x512x512.Idx) = V m c main_arg1 (ix3 (tb t) ⟨512 * (tj t).val + i1.val, by omega⟩ i2 : S2x8192x512.Idx) := by
  have hi := index12 t
  have h0 : win0_12.index t (0 : Fin 3) = t.val / 16 := congrFun hi 0
  have h1 : win0_12.index t (1 : Fin 3) = t.val % 16 := congrFun hi 1
  have h2 : win0_12.index t (2 : Fin 3) = 0 := congrFun hi 2
  refine congrArg (V m c main_arg1) (?_ : ((cfg0.win 12).blk t).view.emb (ix3 0 i1 i2 : S1x512x512.Idx) = (ix3 (tb t) ⟨512 * (tj t).val + i1.val, by omega⟩ i2 : S2x8192x512.Idx))
  funext a; apply Fin.ext
  match a with
  | ⟨0, _⟩ => show win0_12.index t (0 : Fin 3) * 1 + 1 * 0 = t.val / 16; omega
  | ⟨1, _⟩ => show win0_12.index t (1 : Fin 3) * 512 + 1 * i1.val = 512 * (t.val % 16) + i1.val; omega
  | ⟨2, _⟩ => show win0_12.index t (2 : Fin 3) * 512 + 1 * i2.val = i2.val; omega

theorem blk13 (c : Dev nD) (t : Fin cfg0.N) (i1 : Fin 512) (i2 : Fin 512) :
    X0_13 m c t (ix3 0 i1 i2 : S1x512x512.Idx) = V m c main_arg2 (ix3 (tb t) ⟨512 * (tj t).val + i1.val, by omega⟩ i2 : S2x8448x512.Idx) := by
  have hi := index13 t
  have h0 : win0_13.index t (0 : Fin 3) = t.val / 16 := congrFun hi 0
  have h1 : win0_13.index t (1 : Fin 3) = t.val % 16 := congrFun hi 1
  have h2 : win0_13.index t (2 : Fin 3) = 0 := congrFun hi 2
  unfold X0_13 Pipeline.Window.fill
  rw [dif_pos (moved0_13 t _)]
  refine congrArg (V m c main_arg2) (?_ : ((cfg0.win 13).blk t).view.emb (fun a => ⟨((ix3 0 i1 i2 : S1x512x512.Idx) a).val, _⟩) = (ix3 (tb t) ⟨512 * (tj t).val + i1.val, by omega⟩ i2 : S2x8448x512.Idx))
  funext a; apply Fin.ext
  match a with
  | ⟨0, _⟩ => show win0_13.index t (0 : Fin 3) * 1 + 1 * 0 = t.val / 16; omega
  | ⟨1, _⟩ => show win0_13.index t (1 : Fin 3) * 512 + 1 * i1.val = 512 * (t.val % 16) + i1.val; omega
  | ⟨2, _⟩ => show win0_13.index t (2 : Fin 3) * 512 + 1 * i2.val = i2.val; omega

theorem blk14 (c : Dev nD) (t : Fin cfg0.N) (i1 : Fin 512) (i2 : Fin 512) :
    X0_14 m c t (ix3 0 i1 i2 : S1x512x512.Idx) = V m c main_arg3 (ix3 (tb t) ⟨512 * (tj t).val + i1.val, by omega⟩ i2 : S2x8448x512.Idx) := by
  have hi := index14 t
  have h0 : win0_14.index t (0 : Fin 3) = t.val / 16 := congrFun hi 0
  have h1 : win0_14.index t (1 : Fin 3) = t.val % 16 := congrFun hi 1
  have h2 : win0_14.index t (2 : Fin 3) = 0 := congrFun hi 2
  unfold X0_14 Pipeline.Window.fill
  rw [dif_pos (moved0_14 t _)]
  refine congrArg (V m c main_arg3) (?_ : ((cfg0.win 14).blk t).view.emb (fun a => ⟨((ix3 0 i1 i2 : S1x512x512.Idx) a).val, _⟩) = (ix3 (tb t) ⟨512 * (tj t).val + i1.val, by omega⟩ i2 : S2x8448x512.Idx))
  funext a; apply Fin.ext
  match a with
  | ⟨0, _⟩ => show win0_14.index t (0 : Fin 3) * 1 + 1 * 0 = t.val / 16; omega
  | ⟨1, _⟩ => show win0_14.index t (1 : Fin 3) * 512 + 1 * i1.val = 512 * (t.val % 16) + i1.val; omega
  | ⟨2, _⟩ => show win0_14.index t (2 : Fin 3) * 512 + 1 * i2.val = i2.val; omega

theorem blk15 (c : Dev nD) (t : Fin cfg0.N) (i1 : Fin 512) (i2 : Fin 512) :
    X0_15 m c t (ix3 0 i1 i2 : S1x512x512.Idx) = V m c main_arg4 (ix3 (tb t) ⟨512 * (tj t).val + i1.val, by omega⟩ i2 : S2x8448x512.Idx) := by
  have hi := index15 t
  have h0 : win0_15.index t (0 : Fin 3) = t.val / 16 := congrFun hi 0
  have h1 : win0_15.index t (1 : Fin 3) = t.val % 16 := congrFun hi 1
  have h2 : win0_15.index t (2 : Fin 3) = 0 := congrFun hi 2
  unfold X0_15 Pipeline.Window.fill
  rw [dif_pos (moved0_15 t _)]
  refine congrArg (V m c main_arg4) (?_ : ((cfg0.win 15).blk t).view.emb (fun a => ⟨((ix3 0 i1 i2 : S1x512x512.Idx) a).val, _⟩) = (ix3 (tb t) ⟨512 * (tj t).val + i1.val, by omega⟩ i2 : S2x8448x512.Idx))
  funext a; apply Fin.ext
  match a with
  | ⟨0, _⟩ => show win0_15.index t (0 : Fin 3) * 1 + 1 * 0 = t.val / 16; omega
  | ⟨1, _⟩ => show win0_15.index t (1 : Fin 3) * 512 + 1 * i1.val = 512 * (t.val % 16) + i1.val; omega
  | ⟨2, _⟩ => show win0_15.index t (2 : Fin 3) * 512 + 1 * i2.val = i2.val; omega

theorem blk16 (c : Dev nD) (t : Fin cfg0.N) (i1 : Fin 512) (i2 : Fin 1024) :
    iblk m c 16 t (ix3 0 i1 i2 : S1x512x1024.Idx) = V m c main_arg5 (ix3 (tb t) ⟨512 * (tj t).val + i1.val, by omega⟩ i2 : S2x8192x1024.Idx) := by
  have hi := index16 t
  have h0 : win0_16.index t (0 : Fin 3) = t.val / 16 := congrFun hi 0
  have h1 : win0_16.index t (1 : Fin 3) = t.val % 16 := congrFun hi 1
  have h2 : win0_16.index t (2 : Fin 3) = 0 := congrFun hi 2
  refine congrArg (V m c main_arg5) (?_ : ((cfg0.win 16).blk t).view.emb (ix3 0 i1 i2 : S1x512x1024.Idx) = (ix3 (tb t) ⟨512 * (tj t).val + i1.val, by omega⟩ i2 : S2x8192x1024.Idx))
  funext a; apply Fin.ext
  match a with
  | ⟨0, _⟩ => show win0_16.index t (0 : Fin 3) * 1 + 1 * 0 = t.val / 16; omega
  | ⟨1, _⟩ => show win0_16.index t (1 : Fin 3) * 512 + 1 * i1.val = 512 * (t.val % 16) + i1.val; omega
  | ⟨2, _⟩ => show win0_16.index t (2 : Fin 3) * 1024 + 1 * i2.val = i2.val; omega

theorem blk17 (c : Dev nD) (t : Fin cfg0.N) (i1 : Fin 6) (i2 : Fin 1024) :
    iblk m c 17 t (ix3 0 i1 i2 : S1x6x1024.Idx) = V m c main_arg6 (ix3 (tb t) i1 i2 : S2x6x1024.Idx) := by
  have hi := index17 t
  have h0 : win0_17.index t (0 : Fin 3) = t.val / 16 := congrFun hi 0
  have h1 : win0_17.index t (1 : Fin 3) = 0 := congrFun hi 1
  have h2 : win0_17.index t (2 : Fin 3) = 0 := congrFun hi 2
  refine congrArg (V m c main_arg6) (?_ : ((cfg0.win 17).blk t).view.emb (ix3 0 i1 i2 : S1x6x1024.Idx) = (ix3 (tb t) i1 i2 : S2x6x1024.Idx))
  funext a; apply Fin.ext
  match a with
  | ⟨0, _⟩ => show win0_17.index t (0 : Fin 3) * 1 + 1 * 0 = t.val / 16; omega
  | ⟨1, _⟩ => show win0_17.index t (1 : Fin 3) * 6 + 1 * i1.val = i1.val; omega
  | ⟨2, _⟩ => show win0_17.index t (2 : Fin 3) * 1024 + 1 * i2.val = i2.val; omega

theorem blk18 (c : Dev nD) (t : Fin cfg0.N) (i0 : Fin 3) (i1 : Fin 512) :
    iblk m c 18 t (ix2 i0 i1 : S3x512.Idx) = V m c main_arg7 (ix2 i0 i1 : S3x512.Idx) := by
  have hi := index18 t
  have h0 : win0_18.index t (0 : Fin 2) = 0 := congrFun hi 0
  have h1 : win0_18.index t (1 : Fin 2) = 0 := congrFun hi 1
  refine congrArg (V m c main_arg7) (?_ : ((cfg0.win 18).blk t).view.emb (ix2 i0 i1 : S3x512.Idx) = (ix2 i0 i1 : S3x512.Idx))
  funext a; apply Fin.ext
  match a with
  | ⟨0, _⟩ => show win0_18.index t (0 : Fin 2) * 3 + 1 * i0.val = i0.val; omega
  | ⟨1, _⟩ => show win0_18.index t (1 : Fin 2) * 512 + 1 * i1.val = i1.val; omega

theorem blk19 (c : Dev nD) (t : Fin cfg0.N) (i0 : Fin 4) (i1 : Fin 128) (i2 : Fin 160) :
    iblk m c 19 t (ix3 i0 i1 i2 : S4x128x160.Idx) = V m c main_cst (ix3 i0 i1 i2 : S4x128x160.Idx) := by
  have hi := index19 t
  have h0 : win0_19.index t (0 : Fin 3) = 0 := congrFun hi 0
  have h1 : win0_19.index t (1 : Fin 3) = 0 := congrFun hi 1
  have h2 : win0_19.index t (2 : Fin 3) = 0 := congrFun hi 2
  refine congrArg (V m c main_cst) (?_ : ((cfg0.win 19).blk t).view.emb (ix3 i0 i1 i2 : S4x128x160.Idx) = (ix3 i0 i1 i2 : S4x128x160.Idx))
  funext a; apply Fin.ext
  match a with
  | ⟨0, _⟩ => show win0_19.index t (0 : Fin 3) * 4 + 1 * i0.val = i0.val; omega
  | ⟨1, _⟩ => show win0_19.index t (1 : Fin 3) * 128 + 1 * i1.val = i1.val; omega
  | ⟨2, _⟩ => show win0_19.index t (2 : Fin 3) * 160 + 1 * i2.val = i2.val; omega

theorem blk20 (c : Dev nD) (t : Fin cfg0.N) (i1 : Fin 4) (i2 : Fin 128) (i3 : Fin 128) :
    iblk m c 20 t (ix4 0 i1 i2 i3 : S1x4x128x128.Idx) = V m c main_v2 (ix4 1 i1 i2 i3 : S2x4x128x128.Idx) := by
  have hi := index20 t
  have h0 : win0_20.index t (0 : Fin 4) = 1 := congrFun hi 0
  have h1 : win0_20.index t (1 : Fin 4) = 0 := congrFun hi 1
  have h2 : win0_20.index t (2 : Fin 4) = 0 := congrFun hi 2
  have h3 : win0_20.index t (3 : Fin 4) = 0 := congrFun hi 3
  refine congrArg (V m c main_v2) (?_ : ((cfg0.win 20).blk t).view.emb (ix4 0 i1 i2 i3 : S1x4x128x128.Idx) = (ix4 1 i1 i2 i3 : S2x4x128x128.Idx))
  funext a; apply Fin.ext
  match a with
  | ⟨0, _⟩ => show win0_20.index t (0 : Fin 4) * 1 + 1 * 0 = 1; omega
  | ⟨1, _⟩ => show win0_20.index t (1 : Fin 4) * 4 + 1 * i1.val = i1.val; omega
  | ⟨2, _⟩ => show win0_20.index t (2 : Fin 4) * 128 + 1 * i2.val = i2.val; omega
  | ⟨3, _⟩ => show win0_20.index t (3 : Fin 4) * 128 + 1 * i3.val = i3.val; omega

theorem blk21 (c : Dev nD) (t : Fin cfg0.N) (i1 : Fin 512) :
    iblk m c 21 t (ix2 0 i1 : S1x512.Idx) = V m c main_v6 (ix2 0 i1 : S1x512.Idx) := by
  have hi := index21 t
  have h0 : win0_21.index t (0 : Fin 2) = 0 := congrFun hi 0
  have h1 : win0_21.index t (1 : Fin 2) = 0 := congrFun hi 1
  refine congrArg (V m c main_v6) (?_ : ((cfg0.win 21).blk t).view.emb (ix2 0 i1 : S1x512.Idx) = (ix2 0 i1 : S1x512.Idx))
  funext a; apply Fin.ext
  match a with
  | ⟨0, _⟩ => show win0_21.index t (0 : Fin 2) * 1 + 1 * 0 = 0; omega
  | ⟨1, _⟩ => show win0_21.index t (1 : Fin 2) * 512 + 1 * i1.val = i1.val; omega

theorem blk22 (c : Dev nD) (t : Fin cfg0.N) (i1 : Fin 512) :
    iblk m c 22 t (ix2 0 i1 : S1x512.Idx) = V m c main_v5 (ix2 0 i1 : S1x512.Idx) := by
  have hi := index22 t
  have h0 : win0_22.index t (0 : Fin 2) = 0 := congrFun hi 0
  have h1 : win0_22.index t (1 : Fin 2) = 0 := congrFun hi 1
  refine congrArg (V m c main_v5) (?_ : ((cfg0.win 22).blk t).view.emb (ix2 0 i1 : S1x512.Idx) = (ix2 0 i1 : S1x512.Idx))
  funext a; apply Fin.ext
  match a with
  | ⟨0, _⟩ => show win0_22.index t (0 : Fin 2) * 1 + 1 * 0 = 0; omega
  | ⟨1, _⟩ => show win0_22.index t (1 : Fin 2) * 512 + 1 * i1.val = i1.val; omega

theorem blk23 (c : Dev nD) (t : Fin cfg0.N) (i1 : Fin 512) :
    iblk m c 23 t (ix2 0 i1 : S1x512.Idx) = V m c main_v7 (ix2 0 i1 : S1x512.Idx) := by
  have hi := index23 t
  have h0 : win0_23.index t (0 : Fin 2) = 0 := congrFun hi 0
  have h1 : win0_23.index t (1 : Fin 2) = 0 := congrFun hi 1
  refine congrArg (V m c main_v7) (?_ : ((cfg0.win 23).blk t).view.emb (ix2 0 i1 : S1x512.Idx) = (ix2 0 i1 : S1x512.Idx))
  funext a; apply Fin.ext
  match a with
  | ⟨0, _⟩ => show win0_23.index t (0 : Fin 2) * 1 + 1 * 0 = 0; omega
  | ⟨1, _⟩ => show win0_23.index t (1 : Fin 2) * 512 + 1 * i1.val = i1.val; omega

theorem blk24 (c : Dev nD) (t : Fin cfg0.N) (i1 : Fin 4) (i2 : Fin 512) (i3 : Fin 1024) :
    iblk m c 24 t (ix4 0 i1 i2 i3 : S1x4x512x1024.Idx) = V m c main_v0 (ix4 1 i1 i2 i3 : S2x4x512x1024.Idx) := by
  have hi := index24 t
  have h0 : win0_24.index t (0 : Fin 4) = 1 := congrFun hi 0
  have h1 : win0_24.index t (1 : Fin 4) = 0 := congrFun hi 1
  have h2 : win0_24.index t (2 : Fin 4) = 0 := congrFun hi 2
  have h3 : win0_24.index t (3 : Fin 4) = 0 := congrFun hi 3
  refine congrArg (V m c main_v0) (?_ : ((cfg0.win 24).blk t).view.emb (ix4 0 i1 i2 i3 : S1x4x512x1024.Idx) = (ix4 1 i1 i2 i3 : S2x4x512x1024.Idx))
  funext a; apply Fin.ext
  match a with
  | ⟨0, _⟩ => show win0_24.index t (0 : Fin 4) * 1 + 1 * 0 = 1; omega
  | ⟨1, _⟩ => show win0_24.index t (1 : Fin 4) * 4 + 1 * i1.val = i1.val; omega
  | ⟨2, _⟩ => show win0_24.index t (2 : Fin 4) * 512 + 1 * i2.val = i2.val; omega
  | ⟨3, _⟩ => show win0_24.index t (3 : Fin 4) * 1024 + 1 * i3.val = i3.val; omega

theorem blk25 (c : Dev nD) (t : Fin cfg0.N) (i1 : Fin 1024) (i2 : Fin 1024) :
    iblk m c 25 t (ix3 0 i1 i2 : S1x1024x1024.Idx) = V m c main_v1 (ix3 1 i1 i2 : S2x1024x1024.Idx) := by
  have hi := index25 t
  have h0 : win0_25.index t (0 : Fin 3) = 1 := congrFun hi 0
  have h1 : win0_25.index t (1 : Fin 3) = 0 := congrFun hi 1
  have h2 : win0_25.index t (2 : Fin 3) = 0 := congrFun hi 2
  refine congrArg (V m c main_v1) (?_ : ((cfg0.win 25).blk t).view.emb (ix3 0 i1 i2 : S1x1024x1024.Idx) = (ix3 1 i1 i2 : S2x1024x1024.Idx))
  funext a; apply Fin.ext
  match a with
  | ⟨0, _⟩ => show win0_25.index t (0 : Fin 3) * 1 + 1 * 0 = 1; omega
  | ⟨1, _⟩ => show win0_25.index t (1 : Fin 3) * 1024 + 1 * i1.val = i1.val; omega
  | ⟨2, _⟩ => show win0_25.index t (2 : Fin 3) * 1024 + 1 * i2.val = i2.val; omega

/-- The blocks that a point reads are the point's parts of the arrays. -/
theorem blocks (c : Dev nD) (t : Fin cfg0.N) (pr : FVec Ideal S2x8192x8448 .bf16) (atn : FVec Ideal S2x8192x512 .bf16) (yf : FVec Ideal S2x8448x512 .bf16) (yb : FVec Ideal S2x8448x512 .bf16) (xs : FVec Ideal S2x8448x512 .bf16)
    (xr : FVec Ideal S2x8192x1024 .f32) (mo : FVec Ideal S2x6x1024 .f32) (cv : FVec Ideal S3x512 .f32) (pw : FVec Ideal S2x4x128x128 .f32) (ps : FVec Ideal S512 .f32)
    (sd : FVec Ideal S8 .f32) (sn : FVec Ideal S512 .f32) (wb : FVec Ideal S2x4x512x1024 .f32) (wo : FVec Ideal S2x1024x1024 .f32)
    (e0 : m ((c : Thread nD τ).loc main_arg0) = pr) (e1 : m ((c : Thread nD τ).loc main_arg1) = atn) (e2 : m ((c : Thread nD τ).loc main_arg2) = yf) (e3 : m ((c : Thread nD τ).loc main_arg3) = yb) (e4 : m ((c : Thread nD τ).loc main_arg4) = xs) (e5 : m ((c : Thread nD τ).loc main_arg5) = xr) (e6 : m ((c : Thread nD τ).loc main_arg6) = mo) (e7 : m ((c : Thread nD τ).loc main_arg7) = cv) (e8 : m ((c : Thread nD τ).loc main_arg8) = pw) (e9 : m ((c : Thread nD τ).loc main_arg9) = ps) (e10 : m ((c : Thread nD τ).loc main_arg10) = sd) (e11 : m ((c : Thread nD τ).loc main_arg11) = sn) (e12 : m ((c : Thread nD τ).loc main_arg12) = wb) (e13 : m ((c : Thread nD τ).loc main_arg13) = wo) :
    Cert.MergeAlg.Blocks (grid0.coords t) (X0_0 m c t) (X0_1 m c t) (X0_2 m c t) (X0_3 m c t) (X0_4 m c t) (X0_5 m c t) (X0_6 m c t) (X0_7 m c t) (X0_8 m c t) (X0_9 m c t) (X0_10 m c t) (X0_11 m c t) (iblk m c 12 t) (X0_13 m c t) (X0_14 m c t) (X0_15 m c t) (iblk m c 16 t) (iblk m c 17 t) (iblk m c 18 t) (iblk m c 19 t) (iblk m c 20 t) (iblk m c 21 t) (iblk m c 22 t) (iblk m c 23 t) (iblk m c 24 t) (iblk m c 25 t) (tb t) (tj t) pr atn yf yb xs xr mo cv pw ps sd sn wb wo := by
  have a0 : V m c main_arg0 = pr := (V_main_arg0 m c).trans e0
  have a1 : V m c main_arg1 = atn := (V_main_arg1 m c).trans e1
  have a2 : V m c main_arg2 = yf := (V_main_arg2 m c).trans e2
  have a3 : V m c main_arg3 = yb := (V_main_arg3 m c).trans e3
  have a4 : V m c main_arg4 = xs := (V_main_arg4 m c).trans e4
  have a5 : V m c main_arg5 = xr := (V_main_arg5 m c).trans e5
  have a6 : V m c main_arg6 = mo := (V_main_arg6 m c).trans e6
  have a7 : V m c main_arg7 = cv := (V_main_arg7 m c).trans e7
  have v0 : V m c main_v0 = narrow12 wb := (V_v0 m c).trans (congrArg narrow12 e12)
  have v1 : V m c main_v1 = narrow13 wo := (V_v1 m c).trans (congrArg narrow13 e13)
  have v2 : V m c main_v2 = narrow8 pw := (V_v2 m c).trans (congrArg narrow8 e8)
  have v5 : V m c main_v5 = headRow sd := (V_v5 m c).trans (congrArg headRow e10)
  have v6 : V m c main_v6 = asRow ps := (V_v6 m c).trans (congrArg asRow e9)
  have v7 : V m c main_v7 = asRow sn := (V_v7 m c).trans (congrArg asRow e11)
  exact {
    hi := coord1 t
    h0 := fun i1 i2 => (blk0 m c t i1 i2).trans (congrFun a0 _)
    h1 := fun i1 i2 => (blk1 m c t i1 i2).trans (congrFun a0 _)
    h2 := fun i1 i2 => (blk2 m c t i1 i2).trans (congrFun a0 _)
    h3 := fun i1 i2 h => (blk3 m c t i1 i2 h).trans (congrFun a0 _)
    h4 := fun i1 i2 h => (blk4 m c t i1 i2 h).trans (congrFun a0 _)
    h5 := fun i1 i2 => (blk5 m c t i1 i2).trans (congrFun a0 _)
    h6 := fun i1 i2 h => (blk6 m c t i1 i2 h).trans (congrFun a0 _)
    h7 := fun i1 i2 h => (blk7 m c t i1 i2 h).trans (congrFun a0 _)
    h8 := fun i1 i2 => (blk8 m c t i1 i2).trans (congrFun a0 _)
    h9 := fun i1 i2 h => (blk9 m c t i1 i2 h).trans (congrFun a0 _)
    h10 := fun i1 i2 h => (blk10 m c t i1 i2 h).trans (congrFun a0 _)
    h11 := fun i1 i2 => (blk11 m c t i1 i2).trans (congrFun a0 _)
    h12 := fun i1 i2 => (blk12 m c t i1 i2).trans (congrFun a1 _)
    h13 := fun i1 i2 => (blk13 m c t i1 i2).trans (congrFun a2 _)
    h14 := fun i1 i2 => (blk14 m c t i1 i2).trans (congrFun a3 _)
    h15 := fun i1 i2 => (blk15 m c t i1 i2).trans (congrFun a4 _)
    h16 := fun i1 i2 => (blk16 m c t i1 i2).trans (congrFun a5 _)
    h17 := fun i1 i2 => (blk17 m c t i1 i2).trans (congrFun a6 _)
    h18 := fun i0 i1 => (blk18 m c t i0 i1).trans (congrFun a7 _)
    h19 := fun i0 i1 i2 => ((blk19 m c t i0 i1 i2).trans (congrFun (V_cst m c) _)).trans (Cert.MergeIdeal.Band.band i0 i1 i2)
    h20 := fun i1 i2 i3 => (blk20 m c t i1 i2 i3).trans (congrFun v2 _)
    h21 := fun i1 => ((blk21 m c t i1).trans (congrFun v6 _)).trans (asRow_apply _ i1)
    h22 := fun i1 => ((blk22 m c t i1).trans (congrFun v5 _)).trans (headRow_apply _ i1)
    h23 := fun i1 => ((blk23 m c t i1).trans (congrFun v7 _)).trans (asRow_apply _ i1)
    h24 := fun i1 i2 i3 => (blk24 m c t i1 i2 i3).trans (congrFun v0 _)
    h25 := fun i1 i2 => (blk25 m c t i1 i2).trans (congrFun v1 _) }

/-! ## The result's array -/

theorem mem_blk26 (t : Fin cfg0.N) (i : S2x8192x1024.Idx) :
    i ∈ ((cfg0.win 26).blk t).view.set ↔ ∀ a : Fin 3, win0_26.index t a * S1x512x1024.size a ≤ (i a).val ∧ (i a).val < win0_26.index t a * S1x512x1024.size a + S1x512x1024.size a := by
  show i ∈ ((View.whole main_v8).slice (win0_26.rect t)).set ↔ _
  rw [View.set_slice_whole, Rect.mem_set_unit]
  exact Iff.rfl

/-- Every index of the result is in some point's block. -/
theorem cover26 (i : S2x8192x1024.Idx) : ∃ t : Fin cfg0.N, (cfg0.win 26).flush t = true ∧ i ∈ ((cfg0.win 26).blk t).view.set := by
  have i0 : (i 0).val < 2 := (i 0).isLt
  have i1 : (i 1).val < 8192 := (i 1).isLt
  have i2 : (i 2).val < 1024 := (i 2).isLt
  refine ⟨⟨16 * (i 0).val + (i 1).val / 512, lt_of_lt_of_eq (by omega) N_0.symm⟩, flush0_26 _, ?_⟩
  rw [mem_blk26, index26]
  intro a
  match a with
  | ⟨0, _⟩ => show (16 * (i 0).val + (i 1).val / 512) / 16 * 1 ≤ (i 0).val ∧ (i 0).val < (16 * (i 0).val + (i 1).val / 512) / 16 * 1 + 1; omega
  | ⟨1, _⟩ => show (16 * (i 0).val + (i 1).val / 512) % 16 * 512 ≤ (i 1).val ∧ (i 1).val < (16 * (i 0).val + (i 1).val / 512) % 16 * 512 + 512; omega
  | ⟨2, _⟩ => show 0 * 1024 ≤ (i 2).val ∧ (i 2).val < 0 * 1024 + 1024; omega

/-- The array after the run is `G`, when each point's block of `G` is what the point leaves in the buffer. -/
theorem final26 (c : Dev nD) (G : Buf (Elt Ideal) ((c : Thread nD τ).loc main_v8))
    (h : ∀ (t : Fin cfg0.N) (r : Fin 512) (d : Fin 1024), outV (F := Ideal) (grid0.coords t) (X0_0 m c t) (X0_1 m c t) (X0_2 m c t) (X0_3 m c t) (X0_4 m c t) (X0_5 m c t) (X0_6 m c t) (X0_7 m c t) (X0_8 m c t) (X0_9 m c t) (X0_10 m c t) (X0_11 m c t) (iblk m c 12 t) (X0_13 m c t) (X0_14 m c t) (X0_15 m c t) (iblk m c 16 t) (iblk m c 17 t) (iblk m c 18 t) (iblk m c 19 t) (iblk m c 20 t) (iblk m c 21 t) (iblk m c 22 t) (iblk m c 23 t) (iblk m c 24 t) (iblk m c 25 t) (ix3 0 r d)
      = G (ix3 (tb t) ⟨512 * (tj t).val + r.val, by omega⟩ d : S2x8192x1024.Idx)) :
    (dats m 0 c).arrAt 26 cfg0.N = G := by
  refine (dats m 0 c).arrAt_eq_of_cover 26 G (fun t _ => ?_) cover26
  refine (Cert.MergeIdeal.Blocks.flushed26_A m c t).trans ?_
  rw [out_eq]
  funext y
  have hi := index26 t
  have h0 : win0_26.index t (0 : Fin 3) = t.val / 16 := congrFun hi 0
  have h1 : win0_26.index t (1 : Fin 3) = t.val % 16 := congrFun hi 1
  have h2 : win0_26.index t (2 : Fin 3) = 0 := congrFun hi 2
  have e : (cfg0.win 26).xinj (grid0.coords t) y = (ix3 0 ⟨(y 1).val, (y 1).isLt⟩ ⟨(y 2).val, (y 2).isLt⟩ : S1x512x1024.Idx) := by
    funext a; apply Fin.ext
    match a with
    | ⟨0, _⟩ => show (y 0).val = 0; have : (y 0).val < 1 := (y 0).isLt; omega
    | ⟨1, _⟩ => rfl
    | ⟨2, _⟩ => rfl
  show outV (F := Ideal) (grid0.coords t) (X0_0 m c t) (X0_1 m c t) (X0_2 m c t) (X0_3 m c t) (X0_4 m c t) (X0_5 m c t) (X0_6 m c t) (X0_7 m c t) (X0_8 m c t) (X0_9 m c t) (X0_10 m c t) (X0_11 m c t) (iblk m c 12 t) (X0_13 m c t) (X0_14 m c t) (X0_15 m c t) (iblk m c 16 t) (iblk m c 17 t) (iblk m c 18 t) (iblk m c 19 t) (iblk m c 20 t) (iblk m c 21 t) (iblk m c 22 t) (iblk m c 23 t) (iblk m c 24 t) (iblk m c 25 t) ((cfg0.win 26).xinj (grid0.coords t) y) = G (((cfg0.win 26).blk t).view.emb y)
  rw [e, h]
  refine congrArg G ?_
  funext a; apply Fin.ext
  match a with
  | ⟨0, _⟩ => show t.val / 16 = win0_26.index t (0 : Fin 3) * 1 + 1 * (y 0).val; have : (y 0).val < 1 := (y 0).isLt; omega
  | ⟨1, _⟩ => show 512 * (t.val % 16) + (y 1).val = win0_26.index t (1 : Fin 3) * 512 + 1 * (y 1).val; omega
  | ⟨2, _⟩ => show (y 2).val = win0_26.index t (2 : Fin 3) * 1024 + 1 * (y 2).val; omega

end Cert.MergeIdeal.Body

namespace Cert.MergeAlg

open Cert.MergeIdeal Cert.MergeIdeal.Gen Cert.MergeIdeal.Body
open Idealize.ShloMosaic Idealize.ShloMosaic.TcCoe Idealize.SL.Sem

/-- The merge call leaves the reference's result. -/
theorem final (m : (ℓ : Loc nD τ sig) → Buf (Elt Ideal) ℓ) (c : Dev nD) (pr : FVec Ideal S2x8192x8448 .bf16) (atn : FVec Ideal S2x8192x512 .bf16) (yf : FVec Ideal S2x8448x512 .bf16) (yb : FVec Ideal S2x8448x512 .bf16) (xs : FVec Ideal S2x8448x512 .bf16)
    (xr : FVec Ideal S2x8192x1024 .f32) (mo : FVec Ideal S2x6x1024 .f32) (cv : FVec Ideal S3x512 .f32) (pw : FVec Ideal S2x4x128x128 .f32) (ps : FVec Ideal S512 .f32)
    (sd : FVec Ideal S8 .f32) (sn : FVec Ideal S512 .f32) (wb : FVec Ideal S2x4x512x1024 .f32) (wo : FVec Ideal S2x1024x1024 .f32)
    (e0 : m ((c : Thread nD τ).loc main_arg0) = pr) (e1 : m ((c : Thread nD τ).loc main_arg1) = atn) (e2 : m ((c : Thread nD τ).loc main_arg2) = yf) (e3 : m ((c : Thread nD τ).loc main_arg3) = yb) (e4 : m ((c : Thread nD τ).loc main_arg4) = xs) (e5 : m ((c : Thread nD τ).loc main_arg5) = xr) (e6 : m ((c : Thread nD τ).loc main_arg6) = mo) (e7 : m ((c : Thread nD τ).loc main_arg7) = cv) (e8 : m ((c : Thread nD τ).loc main_arg8) = pw) (e9 : m ((c : Thread nD τ).loc main_arg9) = ps) (e10 : m ((c : Thread nD τ).loc main_arg10) = sd) (e11 : m ((c : Thread nD τ).loc main_arg11) = sn) (e12 : m ((c : Thread nD τ).loc main_arg12) = wb) (e13 : m ((c : Thread nD τ).loc main_arg13) = wo) :
    (dats m 0 c).arrAt 26 cfg0.N = Cert.MergeRefIdeal.Read.val_main_v236 (F := Ideal) pr atn yf yb xs xr mo cv pw ps sd sn wb wo :=
  final26 m c _ fun t r d => (blocks m c t pr atn yf yb xs xr mo cv pw ps sd sn wb wo e0 e1 e2 e3 e4 e5 e6 e7 e8 e9 e10 e11 e12 e13).out r d

theorem algebraic [Cert.MergeIdeal.Facts] [Cert.MergeRefIdeal.Facts] : Cert.algebraic_MergeIdeal_MergeRefIdeal := by
  intro m g m' g' hpre hargs
  refine ⟨fun c => Cert.MergeRefIdeal.Read.val_main_v236 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)), ?_, ?_⟩
  · exact (θ_run _ _ _).mono (fun r hr c => ⟨(hr c).1.trans (final m c _ _ _ _ _ _ _ _ _ _ _ _ _ _ rfl rfl rfl rfl rfl rfl rfl rfl rfl rfl rfl rfl rfl rfl), (hr c).2⟩) (Cert.MergeIdeal.Blocks.run_blocks m g)
  · refine (θ_run _ _ _).mono (fun r hr c => ?_) (Cert.MergeRefIdeal.Value.run m' g')
    obtain ⟨h0, h1⟩ := hr c
    obtain ⟨a0, a1, a2, a3, a4, a5, a6, a7, a8, a9, a10, a11, a12, a13⟩ := hargs c
    refine ⟨h0.trans ?_, h1⟩
    rw [Cert.MergeRefIdeal.Read.val_main_v236_eq]
    show Cert.MergeRefIdeal.Read.val_main_v236 (F := Ideal) (m' ((c : Thread Cert.MergeRefIdeal.nD Cert.MergeRefIdeal.τ).loc Cert.MergeRefIdeal.main_arg0)) (m' ((c : Thread Cert.MergeRefIdeal.nD Cert.MergeRefIdeal.τ).loc Cert.MergeRefIdeal.main_arg1)) (m' ((c : Thread Cert.MergeRefIdeal.nD Cert.MergeRefIdeal.τ).loc Cert.MergeRefIdeal.main_arg2)) (m' ((c : Thread Cert.MergeRefIdeal.nD Cert.MergeRefIdeal.τ).loc Cert.MergeRefIdeal.main_arg3)) (m' ((c : Thread Cert.MergeRefIdeal.nD Cert.MergeRefIdeal.τ).loc Cert.MergeRefIdeal.main_arg4)) (m' ((c : Thread Cert.MergeRefIdeal.nD Cert.MergeRefIdeal.τ).loc Cert.MergeRefIdeal.main_arg5)) (m' ((c : Thread Cert.MergeRefIdeal.nD Cert.MergeRefIdeal.τ).loc Cert.MergeRefIdeal.main_arg6)) (m' ((c : Thread Cert.MergeRefIdeal.nD Cert.MergeRefIdeal.τ).loc Cert.MergeRefIdeal.main_arg7)) (m' ((c : Thread Cert.MergeRefIdeal.nD Cert.MergeRefIdeal.τ).loc Cert.MergeRefIdeal.main_arg8)) (m' ((c : Thread Cert.MergeRefIdeal.nD Cert.MergeRefIdeal.τ).loc Cert.MergeRefIdeal.main_arg9)) (m' ((c : Thread Cert.MergeRefIdeal.nD Cert.MergeRefIdeal.τ).loc Cert.MergeRefIdeal.main_arg10)) (m' ((c : Thread Cert.MergeRefIdeal.nD Cert.MergeRefIdeal.τ).loc Cert.MergeRefIdeal.main_arg11)) (m' ((c : Thread Cert.MergeRefIdeal.nD Cert.MergeRefIdeal.τ).loc Cert.MergeRefIdeal.main_arg12)) (m' ((c : Thread Cert.MergeRefIdeal.nD Cert.MergeRefIdeal.τ).loc Cert.MergeRefIdeal.main_arg13)) = _
    rw [a0, a1, a2, a3, a4, a5, a6, a7, a8, a9, a10, a11, a12, a13]

end Cert.MergeAlg

end
-- ==== Proof.lean ====
/-
  The proof of `Cert.Claim`.

  Every program's frame: the attention call's from the run in `FlashRun` / `FlashRunBits`, the other kernels' as
  generated, the references' from their generated runs, as they declare no semaphore. The value claims are
  proved in the modules that their names give.
-/
module

public import proofs.«01_k».proof.Defs
public import proofs.«01_k».proof.Proof.FlashRun
public import proofs.«01_k».proof.Proof.FlashRunBits
public import proofs.«01_k».proof.Proof.Attn
public import proofs.«01_k».proof.Proof.AttnPre
public import proofs.«01_k».proof.Proof.FfnArr
public import proofs.«01_k».proof.Proof.InprojArr
public import proofs.«01_k».proof.Proof.Gen.Inproj.Frame
public import proofs.«01_k».proof.Proof.Gen.InprojIdeal.Frame
public import proofs.«01_k».proof.Proof.Gen.InprojIdeal.Value
public import proofs.«01_k».proof.Proof.Gen.InprojRefIdeal.Read
public import proofs.«01_k».proof.Proof.Gen.Ffn.Frame
public import proofs.«01_k».proof.Proof.Gen.FfnIdeal.Frame
public import proofs.«01_k».proof.Proof.Gen.FfnIdeal.Value
public import proofs.«01_k».proof.Proof.Gen.FfnRefIdeal.Read
public import proofs.«01_k».proof.Proof.MergeFrameBits
public import proofs.«01_k».proof.Proof.MergeFrame
public import proofs.«01_k».proof.Proof.MergeArr
public import proofs.«01_k».proof.Proof.Gen.MergeRefIdeal
public import proofs.«01_k».proof.Proof.Gen.MergeRefIdeal.Run
public import proofs.«01_k».proof.Proof.Gen.MergeRefIdeal.Read
public import proofs.«01_k».proof.Proof.Gen.ReferenceIdeal
public import proofs.«01_k».proof.Proof.Gen.ReferenceIdeal.Run
public import proofs.«01_k».proof.Proof.Gen.InprojRefIdeal
public import proofs.«01_k».proof.Proof.Gen.InprojRefIdeal.Run
public import proofs.«01_k».proof.Proof.Gen.FfnRefIdeal
public import proofs.«01_k».proof.Proof.Gen.FfnRefIdeal.Run

@[expose] public section

noncomputable section

namespace Cert.Proof

open Idealize.ShloMosaic Idealize.SL.Sem

theorem frame_Kernel : Cert.quiescent_Kernel := fun m ρ _ =>
  θ_run_with_sems (Cert.Kernel.Gen.frame_of m ρ (Cert.Kernel.Body.dats m) fun _ _ => rfl) (Cert.Kernel.Body.run_main (F := Bits) m ρ)

theorem frame_KernelIdeal : Cert.quiescent_KernelIdeal := fun m ρ _ =>
  θ_run_with_sems (Cert.KernelIdeal.Gen.frame_of m ρ (Cert.KernelIdeal.Body.dats m) fun _ _ => rfl) (Cert.KernelIdeal.Body.run_main (F := Ideal) m ρ)

theorem frame_ReferenceIdeal : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

theorem frame_InprojRefIdeal : Cert.quiescent_InprojRefIdeal := fun m ρ _ =>
  (θ_run Cert.InprojRefIdeal.defs _ _).mono (fun r h => ⟨fun c => (h c).2, sem_eq_zero_of_no_sems (by decide) r.2⟩)
    (Cert.InprojRefIdeal.Value.run (F := Ideal) m ρ)

theorem frame_FfnRefIdeal : Cert.quiescent_FfnRefIdeal := fun m ρ _ =>
  (θ_run Cert.FfnRefIdeal.defs _ _).mono (fun r h => ⟨fun c => (h c).2, sem_eq_zero_of_no_sems (by decide) r.2⟩)
    (Cert.FfnRefIdeal.Value.run (F := Ideal) m ρ)

theorem frame_MergeRefIdeal : Cert.quiescent_MergeRefIdeal := fun m ρ _ =>
  (θ_run Cert.MergeRefIdeal.defs _ _).mono (fun r h => ⟨fun c => (h c).2, sem_eq_zero_of_no_sems (by decide) r.2⟩)
    (Cert.MergeRefIdeal.Value.run (F := Ideal) m ρ)

theorem claim : Cert.Claim :=
  ⟨Cert.Kernel.Gen.facts, Cert.KernelIdeal.Gen.facts, Cert.ReferenceIdeal.Gen.facts, Cert.Inproj.Gen.facts,
    Cert.InprojIdeal.Gen.facts, Cert.InprojRefIdeal.Gen.facts, Cert.Ffn.Gen.facts, Cert.FfnIdeal.Gen.facts,
    Cert.FfnRefIdeal.Gen.facts, Cert.Merge.Gen.facts, Cert.MergeIdeal.Gen.facts, Cert.MergeRefIdeal.Gen.facts, Cert.Pre_laid_out.facts,
    frame_Kernel, frame_KernelIdeal, fun m ρ _ => frame_KernelIdeal m ρ trivial,
    frame_ReferenceIdeal, fun m ρ _ => frame_ReferenceIdeal m ρ trivial,
    fun m ρ _ => Cert.Inproj.Gen.frame m ρ, fun m ρ _ => Cert.InprojIdeal.Gen.frame m ρ, frame_InprojRefIdeal,
    fun m ρ _ => Cert.Ffn.Gen.frame m ρ, fun m ρ _ => Cert.FfnIdeal.Gen.frame m ρ, frame_FfnRefIdeal,
    fun m ρ _ => Cert.Merge.Body.frame m ρ, fun m ρ _ => Cert.MergeIdeal.Body.frame m ρ, frame_MergeRefIdeal,
    trivial, Cert.Attn.algebraic, trivial, Cert.InprojAlg.algebraic, trivial, Cert.FfnAlg.algebraic, trivial, Cert.MergeAlg.algebraic⟩

end Cert.Proof

end
